-- ==== Defs.lean ====
def Pre_LnGrad (m : (ℓ : Loc Cert.LnGrad.nD Cert.LnGrad.τ Cert.LnGrad.sig) → Buf (Elt Bits) ℓ) : Prop :=
  True

def Pre_LnGradIdeal (m : (ℓ : Loc Cert.LnGradIdeal.nD Cert.LnGradIdeal.τ Cert.LnGradIdeal.sig) → Buf (Elt Ideal) ℓ) : Prop :=
  True

def Pre_LnGradIdeal_ln_finite [hPre_ln_finite : Cert.Pre_ln_finite.Facts] (m : (ℓ : Loc Cert.LnGradIdeal.nD Cert.LnGradIdeal.τ Cert.LnGradIdeal.sig) → Buf (Elt Ideal) ℓ) : Prop :=
  ∀ c : Dev Cert.LnGradIdeal.nD,
    (Cert.Pre_ln_finite.fn (F := Ideal) (m ((c.tc : Thread Cert.LnGradIdeal.nD Cert.LnGradIdeal.τ).loc Cert.LnGradIdeal.main_arg0)) (m ((c.tc : Thread Cert.LnGradIdeal.nD Cert.LnGradIdeal.τ).loc Cert.LnGradIdeal.main_arg1)) (m ((c.tc : Thread Cert.LnGradIdeal.nD Cert.LnGradIdeal.τ).loc Cert.LnGradIdeal.main_arg2)) (m ((c.tc : Thread Cert.LnGradIdeal.nD Cert.LnGradIdeal.τ).loc Cert.LnGradIdeal.main_arg3)) (m ((c.tc : Thread Cert.LnGradIdeal.nD Cert.LnGradIdeal.τ).loc Cert.LnGradIdeal.main_arg4)) (m ((c.tc : Thread Cert.LnGradIdeal.nD Cert.LnGradIdeal.τ).loc Cert.LnGradIdeal.main_arg5))).1 = (fun _ => 1#1)
    ∧ (Cert.Pre_ln_finite.fn (F := Ideal) (m ((c.tc : Thread Cert.LnGradIdeal.nD Cert.LnGradIdeal.τ).loc Cert.LnGradIdeal.main_arg0)) (m ((c.tc : Thread Cert.LnGradIdeal.nD Cert.LnGradIdeal.τ).loc Cert.LnGradIdeal.main_arg1)) (m ((c.tc : Thread Cert.LnGradIdeal.nD Cert.LnGradIdeal.τ).loc Cert.LnGradIdeal.main_arg2)) (m ((c.tc : Thread Cert.LnGradIdeal.nD Cert.LnGradIdeal.τ).loc Cert.LnGradIdeal.main_arg3)) (m ((c.tc : Thread Cert.LnGradIdeal.nD Cert.LnGradIdeal.τ).loc Cert.LnGradIdeal.main_arg4)) (m ((c.tc : Thread Cert.LnGradIdeal.nD Cert.LnGradIdeal.τ).loc Cert.LnGradIdeal.main_arg5))).2.1 = (fun _ => 1#1)
    ∧ (Cert.Pre_ln_finite.fn (F := Ideal) (m ((c.tc : Thread Cert.LnGradIdeal.nD Cert.LnGradIdeal.τ).loc Cert.LnGradIdeal.main_arg0)) (m ((c.tc : Thread Cert.LnGradIdeal.nD Cert.LnGradIdeal.τ).loc Cert.LnGradIdeal.main_arg1)) (m ((c.tc : Thread Cert.LnGradIdeal.nD Cert.LnGradIdeal.τ).loc Cert.LnGradIdeal.main_arg2)) (m ((c.tc : Thread Cert.LnGradIdeal.nD Cert.LnGradIdeal.τ).loc Cert.LnGradIdeal.main_arg3)) (m ((c.tc : Thread Cert.LnGradIdeal.nD Cert.LnGradIdeal.τ).loc Cert.LnGradIdeal.main_arg4)) (m ((c.tc : Thread Cert.LnGradIdeal.nD Cert.LnGradIdeal.τ).loc Cert.LnGradIdeal.main_arg5))).2.2.1 = (fun _ => 1#1)
    ∧ (Cert.Pre_ln_finite.fn (F := Ideal) (m ((c.tc : Thread Cert.LnGradIdeal.nD Cert.LnGradIdeal.τ).loc Cert.LnGradIdeal.main_arg0)) (m ((c.tc : Thread Cert.LnGradIdeal.nD Cert.LnGradIdeal.τ).loc Cert.LnGradIdeal.main_arg1)) (m ((c.tc : Thread Cert.LnGradIdeal.nD Cert.LnGradIdeal.τ).loc Cert.LnGradIdeal.main_arg2)) (m ((c.tc : Thread Cert.LnGradIdeal.nD Cert.LnGradIdeal.τ).loc Cert.LnGradIdeal.main_arg3)) (m ((c.tc : Thread Cert.LnGradIdeal.nD Cert.LnGradIdeal.τ).loc Cert.LnGradIdeal.main_arg4)) (m ((c.tc : Thread Cert.LnGradIdeal.nD Cert.LnGradIdeal.τ).loc Cert.LnGradIdeal.main_arg5))).2.2.2.1 = (fun _ => 1#1)
    ∧ (Cert.Pre_ln_finite.fn (F := Ideal) (m ((c.tc : Thread Cert.LnGradIdeal.nD Cert.LnGradIdeal.τ).loc Cert.LnGradIdeal.main_arg0)) (m ((c.tc : Thread Cert.LnGradIdeal.nD Cert.LnGradIdeal.τ).loc Cert.LnGradIdeal.main_arg1)) (m ((c.tc : Thread Cert.LnGradIdeal.nD Cert.LnGradIdeal.τ).loc Cert.LnGradIdeal.main_arg2)) (m ((c.tc : Thread Cert.LnGradIdeal.nD Cert.LnGradIdeal.τ).loc Cert.LnGradIdeal.main_arg3)) (m ((c.tc : Thread Cert.LnGradIdeal.nD Cert.LnGradIdeal.τ).loc Cert.LnGradIdeal.main_arg4)) (m ((c.tc : Thread Cert.LnGradIdeal.nD Cert.LnGradIdeal.τ).loc Cert.LnGradIdeal.main_arg5))).2.2.2.2 = (fun _ => 1#1)

def Pre_LnGradRefIdeal (m : (ℓ : Loc Cert.LnGradRefIdeal.nD Cert.LnGradRefIdeal.τ Cert.LnGradRefIdeal.sig) → Buf (Elt Ideal) ℓ) : Prop :=
  True

def Pre_LnGradRefIdeal_ln_finite [hPre_ln_finite : Cert.Pre_ln_finite.Facts] (m : (ℓ : Loc Cert.LnGradRefIdeal.nD Cert.LnGradRefIdeal.τ Cert.LnGradRefIdeal.sig) → Buf (Elt Ideal) ℓ) : Prop :=
  ∀ c : Dev Cert.LnGradRefIdeal.nD,
    (Cert.Pre_ln_finite.fn (F := Ideal) (m ((c.tc : Thread Cert.LnGradRefIdeal.nD Cert.LnGradRefIdeal.τ).loc Cert.LnGradRefIdeal.main_arg0)) (m ((c.tc : Thread Cert.LnGradRefIdeal.nD Cert.LnGradRefIdeal.τ).loc Cert.LnGradRefIdeal.main_arg1)) (m ((c.tc : Thread Cert.LnGradRefIdeal.nD Cert.LnGradRefIdeal.τ).loc Cert.LnGradRefIdeal.main_arg2)) (m ((c.tc : Thread Cert.LnGradRefIdeal.nD Cert.LnGradRefIdeal.τ).loc Cert.LnGradRefIdeal.main_arg3)) (m ((c.tc : Thread Cert.LnGradRefIdeal.nD Cert.LnGradRefIdeal.τ).loc Cert.LnGradRefIdeal.main_arg4)) (m ((c.tc : Thread Cert.LnGradRefIdeal.nD Cert.LnGradRefIdeal.τ).loc Cert.LnGradRefIdeal.main_arg5))).1 = (fun _ => 1#1)
    ∧ (Cert.Pre_ln_finite.fn (F := Ideal) (m ((c.tc : Thread Cert.LnGradRefIdeal.nD Cert.LnGradRefIdeal.τ).loc Cert.LnGradRefIdeal.main_arg0)) (m ((c.tc : Thread Cert.LnGradRefIdeal.nD Cert.LnGradRefIdeal.τ).loc Cert.LnGradRefIdeal.main_arg1)) (m ((c.tc : Thread Cert.LnGradRefIdeal.nD Cert.LnGradRefIdeal.τ).loc Cert.LnGradRefIdeal.main_arg2)) (m ((c.tc : Thread Cert.LnGradRefIdeal.nD Cert.LnGradRefIdeal.τ).loc Cert.LnGradRefIdeal.main_arg3)) (m ((c.tc : Thread Cert.LnGradRefIdeal.nD Cert.LnGradRefIdeal.τ).loc Cert.LnGradRefIdeal.main_arg4)) (m ((c.tc : Thread Cert.LnGradRefIdeal.nD Cert.LnGradRefIdeal.τ).loc Cert.LnGradRefIdeal.main_arg5))).2.1 = (fun _ => 1#1)
    ∧ (Cert.Pre_ln_finite.fn (F := Ideal) (m ((c.tc : Thread Cert.LnGradRefIdeal.nD Cert.LnGradRefIdeal.τ).loc Cert.LnGradRefIdeal.main_arg0)) (m ((c.tc : Thread Cert.LnGradRefIdeal.nD Cert.LnGradRefIdeal.τ).loc Cert.LnGradRefIdeal.main_arg1)) (m ((c.tc : Thread Cert.LnGradRefIdeal.nD Cert.LnGradRefIdeal.τ).loc Cert.LnGradRefIdeal.main_arg2)) (m ((c.tc : Thread Cert.LnGradRefIdeal.nD Cert.LnGradRefIdeal.τ).loc Cert.LnGradRefIdeal.main_arg3)) (m ((c.tc : Thread Cert.LnGradRefIdeal.nD Cert.LnGradRefIdeal.τ).loc Cert.LnGradRefIdeal.main_arg4)) (m ((c.tc : Thread Cert.LnGradRefIdeal.nD Cert.LnGradRefIdeal.τ).loc Cert.LnGradRefIdeal.main_arg5))).2.2.1 = (fun _ => 1#1)
    ∧ (Cert.Pre_ln_finite.fn (F := Ideal) (m ((c.tc : Thread Cert.LnGradRefIdeal.nD Cert.LnGradRefIdeal.τ).loc Cert.LnGradRefIdeal.main_arg0)) (m ((c.tc : Thread Cert.LnGradRefIdeal.nD Cert.LnGradRefIdeal.τ).loc Cert.LnGradRefIdeal.main_arg1)) (m ((c.tc : Thread Cert.LnGradRefIdeal.nD Cert.LnGradRefIdeal.τ).loc Cert.LnGradRefIdeal.main_arg2)) (m ((c.tc : Thread Cert.LnGradRefIdeal.nD Cert.LnGradRefIdeal.τ).loc Cert.LnGradRefIdeal.main_arg3)) (m ((c.tc : Thread Cert.LnGradRefIdeal.nD Cert.LnGradRefIdeal.τ).loc Cert.LnGradRefIdeal.main_arg4)) (m ((c.tc : Thread Cert.LnGradRefIdeal.nD Cert.LnGradRefIdeal.τ).loc Cert.LnGradRefIdeal.main_arg5))).2.2.2.1 = (fun _ => 1#1)
    ∧ (Cert.Pre_ln_finite.fn (F := Ideal) (m ((c.tc : Thread Cert.LnGradRefIdeal.nD Cert.LnGradRefIdeal.τ).loc Cert.LnGradRefIdeal.main_arg0)) (m ((c.tc : Thread Cert.LnGradRefIdeal.nD Cert.LnGradRefIdeal.τ).loc Cert.LnGradRefIdeal.main_arg1)) (m ((c.tc : Thread Cert.LnGradRefIdeal.nD Cert.LnGradRefIdeal.τ).loc Cert.LnGradRefIdeal.main_arg2)) (m ((c.tc : Thread Cert.LnGradRefIdeal.nD Cert.LnGradRefIdeal.τ).loc Cert.LnGradRefIdeal.main_arg3)) (m ((c.tc : Thread Cert.LnGradRefIdeal.nD Cert.LnGradRefIdeal.τ).loc Cert.LnGradRefIdeal.main_arg4)) (m ((c.tc : Thread Cert.LnGradRefIdeal.nD Cert.LnGradRefIdeal.τ).loc Cert.LnGradRefIdeal.main_arg5))).2.2.2.2 = (fun _ => 1#1)

def Pre_LossGrad (m : (ℓ : Loc Cert.LossGrad.nD Cert.LossGrad.τ Cert.LossGrad.sig) → Buf (Elt Bits) ℓ) : Prop :=
  True

def Pre_LossGradIdeal (m : (ℓ : Loc Cert.LossGradIdeal.nD Cert.LossGradIdeal.τ Cert.LossGradIdeal.sig) → Buf (Elt Ideal) ℓ) : Prop :=
  True

def Pre_LossGradIdeal_loss_finite [hPre_loss_finite : Cert.Pre_loss_finite.Facts] (m : (ℓ : Loc Cert.LossGradIdeal.nD Cert.LossGradIdeal.τ Cert.LossGradIdeal.sig) → Buf (Elt Ideal) ℓ) : Prop :=
  ∀ c : Dev Cert.LossGradIdeal.nD,
    (Cert.Pre_loss_finite.fn (F := Ideal) (m ((c.tc : Thread Cert.LossGradIdeal.nD Cert.LossGradIdeal.τ).loc Cert.LossGradIdeal.main_arg0)) (m ((c.tc : Thread Cert.LossGradIdeal.nD Cert.LossGradIdeal.τ).loc Cert.LossGradIdeal.main_arg1)) (m ((c.tc : Thread Cert.LossGradIdeal.nD Cert.LossGradIdeal.τ).loc Cert.LossGradIdeal.main_arg2)) (m ((c.tc : Thread Cert.LossGradIdeal.nD Cert.LossGradIdeal.τ).loc Cert.LossGradIdeal.main_arg3))).1 = (fun _ => 1#1)
    ∧ (Cert.Pre_loss_finite.fn (F := Ideal) (m ((c.tc : Thread Cert.LossGradIdeal.nD Cert.LossGradIdeal.τ).loc Cert.LossGradIdeal.main_arg0)) (m ((c.tc : Thread Cert.LossGradIdeal.nD Cert.LossGradIdeal.τ).loc Cert.LossGradIdeal.main_arg1)) (m ((c.tc : Thread Cert.LossGradIdeal.nD Cert.LossGradIdeal.τ).loc Cert.LossGradIdeal.main_arg2)) (m ((c.tc : Thread Cert.LossGradIdeal.nD Cert.LossGradIdeal.τ).loc Cert.LossGradIdeal.main_arg3))).2.1 = (fun _ => 1#1)
    ∧ (Cert.Pre_loss_finite.fn (F := Ideal) (m ((c.tc : Thread Cert.LossGradIdeal.nD Cert.LossGradIdeal.τ).loc Cert.LossGradIdeal.main_arg0)) (m ((c.tc : Thread Cert.LossGradIdeal.nD Cert.LossGradIdeal.τ).loc Cert.LossGradIdeal.main_arg1)) (m ((c.tc : Thread Cert.LossGradIdeal.nD Cert.LossGradIdeal.τ).loc Cert.LossGradIdeal.main_arg2)) (m ((c.tc : Thread Cert.LossGradIdeal.nD Cert.LossGradIdeal.τ).loc Cert.LossGradIdeal.main_arg3))).2.2.1 = (fun _ => 1#1)
    ∧ (Cert.Pre_loss_finite.fn (F := Ideal) (m ((c.tc : Thread Cert.LossGradIdeal.nD Cert.LossGradIdeal.τ).loc Cert.LossGradIdeal.main_arg0)) (m ((c.tc : Thread Cert.LossGradIdeal.nD Cert.LossGradIdeal.τ).loc Cert.LossGradIdeal.main_arg1)) (m ((c.tc : Thread Cert.LossGradIdeal.nD Cert.LossGradIdeal.τ).loc Cert.LossGradIdeal.main_arg2)) (m ((c.tc : Thread Cert.LossGradIdeal.nD Cert.LossGradIdeal.τ).loc Cert.LossGradIdeal.main_arg3))).2.2.2 = (fun _ => 1#1)

def Pre_LossGradRefIdeal (m : (ℓ : Loc Cert.LossGradRefIdeal.nD Cert.LossGradRefIdeal.τ Cert.LossGradRefIdeal.sig) → Buf (Elt Ideal) ℓ) : Prop :=
  True

def Pre_LossGradRefIdeal_loss_finite [hPre_loss_finite : Cert.Pre_loss_finite.Facts] (m : (ℓ : Loc Cert.LossGradRefIdeal.nD Cert.LossGradRefIdeal.τ Cert.LossGradRefIdeal.sig) → Buf (Elt Ideal) ℓ) : Prop :=
  ∀ c : Dev Cert.LossGradRefIdeal.nD,
    (Cert.Pre_loss_finite.fn (F := Ideal) (m ((c.tc : Thread Cert.LossGradRefIdeal.nD Cert.LossGradRefIdeal.τ).loc Cert.LossGradRefIdeal.main_arg0)) (m ((c.tc : Thread Cert.LossGradRefIdeal.nD Cert.LossGradRefIdeal.τ).loc Cert.LossGradRefIdeal.main_arg1)) (m ((c.tc : Thread Cert.LossGradRefIdeal.nD Cert.LossGradRefIdeal.τ).loc Cert.LossGradRefIdeal.main_arg2)) (m ((c.tc : Thread Cert.LossGradRefIdeal.nD Cert.LossGradRefIdeal.τ).loc Cert.LossGradRefIdeal.main_arg3))).1 = (fun _ => 1#1)
    ∧ (Cert.Pre_loss_finite.fn (F := Ideal) (m ((c.tc : Thread Cert.LossGradRefIdeal.nD Cert.LossGradRefIdeal.τ).loc Cert.LossGradRefIdeal.main_arg0)) (m ((c.tc : Thread Cert.LossGradRefIdeal.nD Cert.LossGradRefIdeal.τ).loc Cert.LossGradRefIdeal.main_arg1)) (m ((c.tc : Thread Cert.LossGradRefIdeal.nD Cert.LossGradRefIdeal.τ).loc Cert.LossGradRefIdeal.main_arg2)) (m ((c.tc : Thread Cert.LossGradRefIdeal.nD Cert.LossGradRefIdeal.τ).loc Cert.LossGradRefIdeal.main_arg3))).2.1 = (fun _ => 1#1)
    ∧ (Cert.Pre_loss_finite.fn (F := Ideal) (m ((c.tc : Thread Cert.LossGradRefIdeal.nD Cert.LossGradRefIdeal.τ).loc Cert.LossGradRefIdeal.main_arg0)) (m ((c.tc : Thread Cert.LossGradRefIdeal.nD Cert.LossGradRefIdeal.τ).loc Cert.LossGradRefIdeal.main_arg1)) (m ((c.tc : Thread Cert.LossGradRefIdeal.nD Cert.LossGradRefIdeal.τ).loc Cert.LossGradRefIdeal.main_arg2)) (m ((c.tc : Thread Cert.LossGradRefIdeal.nD Cert.LossGradRefIdeal.τ).loc Cert.LossGradRefIdeal.main_arg3))).2.2.1 = (fun _ => 1#1)
    ∧ (Cert.Pre_loss_finite.fn (F := Ideal) (m ((c.tc : Thread Cert.LossGradRefIdeal.nD Cert.LossGradRefIdeal.τ).loc Cert.LossGradRefIdeal.main_arg0)) (m ((c.tc : Thread Cert.LossGradRefIdeal.nD Cert.LossGradRefIdeal.τ).loc Cert.LossGradRefIdeal.main_arg1)) (m ((c.tc : Thread Cert.LossGradRefIdeal.nD Cert.LossGradRefIdeal.τ).loc Cert.LossGradRefIdeal.main_arg2)) (m ((c.tc : Thread Cert.LossGradRefIdeal.nD Cert.LossGradRefIdeal.τ).loc Cert.LossGradRefIdeal.main_arg3))).2.2.2 = (fun _ => 1#1)

def Pre_TotalLoss (m : (ℓ : Loc Cert.TotalLoss.nD Cert.TotalLoss.τ Cert.TotalLoss.sig) → Buf (Elt Bits) ℓ) : Prop :=
  True

def Pre_TotalLossIdeal (m : (ℓ : Loc Cert.TotalLossIdeal.nD Cert.TotalLossIdeal.τ Cert.TotalLossIdeal.sig) → Buf (Elt Ideal) ℓ) : Prop :=
  True

def Pre_TotalLossRefIdeal (m : (ℓ : Loc Cert.TotalLossRefIdeal.nD Cert.TotalLossRefIdeal.τ Cert.TotalLossRefIdeal.sig) → Buf (Elt Ideal) ℓ) : Prop :=
  True

def Pre_EvenGrad (m : (ℓ : Loc Cert.EvenGrad.nD Cert.EvenGrad.τ Cert.EvenGrad.sig) → Buf (Elt Bits) ℓ) : Prop :=
  True

def Pre_EvenGradIdeal (m : (ℓ : Loc Cert.EvenGradIdeal.nD Cert.EvenGradIdeal.τ Cert.EvenGradIdeal.sig) → Buf (Elt Ideal) ℓ) : Prop :=
  True

def Pre_EvenGradRefIdeal (m : (ℓ : Loc Cert.EvenGradRefIdeal.nD Cert.EvenGradRefIdeal.τ Cert.EvenGradRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InWeightGrad (m : (ℓ : Loc Cert.InWeightGrad.nD Cert.InWeightGrad.τ Cert.InWeightGrad.sig) → Buf (Elt Bits) ℓ) : Prop :=
  True

def Pre_InWeightGradIdeal (m : (ℓ : Loc Cert.InWeightGradIdeal.nD Cert.InWeightGradIdeal.τ Cert.InWeightGradIdeal.sig) → Buf (Elt Ideal) ℓ) : Prop :=
  True

def Pre_InWeightGradRefIdeal (m : (ℓ : Loc Cert.InWeightGradRefIdeal.nD Cert.InWeightGradRefIdeal.τ Cert.InWeightGradRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_OutWeightGrad (m : (ℓ : Loc Cert.OutWeightGrad.nD Cert.OutWeightGrad.τ Cert.OutWeightGrad.sig) → Buf (Elt Bits) ℓ) : Prop :=
  True

def Pre_OutWeightGradIdeal (m : (ℓ : Loc Cert.OutWeightGradIdeal.nD Cert.OutWeightGradIdeal.τ Cert.OutWeightGradIdeal.sig) → Buf (Elt Ideal) ℓ) : Prop :=
  True

def Pre_OutWeightGradRefIdeal (m : (ℓ : Loc Cert.OutWeightGradRefIdeal.nD Cert.OutWeightGradRefIdeal.τ Cert.OutWeightGradRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_OutNormRefIdeal (m : (ℓ : Loc Cert.OutNormRefIdeal.nD Cert.OutNormRefIdeal.τ Cert.OutNormRefIdeal.sig) → Buf (Elt Ideal) ℓ) : Prop :=
  True

def Pre_InUpdate (m : (ℓ : Loc Cert.InUpdate.nD Cert.InUpdate.τ Cert.InUpdate.sig) → Buf (Elt Bits) ℓ) : Prop :=
  True

def Pre_InUpdateIdeal (m : (ℓ : Loc Cert.InUpdateIdeal.nD Cert.InUpdateIdeal.τ Cert.InUpdateIdeal.sig) → Buf (Elt Ideal) ℓ) : Prop :=
  True

def Pre_InUpdateRefIdeal (m : (ℓ : Loc Cert.InUpdateRefIdeal.nD Cert.InUpdateRefIdeal.τ Cert.InUpdateRefIdeal.sig) → Buf (Elt Ideal) ℓ) : Prop :=
  True

def Pre_OutUpdate (m : (ℓ : Loc Cert.OutUpdate.nD Cert.OutUpdate.τ Cert.OutUpdate.sig) → Buf (Elt Bits) ℓ) : Prop :=
  True

def Pre_OutUpdateIdeal (m : (ℓ : Loc Cert.OutUpdateIdeal.nD Cert.OutUpdateIdeal.τ Cert.OutUpdateIdeal.sig) → Buf (Elt Ideal) ℓ) : Prop :=
  True

def Pre_OutUpdateRefIdeal (m : (ℓ : Loc Cert.OutUpdateRefIdeal.nD Cert.OutUpdateRefIdeal.τ Cert.OutUpdateRefIdeal.sig) → Buf (Elt Ideal) ℓ) : Prop :=
  True

def Pre_NormUpdate (m : (ℓ : Loc Cert.NormUpdate.nD Cert.NormUpdate.τ Cert.NormUpdate.sig) → Buf (Elt Bits) ℓ) : Prop :=
  True

def Pre_NormUpdateIdeal (m : (ℓ : Loc Cert.NormUpdateIdeal.nD Cert.NormUpdateIdeal.τ Cert.NormUpdateIdeal.sig) → Buf (Elt Ideal) ℓ) : Prop :=
  True

def Pre_NormUpdateRefIdeal (m : (ℓ : Loc Cert.NormUpdateRefIdeal.nD Cert.NormUpdateRefIdeal.τ Cert.NormUpdateRefIdeal.sig) → Buf (Elt Ideal) ℓ) : Prop :=
  True

def Pre_PoolWeightUpdate (m : (ℓ : Loc Cert.PoolWeightUpdate.nD Cert.PoolWeightUpdate.τ Cert.PoolWeightUpdate.sig) → Buf (Elt Bits) ℓ) : Prop :=
  True

def Pre_PoolWeightUpdateIdeal (m : (ℓ : Loc Cert.PoolWeightUpdateIdeal.nD Cert.PoolWeightUpdateIdeal.τ Cert.PoolWeightUpdateIdeal.sig) → Buf (Elt Ideal) ℓ) : Prop :=
  True

def Pre_PoolWeightUpdateRefIdeal (m : (ℓ : Loc Cert.PoolWeightUpdateRefIdeal.nD Cert.PoolWeightUpdateRefIdeal.τ Cert.PoolWeightUpdateRefIdeal.sig) → Buf (Elt Ideal) ℓ) : Prop :=
  True

def Pre_ScaleUpdate (m : (ℓ : Loc Cert.ScaleUpdate.nD Cert.ScaleUpdate.τ Cert.ScaleUpdate.sig) → Buf (Elt Bits) ℓ) : Prop :=
  True

def Pre_ScaleUpdateIdeal (m : (ℓ : Loc Cert.ScaleUpdateIdeal.nD Cert.ScaleUpdateIdeal.τ Cert.ScaleUpdateIdeal.sig) → Buf (Elt Ideal) ℓ) : Prop :=
  True

def Pre_ScaleUpdateRefIdeal (m : (ℓ : Loc Cert.ScaleUpdateRefIdeal.nD Cert.ScaleUpdateRefIdeal.τ Cert.ScaleUpdateRefIdeal.sig) → Buf (Elt Ideal) ℓ) : Prop :=
  True

def Pre_ShortConvUpdate (m : (ℓ : Loc Cert.ShortConvUpdate.nD Cert.ShortConvUpdate.τ Cert.ShortConvUpdate.sig) → Buf (Elt Bits) ℓ) : Prop :=
  True

def Pre_ShortConvUpdateIdeal (m : (ℓ : Loc Cert.ShortConvUpdateIdeal.nD Cert.ShortConvUpdateIdeal.τ Cert.ShortConvUpdateIdeal.sig) → Buf (Elt Ideal) ℓ) : Prop :=
  True

def Pre_ShortConvUpdateRefIdeal (m : (ℓ : Loc Cert.ShortConvUpdateRefIdeal.nD Cert.ShortConvUpdateRefIdeal.τ Cert.ShortConvUpdateRefIdeal.sig) → Buf (Elt Ideal) ℓ) : Prop :=
  True

def Pre_VectorUpdate (m : (ℓ : Loc Cert.VectorUpdate.nD Cert.VectorUpdate.τ Cert.VectorUpdate.sig) → Buf (Elt Bits) ℓ) : Prop :=
  True

def Pre_VectorUpdateIdeal (m : (ℓ : Loc Cert.VectorUpdateIdeal.nD Cert.VectorUpdateIdeal.τ Cert.VectorUpdateIdeal.sig) → Buf (Elt Ideal) ℓ) : Prop :=
  True

def Pre_VectorUpdateRefIdeal (m : (ℓ : Loc Cert.VectorUpdateRefIdeal.nD Cert.VectorUpdateRefIdeal.τ Cert.VectorUpdateRefIdeal.sig) → Buf (Elt Ideal) ℓ) : Prop :=
  True

def Pre_GateUpdate (m : (ℓ : Loc Cert.GateUpdate.nD Cert.GateUpdate.τ Cert.GateUpdate.sig) → Buf (Elt Bits) ℓ) : Prop :=
  True

def Pre_GateUpdateIdeal (m : (ℓ : Loc Cert.GateUpdateIdeal.nD Cert.GateUpdateIdeal.τ Cert.GateUpdateIdeal.sig) → Buf (Elt Ideal) ℓ) : Prop :=
  True

def Pre_GateUpdateRefIdeal (m : (ℓ : Loc Cert.GateUpdateRefIdeal.nD Cert.GateUpdateRefIdeal.τ Cert.GateUpdateRefIdeal.sig) → Buf (Elt Ideal) ℓ) : Prop :=
  True

def Pre_GateBiasUpdate (m : (ℓ : Loc Cert.GateBiasUpdate.nD Cert.GateBiasUpdate.τ Cert.GateBiasUpdate.sig) → Buf (Elt Bits) ℓ) : Prop :=
  True

def Pre_GateBiasUpdateIdeal (m : (ℓ : Loc Cert.GateBiasUpdateIdeal.nD Cert.GateBiasUpdateIdeal.τ Cert.GateBiasUpdateIdeal.sig) → Buf (Elt Ideal) ℓ) : Prop :=
  True

def Pre_GateBiasUpdateRefIdeal (m : (ℓ : Loc Cert.GateBiasUpdateRefIdeal.nD Cert.GateBiasUpdateRefIdeal.τ Cert.GateBiasUpdateRefIdeal.sig) → Buf (Elt Ideal) ℓ) : Prop :=
  True

def Pre_LongConvUpdate (m : (ℓ : Loc Cert.LongConvUpdate.nD Cert.LongConvUpdate.τ Cert.LongConvUpdate.sig) → Buf (Elt Bits) ℓ) : Prop :=
  True

def Pre_LongConvUpdateIdeal (m : (ℓ : Loc Cert.LongConvUpdateIdeal.nD Cert.LongConvUpdateIdeal.τ Cert.LongConvUpdateIdeal.sig) → Buf (Elt Ideal) ℓ) : Prop :=
  True

def Pre_LongConvUpdateRefIdeal (m : (ℓ : Loc Cert.LongConvUpdateRefIdeal.nD Cert.LongConvUpdateRefIdeal.τ Cert.LongConvUpdateRefIdeal.sig) → Buf (Elt Ideal) ℓ) : Prop :=
  True

def quiescent_LnGrad [hLnGrad : Cert.LnGrad.Facts] : Prop :=
  ∀ (m : (ℓ : Loc Cert.LnGrad.nD Cert.LnGrad.τ Cert.LnGrad.sig) → Buf (Elt Bits) ℓ) (g : Dev Cert.LnGrad.nD → PrngReg), Pre_LnGrad m →
    θ_run (Cert.LnGrad.defs (F := Bits)) (onTc (τ := Cert.LnGrad.τ) (Cert.LnGrad.main (F := Bits))) ⟨m, fun _ => 0, g⟩ (fun r => (∀ c : Dev Cert.LnGrad.nD,
      r.2.mem ((c.tc : Thread Cert.LnGrad.nD Cert.LnGrad.τ).loc Cert.LnGrad.main_arg0) = m ((c.tc : Thread Cert.LnGrad.nD Cert.LnGrad.τ).loc Cert.LnGrad.main_arg0)
      ∧ r.2.mem ((c.tc : Thread Cert.LnGrad.nD Cert.LnGrad.τ).loc Cert.LnGrad.main_arg1) = m ((c.tc : Thread Cert.LnGrad.nD Cert.LnGrad.τ).loc Cert.LnGrad.main_arg1)
      ∧ r.2.mem ((c.tc : Thread Cert.LnGrad.nD Cert.LnGrad.τ).loc Cert.LnGrad.main_arg2) = m ((c.tc : Thread Cert.LnGrad.nD Cert.LnGrad.τ).loc Cert.LnGrad.main_arg2)
      ∧ r.2.mem ((c.tc : Thread Cert.LnGrad.nD Cert.LnGrad.τ).loc Cert.LnGrad.main_arg3) = m ((c.tc : Thread Cert.LnGrad.nD Cert.LnGrad.τ).loc Cert.LnGrad.main_arg3)
      ∧ r.2.mem ((c.tc : Thread Cert.LnGrad.nD Cert.LnGrad.τ).loc Cert.LnGrad.main_arg4) = m ((c.tc : Thread Cert.LnGrad.nD Cert.LnGrad.τ).loc Cert.LnGrad.main_arg4)
      ∧ r.2.mem ((c.tc : Thread Cert.LnGrad.nD Cert.LnGrad.τ).loc Cert.LnGrad.main_arg5) = m ((c.tc : Thread Cert.LnGrad.nD Cert.LnGrad.τ).loc Cert.LnGrad.main_arg5))
      ∧ r.2.sem = fun _ => 0)

def quiescent_LnGradIdeal [hLnGradIdeal : Cert.LnGradIdeal.Facts] : Prop :=
  ∀ (m : (ℓ : Loc Cert.LnGradIdeal.nD Cert.LnGradIdeal.τ Cert.LnGradIdeal.sig) → Buf (Elt Ideal) ℓ) (g : Dev Cert.LnGradIdeal.nD → PrngReg), Pre_LnGradIdeal m →
    θ_run (Cert.LnGradIdeal.defs (F := Ideal)) (onTc (τ := Cert.LnGradIdeal.τ) (Cert.LnGradIdeal.main (F := Ideal))) ⟨m, fun _ => 0, g⟩ (fun r => (∀ c : Dev Cert.LnGradIdeal.nD,
      r.2.mem ((c.tc : Thread Cert.LnGradIdeal.nD Cert.LnGradIdeal.τ).loc Cert.LnGradIdeal.main_arg0) = m ((c.tc : Thread Cert.LnGradIdeal.nD Cert.LnGradIdeal.τ).loc Cert.LnGradIdeal.main_arg0)
      ∧ r.2.mem ((c.tc : Thread Cert.LnGradIdeal.nD Cert.LnGradIdeal.τ).loc Cert.LnGradIdeal.main_arg1) = m ((c.tc : Thread Cert.LnGradIdeal.nD Cert.LnGradIdeal.τ).loc Cert.LnGradIdeal.main_arg1)
      ∧ r.2.mem ((c.tc : Thread Cert.LnGradIdeal.nD Cert.LnGradIdeal.τ).loc Cert.LnGradIdeal.main_arg2) = m ((c.tc : Thread Cert.LnGradIdeal.nD Cert.LnGradIdeal.τ).loc Cert.LnGradIdeal.main_arg2)
      ∧ r.2.mem ((c.tc : Thread Cert.LnGradIdeal.nD Cert.LnGradIdeal.τ).loc Cert.LnGradIdeal.main_arg3) = m ((c.tc : Thread Cert.LnGradIdeal.nD Cert.LnGradIdeal.τ).loc Cert.LnGradIdeal.main_arg3)
      ∧ r.2.mem ((c.tc : Thread Cert.LnGradIdeal.nD Cert.LnGradIdeal.τ).loc Cert.LnGradIdeal.main_arg4) = m ((c.tc : Thread Cert.LnGradIdeal.nD Cert.LnGradIdeal.τ).loc Cert.LnGradIdeal.main_arg4)
      ∧ r.2.mem ((c.tc : Thread Cert.LnGradIdeal.nD Cert.LnGradIdeal.τ).loc Cert.LnGradIdeal.main_arg5) = m ((c.tc : Thread Cert.LnGradIdeal.nD Cert.LnGradIdeal.τ).loc Cert.LnGradIdeal.main_arg5))
      ∧ r.2.sem = fun _ => 0)

def quiescent_LnGradIdeal_pre_ln_finite [hLnGradIdeal : Cert.LnGradIdeal.Facts] [hPre_ln_finite : Cert.Pre_ln_finite.Facts] : Prop :=
  ∀ (m : (ℓ : Loc Cert.LnGradIdeal.nD Cert.LnGradIdeal.τ Cert.LnGradIdeal.sig) → Buf (Elt Ideal) ℓ) (g : Dev Cert.LnGradIdeal.nD → PrngReg), Pre_LnGradIdeal_ln_finite m →
    θ_run (Cert.LnGradIdeal.defs (F := Ideal)) (onTc (τ := Cert.LnGradIdeal.τ) (Cert.LnGradIdeal.main (F := Ideal))) ⟨m, fun _ => 0, g⟩ (fun r => (∀ c : Dev Cert.LnGradIdeal.nD,
      r.2.mem ((c.tc : Thread Cert.LnGradIdeal.nD Cert.LnGradIdeal.τ).loc Cert.LnGradIdeal.main_arg0) = m ((c.tc : Thread Cert.LnGradIdeal.nD Cert.LnGradIdeal.τ).loc Cert.LnGradIdeal.main_arg0)
      ∧ r.2.mem ((c.tc : Thread Cert.LnGradIdeal.nD Cert.LnGradIdeal.τ).loc Cert.LnGradIdeal.main_arg1) = m ((c.tc : Thread Cert.LnGradIdeal.nD Cert.LnGradIdeal.τ).loc Cert.LnGradIdeal.main_arg1)
      ∧ r.2.mem ((c.tc : Thread Cert.LnGradIdeal.nD Cert.LnGradIdeal.τ).loc Cert.LnGradIdeal.main_arg2) = m ((c.tc : Thread Cert.LnGradIdeal.nD Cert.LnGradIdeal.τ).loc Cert.LnGradIdeal.main_arg2)
      ∧ r.2.mem ((c.tc : Thread Cert.LnGradIdeal.nD Cert.LnGradIdeal.τ).loc Cert.LnGradIdeal.main_arg3) = m ((c.tc : Thread Cert.LnGradIdeal.nD Cert.LnGradIdeal.τ).loc Cert.LnGradIdeal.main_arg3)
      ∧ r.2.mem ((c.tc : Thread Cert.LnGradIdeal.nD Cert.LnGradIdeal.τ).loc Cert.LnGradIdeal.main_arg4) = m ((c.tc : Thread Cert.LnGradIdeal.nD Cert.LnGradIdeal.τ).loc Cert.LnGradIdeal.main_arg4)
      ∧ r.2.mem ((c.tc : Thread Cert.LnGradIdeal.nD Cert.LnGradIdeal.τ).loc Cert.LnGradIdeal.main_arg5) = m ((c.tc : Thread Cert.LnGradIdeal.nD Cert.LnGradIdeal.τ).loc Cert.LnGradIdeal.main_arg5))
      ∧ r.2.sem = fun _ => 0)

def quiescent_LnGradRefIdeal [hLnGradRefIdeal : Cert.LnGradRefIdeal.Facts] : Prop :=
  ∀ (m : (ℓ : Loc Cert.LnGradRefIdeal.nD Cert.LnGradRefIdeal.τ Cert.LnGradRefIdeal.sig) → Buf (Elt Ideal) ℓ) (g : Dev Cert.LnGradRefIdeal.nD → PrngReg), Pre_LnGradRefIdeal m →
    θ_run (Cert.LnGradRefIdeal.defs (F := Ideal)) (onTc (τ := Cert.LnGradRefIdeal.τ) (Cert.LnGradRefIdeal.main (F := Ideal))) ⟨m, fun _ => 0, g⟩ (fun r => (∀ c : Dev Cert.LnGradRefIdeal.nD,
      r.2.mem ((c.tc : Thread Cert.LnGradRefIdeal.nD Cert.LnGradRefIdeal.τ).loc Cert.LnGradRefIdeal.main_arg0) = m ((c.tc : Thread Cert.LnGradRefIdeal.nD Cert.LnGradRefIdeal.τ).loc Cert.LnGradRefIdeal.main_arg0)
      ∧ r.2.mem ((c.tc : Thread Cert.LnGradRefIdeal.nD Cert.LnGradRefIdeal.τ).loc Cert.LnGradRefIdeal.main_arg1) = m ((c.tc : Thread Cert.LnGradRefIdeal.nD Cert.LnGradRefIdeal.τ).loc Cert.LnGradRefIdeal.main_arg1)
      ∧ r.2.mem ((c.tc : Thread Cert.LnGradRefIdeal.nD Cert.LnGradRefIdeal.τ).loc Cert.LnGradRefIdeal.main_arg2) = m ((c.tc : Thread Cert.LnGradRefIdeal.nD Cert.LnGradRefIdeal.τ).loc Cert.LnGradRefIdeal.main_arg2)
      ∧ r.2.mem ((c.tc : Thread Cert.LnGradRefIdeal.nD Cert.LnGradRefIdeal.τ).loc Cert.LnGradRefIdeal.main_arg3) = m ((c.tc : Thread Cert.LnGradRefIdeal.nD Cert.LnGradRefIdeal.τ).loc Cert.LnGradRefIdeal.main_arg3)
      ∧ r.2.mem ((c.tc : Thread Cert.LnGradRefIdeal.nD Cert.LnGradRefIdeal.τ).loc Cert.LnGradRefIdeal.main_arg4) = m ((c.tc : Thread Cert.LnGradRefIdeal.nD Cert.LnGradRefIdeal.τ).loc Cert.LnGradRefIdeal.main_arg4)
      ∧ r.2.mem ((c.tc : Thread Cert.LnGradRefIdeal.nD Cert.LnGradRefIdeal.τ).loc Cert.LnGradRefIdeal.main_arg5) = m ((c.tc : Thread Cert.LnGradRefIdeal.nD Cert.LnGradRefIdeal.τ).loc Cert.LnGradRefIdeal.main_arg5))
      ∧ r.2.sem = fun _ => 0)

def quiescent_LnGradRefIdeal_pre_ln_finite [hLnGradRefIdeal : Cert.LnGradRefIdeal.Facts] [hPre_ln_finite : Cert.Pre_ln_finite.Facts] : Prop :=
  ∀ (m : (ℓ : Loc Cert.LnGradRefIdeal.nD Cert.LnGradRefIdeal.τ Cert.LnGradRefIdeal.sig) → Buf (Elt Ideal) ℓ) (g : Dev Cert.LnGradRefIdeal.nD → PrngReg), Pre_LnGradRefIdeal_ln_finite m →
    θ_run (Cert.LnGradRefIdeal.defs (F := Ideal)) (onTc (τ := Cert.LnGradRefIdeal.τ) (Cert.LnGradRefIdeal.main (F := Ideal))) ⟨m, fun _ => 0, g⟩ (fun r => (∀ c : Dev Cert.LnGradRefIdeal.nD,
      r.2.mem ((c.tc : Thread Cert.LnGradRefIdeal.nD Cert.LnGradRefIdeal.τ).loc Cert.LnGradRefIdeal.main_arg0) = m ((c.tc : Thread Cert.LnGradRefIdeal.nD Cert.LnGradRefIdeal.τ).loc Cert.LnGradRefIdeal.main_arg0)
      ∧ r.2.mem ((c.tc : Thread Cert.LnGradRefIdeal.nD Cert.LnGradRefIdeal.τ).loc Cert.LnGradRefIdeal.main_arg1) = m ((c.tc : Thread Cert.LnGradRefIdeal.nD Cert.LnGradRefIdeal.τ).loc Cert.LnGradRefIdeal.main_arg1)
      ∧ r.2.mem ((c.tc : Thread Cert.LnGradRefIdeal.nD Cert.LnGradRefIdeal.τ).loc Cert.LnGradRefIdeal.main_arg2) = m ((c.tc : Thread Cert.LnGradRefIdeal.nD Cert.LnGradRefIdeal.τ).loc Cert.LnGradRefIdeal.main_arg2)
      ∧ r.2.mem ((c.tc : Thread Cert.LnGradRefIdeal.nD Cert.LnGradRefIdeal.τ).loc Cert.LnGradRefIdeal.main_arg3) = m ((c.tc : Thread Cert.LnGradRefIdeal.nD Cert.LnGradRefIdeal.τ).loc Cert.LnGradRefIdeal.main_arg3)
      ∧ r.2.mem ((c.tc : Thread Cert.LnGradRefIdeal.nD Cert.LnGradRefIdeal.τ).loc Cert.LnGradRefIdeal.main_arg4) = m ((c.tc : Thread Cert.LnGradRefIdeal.nD Cert.LnGradRefIdeal.τ).loc Cert.LnGradRefIdeal.main_arg4)
      ∧ r.2.mem ((c.tc : Thread Cert.LnGradRefIdeal.nD Cert.LnGradRefIdeal.τ).loc Cert.LnGradRefIdeal.main_arg5) = m ((c.tc : Thread Cert.LnGradRefIdeal.nD Cert.LnGradRefIdeal.τ).loc Cert.LnGradRefIdeal.main_arg5))
      ∧ r.2.sem = fun _ => 0)

def quiescent_LossGrad [hLossGrad : Cert.LossGrad.Facts] : Prop :=
  ∀ (m : (ℓ : Loc Cert.LossGrad.nD Cert.LossGrad.τ Cert.LossGrad.sig) → Buf (Elt Bits) ℓ) (g : Dev Cert.LossGrad.nD → PrngReg), Pre_LossGrad m →
    θ_run (Cert.LossGrad.defs (F := Bits)) (onTc (τ := Cert.LossGrad.τ) (Cert.LossGrad.main (F := Bits))) ⟨m, fun _ => 0, g⟩ (fun r => (∀ c : Dev Cert.LossGrad.nD,
      r.2.mem ((c.tc : Thread Cert.LossGrad.nD Cert.LossGrad.τ).loc Cert.LossGrad.main_arg0) = m ((c.tc : Thread Cert.LossGrad.nD Cert.LossGrad.τ).loc Cert.LossGrad.main_arg0)
      ∧ r.2.mem ((c.tc : Thread Cert.LossGrad.nD Cert.LossGrad.τ).loc Cert.LossGrad.main_arg1) = m ((c.tc : Thread Cert.LossGrad.nD Cert.LossGrad.τ).loc Cert.LossGrad.main_arg1)
      ∧ r.2.mem ((c.tc : Thread Cert.LossGrad.nD Cert.LossGrad.τ).loc Cert.LossGrad.main_arg2) = m ((c.tc : Thread Cert.LossGrad.nD Cert.LossGrad.τ).loc Cert.LossGrad.main_arg2)
      ∧ r.2.mem ((c.tc : Thread Cert.LossGrad.nD Cert.LossGrad.τ).loc Cert.LossGrad.main_arg3) = m ((c.tc : Thread Cert.LossGrad.nD Cert.LossGrad.τ).loc Cert.LossGrad.main_arg3))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2)
      ∧ r.2.mem ((c.tc : Thread Cert.LossGradIdeal.nD Cert.LossGradIdeal.τ).loc Cert.LossGradIdeal.main_arg3) = m ((c.tc : Thread Cert.LossGradIdeal.nD Cert.LossGradIdeal.τ).loc Cert.LossGradIdeal.main_arg3))
      ∧ r.2.sem = fun _ => 0)

def quiescent_LossGradIdeal_pre_loss_finite [hLossGradIdeal : Cert.LossGradIdeal.Facts] [hPre_loss_finite : Cert.Pre_loss_finite.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal_loss_finite m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2)
      ∧ r.2.mem ((c.tc : Thread Cert.LossGradIdeal.nD Cert.LossGradIdeal.τ).loc Cert.LossGradIdeal.main_arg3) = m ((c.tc : Thread Cert.LossGradIdeal.nD Cert.LossGradIdeal.τ).loc Cert.LossGradIdeal.main_arg3))
      ∧ r.2.sem = fun _ => 0)

def quiescent_LossGradRefIdeal [hLossGradRefIdeal : Cert.LossGradRefIdeal.Facts] : Prop :=
  ∀ (m : (ℓ : Loc Cert.LossGradRefIdeal.nD Cert.LossGradRefIdeal.τ Cert.LossGradRefIdeal.sig) → Buf (Elt Ideal) ℓ) (g : Dev Cert.LossGradRefIdeal.nD → PrngReg), Pre_LossGradRefIdeal m →
    θ_run (Cert.LossGradRefIdeal.defs (F := Ideal)) (onTc (τ := Cert.LossGradRefIdeal.τ) (Cert.LossGradRefIdeal.main (F := Ideal))) ⟨m, fun _ => 0, g⟩ (fun r => (∀ c : Dev Cert.LossGradRefIdeal.nD,
      r.2.mem ((c.tc : Thread Cert.LossGradRefIdeal.nD Cert.LossGradRefIdeal.τ).loc Cert.LossGradRefIdeal.main_arg0) = m ((c.tc : Thread Cert.LossGradRefIdeal.nD Cert.LossGradRefIdeal.τ).loc Cert.LossGradRefIdeal.main_arg0)
      ∧ r.2.mem ((c.tc : Thread Cert.LossGradRefIdeal.nD Cert.LossGradRefIdeal.τ).loc Cert.LossGradRefIdeal.main_arg1) = m ((c.tc : Thread Cert.LossGradRefIdeal.nD Cert.LossGradRefIdeal.τ).loc Cert.LossGradRefIdeal.main_arg1)
      ∧ r.2.mem ((c.tc : Thread Cert.LossGradRefIdeal.nD Cert.LossGradRefIdeal.τ).loc Cert.LossGradRefIdeal.main_arg2) = m ((c.tc : Thread Cert.LossGradRefIdeal.nD Cert.LossGradRefIdeal.τ).loc Cert.LossGradRefIdeal.main_arg2)
      ∧ r.2.mem ((c.tc : Thread Cert.LossGradRefIdeal.nD Cert.LossGradRefIdeal.τ).loc Cert.LossGradRefIdeal.main_arg3) = m ((c.tc : Thread Cert.LossGradRefIdeal.nD Cert.LossGradRefIdeal.τ).loc Cert.LossGradRefIdeal.main_arg3))
      ∧ r.2.sem = fun _ => 0)

def quiescent_LossGradRefIdeal_pre_loss_finite [hLossGradRefIdeal : Cert.LossGradRefIdeal.Facts] [hPre_loss_finite : Cert.Pre_loss_finite.Facts] : Prop :=
  ∀ (m : (ℓ : Loc Cert.LossGradRefIdeal.nD Cert.LossGradRefIdeal.τ Cert.LossGradRefIdeal.sig) → Buf (Elt Ideal) ℓ) (g : Dev Cert.LossGradRefIdeal.nD → PrngReg), Pre_LossGradRefIdeal_loss_finite m →
    θ_run (Cert.LossGradRefIdeal.defs (F := Ideal)) (onTc (τ := Cert.LossGradRefIdeal.τ) (Cert.LossGradRefIdeal.main (F := Ideal))) ⟨m, fun _ => 0, g⟩ (fun r => (∀ c : Dev Cert.LossGradRefIdeal.nD,
      r.2.mem ((c.tc : Thread Cert.LossGradRefIdeal.nD Cert.LossGradRefIdeal.τ).loc Cert.LossGradRefIdeal.main_arg0) = m ((c.tc : Thread Cert.LossGradRefIdeal.nD Cert.LossGradRefIdeal.τ).loc Cert.LossGradRefIdeal.main_arg0)
      ∧ r.2.mem ((c.tc : Thread Cert.LossGradRefIdeal.nD Cert.LossGradRefIdeal.τ).loc Cert.LossGradRefIdeal.main_arg1) = m ((c.tc : Thread Cert.LossGradRefIdeal.nD Cert.LossGradRefIdeal.τ).loc Cert.LossGradRefIdeal.main_arg1)
      ∧ r.2.mem ((c.tc : Thread Cert.LossGradRefIdeal.nD Cert.LossGradRefIdeal.τ).loc Cert.LossGradRefIdeal.main_arg2) = m ((c.tc : Thread Cert.LossGradRefIdeal.nD Cert.LossGradRefIdeal.τ).loc Cert.LossGradRefIdeal.main_arg2)
      ∧ r.2.mem ((c.tc : Thread Cert.LossGradRefIdeal.nD Cert.LossGradRefIdeal.τ).loc Cert.LossGradRefIdeal.main_arg3) = m ((c.tc : Thread Cert.LossGradRefIdeal.nD Cert.LossGradRefIdeal.τ).loc Cert.LossGradRefIdeal.main_arg3))
      ∧ r.2.sem = fun _ => 0)

def quiescent_TotalLoss [hTotalLoss : Cert.TotalLoss.Facts] : Prop :=
  ∀ (m : (ℓ : Loc Cert.TotalLoss.nD Cert.TotalLoss.τ Cert.TotalLoss.sig) → Buf (Elt Bits) ℓ) (g : Dev Cert.TotalLoss.nD → PrngReg), Pre_TotalLoss m →
    θ_run (Cert.TotalLoss.defs (F := Bits)) (onTc (τ := Cert.TotalLoss.τ) (Cert.TotalLoss.main (F := Bits))) ⟨m, fun _ => 0, g⟩ (fun r => (∀ c : Dev Cert.TotalLoss.nD,
      r.2.mem ((c.tc : Thread Cert.TotalLoss.nD Cert.TotalLoss.τ).loc Cert.TotalLoss.main_arg0) = m ((c.tc : Thread Cert.TotalLoss.nD Cert.TotalLoss.τ).loc Cert.TotalLoss.main_arg0))
      ∧ r.2.sem = fun _ => 0)

def quiescent_TotalLossIdeal [hTotalLossIdeal : Cert.TotalLossIdeal.Facts] : Prop :=
  ∀ (m : (ℓ : Loc Cert.TotalLossIdeal.nD Cert.TotalLossIdeal.τ Cert.TotalLossIdeal.sig) → Buf (Elt Ideal) ℓ) (g : Dev Cert.TotalLossIdeal.nD → PrngReg), Pre_TotalLossIdeal m →
    θ_run (Cert.TotalLossIdeal.defs (F := Ideal)) (onTc (τ := Cert.TotalLossIdeal.τ) (Cert.TotalLossIdeal.main (F := Ideal))) ⟨m, fun _ => 0, g⟩ (fun r => (∀ c : Dev Cert.TotalLossIdeal.nD,
      r.2.mem ((c.tc : Thread Cert.TotalLossIdeal.nD Cert.TotalLossIdeal.τ).loc Cert.TotalLossIdeal.main_arg0) = m ((c.tc : Thread Cert.TotalLossIdeal.nD Cert.TotalLossIdeal.τ).loc Cert.TotalLossIdeal.main_arg0))
      ∧ r.2.sem = fun _ => 0)

def quiescent_TotalLossRefIdeal [hTotalLossRefIdeal : Cert.TotalLossRefIdeal.Facts] : Prop :=
  ∀ (m : (ℓ : Loc Cert.TotalLossRefIdeal.nD Cert.TotalLossRefIdeal.τ Cert.TotalLossRefIdeal.sig) → Buf (Elt Ideal) ℓ) (g : Dev Cert.TotalLossRefIdeal.nD → PrngReg), Pre_TotalLossRefIdeal m →
    θ_run (Cert.TotalLossRefIdeal.defs (F := Ideal)) (onTc (τ := Cert.TotalLossRefIdeal.τ) (Cert.TotalLossRefIdeal.main (F := Ideal))) ⟨m, fun _ => 0, g⟩ (fun r => (∀ c : Dev Cert.TotalLossRefIdeal.nD,
      r.2.mem ((c.tc : Thread Cert.TotalLossRefIdeal.nD Cert.TotalLossRefIdeal.τ).loc Cert.TotalLossRefIdeal.main_arg0) = m ((c.tc : Thread Cert.TotalLossRefIdeal.nD Cert.TotalLossRefIdeal.τ).loc Cert.TotalLossRefIdeal.main_arg0))
      ∧ r.2.sem = fun _ => 0)

def quiescent_EvenGrad [hEvenGrad : Cert.EvenGrad.Facts] : Prop :=
  ∀ (m : (ℓ : Loc Cert.EvenGrad.nD Cert.EvenGrad.τ Cert.EvenGrad.sig) → Buf (Elt Bits) ℓ) (g : Dev Cert.EvenGrad.nD → PrngReg), Pre_EvenGrad m →
    θ_run (Cert.EvenGrad.defs (F := Bits)) (onTc (τ := Cert.EvenGrad.τ) (Cert.EvenGrad.main (F := Bits))) ⟨m, fun _ => 0, g⟩ (fun r => (∀ c : Dev Cert.EvenGrad.nD,
      r.2.mem ((c.tc : Thread Cert.EvenGrad.nD Cert.EvenGrad.τ).loc Cert.EvenGrad.main_arg0) = m ((c.tc : Thread Cert.EvenGrad.nD Cert.EvenGrad.τ).loc Cert.EvenGrad.main_arg0)
      ∧ r.2.mem ((c.tc : Thread Cert.EvenGrad.nD Cert.EvenGrad.τ).loc Cert.EvenGrad.main_arg1) = m ((c.tc : Thread Cert.EvenGrad.nD Cert.EvenGrad.τ).loc Cert.EvenGrad.main_arg1)
      ∧ r.2.mem ((c.tc : Thread Cert.EvenGrad.nD Cert.EvenGrad.τ).loc Cert.EvenGrad.main_arg2) = m ((c.tc : Thread Cert.EvenGrad.nD Cert.EvenGrad.τ).loc Cert.EvenGrad.main_arg2)
      ∧ r.2.mem ((c.tc : Thread Cert.EvenGrad.nD Cert.EvenGrad.τ).loc Cert.EvenGrad.main_arg3) = m ((c.tc : Thread Cert.EvenGrad.nD Cert.EvenGrad.τ).loc Cert.EvenGrad.main_arg3)
      ∧ r.2.mem ((c.tc : Thread Cert.EvenGrad.nD Cert.EvenGrad.τ).loc Cert.EvenGrad.main_arg4) = m ((c.tc : Thread Cert.EvenGrad.nD Cert.EvenGrad.τ).loc Cert.EvenGrad.main_arg4)
      ∧ r.2.mem ((c.tc : Thread Cert.EvenGrad.nD Cert.EvenGrad.τ).loc Cert.EvenGrad.main_arg5) = m ((c.tc : Thread Cert.EvenGrad.nD Cert.EvenGrad.τ).loc Cert.EvenGrad.main_arg5))
      ∧ r.2.sem = fun _ => 0)

def quiescent_EvenGradIdeal [hEvenGradIdeal : Cert.EvenGradIdeal.Facts] : Prop :=
  ∀ (m : (ℓ : Loc Cert.EvenGradIdeal.nD Cert.EvenGradIdeal.τ Cert.EvenGradIdeal.sig) → Buf (Elt Ideal) ℓ) (g : Dev Cert.EvenGradIdeal.nD → PrngReg), Pre_EvenGradIdeal m →
    θ_run (Cert.EvenGradIdeal.defs (F := Ideal)) (onTc (τ := Cert.EvenGradIdeal.τ) (Cert.EvenGradIdeal.main (F := Ideal))) ⟨m, fun _ => 0, g⟩ (fun r => (∀ c : Dev Cert.EvenGradIdeal.nD,
      r.2.mem ((c.tc : Thread Cert.EvenGradIdeal.nD Cert.EvenGradIdeal.τ).loc Cert.EvenGradIdeal.main_arg0) = m ((c.tc : Thread Cert.EvenGradIdeal.nD Cert.EvenGradIdeal.τ).loc Cert.EvenGradIdeal.main_arg0)
      ∧ r.2.mem ((c.tc : Thread Cert.EvenGradIdeal.nD Cert.EvenGradIdeal.τ).loc Cert.EvenGradIdeal.main_arg1) = m ((c.tc : Thread Cert.EvenGradIdeal.nD Cert.EvenGradIdeal.τ).loc Cert.EvenGradIdeal.main_arg1)
      ∧ r.2.mem ((c.tc : Thread Cert.EvenGradIdeal.nD Cert.EvenGradIdeal.τ).loc Cert.EvenGradIdeal.main_arg2) = m ((c.tc : Thread Cert.EvenGradIdeal.nD Cert.EvenGradIdeal.τ).loc Cert.EvenGradIdeal.main_arg2)
      ∧ r.2.mem ((c.tc : Thread Cert.EvenGradIdeal.nD Cert.EvenGradIdeal.τ).loc Cert.EvenGradIdeal.main_arg3) = m ((c.tc : Thread Cert.EvenGradIdeal.nD Cert.EvenGradIdeal.τ).loc Cert.EvenGradIdeal.main_arg3)
      ∧ r.2.mem ((c.tc : Thread Cert.EvenGradIdeal.nD Cert.EvenGradIdeal.τ).loc Cert.EvenGradIdeal.main_arg4) = m ((c.tc : Thread Cert.EvenGradIdeal.nD Cert.EvenGradIdeal.τ).loc Cert.EvenGradIdeal.main_arg4)
      ∧ r.2.mem ((c.tc : Thread Cert.EvenGradIdeal.nD Cert.EvenGradIdeal.τ).loc Cert.EvenGradIdeal.main_arg5) = m ((c.tc : Thread Cert.EvenGradIdeal.nD Cert.EvenGradIdeal.τ).loc Cert.EvenGradIdeal.main_arg5))
      ∧ r.2.sem = fun _ => 0)

def quiescent_EvenGradRefIdeal [hEvenGradRefIdeal : Cert.EvenGradRefIdeal.Facts] : Prop :=
  ∀ (m : (ℓ : Loc Cert.EvenGradRefIdeal.nD Cert.EvenGradRefIdeal.τ Cert.EvenGradRefIdeal.sig) → Buf (Elt Ideal) ℓ) (g : Dev Cert.EvenGradRefIdeal.nD → PrngReg), Pre_EvenGradRefIdeal m →
    θ_run (Cert.EvenGradRefIdeal.defs (F := Ideal)) (onTc (τ := Cert.EvenGradRefIdeal.τ) (Cert.EvenGradRefIdeal.main (F := Ideal))) ⟨m, fun _ => 0, g⟩ (fun r => (∀ c : Dev Cert.EvenGradRefIdeal.nD,
      r.2.mem ((c.tc : Thread Cert.EvenGradRefIdeal.nD Cert.EvenGradRefIdeal.τ).loc Cert.EvenGradRefIdeal.main_arg0) = m ((c.tc : Thread Cert.EvenGradRefIdeal.nD Cert.EvenGradRefIdeal.τ).loc Cert.EvenGradRefIdeal.main_arg0)
      ∧ r.2.mem ((c.tc : Thread Cert.EvenGradRefIdeal.nD Cert.EvenGradRefIdeal.τ).loc Cert.EvenGradRefIdeal.main_arg1) = m ((c.tc : Thread Cert.EvenGradRefIdeal.nD Cert.EvenGradRefIdeal.τ).loc Cert.EvenGradRefIdeal.main_arg1)
      ∧ r.2.mem ((c.tc : Thread Cert.EvenGradRefIdeal.nD Cert.EvenGradRefIdeal.τ).loc Cert.EvenGradRefIdeal.main_arg2) = m ((c.tc : Thread Cert.EvenGradRefIdeal.nD Cert.EvenGradRefIdeal.τ).loc Cert.EvenGradRefIdeal.main_arg2)
      ∧ r.2.mem ((c.tc : Thread Cert.EvenGradRefIdeal.nD Cert.EvenGradRefIdeal.τ).loc Cert.EvenGradRefIdeal.main_arg3) = m ((c.tc : Thread Cert.EvenGradRefIdeal.nD Cert.EvenGradRefIdeal.τ).loc Cert.EvenGradRefIdeal.main_arg3)
      ∧ r.2.mem ((c.tc : Thread Cert.EvenGradRefIdeal.nD Cert.EvenGradRefIdeal.τ).loc Cert.EvenGradRefIdeal.main_arg4) = m ((c.tc : Thread Cert.EvenGradRefIdeal.nD Cert.EvenGradRefIdeal.τ).loc Cert.EvenGradRefIdeal.main_arg4)
      ∧ r.2.mem ((c.tc : Thread Cert.EvenGradRefIdeal.nD Cert.EvenGradRefIdeal.τ).loc Cert.EvenGradRefIdeal.main_arg5) = m ((c.tc : Thread Cert.EvenGradRefIdeal.nD Cert.EvenGradRefIdeal.τ).loc Cert.EvenGradRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InWeightGrad [hInWeightGrad : Cert.InWeightGrad.Facts] : Prop :=
  ∀ (m : (ℓ : Loc Cert.InWeightGrad.nD Cert.InWeightGrad.τ Cert.InWeightGrad.sig) → Buf (Elt Bits) ℓ) (g : Dev Cert.InWeightGrad.nD → PrngReg), Pre_InWeightGrad m →
    θ_run (Cert.InWeightGrad.defs (F := Bits)) (onTc (τ := Cert.InWeightGrad.τ) (Cert.InWeightGrad.main (F := Bits))) ⟨m, fun _ => 0, g⟩ (fun r => (∀ c : Dev Cert.InWeightGrad.nD,
      r.2.mem ((c.tc : Thread Cert.InWeightGrad.nD Cert.InWeightGrad.τ).loc Cert.InWeightGrad.main_arg0) = m ((c.tc : Thread Cert.InWeightGrad.nD Cert.InWeightGrad.τ).loc Cert.InWeightGrad.main_arg0)
      ∧ r.2.mem ((c.tc : Thread Cert.InWeightGrad.nD Cert.InWeightGrad.τ).loc Cert.InWeightGrad.main_arg1) = m ((c.tc : Thread Cert.InWeightGrad.nD Cert.InWeightGrad.τ).loc Cert.InWeightGrad.main_arg1))
      ∧ r.2.sem = fun _ => 0)

def quiescent_InWeightGradIdeal [hInWeightGradIdeal : Cert.InWeightGradIdeal.Facts] : Prop :=
  ∀ (m : (ℓ : Loc Cert.InWeightGradIdeal.nD Cert.InWeightGradIdeal.τ Cert.InWeightGradIdeal.sig) → Buf (Elt Ideal) ℓ) (g : Dev Cert.InWeightGradIdeal.nD → PrngReg), Pre_InWeightGradIdeal m →
    θ_run (Cert.InWeightGradIdeal.defs (F := Ideal)) (onTc (τ := Cert.InWeightGradIdeal.τ) (Cert.InWeightGradIdeal.main (F := Ideal))) ⟨m, fun _ => 0, g⟩ (fun r => (∀ c : Dev Cert.InWeightGradIdeal.nD,
      r.2.mem ((c.tc : Thread Cert.InWeightGradIdeal.nD Cert.InWeightGradIdeal.τ).loc Cert.InWeightGradIdeal.main_arg0) = m ((c.tc : Thread Cert.InWeightGradIdeal.nD Cert.InWeightGradIdeal.τ).loc Cert.InWeightGradIdeal.main_arg0)
      ∧ r.2.mem ((c.tc : Thread Cert.InWeightGradIdeal.nD Cert.InWeightGradIdeal.τ).loc Cert.InWeightGradIdeal.main_arg1) = m ((c.tc : Thread Cert.InWeightGradIdeal.nD Cert.InWeightGradIdeal.τ).loc Cert.InWeightGradIdeal.main_arg1))
      ∧ r.2.sem = fun _ => 0)

def quiescent_InWeightGradRefIdeal [hInWeightGradRefIdeal : Cert.InWeightGradRefIdeal.Facts] : Prop :=
  ∀ (m : (ℓ : Loc Cert.InWeightGradRefIdeal.nD Cert.InWeightGradRefIdeal.τ Cert.InWeightGradRefIdeal.sig) → Buf (Elt Ideal) ℓ) (g : Dev Cert.InWeightGradRefIdeal.nD → PrngReg), Pre_InWeightGradRefIdeal m →
    θ_run (Cert.InWeightGradRefIdeal.defs (F := Ideal)) (onTc (τ := Cert.InWeightGradRefIdeal.τ) (Cert.InWeightGradRefIdeal.main (F := Ideal))) ⟨m, fun _ => 0, g⟩ (fun r => (∀ c : Dev Cert.InWeightGradRefIdeal.nD,
      r.2.mem ((c.tc : Thread Cert.InWeightGradRefIdeal.nD Cert.InWeightGradRefIdeal.τ).loc Cert.InWeightGradRefIdeal.main_arg0) = m ((c.tc : Thread Cert.InWeightGradRefIdeal.nD Cert.InWeightGradRefIdeal.τ).loc Cert.InWeightGradRefIdeal.main_arg0)
      ∧ r.2.mem ((c.tc : Thread Cert.InWeightGradRefIdeal.nD Cert.InWeightGradRefIdeal.τ).loc Cert.InWeightGradRefIdeal.main_arg1) = m ((c.tc : Thread Cert.InWeightGradRefIdeal.nD Cert.InWeightGradRefIdeal.τ).loc Cert.InWeightGradRefIdeal.main_arg1))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1)
      ∧ r.2.mem ((c.tc : Thread Cert.InGradRefIdeal.nD Cert.InGradRefIdeal.τ).loc Cert.InGradRefIdeal.main_arg2) = m ((c.tc : Thread Cert.InGradRefIdeal.nD Cert.InGradRefIdeal.τ).loc Cert.InGradRefIdeal.main_arg2))
      ∧ r.2.sem = fun _ => 0)

def quiescent_OutWeightGrad [hOutWeightGrad : Cert.OutWeightGrad.Facts] : Prop :=
  ∀ (m : (ℓ : Loc Cert.OutWeightGrad.nD Cert.OutWeightGrad.τ Cert.OutWeightGrad.sig) → Buf (Elt Bits) ℓ) (g : Dev Cert.OutWeightGrad.nD → PrngReg), Pre_OutWeightGrad m →
    θ_run (Cert.OutWeightGrad.defs (F := Bits)) (onTc (τ := Cert.OutWeightGrad.τ) (Cert.OutWeightGrad.main (F := Bits))) ⟨m, fun _ => 0, g⟩ (fun r => (∀ c : Dev Cert.OutWeightGrad.nD,
      r.2.mem ((c.tc : Thread Cert.OutWeightGrad.nD Cert.OutWeightGrad.τ).loc Cert.OutWeightGrad.main_arg0) = m ((c.tc : Thread Cert.OutWeightGrad.nD Cert.OutWeightGrad.τ).loc Cert.OutWeightGrad.main_arg0)
      ∧ r.2.mem ((c.tc : Thread Cert.OutWeightGrad.nD Cert.OutWeightGrad.τ).loc Cert.OutWeightGrad.main_arg1) = m ((c.tc : Thread Cert.OutWeightGrad.nD Cert.OutWeightGrad.τ).loc Cert.OutWeightGrad.main_arg1))
      ∧ r.2.sem = fun _ => 0)

def quiescent_OutWeightGradIdeal [hOutWeightGradIdeal : Cert.OutWeightGradIdeal.Facts] : Prop :=
  ∀ (m : (ℓ : Loc Cert.OutWeightGradIdeal.nD Cert.OutWeightGradIdeal.τ Cert.OutWeightGradIdeal.sig) → Buf (Elt Ideal) ℓ) (g : Dev Cert.OutWeightGradIdeal.nD → PrngReg), Pre_OutWeightGradIdeal m →
    θ_run (Cert.OutWeightGradIdeal.defs (F := Ideal)) (onTc (τ := Cert.OutWeightGradIdeal.τ) (Cert.OutWeightGradIdeal.main (F := Ideal))) ⟨m, fun _ => 0, g⟩ (fun r => (∀ c : Dev Cert.OutWeightGradIdeal.nD,
      r.2.mem ((c.tc : Thread Cert.OutWeightGradIdeal.nD Cert.OutWeightGradIdeal.τ).loc Cert.OutWeightGradIdeal.main_arg0) = m ((c.tc : Thread Cert.OutWeightGradIdeal.nD Cert.OutWeightGradIdeal.τ).loc Cert.OutWeightGradIdeal.main_arg0)
      ∧ r.2.mem ((c.tc : Thread Cert.OutWeightGradIdeal.nD Cert.OutWeightGradIdeal.τ).loc Cert.OutWeightGradIdeal.main_arg1) = m ((c.tc : Thread Cert.OutWeightGradIdeal.nD Cert.OutWeightGradIdeal.τ).loc Cert.OutWeightGradIdeal.main_arg1))
      ∧ r.2.sem = fun _ => 0)

def quiescent_OutWeightGradRefIdeal [hOutWeightGradRefIdeal : Cert.OutWeightGradRefIdeal.Facts] : Prop :=
  ∀ (m : (ℓ : Loc Cert.OutWeightGradRefIdeal.nD Cert.OutWeightGradRefIdeal.τ Cert.OutWeightGradRefIdeal.sig) → Buf (Elt Ideal) ℓ) (g : Dev Cert.OutWeightGradRefIdeal.nD → PrngReg), Pre_OutWeightGradRefIdeal m →
    θ_run (Cert.OutWeightGradRefIdeal.defs (F := Ideal)) (onTc (τ := Cert.OutWeightGradRefIdeal.τ) (Cert.OutWeightGradRefIdeal.main (F := Ideal))) ⟨m, fun _ => 0, g⟩ (fun r => (∀ c : Dev Cert.OutWeightGradRefIdeal.nD,
      r.2.mem ((c.tc : Thread Cert.OutWeightGradRefIdeal.nD Cert.OutWeightGradRefIdeal.τ).loc Cert.OutWeightGradRefIdeal.main_arg0) = m ((c.tc : Thread Cert.OutWeightGradRefIdeal.nD Cert.OutWeightGradRefIdeal.τ).loc Cert.OutWeightGradRefIdeal.main_arg0)
      ∧ r.2.mem ((c.tc : Thread Cert.OutWeightGradRefIdeal.nD Cert.OutWeightGradRefIdeal.τ).loc Cert.OutWeightGradRefIdeal.main_arg1) = m ((c.tc : Thread Cert.OutWeightGradRefIdeal.nD Cert.OutWeightGradRefIdeal.τ).loc Cert.OutWeightGradRefIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3)
      ∧ r.2.mem ((c.tc : Thread Cert.OutNorm.nD Cert.OutNorm.τ).loc Cert.OutNorm.main_arg4) = m ((c.tc : Thread Cert.OutNorm.nD Cert.OutNorm.τ).loc Cert.OutNorm.main_arg4)
      ∧ r.2.mem ((c.tc : Thread Cert.OutNorm.nD Cert.OutNorm.τ).loc Cert.OutNorm.main_arg5) = m ((c.tc : Thread Cert.OutNorm.nD Cert.OutNorm.τ).loc Cert.OutNorm.main_arg5)
      ∧ r.2.mem ((c.tc : Thread Cert.OutNorm.nD Cert.OutNorm.τ).loc Cert.OutNorm.main_arg6) = m ((c.tc : Thread Cert.OutNorm.nD Cert.OutNorm.τ).loc Cert.OutNorm.main_arg6))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
      ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4)
      ∧ r.2.mem ((c.tc : Thread Cert.OutNormIdeal.nD Cert.OutNormIdeal.τ).loc Cert.OutNormIdeal.main_arg5) = m ((c.tc : Thread Cert.OutNormIdeal.nD Cert.OutNormIdeal.τ).loc Cert.OutNormIdeal.main_arg5)
      ∧ r.2.mem ((c.tc : Thread Cert.OutNormIdeal.nD Cert.OutNormIdeal.τ).loc Cert.OutNormIdeal.main_arg6) = m ((c.tc : Thread Cert.OutNormIdeal.nD Cert.OutNormIdeal.τ).loc Cert.OutNormIdeal.main_arg6))
      ∧ r.2.sem = fun _ => 0)

def quiescent_OutNormRefIdeal [hOutNormRefIdeal : Cert.OutNormRefIdeal.Facts] : Prop :=
  ∀ (m : (ℓ : Loc Cert.OutNormRefIdeal.nD Cert.OutNormRefIdeal.τ Cert.OutNormRefIdeal.sig) → Buf (Elt Ideal) ℓ) (g : Dev Cert.OutNormRefIdeal.nD → PrngReg), Pre_OutNormRefIdeal m →
    θ_run (Cert.OutNormRefIdeal.defs (F := Ideal)) (onTc (τ := Cert.OutNormRefIdeal.τ) (Cert.OutNormRefIdeal.main (F := Ideal))) ⟨m, fun _ => 0, g⟩ (fun r => (∀ c : Dev Cert.OutNormRefIdeal.nD,
      r.2.mem ((c.tc : Thread Cert.OutNormRefIdeal.nD Cert.OutNormRefIdeal.τ).loc Cert.OutNormRefIdeal.main_arg0) = m ((c.tc : Thread Cert.OutNormRefIdeal.nD Cert.OutNormRefIdeal.τ).loc Cert.OutNormRefIdeal.main_arg0)
      ∧ r.2.mem ((c.tc : Thread Cert.OutNormRefIdeal.nD Cert.OutNormRefIdeal.τ).loc Cert.OutNormRefIdeal.main_arg1) = m ((c.tc : Thread Cert.OutNormRefIdeal.nD Cert.OutNormRefIdeal.τ).loc Cert.OutNormRefIdeal.main_arg1)
      ∧ r.2.mem ((c.tc : Thread Cert.OutNormRefIdeal.nD Cert.OutNormRefIdeal.τ).loc Cert.OutNormRefIdeal.main_arg2) = m ((c.tc : Thread Cert.OutNormRefIdeal.nD Cert.OutNormRefIdeal.τ).loc Cert.OutNormRefIdeal.main_arg2)
      ∧ r.2.mem ((c.tc : Thread Cert.OutNormRefIdeal.nD Cert.OutNormRefIdeal.τ).loc Cert.OutNormRefIdeal.main_arg3) = m ((c.tc : Thread Cert.OutNormRefIdeal.nD Cert.OutNormRefIdeal.τ).loc Cert.OutNormRefIdeal.main_arg3)
      ∧ r.2.mem ((c.tc : Thread Cert.OutNormRefIdeal.nD Cert.OutNormRefIdeal.τ).loc Cert.OutNormRefIdeal.main_arg4) = m ((c.tc : Thread Cert.OutNormRefIdeal.nD Cert.OutNormRefIdeal.τ).loc Cert.OutNormRefIdeal.main_arg4)
      ∧ r.2.mem ((c.tc : Thread Cert.OutNormRefIdeal.nD Cert.OutNormRefIdeal.τ).loc Cert.OutNormRefIdeal.main_arg5) = m ((c.tc : Thread Cert.OutNormRefIdeal.nD Cert.OutNormRefIdeal.τ).loc Cert.OutNormRefIdeal.main_arg5)
      ∧ r.2.mem ((c.tc : Thread Cert.OutNormRefIdeal.nD Cert.OutNormRefIdeal.τ).loc Cert.OutNormRefIdeal.main_arg6) = m ((c.tc : Thread Cert.OutNormRefIdeal.nD Cert.OutNormRefIdeal.τ).loc Cert.OutNormRefIdeal.main_arg6))
      ∧ r.2.sem = fun _ => 0)

def quiescent_InUpdate [hInUpdate : Cert.InUpdate.Facts] : Prop :=
  ∀ (m : (ℓ : Loc Cert.InUpdate.nD Cert.InUpdate.τ Cert.InUpdate.sig) → Buf (Elt Bits) ℓ) (g : Dev Cert.InUpdate.nD → PrngReg), Pre_InUpdate m →
    θ_run (Cert.InUpdate.defs (F := Bits)) (onTc (τ := Cert.InUpdate.τ) (Cert.InUpdate.main (F := Bits))) ⟨m, fun _ => 0, g⟩ (fun r => (∀ c : Dev Cert.InUpdate.nD,
      r.2.mem ((c.tc : Thread Cert.InUpdate.nD Cert.InUpdate.τ).loc Cert.InUpdate.main_arg0) = m ((c.tc : Thread Cert.InUpdate.nD Cert.InUpdate.τ).loc Cert.InUpdate.main_arg0)
      ∧ r.2.mem ((c.tc : Thread Cert.InUpdate.nD Cert.InUpdate.τ).loc Cert.InUpdate.main_arg1) = m ((c.tc : Thread Cert.InUpdate.nD Cert.InUpdate.τ).loc Cert.InUpdate.main_arg1)
      ∧ r.2.mem ((c.tc : Thread Cert.InUpdate.nD Cert.InUpdate.τ).loc Cert.InUpdate.main_arg2) = m ((c.tc : Thread Cert.InUpdate.nD Cert.InUpdate.τ).loc Cert.InUpdate.main_arg2)
      ∧ r.2.mem ((c.tc : Thread Cert.InUpdate.nD Cert.InUpdate.τ).loc Cert.InUpdate.main_arg3) = m ((c.tc : Thread Cert.InUpdate.nD Cert.InUpdate.τ).loc Cert.InUpdate.main_arg3)
      ∧ r.2.mem ((c.tc : Thread Cert.InUpdate.nD Cert.InUpdate.τ).loc Cert.InUpdate.main_arg4) = m ((c.tc : Thread Cert.InUpdate.nD Cert.InUpdate.τ).loc Cert.InUpdate.main_arg4))
      ∧ r.2.sem = fun _ => 0)

def quiescent_InUpdateIdeal [hInUpdateIdeal : Cert.InUpdateIdeal.Facts] : Prop :=
  ∀ (m : (ℓ : Loc Cert.InUpdateIdeal.nD Cert.InUpdateIdeal.τ Cert.InUpdateIdeal.sig) → Buf (Elt Ideal) ℓ) (g : Dev Cert.InUpdateIdeal.nD → PrngReg), Pre_InUpdateIdeal m →
    θ_run (Cert.InUpdateIdeal.defs (F := Ideal)) (onTc (τ := Cert.InUpdateIdeal.τ) (Cert.InUpdateIdeal.main (F := Ideal))) ⟨m, fun _ => 0, g⟩ (fun r => (∀ c : Dev Cert.InUpdateIdeal.nD,
      r.2.mem ((c.tc : Thread Cert.InUpdateIdeal.nD Cert.InUpdateIdeal.τ).loc Cert.InUpdateIdeal.main_arg0) = m ((c.tc : Thread Cert.InUpdateIdeal.nD Cert.InUpdateIdeal.τ).loc Cert.InUpdateIdeal.main_arg0)
      ∧ r.2.mem ((c.tc : Thread Cert.InUpdateIdeal.nD Cert.InUpdateIdeal.τ).loc Cert.InUpdateIdeal.main_arg1) = m ((c.tc : Thread Cert.InUpdateIdeal.nD Cert.InUpdateIdeal.τ).loc Cert.InUpdateIdeal.main_arg1)
      ∧ r.2.mem ((c.tc : Thread Cert.InUpdateIdeal.nD Cert.InUpdateIdeal.τ).loc Cert.InUpdateIdeal.main_arg2) = m ((c.tc : Thread Cert.InUpdateIdeal.nD Cert.InUpdateIdeal.τ).loc Cert.InUpdateIdeal.main_arg2)
      ∧ r.2.mem ((c.tc : Thread Cert.InUpdateIdeal.nD Cert.InUpdateIdeal.τ).loc Cert.InUpdateIdeal.main_arg3) = m ((c.tc : Thread Cert.InUpdateIdeal.nD Cert.InUpdateIdeal.τ).loc Cert.InUpdateIdeal.main_arg3)
      ∧ r.2.mem ((c.tc : Thread Cert.InUpdateIdeal.nD Cert.InUpdateIdeal.τ).loc Cert.InUpdateIdeal.main_arg4) = m ((c.tc : Thread Cert.InUpdateIdeal.nD Cert.InUpdateIdeal.τ).loc Cert.InUpdateIdeal.main_arg4))
      ∧ r.2.sem = fun _ => 0)

def quiescent_InUpdateRefIdeal [hInUpdateRefIdeal : Cert.InUpdateRefIdeal.Facts] : Prop :=
  ∀ (m : (ℓ : Loc Cert.InUpdateRefIdeal.nD Cert.InUpdateRefIdeal.τ Cert.InUpdateRefIdeal.sig) → Buf (Elt Ideal) ℓ) (g : Dev Cert.InUpdateRefIdeal.nD → PrngReg), Pre_InUpdateRefIdeal m →
    θ_run (Cert.InUpdateRefIdeal.defs (F := Ideal)) (onTc (τ := Cert.InUpdateRefIdeal.τ) (Cert.InUpdateRefIdeal.main (F := Ideal))) ⟨m, fun _ => 0, g⟩ (fun r => (∀ c : Dev Cert.InUpdateRefIdeal.nD,
      r.2.mem ((c.tc : Thread Cert.InUpdateRefIdeal.nD Cert.InUpdateRefIdeal.τ).loc Cert.InUpdateRefIdeal.main_arg0) = m ((c.tc : Thread Cert.InUpdateRefIdeal.nD Cert.InUpdateRefIdeal.τ).loc Cert.InUpdateRefIdeal.main_arg0)
      ∧ r.2.mem ((c.tc : Thread Cert.InUpdateRefIdeal.nD Cert.InUpdateRefIdeal.τ).loc Cert.InUpdateRefIdeal.main_arg1) = m ((c.tc : Thread Cert.InUpdateRefIdeal.nD Cert.InUpdateRefIdeal.τ).loc Cert.InUpdateRefIdeal.main_arg1)
      ∧ r.2.mem ((c.tc : Thread Cert.InUpdateRefIdeal.nD Cert.InUpdateRefIdeal.τ).loc Cert.InUpdateRefIdeal.main_arg2) = m ((c.tc : Thread Cert.InUpdateRefIdeal.nD Cert.InUpdateRefIdeal.τ).loc Cert.InUpdateRefIdeal.main_arg2)
      ∧ r.2.mem ((c.tc : Thread Cert.InUpdateRefIdeal.nD Cert.InUpdateRefIdeal.τ).loc Cert.InUpdateRefIdeal.main_arg3) = m ((c.tc : Thread Cert.InUpdateRefIdeal.nD Cert.InUpdateRefIdeal.τ).loc Cert.InUpdateRefIdeal.main_arg3)
      ∧ r.2.mem ((c.tc : Thread Cert.InUpdateRefIdeal.nD Cert.InUpdateRefIdeal.τ).loc Cert.InUpdateRefIdeal.main_arg4) = m ((c.tc : Thread Cert.InUpdateRefIdeal.nD Cert.InUpdateRefIdeal.τ).loc Cert.InUpdateRefIdeal.main_arg4))
      ∧ r.2.sem = fun _ => 0)

def quiescent_OutUpdate [hOutUpdate : Cert.OutUpdate.Facts] : Prop :=
  ∀ (m : (ℓ : Loc Cert.OutUpdate.nD Cert.OutUpdate.τ Cert.OutUpdate.sig) → Buf (Elt Bits) ℓ) (g : Dev Cert.OutUpdate.nD → PrngReg), Pre_OutUpdate m →
    θ_run (Cert.OutUpdate.defs (F := Bits)) (onTc (τ := Cert.OutUpdate.τ) (Cert.OutUpdate.main (F := Bits))) ⟨m, fun _ => 0, g⟩ (fun r => (∀ c : Dev Cert.OutUpdate.nD,
      r.2.mem ((c.tc : Thread Cert.OutUpdate.nD Cert.OutUpdate.τ).loc Cert.OutUpdate.main_arg0) = m ((c.tc : Thread Cert.OutUpdate.nD Cert.OutUpdate.τ).loc Cert.OutUpdate.main_arg0)
      ∧ r.2.mem ((c.tc : Thread Cert.OutUpdate.nD Cert.OutUpdate.τ).loc Cert.OutUpdate.main_arg1) = m ((c.tc : Thread Cert.OutUpdate.nD Cert.OutUpdate.τ).loc Cert.OutUpdate.main_arg1)
      ∧ r.2.mem ((c.tc : Thread Cert.OutUpdate.nD Cert.OutUpdate.τ).loc Cert.OutUpdate.main_arg2) = m ((c.tc : Thread Cert.OutUpdate.nD Cert.OutUpdate.τ).loc Cert.OutUpdate.main_arg2)
      ∧ r.2.mem ((c.tc : Thread Cert.OutUpdate.nD Cert.OutUpdate.τ).loc Cert.OutUpdate.main_arg3) = m ((c.tc : Thread Cert.OutUpdate.nD Cert.OutUpdate.τ).loc Cert.OutUpdate.main_arg3)
      ∧ r.2.mem ((c.tc : Thread Cert.OutUpdate.nD Cert.OutUpdate.τ).loc Cert.OutUpdate.main_arg4) = m ((c.tc : Thread Cert.OutUpdate.nD Cert.OutUpdate.τ).loc Cert.OutUpdate.main_arg4))
      ∧ r.2.sem = fun _ => 0)

def quiescent_OutUpdateIdeal [hOutUpdateIdeal : Cert.OutUpdateIdeal.Facts] : Prop :=
  ∀ (m : (ℓ : Loc Cert.OutUpdateIdeal.nD Cert.OutUpdateIdeal.τ Cert.OutUpdateIdeal.sig) → Buf (Elt Ideal) ℓ) (g : Dev Cert.OutUpdateIdeal.nD → PrngReg), Pre_OutUpdateIdeal m →
    θ_run (Cert.OutUpdateIdeal.defs (F := Ideal)) (onTc (τ := Cert.OutUpdateIdeal.τ) (Cert.OutUpdateIdeal.main (F := Ideal))) ⟨m, fun _ => 0, g⟩ (fun r => (∀ c : Dev Cert.OutUpdateIdeal.nD,
      r.2.mem ((c.tc : Thread Cert.OutUpdateIdeal.nD Cert.OutUpdateIdeal.τ).loc Cert.OutUpdateIdeal.main_arg0) = m ((c.tc : Thread Cert.OutUpdateIdeal.nD Cert.OutUpdateIdeal.τ).loc Cert.OutUpdateIdeal.main_arg0)
      ∧ r.2.mem ((c.tc : Thread Cert.OutUpdateIdeal.nD Cert.OutUpdateIdeal.τ).loc Cert.OutUpdateIdeal.main_arg1) = m ((c.tc : Thread Cert.OutUpdateIdeal.nD Cert.OutUpdateIdeal.τ).loc Cert.OutUpdateIdeal.main_arg1)
      ∧ r.2.mem ((c.tc : Thread Cert.OutUpdateIdeal.nD Cert.OutUpdateIdeal.τ).loc Cert.OutUpdateIdeal.main_arg2) = m ((c.tc : Thread Cert.OutUpdateIdeal.nD Cert.OutUpdateIdeal.τ).loc Cert.OutUpdateIdeal.main_arg2)
      ∧ r.2.mem ((c.tc : Thread Cert.OutUpdateIdeal.nD Cert.OutUpdateIdeal.τ).loc Cert.OutUpdateIdeal.main_arg3) = m ((c.tc : Thread Cert.OutUpdateIdeal.nD Cert.OutUpdateIdeal.τ).loc Cert.OutUpdateIdeal.main_arg3)
      ∧ r.2.mem ((c.tc : Thread Cert.OutUpdateIdeal.nD Cert.OutUpdateIdeal.τ).loc Cert.OutUpdateIdeal.main_arg4) = m ((c.tc : Thread Cert.OutUpdateIdeal.nD Cert.OutUpdateIdeal.τ).loc Cert.OutUpdateIdeal.main_arg4))
      ∧ r.2.sem = fun _ => 0)

def quiescent_OutUpdateRefIdeal [hOutUpdateRefIdeal : Cert.OutUpdateRefIdeal.Facts] : Prop :=
  ∀ (m : (ℓ : Loc Cert.OutUpdateRefIdeal.nD Cert.OutUpdateRefIdeal.τ Cert.OutUpdateRefIdeal.sig) → Buf (Elt Ideal) ℓ) (g : Dev Cert.OutUpdateRefIdeal.nD → PrngReg), Pre_OutUpdateRefIdeal m →
    θ_run (Cert.OutUpdateRefIdeal.defs (F := Ideal)) (onTc (τ := Cert.OutUpdateRefIdeal.τ) (Cert.OutUpdateRefIdeal.main (F := Ideal))) ⟨m, fun _ => 0, g⟩ (fun r => (∀ c : Dev Cert.OutUpdateRefIdeal.nD,
      r.2.mem ((c.tc : Thread Cert.OutUpdateRefIdeal.nD Cert.OutUpdateRefIdeal.τ).loc Cert.OutUpdateRefIdeal.main_arg0) = m ((c.tc : Thread Cert.OutUpdateRefIdeal.nD Cert.OutUpdateRefIdeal.τ).loc Cert.OutUpdateRefIdeal.main_arg0)
      ∧ r.2.mem ((c.tc : Thread Cert.OutUpdateRefIdeal.nD Cert.OutUpdateRefIdeal.τ).loc Cert.OutUpdateRefIdeal.main_arg1) = m ((c.tc : Thread Cert.OutUpdateRefIdeal.nD Cert.OutUpdateRefIdeal.τ).loc Cert.OutUpdateRefIdeal.main_arg1)
      ∧ r.2.mem ((c.tc : Thread Cert.OutUpdateRefIdeal.nD Cert.OutUpdateRefIdeal.τ).loc Cert.OutUpdateRefIdeal.main_arg2) = m ((c.tc : Thread Cert.OutUpdateRefIdeal.nD Cert.OutUpdateRefIdeal.τ).loc Cert.OutUpdateRefIdeal.main_arg2)
      ∧ r.2.mem ((c.tc : Thread Cert.OutUpdateRefIdeal.nD Cert.OutUpdateRefIdeal.τ).loc Cert.OutUpdateRefIdeal.main_arg3) = m ((c.tc : Thread Cert.OutUpdateRefIdeal.nD Cert.OutUpdateRefIdeal.τ).loc Cert.OutUpdateRefIdeal.main_arg3)
      ∧ r.2.mem ((c.tc : Thread Cert.OutUpdateRefIdeal.nD Cert.OutUpdateRefIdeal.τ).loc Cert.OutUpdateRefIdeal.main_arg4) = m ((c.tc : Thread Cert.OutUpdateRefIdeal.nD Cert.OutUpdateRefIdeal.τ).loc Cert.OutUpdateRefIdeal.main_arg4))
      ∧ r.2.sem = fun _ => 0)

def quiescent_NormUpdate [hNormUpdate : Cert.NormUpdate.Facts] : Prop :=
  ∀ (m : (ℓ : Loc Cert.NormUpdate.nD Cert.NormUpdate.τ Cert.NormUpdate.sig) → Buf (Elt Bits) ℓ) (g : Dev Cert.NormUpdate.nD → PrngReg), Pre_NormUpdate m →
    θ_run (Cert.NormUpdate.defs (F := Bits)) (onTc (τ := Cert.NormUpdate.τ) (Cert.NormUpdate.main (F := Bits))) ⟨m, fun _ => 0, g⟩ (fun r => (∀ c : Dev Cert.NormUpdate.nD,
      r.2.mem ((c.tc : Thread Cert.NormUpdate.nD Cert.NormUpdate.τ).loc Cert.NormUpdate.main_arg0) = m ((c.tc : Thread Cert.NormUpdate.nD Cert.NormUpdate.τ).loc Cert.NormUpdate.main_arg0)
      ∧ r.2.mem ((c.tc : Thread Cert.NormUpdate.nD Cert.NormUpdate.τ).loc Cert.NormUpdate.main_arg1) = m ((c.tc : Thread Cert.NormUpdate.nD Cert.NormUpdate.τ).loc Cert.NormUpdate.main_arg1)
      ∧ r.2.mem ((c.tc : Thread Cert.NormUpdate.nD Cert.NormUpdate.τ).loc Cert.NormUpdate.main_arg2) = m ((c.tc : Thread Cert.NormUpdate.nD Cert.NormUpdate.τ).loc Cert.NormUpdate.main_arg2)
      ∧ r.2.mem ((c.tc : Thread Cert.NormUpdate.nD Cert.NormUpdate.τ).loc Cert.NormUpdate.main_arg3) = m ((c.tc : Thread Cert.NormUpdate.nD Cert.NormUpdate.τ).loc Cert.NormUpdate.main_arg3))
      ∧ r.2.sem = fun _ => 0)

def quiescent_NormUpdateIdeal [hNormUpdateIdeal : Cert.NormUpdateIdeal.Facts] : Prop :=
  ∀ (m : (ℓ : Loc Cert.NormUpdateIdeal.nD Cert.NormUpdateIdeal.τ Cert.NormUpdateIdeal.sig) → Buf (Elt Ideal) ℓ) (g : Dev Cert.NormUpdateIdeal.nD → PrngReg), Pre_NormUpdateIdeal m →
    θ_run (Cert.NormUpdateIdeal.defs (F := Ideal)) (onTc (τ := Cert.NormUpdateIdeal.τ) (Cert.NormUpdateIdeal.main (F := Ideal))) ⟨m, fun _ => 0, g⟩ (fun r => (∀ c : Dev Cert.NormUpdateIdeal.nD,
      r.2.mem ((c.tc : Thread Cert.NormUpdateIdeal.nD Cert.NormUpdateIdeal.τ).loc Cert.NormUpdateIdeal.main_arg0) = m ((c.tc : Thread Cert.NormUpdateIdeal.nD Cert.NormUpdateIdeal.τ).loc Cert.NormUpdateIdeal.main_arg0)
      ∧ r.2.mem ((c.tc : Thread Cert.NormUpdateIdeal.nD Cert.NormUpdateIdeal.τ).loc Cert.NormUpdateIdeal.main_arg1) = m ((c.tc : Thread Cert.NormUpdateIdeal.nD Cert.NormUpdateIdeal.τ).loc Cert.NormUpdateIdeal.main_arg1)
      ∧ r.2.mem ((c.tc : Thread Cert.NormUpdateIdeal.nD Cert.NormUpdateIdeal.τ).loc Cert.NormUpdateIdeal.main_arg2) = m ((c.tc : Thread Cert.NormUpdateIdeal.nD Cert.NormUpdateIdeal.τ).loc Cert.NormUpdateIdeal.main_arg2)
      ∧ r.2.mem ((c.tc : Thread Cert.NormUpdateIdeal.nD Cert.NormUpdateIdeal.τ).loc Cert.NormUpdateIdeal.main_arg3) = m ((c.tc : Thread Cert.NormUpdateIdeal.nD Cert.NormUpdateIdeal.τ).loc Cert.NormUpdateIdeal.main_arg3))
      ∧ r.2.sem = fun _ => 0)

def quiescent_NormUpdateRefIdeal [hNormUpdateRefIdeal : Cert.NormUpdateRefIdeal.Facts] : Prop :=
  ∀ (m : (ℓ : Loc Cert.NormUpdateRefIdeal.nD Cert.NormUpdateRefIdeal.τ Cert.NormUpdateRefIdeal.sig) → Buf (Elt Ideal) ℓ) (g : Dev Cert.NormUpdateRefIdeal.nD → PrngReg), Pre_NormUpdateRefIdeal m →
    θ_run (Cert.NormUpdateRefIdeal.defs (F := Ideal)) (onTc (τ := Cert.NormUpdateRefIdeal.τ) (Cert.NormUpdateRefIdeal.main (F := Ideal))) ⟨m, fun _ => 0, g⟩ (fun r => (∀ c : Dev Cert.NormUpdateRefIdeal.nD,
      r.2.mem ((c.tc : Thread Cert.NormUpdateRefIdeal.nD Cert.NormUpdateRefIdeal.τ).loc Cert.NormUpdateRefIdeal.main_arg0) = m ((c.tc : Thread Cert.NormUpdateRefIdeal.nD Cert.NormUpdateRefIdeal.τ).loc Cert.NormUpdateRefIdeal.main_arg0)
      ∧ r.2.mem ((c.tc : Thread Cert.NormUpdateRefIdeal.nD Cert.NormUpdateRefIdeal.τ).loc Cert.NormUpdateRefIdeal.main_arg1) = m ((c.tc : Thread Cert.NormUpdateRefIdeal.nD Cert.NormUpdateRefIdeal.τ).loc Cert.NormUpdateRefIdeal.main_arg1)
      ∧ r.2.mem ((c.tc : Thread Cert.NormUpdateRefIdeal.nD Cert.NormUpdateRefIdeal.τ).loc Cert.NormUpdateRefIdeal.main_arg2) = m ((c.tc : Thread Cert.NormUpdateRefIdeal.nD Cert.NormUpdateRefIdeal.τ).loc Cert.NormUpdateRefIdeal.main_arg2)
      ∧ r.2.mem ((c.tc : Thread Cert.NormUpdateRefIdeal.nD Cert.NormUpdateRefIdeal.τ).loc Cert.NormUpdateRefIdeal.main_arg3) = m ((c.tc : Thread Cert.NormUpdateRefIdeal.nD Cert.NormUpdateRefIdeal.τ).loc Cert.NormUpdateRefIdeal.main_arg3))
      ∧ r.2.sem = fun _ => 0)

def quiescent_PoolWeightUpdate [hPoolWeightUpdate : Cert.PoolWeightUpdate.Facts] : Prop :=
  ∀ (m : (ℓ : Loc Cert.PoolWeightUpdate.nD Cert.PoolWeightUpdate.τ Cert.PoolWeightUpdate.sig) → Buf (Elt Bits) ℓ) (g : Dev Cert.PoolWeightUpdate.nD → PrngReg), Pre_PoolWeightUpdate m →
    θ_run (Cert.PoolWeightUpdate.defs (F := Bits)) (onTc (τ := Cert.PoolWeightUpdate.τ) (Cert.PoolWeightUpdate.main (F := Bits))) ⟨m, fun _ => 0, g⟩ (fun r => (∀ c : Dev Cert.PoolWeightUpdate.nD,
      r.2.mem ((c.tc : Thread Cert.PoolWeightUpdate.nD Cert.PoolWeightUpdate.τ).loc Cert.PoolWeightUpdate.main_arg0) = m ((c.tc : Thread Cert.PoolWeightUpdate.nD Cert.PoolWeightUpdate.τ).loc Cert.PoolWeightUpdate.main_arg0)
      ∧ r.2.mem ((c.tc : Thread Cert.PoolWeightUpdate.nD Cert.PoolWeightUpdate.τ).loc Cert.PoolWeightUpdate.main_arg1) = m ((c.tc : Thread Cert.PoolWeightUpdate.nD Cert.PoolWeightUpdate.τ).loc Cert.PoolWeightUpdate.main_arg1)
      ∧ r.2.mem ((c.tc : Thread Cert.PoolWeightUpdate.nD Cert.PoolWeightUpdate.τ).loc Cert.PoolWeightUpdate.main_arg2) = m ((c.tc : Thread Cert.PoolWeightUpdate.nD Cert.PoolWeightUpdate.τ).loc Cert.PoolWeightUpdate.main_arg2)
      ∧ r.2.mem ((c.tc : Thread Cert.PoolWeightUpdate.nD Cert.PoolWeightUpdate.τ).loc Cert.PoolWeightUpdate.main_arg3) = m ((c.tc : Thread Cert.PoolWeightUpdate.nD Cert.PoolWeightUpdate.τ).loc Cert.PoolWeightUpdate.main_arg3))
      ∧ r.2.sem = fun _ => 0)

def quiescent_PoolWeightUpdateIdeal [hPoolWeightUpdateIdeal : Cert.PoolWeightUpdateIdeal.Facts] : Prop :=
  ∀ (m : (ℓ : Loc Cert.PoolWeightUpdateIdeal.nD Cert.PoolWeightUpdateIdeal.τ Cert.PoolWeightUpdateIdeal.sig) → Buf (Elt Ideal) ℓ) (g : Dev Cert.PoolWeightUpdateIdeal.nD → PrngReg), Pre_PoolWeightUpdateIdeal m →
    θ_run (Cert.PoolWeightUpdateIdeal.defs (F := Ideal)) (onTc (τ := Cert.PoolWeightUpdateIdeal.τ) (Cert.PoolWeightUpdateIdeal.main (F := Ideal))) ⟨m, fun _ => 0, g⟩ (fun r => (∀ c : Dev Cert.PoolWeightUpdateIdeal.nD,
      r.2.mem ((c.tc : Thread Cert.PoolWeightUpdateIdeal.nD Cert.PoolWeightUpdateIdeal.τ).loc Cert.PoolWeightUpdateIdeal.main_arg0) = m ((c.tc : Thread Cert.PoolWeightUpdateIdeal.nD Cert.PoolWeightUpdateIdeal.τ).loc Cert.PoolWeightUpdateIdeal.main_arg0)
      ∧ r.2.mem ((c.tc : Thread Cert.PoolWeightUpdateIdeal.nD Cert.PoolWeightUpdateIdeal.τ).loc Cert.PoolWeightUpdateIdeal.main_arg1) = m ((c.tc : Thread Cert.PoolWeightUpdateIdeal.nD Cert.PoolWeightUpdateIdeal.τ).loc Cert.PoolWeightUpdateIdeal.main_arg1)
      ∧ r.2.mem ((c.tc : Thread Cert.PoolWeightUpdateIdeal.nD Cert.PoolWeightUpdateIdeal.τ).loc Cert.PoolWeightUpdateIdeal.main_arg2) = m ((c.tc : Thread Cert.PoolWeightUpdateIdeal.nD Cert.PoolWeightUpdateIdeal.τ).loc Cert.PoolWeightUpdateIdeal.main_arg2)
      ∧ r.2.mem ((c.tc : Thread Cert.PoolWeightUpdateIdeal.nD Cert.PoolWeightUpdateIdeal.τ).loc Cert.PoolWeightUpdateIdeal.main_arg3) = m ((c.tc : Thread Cert.PoolWeightUpdateIdeal.nD Cert.PoolWeightUpdateIdeal.τ).loc Cert.PoolWeightUpdateIdeal.main_arg3))
      ∧ r.2.sem = fun _ => 0)

def quiescent_PoolWeightUpdateRefIdeal [hPoolWeightUpdateRefIdeal : Cert.PoolWeightUpdateRefIdeal.Facts] : Prop :=
  ∀ (m : (ℓ : Loc Cert.PoolWeightUpdateRefIdeal.nD Cert.PoolWeightUpdateRefIdeal.τ Cert.PoolWeightUpdateRefIdeal.sig) → Buf (Elt Ideal) ℓ) (g : Dev Cert.PoolWeightUpdateRefIdeal.nD → PrngReg), Pre_PoolWeightUpdateRefIdeal m →
    θ_run (Cert.PoolWeightUpdateRefIdeal.defs (F := Ideal)) (onTc (τ := Cert.PoolWeightUpdateRefIdeal.τ) (Cert.PoolWeightUpdateRefIdeal.main (F := Ideal))) ⟨m, fun _ => 0, g⟩ (fun r => (∀ c : Dev Cert.PoolWeightUpdateRefIdeal.nD,
      r.2.mem ((c.tc : Thread Cert.PoolWeightUpdateRefIdeal.nD Cert.PoolWeightUpdateRefIdeal.τ).loc Cert.PoolWeightUpdateRefIdeal.main_arg0) = m ((c.tc : Thread Cert.PoolWeightUpdateRefIdeal.nD Cert.PoolWeightUpdateRefIdeal.τ).loc Cert.PoolWeightUpdateRefIdeal.main_arg0)
      ∧ r.2.mem ((c.tc : Thread Cert.PoolWeightUpdateRefIdeal.nD Cert.PoolWeightUpdateRefIdeal.τ).loc Cert.PoolWeightUpdateRefIdeal.main_arg1) = m ((c.tc : Thread Cert.PoolWeightUpdateRefIdeal.nD Cert.PoolWeightUpdateRefIdeal.τ).loc Cert.PoolWeightUpdateRefIdeal.main_arg1)
      ∧ r.2.mem ((c.tc : Thread Cert.PoolWeightUpdateRefIdeal.nD Cert.PoolWeightUpdateRefIdeal.τ).loc Cert.PoolWeightUpdateRefIdeal.main_arg2) = m ((c.tc : Thread Cert.PoolWeightUpdateRefIdeal.nD Cert.PoolWeightUpdateRefIdeal.τ).loc Cert.PoolWeightUpdateRefIdeal.main_arg2)
      ∧ r.2.mem ((c.tc : Thread Cert.PoolWeightUpdateRefIdeal.nD Cert.PoolWeightUpdateRefIdeal.τ).loc Cert.PoolWeightUpdateRefIdeal.main_arg3) = m ((c.tc : Thread Cert.PoolWeightUpdateRefIdeal.nD Cert.PoolWeightUpdateRefIdeal.τ).loc Cert.PoolWeightUpdateRefIdeal.main_arg3))
      ∧ r.2.sem = fun _ => 0)

def quiescent_ScaleUpdate [hScaleUpdate : Cert.ScaleUpdate.Facts] : Prop :=
  ∀ (m : (ℓ : Loc Cert.ScaleUpdate.nD Cert.ScaleUpdate.τ Cert.ScaleUpdate.sig) → Buf (Elt Bits) ℓ) (g : Dev Cert.ScaleUpdate.nD → PrngReg), Pre_ScaleUpdate m →
    θ_run (Cert.ScaleUpdate.defs (F := Bits)) (onTc (τ := Cert.ScaleUpdate.τ) (Cert.ScaleUpdate.main (F := Bits))) ⟨m, fun _ => 0, g⟩ (fun r => (∀ c : Dev Cert.ScaleUpdate.nD,
      r.2.mem ((c.tc : Thread Cert.ScaleUpdate.nD Cert.ScaleUpdate.τ).loc Cert.ScaleUpdate.main_arg0) = m ((c.tc : Thread Cert.ScaleUpdate.nD Cert.ScaleUpdate.τ).loc Cert.ScaleUpdate.main_arg0)
      ∧ r.2.mem ((c.tc : Thread Cert.ScaleUpdate.nD Cert.ScaleUpdate.τ).loc Cert.ScaleUpdate.main_arg1) = m ((c.tc : Thread Cert.ScaleUpdate.nD Cert.ScaleUpdate.τ).loc Cert.ScaleUpdate.main_arg1)
      ∧ r.2.mem ((c.tc : Thread Cert.ScaleUpdate.nD Cert.ScaleUpdate.τ).loc Cert.ScaleUpdate.main_arg2) = m ((c.tc : Thread Cert.ScaleUpdate.nD Cert.ScaleUpdate.τ).loc Cert.ScaleUpdate.main_arg2)
      ∧ r.2.mem ((c.tc : Thread Cert.ScaleUpdate.nD Cert.ScaleUpdate.τ).loc Cert.ScaleUpdate.main_arg3) = m ((c.tc : Thread Cert.ScaleUpdate.nD Cert.ScaleUpdate.τ).loc Cert.ScaleUpdate.main_arg3))
      ∧ r.2.sem = fun _ => 0)

def quiescent_ScaleUpdateIdeal [hScaleUpdateIdeal : Cert.ScaleUpdateIdeal.Facts] : Prop :=
  ∀ (m : (ℓ : Loc Cert.ScaleUpdateIdeal.nD Cert.ScaleUpdateIdeal.τ Cert.ScaleUpdateIdeal.sig) → Buf (Elt Ideal) ℓ) (g : Dev Cert.ScaleUpdateIdeal.nD → PrngReg), Pre_ScaleUpdateIdeal m →
    θ_run (Cert.ScaleUpdateIdeal.defs (F := Ideal)) (onTc (τ := Cert.ScaleUpdateIdeal.τ) (Cert.ScaleUpdateIdeal.main (F := Ideal))) ⟨m, fun _ => 0, g⟩ (fun r => (∀ c : Dev Cert.ScaleUpdateIdeal.nD,
      r.2.mem ((c.tc : Thread Cert.ScaleUpdateIdeal.nD Cert.ScaleUpdateIdeal.τ).loc Cert.ScaleUpdateIdeal.main_arg0) = m ((c.tc : Thread Cert.ScaleUpdateIdeal.nD Cert.ScaleUpdateIdeal.τ).loc Cert.ScaleUpdateIdeal.main_arg0)
      ∧ r.2.mem ((c.tc : Thread Cert.ScaleUpdateIdeal.nD Cert.ScaleUpdateIdeal.τ).loc Cert.ScaleUpdateIdeal.main_arg1) = m ((c.tc : Thread Cert.ScaleUpdateIdeal.nD Cert.ScaleUpdateIdeal.τ).loc Cert.ScaleUpdateIdeal.main_arg1)
      ∧ r.2.mem ((c.tc : Thread Cert.ScaleUpdateIdeal.nD Cert.ScaleUpdateIdeal.τ).loc Cert.ScaleUpdateIdeal.main_arg2) = m ((c.tc : Thread Cert.ScaleUpdateIdeal.nD Cert.ScaleUpdateIdeal.τ).loc Cert.ScaleUpdateIdeal.main_arg2)
      ∧ r.2.mem ((c.tc : Thread Cert.ScaleUpdateIdeal.nD Cert.ScaleUpdateIdeal.τ).loc Cert.ScaleUpdateIdeal.main_arg3) = m ((c.tc : Thread Cert.ScaleUpdateIdeal.nD Cert.ScaleUpdateIdeal.τ).loc Cert.ScaleUpdateIdeal.main_arg3))
      ∧ r.2.sem = fun _ => 0)

def quiescent_ScaleUpdateRefIdeal [hScaleUpdateRefIdeal : Cert.ScaleUpdateRefIdeal.Facts] : Prop :=
  ∀ (m : (ℓ : Loc Cert.ScaleUpdateRefIdeal.nD Cert.ScaleUpdateRefIdeal.τ Cert.ScaleUpdateRefIdeal.sig) → Buf (Elt Ideal) ℓ) (g : Dev Cert.ScaleUpdateRefIdeal.nD → PrngReg), Pre_ScaleUpdateRefIdeal m →
    θ_run (Cert.ScaleUpdateRefIdeal.defs (F := Ideal)) (onTc (τ := Cert.ScaleUpdateRefIdeal.τ) (Cert.ScaleUpdateRefIdeal.main (F := Ideal))) ⟨m, fun _ => 0, g⟩ (fun r => (∀ c : Dev Cert.ScaleUpdateRefIdeal.nD,
      r.2.mem ((c.tc : Thread Cert.ScaleUpdateRefIdeal.nD Cert.ScaleUpdateRefIdeal.τ).loc Cert.ScaleUpdateRefIdeal.main_arg0) = m ((c.tc : Thread Cert.ScaleUpdateRefIdeal.nD Cert.ScaleUpdateRefIdeal.τ).loc Cert.ScaleUpdateRefIdeal.main_arg0)
      ∧ r.2.mem ((c.tc : Thread Cert.ScaleUpdateRefIdeal.nD Cert.ScaleUpdateRefIdeal.τ).loc Cert.ScaleUpdateRefIdeal.main_arg1) = m ((c.tc : Thread Cert.ScaleUpdateRefIdeal.nD Cert.ScaleUpdateRefIdeal.τ).loc Cert.ScaleUpdateRefIdeal.main_arg1)
      ∧ r.2.mem ((c.tc : Thread Cert.ScaleUpdateRefIdeal.nD Cert.ScaleUpdateRefIdeal.τ).loc Cert.ScaleUpdateRefIdeal.main_arg2) = m ((c.tc : Thread Cert.ScaleUpdateRefIdeal.nD Cert.ScaleUpdateRefIdeal.τ).loc Cert.ScaleUpdateRefIdeal.main_arg2)
      ∧ r.2.mem ((c.tc : Thread Cert.ScaleUpdateRefIdeal.nD Cert.ScaleUpdateRefIdeal.τ).loc Cert.ScaleUpdateRefIdeal.main_arg3) = m ((c.tc : Thread Cert.ScaleUpdateRefIdeal.nD Cert.ScaleUpdateRefIdeal.τ).loc Cert.ScaleUpdateRefIdeal.main_arg3))
      ∧ r.2.sem = fun _ => 0)

def quiescent_ShortConvUpdate [hShortConvUpdate : Cert.ShortConvUpdate.Facts] : Prop :=
  ∀ (m : (ℓ : Loc Cert.ShortConvUpdate.nD Cert.ShortConvUpdate.τ Cert.ShortConvUpdate.sig) → Buf (Elt Bits) ℓ) (g : Dev Cert.ShortConvUpdate.nD → PrngReg), Pre_ShortConvUpdate m →
    θ_run (Cert.ShortConvUpdate.defs (F := Bits)) (onTc (τ := Cert.ShortConvUpdate.τ) (Cert.ShortConvUpdate.main (F := Bits))) ⟨m, fun _ => 0, g⟩ (fun r => (∀ c : Dev Cert.ShortConvUpdate.nD,
      r.2.mem ((c.tc : Thread Cert.ShortConvUpdate.nD Cert.ShortConvUpdate.τ).loc Cert.ShortConvUpdate.main_arg0) = m ((c.tc : Thread Cert.ShortConvUpdate.nD Cert.ShortConvUpdate.τ).loc Cert.ShortConvUpdate.main_arg0)
      ∧ r.2.mem ((c.tc : Thread Cert.ShortConvUpdate.nD Cert.ShortConvUpdate.τ).loc Cert.ShortConvUpdate.main_arg1) = m ((c.tc : Thread Cert.ShortConvUpdate.nD Cert.ShortConvUpdate.τ).loc Cert.ShortConvUpdate.main_arg1)
      ∧ r.2.mem ((c.tc : Thread Cert.ShortConvUpdate.nD Cert.ShortConvUpdate.τ).loc Cert.ShortConvUpdate.main_arg2) = m ((c.tc : Thread Cert.ShortConvUpdate.nD Cert.ShortConvUpdate.τ).loc Cert.ShortConvUpdate.main_arg2)
      ∧ r.2.mem ((c.tc : Thread Cert.ShortConvUpdate.nD Cert.ShortConvUpdate.τ).loc Cert.ShortConvUpdate.main_arg3) = m ((c.tc : Thread Cert.ShortConvUpdate.nD Cert.ShortConvUpdate.τ).loc Cert.ShortConvUpdate.main_arg3))
      ∧ r.2.sem = fun _ => 0)

def quiescent_ShortConvUpdateIdeal [hShortConvUpdateIdeal : Cert.ShortConvUpdateIdeal.Facts] : Prop :=
  ∀ (m : (ℓ : Loc Cert.ShortConvUpdateIdeal.nD Cert.ShortConvUpdateIdeal.τ Cert.ShortConvUpdateIdeal.sig) → Buf (Elt Ideal) ℓ) (g : Dev Cert.ShortConvUpdateIdeal.nD → PrngReg), Pre_ShortConvUpdateIdeal m →
    θ_run (Cert.ShortConvUpdateIdeal.defs (F := Ideal)) (onTc (τ := Cert.ShortConvUpdateIdeal.τ) (Cert.ShortConvUpdateIdeal.main (F := Ideal))) ⟨m, fun _ => 0, g⟩ (fun r => (∀ c : Dev Cert.ShortConvUpdateIdeal.nD,
      r.2.mem ((c.tc : Thread Cert.ShortConvUpdateIdeal.nD Cert.ShortConvUpdateIdeal.τ).loc Cert.ShortConvUpdateIdeal.main_arg0) = m ((c.tc : Thread Cert.ShortConvUpdateIdeal.nD Cert.ShortConvUpdateIdeal.τ).loc Cert.ShortConvUpdateIdeal.main_arg0)
      ∧ r.2.mem ((c.tc : Thread Cert.ShortConvUpdateIdeal.nD Cert.ShortConvUpdateIdeal.τ).loc Cert.ShortConvUpdateIdeal.main_arg1) = m ((c.tc : Thread Cert.ShortConvUpdateIdeal.nD Cert.ShortConvUpdateIdeal.τ).loc Cert.ShortConvUpdateIdeal.main_arg1)
      ∧ r.2.mem ((c.tc : Thread Cert.ShortConvUpdateIdeal.nD Cert.ShortConvUpdateIdeal.τ).loc Cert.ShortConvUpdateIdeal.main_arg2) = m ((c.tc : Thread Cert.ShortConvUpdateIdeal.nD Cert.ShortConvUpdateIdeal.τ).loc Cert.ShortConvUpdateIdeal.main_arg2)
      ∧ r.2.mem ((c.tc : Thread Cert.ShortConvUpdateIdeal.nD Cert.ShortConvUpdateIdeal.τ).loc Cert.ShortConvUpdateIdeal.main_arg3) = m ((c.tc : Thread Cert.ShortConvUpdateIdeal.nD Cert.ShortConvUpdateIdeal.τ).loc Cert.ShortConvUpdateIdeal.main_arg3))
      ∧ r.2.sem = fun _ => 0)

def quiescent_ShortConvUpdateRefIdeal [hShortConvUpdateRefIdeal : Cert.ShortConvUpdateRefIdeal.Facts] : Prop :=
  ∀ (m : (ℓ : Loc Cert.ShortConvUpdateRefIdeal.nD Cert.ShortConvUpdateRefIdeal.τ Cert.ShortConvUpdateRefIdeal.sig) → Buf (Elt Ideal) ℓ) (g : Dev Cert.ShortConvUpdateRefIdeal.nD → PrngReg), Pre_ShortConvUpdateRefIdeal m →
    θ_run (Cert.ShortConvUpdateRefIdeal.defs (F := Ideal)) (onTc (τ := Cert.ShortConvUpdateRefIdeal.τ) (Cert.ShortConvUpdateRefIdeal.main (F := Ideal))) ⟨m, fun _ => 0, g⟩ (fun r => (∀ c : Dev Cert.ShortConvUpdateRefIdeal.nD,
      r.2.mem ((c.tc : Thread Cert.ShortConvUpdateRefIdeal.nD Cert.ShortConvUpdateRefIdeal.τ).loc Cert.ShortConvUpdateRefIdeal.main_arg0) = m ((c.tc : Thread Cert.ShortConvUpdateRefIdeal.nD Cert.ShortConvUpdateRefIdeal.τ).loc Cert.ShortConvUpdateRefIdeal.main_arg0)
      ∧ r.2.mem ((c.tc : Thread Cert.ShortConvUpdateRefIdeal.nD Cert.ShortConvUpdateRefIdeal.τ).loc Cert.ShortConvUpdateRefIdeal.main_arg1) = m ((c.tc : Thread Cert.ShortConvUpdateRefIdeal.nD Cert.ShortConvUpdateRefIdeal.τ).loc Cert.ShortConvUpdateRefIdeal.main_arg1)
      ∧ r.2.mem ((c.tc : Thread Cert.ShortConvUpdateRefIdeal.nD Cert.ShortConvUpdateRefIdeal.τ).loc Cert.ShortConvUpdateRefIdeal.main_arg2) = m ((c.tc : Thread Cert.ShortConvUpdateRefIdeal.nD Cert.ShortConvUpdateRefIdeal.τ).loc Cert.ShortConvUpdateRefIdeal.main_arg2)
      ∧ r.2.mem ((c.tc : Thread Cert.ShortConvUpdateRefIdeal.nD Cert.ShortConvUpdateRefIdeal.τ).loc Cert.ShortConvUpdateRefIdeal.main_arg3) = m ((c.tc : Thread Cert.ShortConvUpdateRefIdeal.nD Cert.ShortConvUpdateRefIdeal.τ).loc Cert.ShortConvUpdateRefIdeal.main_arg3))
      ∧ r.2.sem = fun _ => 0)

def quiescent_VectorUpdate [hVectorUpdate : Cert.VectorUpdate.Facts] : Prop :=
  ∀ (m : (ℓ : Loc Cert.VectorUpdate.nD Cert.VectorUpdate.τ Cert.VectorUpdate.sig) → Buf (Elt Bits) ℓ) (g : Dev Cert.VectorUpdate.nD → PrngReg), Pre_VectorUpdate m →
    θ_run (Cert.VectorUpdate.defs (F := Bits)) (onTc (τ := Cert.VectorUpdate.τ) (Cert.VectorUpdate.main (F := Bits))) ⟨m, fun _ => 0, g⟩ (fun r => (∀ c : Dev Cert.VectorUpdate.nD,
      r.2.mem ((c.tc : Thread Cert.VectorUpdate.nD Cert.VectorUpdate.τ).loc Cert.VectorUpdate.main_arg0) = m ((c.tc : Thread Cert.VectorUpdate.nD Cert.VectorUpdate.τ).loc Cert.VectorUpdate.main_arg0)
      ∧ r.2.mem ((c.tc : Thread Cert.VectorUpdate.nD Cert.VectorUpdate.τ).loc Cert.VectorUpdate.main_arg1) = m ((c.tc : Thread Cert.VectorUpdate.nD Cert.VectorUpdate.τ).loc Cert.VectorUpdate.main_arg1)
      ∧ r.2.mem ((c.tc : Thread Cert.VectorUpdate.nD Cert.VectorUpdate.τ).loc Cert.VectorUpdate.main_arg2) = m ((c.tc : Thread Cert.VectorUpdate.nD Cert.VectorUpdate.τ).loc Cert.VectorUpdate.main_arg2)
      ∧ r.2.mem ((c.tc : Thread Cert.VectorUpdate.nD Cert.VectorUpdate.τ).loc Cert.VectorUpdate.main_arg3) = m ((c.tc : Thread Cert.VectorUpdate.nD Cert.VectorUpdate.τ).loc Cert.VectorUpdate.main_arg3))
      ∧ r.2.sem = fun _ => 0)

def quiescent_VectorUpdateIdeal [hVectorUpdateIdeal : Cert.VectorUpdateIdeal.Facts] : Prop :=
  ∀ (m : (ℓ : Loc Cert.VectorUpdateIdeal.nD Cert.VectorUpdateIdeal.τ Cert.VectorUpdateIdeal.sig) → Buf (Elt Ideal) ℓ) (g : Dev Cert.VectorUpdateIdeal.nD → PrngReg), Pre_VectorUpdateIdeal m →
    θ_run (Cert.VectorUpdateIdeal.defs (F := Ideal)) (onTc (τ := Cert.VectorUpdateIdeal.τ) (Cert.VectorUpdateIdeal.main (F := Ideal))) ⟨m, fun _ => 0, g⟩ (fun r => (∀ c : Dev Cert.VectorUpdateIdeal.nD,
      r.2.mem ((c.tc : Thread Cert.VectorUpdateIdeal.nD Cert.VectorUpdateIdeal.τ).loc Cert.VectorUpdateIdeal.main_arg0) = m ((c.tc : Thread Cert.VectorUpdateIdeal.nD Cert.VectorUpdateIdeal.τ).loc Cert.VectorUpdateIdeal.main_arg0)
      ∧ r.2.mem ((c.tc : Thread Cert.VectorUpdateIdeal.nD Cert.VectorUpdateIdeal.τ).loc Cert.VectorUpdateIdeal.main_arg1) = m ((c.tc : Thread Cert.VectorUpdateIdeal.nD Cert.VectorUpdateIdeal.τ).loc Cert.VectorUpdateIdeal.main_arg1)
      ∧ r.2.mem ((c.tc : Thread Cert.VectorUpdateIdeal.nD Cert.VectorUpdateIdeal.τ).loc Cert.VectorUpdateIdeal.main_arg2) = m ((c.tc : Thread Cert.VectorUpdateIdeal.nD Cert.VectorUpdateIdeal.τ).loc Cert.VectorUpdateIdeal.main_arg2)
      ∧ r.2.mem ((c.tc : Thread Cert.VectorUpdateIdeal.nD Cert.VectorUpdateIdeal.τ).loc Cert.VectorUpdateIdeal.main_arg3) = m ((c.tc : Thread Cert.VectorUpdateIdeal.nD Cert.VectorUpdateIdeal.τ).loc Cert.VectorUpdateIdeal.main_arg3))
      ∧ r.2.sem = fun _ => 0)

def quiescent_VectorUpdateRefIdeal [hVectorUpdateRefIdeal : Cert.VectorUpdateRefIdeal.Facts] : Prop :=
  ∀ (m : (ℓ : Loc Cert.VectorUpdateRefIdeal.nD Cert.VectorUpdateRefIdeal.τ Cert.VectorUpdateRefIdeal.sig) → Buf (Elt Ideal) ℓ) (g : Dev Cert.VectorUpdateRefIdeal.nD → PrngReg), Pre_VectorUpdateRefIdeal m →
    θ_run (Cert.VectorUpdateRefIdeal.defs (F := Ideal)) (onTc (τ := Cert.VectorUpdateRefIdeal.τ) (Cert.VectorUpdateRefIdeal.main (F := Ideal))) ⟨m, fun _ => 0, g⟩ (fun r => (∀ c : Dev Cert.VectorUpdateRefIdeal.nD,
      r.2.mem ((c.tc : Thread Cert.VectorUpdateRefIdeal.nD Cert.VectorUpdateRefIdeal.τ).loc Cert.VectorUpdateRefIdeal.main_arg0) = m ((c.tc : Thread Cert.VectorUpdateRefIdeal.nD Cert.VectorUpdateRefIdeal.τ).loc Cert.VectorUpdateRefIdeal.main_arg0)
      ∧ r.2.mem ((c.tc : Thread Cert.VectorUpdateRefIdeal.nD Cert.VectorUpdateRefIdeal.τ).loc Cert.VectorUpdateRefIdeal.main_arg1) = m ((c.tc : Thread Cert.VectorUpdateRefIdeal.nD Cert.VectorUpdateRefIdeal.τ).loc Cert.VectorUpdateRefIdeal.main_arg1)
      ∧ r.2.mem ((c.tc : Thread Cert.VectorUpdateRefIdeal.nD Cert.VectorUpdateRefIdeal.τ).loc Cert.VectorUpdateRefIdeal.main_arg2) = m ((c.tc : Thread Cert.VectorUpdateRefIdeal.nD Cert.VectorUpdateRefIdeal.τ).loc Cert.VectorUpdateRefIdeal.main_arg2)
      ∧ r.2.mem ((c.tc : Thread Cert.VectorUpdateRefIdeal.nD Cert.VectorUpdateRefIdeal.τ).loc Cert.VectorUpdateRefIdeal.main_arg3) = m ((c.tc : Thread Cert.VectorUpdateRefIdeal.nD Cert.VectorUpdateRefIdeal.τ).loc Cert.VectorUpdateRefIdeal.main_arg3))
      ∧ r.2.sem = fun _ => 0)

def quiescent_GateUpdate [hGateUpdate : Cert.GateUpdate.Facts] : Prop :=
  ∀ (m : (ℓ : Loc Cert.GateUpdate.nD Cert.GateUpdate.τ Cert.GateUpdate.sig) → Buf (Elt Bits) ℓ) (g : Dev Cert.GateUpdate.nD → PrngReg), Pre_GateUpdate m →
    θ_run (Cert.GateUpdate.defs (F := Bits)) (onTc (τ := Cert.GateUpdate.τ) (Cert.GateUpdate.main (F := Bits))) ⟨m, fun _ => 0, g⟩ (fun r => (∀ c : Dev Cert.GateUpdate.nD,
      r.2.mem ((c.tc : Thread Cert.GateUpdate.nD Cert.GateUpdate.τ).loc Cert.GateUpdate.main_arg0) = m ((c.tc : Thread Cert.GateUpdate.nD Cert.GateUpdate.τ).loc Cert.GateUpdate.main_arg0)
      ∧ r.2.mem ((c.tc : Thread Cert.GateUpdate.nD Cert.GateUpdate.τ).loc Cert.GateUpdate.main_arg1) = m ((c.tc : Thread Cert.GateUpdate.nD Cert.GateUpdate.τ).loc Cert.GateUpdate.main_arg1)
      ∧ r.2.mem ((c.tc : Thread Cert.GateUpdate.nD Cert.GateUpdate.τ).loc Cert.GateUpdate.main_arg2) = m ((c.tc : Thread Cert.GateUpdate.nD Cert.GateUpdate.τ).loc Cert.GateUpdate.main_arg2)
      ∧ r.2.mem ((c.tc : Thread Cert.GateUpdate.nD Cert.GateUpdate.τ).loc Cert.GateUpdate.main_arg3) = m ((c.tc : Thread Cert.GateUpdate.nD Cert.GateUpdate.τ).loc Cert.GateUpdate.main_arg3))
      ∧ r.2.sem = fun _ => 0)

def quiescent_GateUpdateIdeal [hGateUpdateIdeal : Cert.GateUpdateIdeal.Facts] : Prop :=
  ∀ (m : (ℓ : Loc Cert.GateUpdateIdeal.nD Cert.GateUpdateIdeal.τ Cert.GateUpdateIdeal.sig) → Buf (Elt Ideal) ℓ) (g : Dev Cert.GateUpdateIdeal.nD → PrngReg), Pre_GateUpdateIdeal m →
    θ_run (Cert.GateUpdateIdeal.defs (F := Ideal)) (onTc (τ := Cert.GateUpdateIdeal.τ) (Cert.GateUpdateIdeal.main (F := Ideal))) ⟨m, fun _ => 0, g⟩ (fun r => (∀ c : Dev Cert.GateUpdateIdeal.nD,
      r.2.mem ((c.tc : Thread Cert.GateUpdateIdeal.nD Cert.GateUpdateIdeal.τ).loc Cert.GateUpdateIdeal.main_arg0) = m ((c.tc : Thread Cert.GateUpdateIdeal.nD Cert.GateUpdateIdeal.τ).loc Cert.GateUpdateIdeal.main_arg0)
      ∧ r.2.mem ((c.tc : Thread Cert.GateUpdateIdeal.nD Cert.GateUpdateIdeal.τ).loc Cert.GateUpdateIdeal.main_arg1) = m ((c.tc : Thread Cert.GateUpdateIdeal.nD Cert.GateUpdateIdeal.τ).loc Cert.GateUpdateIdeal.main_arg1)
      ∧ r.2.mem ((c.tc : Thread Cert.GateUpdateIdeal.nD Cert.GateUpdateIdeal.τ).loc Cert.GateUpdateIdeal.main_arg2) = m ((c.tc : Thread Cert.GateUpdateIdeal.nD Cert.GateUpdateIdeal.τ).loc Cert.GateUpdateIdeal.main_arg2)
      ∧ r.2.mem ((c.tc : Thread Cert.GateUpdateIdeal.nD Cert.GateUpdateIdeal.τ).loc Cert.GateUpdateIdeal.main_arg3) = m ((c.tc : Thread Cert.GateUpdateIdeal.nD Cert.GateUpdateIdeal.τ).loc Cert.GateUpdateIdeal.main_arg3))
      ∧ r.2.sem = fun _ => 0)

def quiescent_GateUpdateRefIdeal [hGateUpdateRefIdeal : Cert.GateUpdateRefIdeal.Facts] : Prop :=
  ∀ (m : (ℓ : Loc Cert.GateUpdateRefIdeal.nD Cert.GateUpdateRefIdeal.τ Cert.GateUpdateRefIdeal.sig) → Buf (Elt Ideal) ℓ) (g : Dev Cert.GateUpdateRefIdeal.nD → PrngReg), Pre_GateUpdateRefIdeal m →
    θ_run (Cert.GateUpdateRefIdeal.defs (F := Ideal)) (onTc (τ := Cert.GateUpdateRefIdeal.τ) (Cert.GateUpdateRefIdeal.main (F := Ideal))) ⟨m, fun _ => 0, g⟩ (fun r => (∀ c : Dev Cert.GateUpdateRefIdeal.nD,
      r.2.mem ((c.tc : Thread Cert.GateUpdateRefIdeal.nD Cert.GateUpdateRefIdeal.τ).loc Cert.GateUpdateRefIdeal.main_arg0) = m ((c.tc : Thread Cert.GateUpdateRefIdeal.nD Cert.GateUpdateRefIdeal.τ).loc Cert.GateUpdateRefIdeal.main_arg0)
      ∧ r.2.mem ((c.tc : Thread Cert.GateUpdateRefIdeal.nD Cert.GateUpdateRefIdeal.τ).loc Cert.GateUpdateRefIdeal.main_arg1) = m ((c.tc : Thread Cert.GateUpdateRefIdeal.nD Cert.GateUpdateRefIdeal.τ).loc Cert.GateUpdateRefIdeal.main_arg1)
      ∧ r.2.mem ((c.tc : Thread Cert.GateUpdateRefIdeal.nD Cert.GateUpdateRefIdeal.τ).loc Cert.GateUpdateRefIdeal.main_arg2) = m ((c.tc : Thread Cert.GateUpdateRefIdeal.nD Cert.GateUpdateRefIdeal.τ).loc Cert.GateUpdateRefIdeal.main_arg2)
      ∧ r.2.mem ((c.tc : Thread Cert.GateUpdateRefIdeal.nD Cert.GateUpdateRefIdeal.τ).loc Cert.GateUpdateRefIdeal.main_arg3) = m ((c.tc : Thread Cert.GateUpdateRefIdeal.nD Cert.GateUpdateRefIdeal.τ).loc Cert.GateUpdateRefIdeal.main_arg3))
      ∧ r.2.sem = fun _ => 0)

def quiescent_GateBiasUpdate [hGateBiasUpdate : Cert.GateBiasUpdate.Facts] : Prop :=
  ∀ (m : (ℓ : Loc Cert.GateBiasUpdate.nD Cert.GateBiasUpdate.τ Cert.GateBiasUpdate.sig) → Buf (Elt Bits) ℓ) (g : Dev Cert.GateBiasUpdate.nD → PrngReg), Pre_GateBiasUpdate m →
    θ_run (Cert.GateBiasUpdate.defs (F := Bits)) (onTc (τ := Cert.GateBiasUpdate.τ) (Cert.GateBiasUpdate.main (F := Bits))) ⟨m, fun _ => 0, g⟩ (fun r => (∀ c : Dev Cert.GateBiasUpdate.nD,
      r.2.mem ((c.tc : Thread Cert.GateBiasUpdate.nD Cert.GateBiasUpdate.τ).loc Cert.GateBiasUpdate.main_arg0) = m ((c.tc : Thread Cert.GateBiasUpdate.nD Cert.GateBiasUpdate.τ).loc Cert.GateBiasUpdate.main_arg0)
      ∧ r.2.mem ((c.tc : Thread Cert.GateBiasUpdate.nD Cert.GateBiasUpdate.τ).loc Cert.GateBiasUpdate.main_arg1) = m ((c.tc : Thread Cert.GateBiasUpdate.nD Cert.GateBiasUpdate.τ).loc Cert.GateBiasUpdate.main_arg1)
      ∧ r.2.mem ((c.tc : Thread Cert.GateBiasUpdate.nD Cert.GateBiasUpdate.τ).loc Cert.GateBiasUpdate.main_arg2) = m ((c.tc : Thread Cert.GateBiasUpdate.nD Cert.GateBiasUpdate.τ).loc Cert.GateBiasUpdate.main_arg2)
      ∧ r.2.mem ((c.tc : Thread Cert.GateBiasUpdate.nD Cert.GateBiasUpdate.τ).loc Cert.GateBiasUpdate.main_arg3) = m ((c.tc : Thread Cert.GateBiasUpdate.nD Cert.GateBiasUpdate.τ).loc Cert.GateBiasUpdate.main_arg3))
      ∧ r.2.sem = fun _ => 0)

def quiescent_GateBiasUpdateIdeal [hGateBiasUpdateIdeal : Cert.GateBiasUpdateIdeal.Facts] : Prop :=
  ∀ (m : (ℓ : Loc Cert.GateBiasUpdateIdeal.nD Cert.GateBiasUpdateIdeal.τ Cert.GateBiasUpdateIdeal.sig) → Buf (Elt Ideal) ℓ) (g : Dev Cert.GateBiasUpdateIdeal.nD → PrngReg), Pre_GateBiasUpdateIdeal m →
    θ_run (Cert.GateBiasUpdateIdeal.defs (F := Ideal)) (onTc (τ := Cert.GateBiasUpdateIdeal.τ) (Cert.GateBiasUpdateIdeal.main (F := Ideal))) ⟨m, fun _ => 0, g⟩ (fun r => (∀ c : Dev Cert.GateBiasUpdateIdeal.nD,
      r.2.mem ((c.tc : Thread Cert.GateBiasUpdateIdeal.nD Cert.GateBiasUpdateIdeal.τ).loc Cert.GateBiasUpdateIdeal.main_arg0) = m ((c.tc : Thread Cert.GateBiasUpdateIdeal.nD Cert.GateBiasUpdateIdeal.τ).loc Cert.GateBiasUpdateIdeal.main_arg0)
      ∧ r.2.mem ((c.tc : Thread Cert.GateBiasUpdateIdeal.nD Cert.GateBiasUpdateIdeal.τ).loc Cert.GateBiasUpdateIdeal.main_arg1) = m ((c.tc : Thread Cert.GateBiasUpdateIdeal.nD Cert.GateBiasUpdateIdeal.τ).loc Cert.GateBiasUpdateIdeal.main_arg1)
      ∧ r.2.mem ((c.tc : Thread Cert.GateBiasUpdateIdeal.nD Cert.GateBiasUpdateIdeal.τ).loc Cert.GateBiasUpdateIdeal.main_arg2) = m ((c.tc : Thread Cert.GateBiasUpdateIdeal.nD Cert.GateBiasUpdateIdeal.τ).loc Cert.GateBiasUpdateIdeal.main_arg2)
      ∧ r.2.mem ((c.tc : Thread Cert.GateBiasUpdateIdeal.nD Cert.GateBiasUpdateIdeal.τ).loc Cert.GateBiasUpdateIdeal.main_arg3) = m ((c.tc : Thread Cert.GateBiasUpdateIdeal.nD Cert.GateBiasUpdateIdeal.τ).loc Cert.GateBiasUpdateIdeal.main_arg3))
      ∧ r.2.sem = fun _ => 0)

def quiescent_GateBiasUpdateRefIdeal [hGateBiasUpdateRefIdeal : Cert.GateBiasUpdateRefIdeal.Facts] : Prop :=
  ∀ (m : (ℓ : Loc Cert.GateBiasUpdateRefIdeal.nD Cert.GateBiasUpdateRefIdeal.τ Cert.GateBiasUpdateRefIdeal.sig) → Buf (Elt Ideal) ℓ) (g : Dev Cert.GateBiasUpdateRefIdeal.nD → PrngReg), Pre_GateBiasUpdateRefIdeal m →
    θ_run (Cert.GateBiasUpdateRefIdeal.defs (F := Ideal)) (onTc (τ := Cert.GateBiasUpdateRefIdeal.τ) (Cert.GateBiasUpdateRefIdeal.main (F := Ideal))) ⟨m, fun _ => 0, g⟩ (fun r => (∀ c : Dev Cert.GateBiasUpdateRefIdeal.nD,
      r.2.mem ((c.tc : Thread Cert.GateBiasUpdateRefIdeal.nD Cert.GateBiasUpdateRefIdeal.τ).loc Cert.GateBiasUpdateRefIdeal.main_arg0) = m ((c.tc : Thread Cert.GateBiasUpdateRefIdeal.nD Cert.GateBiasUpdateRefIdeal.τ).loc Cert.GateBiasUpdateRefIdeal.main_arg0)
      ∧ r.2.mem ((c.tc : Thread Cert.GateBiasUpdateRefIdeal.nD Cert.GateBiasUpdateRefIdeal.τ).loc Cert.GateBiasUpdateRefIdeal.main_arg1) = m ((c.tc : Thread Cert.GateBiasUpdateRefIdeal.nD Cert.GateBiasUpdateRefIdeal.τ).loc Cert.GateBiasUpdateRefIdeal.main_arg1)
      ∧ r.2.mem ((c.tc : Thread Cert.GateBiasUpdateRefIdeal.nD Cert.GateBiasUpdateRefIdeal.τ).loc Cert.GateBiasUpdateRefIdeal.main_arg2) = m ((c.tc : Thread Cert.GateBiasUpdateRefIdeal.nD Cert.GateBiasUpdateRefIdeal.τ).loc Cert.GateBiasUpdateRefIdeal.main_arg2)
      ∧ r.2.mem ((c.tc : Thread Cert.GateBiasUpdateRefIdeal.nD Cert.GateBiasUpdateRefIdeal.τ).loc Cert.GateBiasUpdateRefIdeal.main_arg3) = m ((c.tc : Thread Cert.GateBiasUpdateRefIdeal.nD Cert.GateBiasUpdateRefIdeal.τ).loc Cert.GateBiasUpdateRefIdeal.main_arg3))
      ∧ r.2.sem = fun _ => 0)

def quiescent_LongConvUpdate [hLongConvUpdate : Cert.LongConvUpdate.Facts] : Prop :=
  ∀ (m : (ℓ : Loc Cert.LongConvUpdate.nD Cert.LongConvUpdate.τ Cert.LongConvUpdate.sig) → Buf (Elt Bits) ℓ) (g : Dev Cert.LongConvUpdate.nD → PrngReg), Pre_LongConvUpdate m →
    θ_run (Cert.LongConvUpdate.defs (F := Bits)) (onTc (τ := Cert.LongConvUpdate.τ) (Cert.LongConvUpdate.main (F := Bits))) ⟨m, fun _ => 0, g⟩ (fun r => (∀ c : Dev Cert.LongConvUpdate.nD,
      r.2.mem ((c.tc : Thread Cert.LongConvUpdate.nD Cert.LongConvUpdate.τ).loc Cert.LongConvUpdate.main_arg0) = m ((c.tc : Thread Cert.LongConvUpdate.nD Cert.LongConvUpdate.τ).loc Cert.LongConvUpdate.main_arg0)
      ∧ r.2.mem ((c.tc : Thread Cert.LongConvUpdate.nD Cert.LongConvUpdate.τ).loc Cert.LongConvUpdate.main_arg1) = m ((c.tc : Thread Cert.LongConvUpdate.nD Cert.LongConvUpdate.τ).loc Cert.LongConvUpdate.main_arg1)
      ∧ r.2.mem ((c.tc : Thread Cert.LongConvUpdate.nD Cert.LongConvUpdate.τ).loc Cert.LongConvUpdate.main_arg2) = m ((c.tc : Thread Cert.LongConvUpdate.nD Cert.LongConvUpdate.τ).loc Cert.LongConvUpdate.main_arg2)
      ∧ r.2.mem ((c.tc : Thread Cert.LongConvUpdate.nD Cert.LongConvUpdate.τ).loc Cert.LongConvUpdate.main_arg3) = m ((c.tc : Thread Cert.LongConvUpdate.nD Cert.LongConvUpdate.τ).loc Cert.LongConvUpdate.main_arg3))
      ∧ r.2.sem = fun _ => 0)

def quiescent_LongConvUpdateIdeal [hLongConvUpdateIdeal : Cert.LongConvUpdateIdeal.Facts] : Prop :=
  ∀ (m : (ℓ : Loc Cert.LongConvUpdateIdeal.nD Cert.LongConvUpdateIdeal.τ Cert.LongConvUpdateIdeal.sig) → Buf (Elt Ideal) ℓ) (g : Dev Cert.LongConvUpdateIdeal.nD → PrngReg), Pre_LongConvUpdateIdeal m →
    θ_run (Cert.LongConvUpdateIdeal.defs (F := Ideal)) (onTc (τ := Cert.LongConvUpdateIdeal.τ) (Cert.LongConvUpdateIdeal.main (F := Ideal))) ⟨m, fun _ => 0, g⟩ (fun r => (∀ c : Dev Cert.LongConvUpdateIdeal.nD,
      r.2.mem ((c.tc : Thread Cert.LongConvUpdateIdeal.nD Cert.LongConvUpdateIdeal.τ).loc Cert.LongConvUpdateIdeal.main_arg0) = m ((c.tc : Thread Cert.LongConvUpdateIdeal.nD Cert.LongConvUpdateIdeal.τ).loc Cert.LongConvUpdateIdeal.main_arg0)
      ∧ r.2.mem ((c.tc : Thread Cert.LongConvUpdateIdeal.nD Cert.LongConvUpdateIdeal.τ).loc Cert.LongConvUpdateIdeal.main_arg1) = m ((c.tc : Thread Cert.LongConvUpdateIdeal.nD Cert.LongConvUpdateIdeal.τ).loc Cert.LongConvUpdateIdeal.main_arg1)
      ∧ r.2.mem ((c.tc : Thread Cert.LongConvUpdateIdeal.nD Cert.LongConvUpdateIdeal.τ).loc Cert.LongConvUpdateIdeal.main_arg2) = m ((c.tc : Thread Cert.LongConvUpdateIdeal.nD Cert.LongConvUpdateIdeal.τ).loc Cert.LongConvUpdateIdeal.main_arg2)
      ∧ r.2.mem ((c.tc : Thread Cert.LongConvUpdateIdeal.nD Cert.LongConvUpdateIdeal.τ).loc Cert.LongConvUpdateIdeal.main_arg3) = m ((c.tc : Thread Cert.LongConvUpdateIdeal.nD Cert.LongConvUpdateIdeal.τ).loc Cert.LongConvUpdateIdeal.main_arg3))
      ∧ r.2.sem = fun _ => 0)

def quiescent_LongConvUpdateRefIdeal [hLongConvUpdateRefIdeal : Cert.LongConvUpdateRefIdeal.Facts] : Prop :=
  ∀ (m : (ℓ : Loc Cert.LongConvUpdateRefIdeal.nD Cert.LongConvUpdateRefIdeal.τ Cert.LongConvUpdateRefIdeal.sig) → Buf (Elt Ideal) ℓ) (g : Dev Cert.LongConvUpdateRefIdeal.nD → PrngReg), Pre_LongConvUpdateRefIdeal m →
    θ_run (Cert.LongConvUpdateRefIdeal.defs (F := Ideal)) (onTc (τ := Cert.LongConvUpdateRefIdeal.τ) (Cert.LongConvUpdateRefIdeal.main (F := Ideal))) ⟨m, fun _ => 0, g⟩ (fun r => (∀ c : Dev Cert.LongConvUpdateRefIdeal.nD,
      r.2.mem ((c.tc : Thread Cert.LongConvUpdateRefIdeal.nD Cert.LongConvUpdateRefIdeal.τ).loc Cert.LongConvUpdateRefIdeal.main_arg0) = m ((c.tc : Thread Cert.LongConvUpdateRefIdeal.nD Cert.LongConvUpdateRefIdeal.τ).loc Cert.LongConvUpdateRefIdeal.main_arg0)
      ∧ r.2.mem ((c.tc : Thread Cert.LongConvUpdateRefIdeal.nD Cert.LongConvUpdateRefIdeal.τ).loc Cert.LongConvUpdateRefIdeal.main_arg1) = m ((c.tc : Thread Cert.LongConvUpdateRefIdeal.nD Cert.LongConvUpdateRefIdeal.τ).loc Cert.LongConvUpdateRefIdeal.main_arg1)
      ∧ r.2.mem ((c.tc : Thread Cert.LongConvUpdateRefIdeal.nD Cert.LongConvUpdateRefIdeal.τ).loc Cert.LongConvUpdateRefIdeal.main_arg2) = m ((c.tc : Thread Cert.LongConvUpdateRefIdeal.nD Cert.LongConvUpdateRefIdeal.τ).loc Cert.LongConvUpdateRefIdeal.main_arg2)
      ∧ r.2.mem ((c.tc : Thread Cert.LongConvUpdateRefIdeal.nD Cert.LongConvUpdateRefIdeal.τ).loc Cert.LongConvUpdateRefIdeal.main_arg3) = m ((c.tc : Thread Cert.LongConvUpdateRefIdeal.nD Cert.LongConvUpdateRefIdeal.τ).loc Cert.LongConvUpdateRefIdeal.main_arg3))
      ∧ r.2.sem = fun _ => 0)

def preserves_LnGrad_LnGradIdeal : Prop :=
  True

def algebraic_LnGradIdeal_LnGradRefIdeal_pre_ln_finite [hLnGradIdeal : Cert.LnGradIdeal.Facts] [hLnGradRefIdeal : Cert.LnGradRefIdeal.Facts] [hPre_ln_finite : Cert.Pre_ln_finite.Facts] : Prop :=
  ∀ (m : (ℓ : Loc Cert.LnGradIdeal.nD Cert.LnGradIdeal.τ Cert.LnGradIdeal.sig) → Buf (Elt Ideal) ℓ) (g : Dev Cert.LnGradIdeal.nD → PrngReg)
    (m' : (ℓ : Loc Cert.LnGradRefIdeal.nD Cert.LnGradRefIdeal.τ Cert.LnGradRefIdeal.sig) → Buf (Elt Ideal) ℓ) (g' : Dev Cert.LnGradRefIdeal.nD → PrngReg), Pre_LnGradIdeal_ln_finite m →
    (∀ c : Dev Cert.LnGradIdeal.nD,
      m' ((c.tc : Thread Cert.LnGradRefIdeal.nD Cert.LnGradRefIdeal.τ).loc Cert.LnGradRefIdeal.main_arg0) = m ((c.tc : Thread Cert.LnGradIdeal.nD Cert.LnGradIdeal.τ).loc Cert.LnGradIdeal.main_arg0)
      ∧ m' ((c.tc : Thread Cert.LnGradRefIdeal.nD Cert.LnGradRefIdeal.τ).loc Cert.LnGradRefIdeal.main_arg1) = m ((c.tc : Thread Cert.LnGradIdeal.nD Cert.LnGradIdeal.τ).loc Cert.LnGradIdeal.main_arg1)
      ∧ m' ((c.tc : Thread Cert.LnGradRefIdeal.nD Cert.LnGradRefIdeal.τ).loc Cert.LnGradRefIdeal.main_arg2) = m ((c.tc : Thread Cert.LnGradIdeal.nD Cert.LnGradIdeal.τ).loc Cert.LnGradIdeal.main_arg2)
      ∧ m' ((c.tc : Thread Cert.LnGradRefIdeal.nD Cert.LnGradRefIdeal.τ).loc Cert.LnGradRefIdeal.main_arg3) = m ((c.tc : Thread Cert.LnGradIdeal.nD Cert.LnGradIdeal.τ).loc Cert.LnGradIdeal.main_arg3)
      ∧ m' ((c.tc : Thread Cert.LnGradRefIdeal.nD Cert.LnGradRefIdeal.τ).loc Cert.LnGradRefIdeal.main_arg4) = m ((c.tc : Thread Cert.LnGradIdeal.nD Cert.LnGradIdeal.τ).loc Cert.LnGradIdeal.main_arg4)
      ∧ m' ((c.tc : Thread Cert.LnGradRefIdeal.nD Cert.LnGradRefIdeal.τ).loc Cert.LnGradRefIdeal.main_arg5) = m ((c.tc : Thread Cert.LnGradIdeal.nD Cert.LnGradIdeal.τ).loc Cert.LnGradIdeal.main_arg5)) →
    ∃ (v0 : (c : Dev Cert.LnGradIdeal.nD) → Buf (Elt Ideal) ((c.tc : Thread Cert.LnGradIdeal.nD Cert.LnGradIdeal.τ).loc Cert.LnGradIdeal.main_v21_0)) (v1 : (c : Dev Cert.LnGradIdeal.nD) → Buf (Elt Ideal) ((c.tc : Thread Cert.LnGradIdeal.nD Cert.LnGradIdeal.τ).loc Cert.LnGradIdeal.main_v21_1)) (v2 : (c : Dev Cert.LnGradIdeal.nD) → Buf (Elt Ideal) ((c.tc : Thread Cert.LnGradIdeal.nD Cert.LnGradIdeal.τ).loc Cert.LnGradIdeal.main_v21_2)) (v3 : (c : Dev Cert.LnGradIdeal.nD) → Buf (Elt Ideal) ((c.tc : Thread Cert.LnGradIdeal.nD Cert.LnGradIdeal.τ).loc Cert.LnGradIdeal.main_v21_3)),
      θ_run (Cert.LnGradIdeal.defs (F := Ideal)) (onTc (τ := Cert.LnGradIdeal.τ) (Cert.LnGradIdeal.main (F := Ideal))) ⟨m, fun _ => 0, g⟩ (fun r => ∀ c : Dev Cert.LnGradIdeal.nD,
          r.2.mem ((c.tc : Thread Cert.LnGradIdeal.nD Cert.LnGradIdeal.τ).loc Cert.LnGradIdeal.main_v21_0) = v0 c
          ∧ r.2.mem ((c.tc : Thread Cert.LnGradIdeal.nD Cert.LnGradIdeal.τ).loc Cert.LnGradIdeal.main_v21_1) = v1 c
          ∧ r.2.mem ((c.tc : Thread Cert.LnGradIdeal.nD Cert.LnGradIdeal.τ).loc Cert.LnGradIdeal.main_v21_2) = v2 c
          ∧ r.2.mem ((c.tc : Thread Cert.LnGradIdeal.nD Cert.LnGradIdeal.τ).loc Cert.LnGradIdeal.main_v21_3) = v3 c
          ∧ r.2.mem ((c.tc : Thread Cert.LnGradIdeal.nD Cert.LnGradIdeal.τ).loc Cert.LnGradIdeal.main_arg0) = m ((c.tc : Thread Cert.LnGradIdeal.nD Cert.LnGradIdeal.τ).loc Cert.LnGradIdeal.main_arg0)
          ∧ r.2.mem ((c.tc : Thread Cert.LnGradIdeal.nD Cert.LnGradIdeal.τ).loc Cert.LnGradIdeal.main_arg1) = m ((c.tc : Thread Cert.LnGradIdeal.nD Cert.LnGradIdeal.τ).loc Cert.LnGradIdeal.main_arg1)
          ∧ r.2.mem ((c.tc : Thread Cert.LnGradIdeal.nD Cert.LnGradIdeal.τ).loc Cert.LnGradIdeal.main_arg2) = m ((c.tc : Thread Cert.LnGradIdeal.nD Cert.LnGradIdeal.τ).loc Cert.LnGradIdeal.main_arg2)
          ∧ r.2.mem ((c.tc : Thread Cert.LnGradIdeal.nD Cert.LnGradIdeal.τ).loc Cert.LnGradIdeal.main_arg3) = m ((c.tc : Thread Cert.LnGradIdeal.nD Cert.LnGradIdeal.τ).loc Cert.LnGradIdeal.main_arg3)
          ∧ r.2.mem ((c.tc : Thread Cert.LnGradIdeal.nD Cert.LnGradIdeal.τ).loc Cert.LnGradIdeal.main_arg4) = m ((c.tc : Thread Cert.LnGradIdeal.nD Cert.LnGradIdeal.τ).loc Cert.LnGradIdeal.main_arg4)
          ∧ r.2.mem ((c.tc : Thread Cert.LnGradIdeal.nD Cert.LnGradIdeal.τ).loc Cert.LnGradIdeal.main_arg5) = m ((c.tc : Thread Cert.LnGradIdeal.nD Cert.LnGradIdeal.τ).loc Cert.LnGradIdeal.main_arg5))
      ∧ θ_run (Cert.LnGradRefIdeal.defs (F := Ideal)) (onTc (τ := Cert.LnGradRefIdeal.τ) (Cert.LnGradRefIdeal.main (F := Ideal))) ⟨m', fun _ => 0, g'⟩ (fun r => ∀ c : Dev Cert.LnGradRefIdeal.nD,
          r.2.mem ((c.tc : Thread Cert.LnGradRefIdeal.nD Cert.LnGradRefIdeal.τ).loc Cert.LnGradRefIdeal.main_v67) = v0 c
          ∧ r.2.mem ((c.tc : Thread Cert.LnGradRefIdeal.nD Cert.LnGradRefIdeal.τ).loc Cert.LnGradRefIdeal.main_v68) = v1 c
          ∧ r.2.mem ((c.tc : Thread Cert.LnGradRefIdeal.nD Cert.LnGradRefIdeal.τ).loc Cert.LnGradRefIdeal.main_v41) = v2 c
          ∧ r.2.mem ((c.tc : Thread Cert.LnGradRefIdeal.nD Cert.LnGradRefIdeal.τ).loc Cert.LnGradRefIdeal.main_v38) = v3 c
          ∧ r.2.mem ((c.tc : Thread Cert.LnGradRefIdeal.nD Cert.LnGradRefIdeal.τ).loc Cert.LnGradRefIdeal.main_arg0) = m' ((c.tc : Thread Cert.LnGradRefIdeal.nD Cert.LnGradRefIdeal.τ).loc Cert.LnGradRefIdeal.main_arg0)
          ∧ r.2.mem ((c.tc : Thread Cert.LnGradRefIdeal.nD Cert.LnGradRefIdeal.τ).loc Cert.LnGradRefIdeal.main_arg1) = m' ((c.tc : Thread Cert.LnGradRefIdeal.nD Cert.LnGradRefIdeal.τ).loc Cert.LnGradRefIdeal.main_arg1)
          ∧ r.2.mem ((c.tc : Thread Cert.LnGradRefIdeal.nD Cert.LnGradRefIdeal.τ).loc Cert.LnGradRefIdeal.main_arg2) = m' ((c.tc : Thread Cert.LnGradRefIdeal.nD Cert.LnGradRefIdeal.τ).loc Cert.LnGradRefIdeal.main_arg2)
          ∧ r.2.mem ((c.tc : Thread Cert.LnGradRefIdeal.nD Cert.LnGradRefIdeal.τ).loc Cert.LnGradRefIdeal.main_arg3) = m' ((c.tc : Thread Cert.LnGradRefIdeal.nD Cert.LnGradRefIdeal.τ).loc Cert.LnGradRefIdeal.main_arg3)
          ∧ r.2.mem ((c.tc : Thread Cert.LnGradRefIdeal.nD Cert.LnGradRefIdeal.τ).loc Cert.LnGradRefIdeal.main_arg4) = m' ((c.tc : Thread Cert.LnGradRefIdeal.nD Cert.LnGradRefIdeal.τ).loc Cert.LnGradRefIdeal.main_arg4)
          ∧ r.2.mem ((c.tc : Thread Cert.LnGradRefIdeal.nD Cert.LnGradRefIdeal.τ).loc Cert.LnGradRefIdeal.main_arg5) = m' ((c.tc : Thread Cert.LnGradRefIdeal.nD Cert.LnGradRefIdeal.τ).loc Cert.LnGradRefIdeal.main_arg5))

def preserves_LossGrad_LossGradIdeal : Prop :=
  True

def algebraic_LossGradIdeal_LossGradRefIdeal_pre_loss_finite [hLossGradIdeal : Cert.LossGradIdeal.Facts] [hLossGradRefIdeal : Cert.LossGradRefIdeal.Facts] [hPre_loss_finite : Cert.Pre_loss_finite.Facts] : Prop :=
  ∀ (m : (ℓ : Loc Cert.LossGradIdeal.nD Cert.LossGradIdeal.τ Cert.LossGradIdeal.sig) → Buf (Elt Ideal) ℓ) (g : Dev Cert.LossGradIdeal.nD → PrngReg)
    (m' : (ℓ : Loc Cert.LossGradRefIdeal.nD Cert.LossGradRefIdeal.τ Cert.LossGradRefIdeal.sig) → Buf (Elt Ideal) ℓ) (g' : Dev Cert.LossGradRefIdeal.nD → PrngReg), Pre_LossGradIdeal_loss_finite m →
    (∀ c : Dev Cert.LossGradIdeal.nD,
      m' ((c.tc : Thread Cert.LossGradRefIdeal.nD Cert.LossGradRefIdeal.τ).loc Cert.LossGradRefIdeal.main_arg0) = m ((c.tc : Thread Cert.LossGradIdeal.nD Cert.LossGradIdeal.τ).loc Cert.LossGradIdeal.main_arg0)
      ∧ m' ((c.tc : Thread Cert.LossGradRefIdeal.nD Cert.LossGradRefIdeal.τ).loc Cert.LossGradRefIdeal.main_arg1) = m ((c.tc : Thread Cert.LossGradIdeal.nD Cert.LossGradIdeal.τ).loc Cert.LossGradIdeal.main_arg1)
      ∧ m' ((c.tc : Thread Cert.LossGradRefIdeal.nD Cert.LossGradRefIdeal.τ).loc Cert.LossGradRefIdeal.main_arg2) = m ((c.tc : Thread Cert.LossGradIdeal.nD Cert.LossGradIdeal.τ).loc Cert.LossGradIdeal.main_arg2)
      ∧ m' ((c.tc : Thread Cert.LossGradRefIdeal.nD Cert.LossGradRefIdeal.τ).loc Cert.LossGradRefIdeal.main_arg3) = m ((c.tc : Thread Cert.LossGradIdeal.nD Cert.LossGradIdeal.τ).loc Cert.LossGradIdeal.main_arg3)) →
    ∃ (v0 : (c : Dev Cert.LossGradIdeal.nD) → Buf (Elt Ideal) ((c.tc : Thread Cert.LossGradIdeal.nD Cert.LossGradIdeal.τ).loc Cert.LossGradIdeal.main_v18_0)) (v1 : (c : Dev Cert.LossGradIdeal.nD) → Buf (Elt Ideal) ((c.tc : Thread Cert.LossGradIdeal.nD Cert.LossGradIdeal.τ).loc Cert.LossGradIdeal.main_v18_1)) (v2 : (c : Dev Cert.LossGradIdeal.nD) → Buf (Elt Ideal) ((c.tc : Thread Cert.LossGradIdeal.nD Cert.LossGradIdeal.τ).loc Cert.LossGradIdeal.main_v18_2)) (v3 : (c : Dev Cert.LossGradIdeal.nD) → Buf (Elt Ideal) ((c.tc : Thread Cert.LossGradIdeal.nD Cert.LossGradIdeal.τ).loc Cert.LossGradIdeal.main_v18_3)) (v4 : (c : Dev Cert.LossGradIdeal.nD) → Buf (Elt Ideal) ((c.tc : Thread Cert.LossGradIdeal.nD Cert.LossGradIdeal.τ).loc Cert.LossGradIdeal.main_v18_4)),
      θ_run (Cert.LossGradIdeal.defs (F := Ideal)) (onTc (τ := Cert.LossGradIdeal.τ) (Cert.LossGradIdeal.main (F := Ideal))) ⟨m, fun _ => 0, g⟩ (fun r => ∀ c : Dev Cert.LossGradIdeal.nD,
          r.2.mem ((c.tc : Thread Cert.LossGradIdeal.nD Cert.LossGradIdeal.τ).loc Cert.LossGradIdeal.main_v18_0) = v0 c
          ∧ r.2.mem ((c.tc : Thread Cert.LossGradIdeal.nD Cert.LossGradIdeal.τ).loc Cert.LossGradIdeal.main_v18_1) = v1 c
          ∧ r.2.mem ((c.tc : Thread Cert.LossGradIdeal.nD Cert.LossGradIdeal.τ).loc Cert.LossGradIdeal.main_v18_2) = v2 c
          ∧ r.2.mem ((c.tc : Thread Cert.LossGradIdeal.nD Cert.LossGradIdeal.τ).loc Cert.LossGradIdeal.main_v18_3) = v3 c
          ∧ r.2.mem ((c.tc : Thread Cert.LossGradIdeal.nD Cert.LossGradIdeal.τ).loc Cert.LossGradIdeal.main_v18_4) = v4 c
          ∧ r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
          ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2)
          ∧ r.2.mem ((c.tc : Thread Cert.LossGradIdeal.nD Cert.LossGradIdeal.τ).loc Cert.LossGradIdeal.main_arg3) = m ((c.tc : Thread Cert.LossGradIdeal.nD Cert.LossGradIdeal.τ).loc Cert.LossGradIdeal.main_arg3))
      ∧ θ_run (Cert.LossGradRefIdeal.defs (F := Ideal)) (onTc (τ := Cert.LossGradRefIdeal.τ) (Cert.LossGradRefIdeal.main (F := Ideal))) ⟨m', fun _ => 0, g'⟩ (fun r => ∀ c : Dev Cert.LossGradRefIdeal.nD,
          r.2.mem ((c.tc : Thread Cert.LossGradRefIdeal.nD Cert.LossGradRefIdeal.τ).loc Cert.LossGradRefIdeal.main_v73) = v0 c
          ∧ r.2.mem ((c.tc : Thread Cert.LossGradRefIdeal.nD Cert.LossGradRefIdeal.τ).loc Cert.LossGradRefIdeal.main_v72) = v1 c
          ∧ r.2.mem ((c.tc : Thread Cert.LossGradRefIdeal.nD Cert.LossGradRefIdeal.τ).loc Cert.LossGradRefIdeal.main_v74) = v2 c
          ∧ r.2.mem ((c.tc : Thread Cert.LossGradRefIdeal.nD Cert.LossGradRefIdeal.τ).loc Cert.LossGradRefIdeal.main_v46) = v3 c
          ∧ r.2.mem ((c.tc : Thread Cert.LossGradRefIdeal.nD Cert.LossGradRefIdeal.τ).loc Cert.LossGradRefIdeal.main_v43) = v4 c
          ∧ r.2.mem ((c.tc : Thread Cert.LossGradRefIdeal.nD Cert.LossGradRefIdeal.τ).loc Cert.LossGradRefIdeal.main_arg0) = m' ((c.tc : Thread Cert.LossGradRefIdeal.nD Cert.LossGradRefIdeal.τ).loc Cert.LossGradRefIdeal.main_arg0)
          ∧ r.2.mem ((c.tc : Thread Cert.LossGradRefIdeal.nD Cert.LossGradRefIdeal.τ).loc Cert.LossGradRefIdeal.main_arg1) = m' ((c.tc : Thread Cert.LossGradRefIdeal.nD Cert.LossGradRefIdeal.τ).loc Cert.LossGradRefIdeal.main_arg1)
          ∧ r.2.mem ((c.tc : Thread Cert.LossGradRefIdeal.nD Cert.LossGradRefIdeal.τ).loc Cert.LossGradRefIdeal.main_arg2) = m' ((c.tc : Thread Cert.LossGradRefIdeal.nD Cert.LossGradRefIdeal.τ).loc Cert.LossGradRefIdeal.main_arg2)
          ∧ r.2.mem ((c.tc : Thread Cert.LossGradRefIdeal.nD Cert.LossGradRefIdeal.τ).loc Cert.LossGradRefIdeal.main_arg3) = m' ((c.tc : Thread Cert.LossGradRefIdeal.nD Cert.LossGradRefIdeal.τ).loc Cert.LossGradRefIdeal.main_arg3))

def preserves_TotalLoss_TotalLossIdeal : Prop :=
  True

def algebraic_TotalLossIdeal_TotalLossRefIdeal [hTotalLossIdeal : Cert.TotalLossIdeal.Facts] [hTotalLossRefIdeal : Cert.TotalLossRefIdeal.Facts] : Prop :=
  ∀ (m : (ℓ : Loc Cert.TotalLossIdeal.nD Cert.TotalLossIdeal.τ Cert.TotalLossIdeal.sig) → Buf (Elt Ideal) ℓ) (g : Dev Cert.TotalLossIdeal.nD → PrngReg)
    (m' : (ℓ : Loc Cert.TotalLossRefIdeal.nD Cert.TotalLossRefIdeal.τ Cert.TotalLossRefIdeal.sig) → Buf (Elt Ideal) ℓ) (g' : Dev Cert.TotalLossRefIdeal.nD → PrngReg), Pre_TotalLossIdeal m →
    (∀ c : Dev Cert.TotalLossIdeal.nD,
      m ((c.tc : Thread Cert.TotalLossIdeal.nD Cert.TotalLossIdeal.τ).loc Cert.TotalLossIdeal.main_arg0) = Layout.block ⟨2, ![1, 1]⟩ ⟨2, ![8, 1]⟩ 0 8 c (m' (((0 : Dev Cert.TotalLossRefIdeal.nD).tc : Thread Cert.TotalLossRefIdeal.nD Cert.TotalLossRefIdeal.τ).loc Cert.TotalLossRefIdeal.main_arg0))) →
    ∃ (v0 : Buf (Elt Ideal) (((0 : Dev Cert.TotalLossRefIdeal.nD).tc : Thread Cert.TotalLossRefIdeal.nD Cert.TotalLossRefIdeal.τ).loc Cert.TotalLossRefIdeal.main_v0)),
      θ_run (Cert.TotalLossIdeal.defs (F := Ideal)) (onTc (τ := Cert.TotalLossIdeal.τ) (Cert.TotalLossIdeal.main (F := Ideal))) ⟨m, fun _ => 0, g⟩ (fun r => ∀ c : Dev Cert.TotalLossIdeal.nD,
          r.2.mem ((c.tc : Thread Cert.TotalLossIdeal.nD Cert.TotalLossIdeal.τ).loc Cert.TotalLossIdeal.main_v2) = v0
          ∧ r.2.mem ((c.tc : Thread Cert.TotalLossIdeal.nD Cert.TotalLossIdeal.τ).loc Cert.TotalLossIdeal.main_arg0) = m ((c.tc : Thread Cert.TotalLossIdeal.nD Cert.TotalLossIdeal.τ).loc Cert.TotalLossIdeal.main_arg0))
      ∧ θ_run (Cert.TotalLossRefIdeal.defs (F := Ideal)) (onTc (τ := Cert.TotalLossRefIdeal.τ) (Cert.TotalLossRefIdeal.main (F := Ideal))) ⟨m', fun _ => 0, g'⟩ (fun r =>
          r.2.mem (((0 : Dev Cert.TotalLossRefIdeal.nD).tc : Thread Cert.TotalLossRefIdeal.nD Cert.TotalLossRefIdeal.τ).loc Cert.TotalLossRefIdeal.main_v0) = v0
          ∧ r.2.mem (((0 : Dev Cert.TotalLossRefIdeal.nD).tc : Thread Cert.TotalLossRefIdeal.nD Cert.TotalLossRefIdeal.τ).loc Cert.TotalLossRefIdeal.main_arg0) = m' (((0 : Dev Cert.TotalLossRefIdeal.nD).tc : Thread Cert.TotalLossRefIdeal.nD Cert.TotalLossRefIdeal.τ).loc Cert.TotalLossRefIdeal.main_arg0))

def preserves_EvenGrad_EvenGradIdeal : Prop :=
  True

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v4) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InWeightGrad_InWeightGradIdeal : Prop :=
  True

def algebraic_InWeightGradIdeal_InWeightGradRefIdeal [hInWeightGradIdeal : Cert.InWeightGradIdeal.Facts] [hInWeightGradRefIdeal : Cert.InWeightGradRefIdeal.Facts] : Prop :=
  ∀ (m : (ℓ : Loc Cert.InWeightGradIdeal.nD Cert.InWeightGradIdeal.τ Cert.InWeightGradIdeal.sig) → Buf (Elt Ideal) ℓ) (g : Dev Cert.InWeightGradIdeal.nD → PrngReg)
    (m' : (ℓ : Loc Cert.InWeightGradRefIdeal.nD Cert.InWeightGradRefIdeal.τ Cert.InWeightGradRefIdeal.sig) → Buf (Elt Ideal) ℓ) (g' : Dev Cert.InWeightGradRefIdeal.nD → PrngReg), Pre_InWeightGradIdeal m →
    (∀ c : Dev Cert.InWeightGradIdeal.nD,
      m' ((c.tc : Thread Cert.InWeightGradRefIdeal.nD Cert.InWeightGradRefIdeal.τ).loc Cert.InWeightGradRefIdeal.main_arg0) = m ((c.tc : Thread Cert.InWeightGradIdeal.nD Cert.InWeightGradIdeal.τ).loc Cert.InWeightGradIdeal.main_arg0)
      ∧ m' ((c.tc : Thread Cert.InWeightGradRefIdeal.nD Cert.InWeightGradRefIdeal.τ).loc Cert.InWeightGradRefIdeal.main_arg1) = m ((c.tc : Thread Cert.InWeightGradIdeal.nD Cert.InWeightGradIdeal.τ).loc Cert.InWeightGradIdeal.main_arg1)) →
    ∃ (v0 : (c : Dev Cert.InWeightGradIdeal.nD) → Buf (Elt Ideal) ((c.tc : Thread Cert.InWeightGradIdeal.nD Cert.InWeightGradIdeal.τ).loc Cert.InWeightGradIdeal.main_v0)),
      θ_run (Cert.InWeightGradIdeal.defs (F := Ideal)) (onTc (τ := Cert.InWeightGradIdeal.τ) (Cert.InWeightGradIdeal.main (F := Ideal))) ⟨m, fun _ => 0, g⟩ (fun r => ∀ c : Dev Cert.InWeightGradIdeal.nD,
          r.2.mem ((c.tc : Thread Cert.InWeightGradIdeal.nD Cert.InWeightGradIdeal.τ).loc Cert.InWeightGradIdeal.main_v0) = v0 c
          ∧ r.2.mem ((c.tc : Thread Cert.InWeightGradIdeal.nD Cert.InWeightGradIdeal.τ).loc Cert.InWeightGradIdeal.main_arg0) = m ((c.tc : Thread Cert.InWeightGradIdeal.nD Cert.InWeightGradIdeal.τ).loc Cert.InWeightGradIdeal.main_arg0)
          ∧ r.2.mem ((c.tc : Thread Cert.InWeightGradIdeal.nD Cert.InWeightGradIdeal.τ).loc Cert.InWeightGradIdeal.main_arg1) = m ((c.tc : Thread Cert.InWeightGradIdeal.nD Cert.InWeightGradIdeal.τ).loc Cert.InWeightGradIdeal.main_arg1))
      ∧ θ_run (Cert.InWeightGradRefIdeal.defs (F := Ideal)) (onTc (τ := Cert.InWeightGradRefIdeal.τ) (Cert.InWeightGradRefIdeal.main (F := Ideal))) ⟨m', fun _ => 0, g'⟩ (fun r => ∀ c : Dev Cert.InWeightGradRefIdeal.nD,
          r.2.mem ((c.tc : Thread Cert.InWeightGradRefIdeal.nD Cert.InWeightGradRefIdeal.τ).loc Cert.InWeightGradRefIdeal.main_v14) = v0 c
          ∧ r.2.mem ((c.tc : Thread Cert.InWeightGradRefIdeal.nD Cert.InWeightGradRefIdeal.τ).loc Cert.InWeightGradRefIdeal.main_arg0) = m' ((c.tc : Thread Cert.InWeightGradRefIdeal.nD Cert.InWeightGradRefIdeal.τ).loc Cert.InWeightGradRefIdeal.main_arg0)
          ∧ r.2.mem ((c.tc : Thread Cert.InWeightGradRefIdeal.nD Cert.InWeightGradRefIdeal.τ).loc Cert.InWeightGradRefIdeal.main_arg1) = m' ((c.tc : Thread Cert.InWeightGradRefIdeal.nD Cert.InWeightGradRefIdeal.τ).loc Cert.InWeightGradRefIdeal.main_arg1))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)
      ∧ m' ((c.tc : Thread Cert.InGradRefIdeal.nD Cert.InGradRefIdeal.τ).loc Cert.InGradRefIdeal.main_arg2) = m ((c.tc : Thread Cert.InGradIdeal.nD Cert.InGradIdeal.τ).loc Cert.InGradIdeal.main_arg2)) →
    ∃ (v0 : (c : Dev Cert.InGradIdeal.nD) → Buf (Elt Ideal) ((c.tc : Thread Cert.InGradIdeal.nD Cert.InGradIdeal.τ).loc Cert.InGradIdeal.main_v4)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v4) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v8) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1)
          ∧ r.2.mem ((c.tc : Thread Cert.InGradRefIdeal.nD Cert.InGradRefIdeal.τ).loc Cert.InGradRefIdeal.main_arg2) = m' ((c.tc : Thread Cert.InGradRefIdeal.nD Cert.InGradRefIdeal.τ).loc Cert.InGradRefIdeal.main_arg2))

def preserves_OutWeightGrad_OutWeightGradIdeal : Prop :=
  True

def algebraic_OutWeightGradIdeal_OutWeightGradRefIdeal [hOutWeightGradIdeal : Cert.OutWeightGradIdeal.Facts] [hOutWeightGradRefIdeal : Cert.OutWeightGradRefIdeal.Facts] : Prop :=
  ∀ (m : (ℓ : Loc Cert.OutWeightGradIdeal.nD Cert.OutWeightGradIdeal.τ Cert.OutWeightGradIdeal.sig) → Buf (Elt Ideal) ℓ) (g : Dev Cert.OutWeightGradIdeal.nD → PrngReg)
    (m' : (ℓ : Loc Cert.OutWeightGradRefIdeal.nD Cert.OutWeightGradRefIdeal.τ Cert.OutWeightGradRefIdeal.sig) → Buf (Elt Ideal) ℓ) (g' : Dev Cert.OutWeightGradRefIdeal.nD → PrngReg), Pre_OutWeightGradIdeal m →
    (∀ c : Dev Cert.OutWeightGradIdeal.nD,
      m' ((c.tc : Thread Cert.OutWeightGradRefIdeal.nD Cert.OutWeightGradRefIdeal.τ).loc Cert.OutWeightGradRefIdeal.main_arg0) = m ((c.tc : Thread Cert.OutWeightGradIdeal.nD Cert.OutWeightGradIdeal.τ).loc Cert.OutWeightGradIdeal.main_arg0)
      ∧ m' ((c.tc : Thread Cert.OutWeightGradRefIdeal.nD Cert.OutWeightGradRefIdeal.τ).loc Cert.OutWeightGradRefIdeal.main_arg1) = m ((c.tc : Thread Cert.OutWeightGradIdeal.nD Cert.OutWeightGradIdeal.τ).loc Cert.OutWeightGradIdeal.main_arg1)) →
    ∃ (v0 : (c : Dev Cert.OutWeightGradIdeal.nD) → Buf (Elt Ideal) ((c.tc : Thread Cert.OutWeightGradIdeal.nD Cert.OutWeightGradIdeal.τ).loc Cert.OutWeightGradIdeal.main_v0)),
      θ_run (Cert.OutWeightGradIdeal.defs (F := Ideal)) (onTc (τ := Cert.OutWeightGradIdeal.τ) (Cert.OutWeightGradIdeal.main (F := Ideal))) ⟨m, fun _ => 0, g⟩ (fun r => ∀ c : Dev Cert.OutWeightGradIdeal.nD,
          r.2.mem ((c.tc : Thread Cert.OutWeightGradIdeal.nD Cert.OutWeightGradIdeal.τ).loc Cert.OutWeightGradIdeal.main_v0) = v0 c
          ∧ r.2.mem ((c.tc : Thread Cert.OutWeightGradIdeal.nD Cert.OutWeightGradIdeal.τ).loc Cert.OutWeightGradIdeal.main_arg0) = m ((c.tc : Thread Cert.OutWeightGradIdeal.nD Cert.OutWeightGradIdeal.τ).loc Cert.OutWeightGradIdeal.main_arg0)
          ∧ r.2.mem ((c.tc : Thread Cert.OutWeightGradIdeal.nD Cert.OutWeightGradIdeal.τ).loc Cert.OutWeightGradIdeal.main_arg1) = m ((c.tc : Thread Cert.OutWeightGradIdeal.nD Cert.OutWeightGradIdeal.τ).loc Cert.OutWeightGradIdeal.main_arg1))
      ∧ θ_run (Cert.OutWeightGradRefIdeal.defs (F := Ideal)) (onTc (τ := Cert.OutWeightGradRefIdeal.τ) (Cert.OutWeightGradRefIdeal.main (F := Ideal))) ⟨m', fun _ => 0, g'⟩ (fun r => ∀ c : Dev Cert.OutWeightGradRefIdeal.nD,
          r.2.mem ((c.tc : Thread Cert.OutWeightGradRefIdeal.nD Cert.OutWeightGradRefIdeal.τ).loc Cert.OutWeightGradRefIdeal.main_v5) = v0 c
          ∧ r.2.mem ((c.tc : Thread Cert.OutWeightGradRefIdeal.nD Cert.OutWeightGradRefIdeal.τ).loc Cert.OutWeightGradRefIdeal.main_arg0) = m' ((c.tc : Thread Cert.OutWeightGradRefIdeal.nD Cert.OutWeightGradRefIdeal.τ).loc Cert.OutWeightGradRefIdeal.main_arg0)
          ∧ r.2.mem ((c.tc : Thread Cert.OutWeightGradRefIdeal.nD Cert.OutWeightGradRefIdeal.τ).loc Cert.OutWeightGradRefIdeal.main_arg1) = m' ((c.tc : Thread Cert.OutWeightGradRefIdeal.nD Cert.OutWeightGradRefIdeal.τ).loc Cert.OutWeightGradRefIdeal.main_arg1))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v3)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v3) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v6) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def preserves_OutNorm_OutNormIdeal : Prop :=
  True

def algebraic_OutNormIdeal_OutNormRefIdeal [hOutNormIdeal : Cert.OutNormIdeal.Facts] [hOutNormRefIdeal : Cert.OutNormRefIdeal.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.OutNormRefIdeal.nD Cert.OutNormRefIdeal.τ Cert.OutNormRefIdeal.sig) → Buf (Elt Ideal) ℓ) (g' : Dev Cert.OutNormRefIdeal.nD → PrngReg), Pre_OutNormIdeal m →
    (∀ c : Dev Cert.OutNormIdeal.nD,
      m' ((c.tc : Thread Cert.OutNormRefIdeal.nD Cert.OutNormRefIdeal.τ).loc Cert.OutNormRefIdeal.main_arg0) = m ((c.tc : Thread Cert.OutNormIdeal.nD Cert.OutNormIdeal.τ).loc Cert.OutNormIdeal.main_arg0)
      ∧ m' ((c.tc : Thread Cert.OutNormRefIdeal.nD Cert.OutNormRefIdeal.τ).loc Cert.OutNormRefIdeal.main_arg1) = m ((c.tc : Thread Cert.OutNormIdeal.nD Cert.OutNormIdeal.τ).loc Cert.OutNormIdeal.main_arg1)
      ∧ m' ((c.tc : Thread Cert.OutNormRefIdeal.nD Cert.OutNormRefIdeal.τ).loc Cert.OutNormRefIdeal.main_arg2) = m ((c.tc : Thread Cert.OutNormIdeal.nD Cert.OutNormIdeal.τ).loc Cert.OutNormIdeal.main_arg2)
      ∧ m' ((c.tc : Thread Cert.OutNormRefIdeal.nD Cert.OutNormRefIdeal.τ).loc Cert.OutNormRefIdeal.main_arg3) = m ((c.tc : Thread Cert.OutNormIdeal.nD Cert.OutNormIdeal.τ).loc Cert.OutNormIdeal.main_arg3)
      ∧ m' ((c.tc : Thread Cert.OutNormRefIdeal.nD Cert.OutNormRefIdeal.τ).loc Cert.OutNormRefIdeal.main_arg4) = m ((c.tc : Thread Cert.OutNormIdeal.nD Cert.OutNormIdeal.τ).loc Cert.OutNormIdeal.main_arg4)
      ∧ m' ((c.tc : Thread Cert.OutNormRefIdeal.nD Cert.OutNormRefIdeal.τ).loc Cert.OutNormRefIdeal.main_arg5) = m ((c.tc : Thread Cert.OutNormIdeal.nD Cert.OutNormIdeal.τ).loc Cert.OutNormIdeal.main_arg5)
      ∧ m' ((c.tc : Thread Cert.OutNormRefIdeal.nD Cert.OutNormRefIdeal.τ).loc Cert.OutNormRefIdeal.main_arg6) = m ((c.tc : Thread Cert.OutNormIdeal.nD Cert.OutNormIdeal.τ).loc Cert.OutNormIdeal.main_arg6)) →
    ∃ (v0 : (c : Dev Cert.OutNormIdeal.nD) → Buf (Elt Ideal) ((c.tc : Thread Cert.OutNormIdeal.nD Cert.OutNormIdeal.τ).loc Cert.OutNormIdeal.main_v3_0)) (v1 : (c : Dev Cert.OutNormIdeal.nD) → Buf (Elt Ideal) ((c.tc : Thread Cert.OutNormIdeal.nD Cert.OutNormIdeal.τ).loc Cert.OutNormIdeal.main_v3_1)) (v2 : (c : Dev Cert.OutNormIdeal.nD) → Buf (Elt Ideal) ((c.tc : Thread Cert.OutNormIdeal.nD Cert.OutNormIdeal.τ).loc Cert.OutNormIdeal.main_v3_2)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v3_0) = v0 c
          ∧ r.2.mem ((c.tc : Thread Cert.OutNormIdeal.nD Cert.OutNormIdeal.τ).loc Cert.OutNormIdeal.main_v3_1) = v1 c
          ∧ r.2.mem ((c.tc : Thread Cert.OutNormIdeal.nD Cert.OutNormIdeal.τ).loc Cert.OutNormIdeal.main_v3_2) = v2 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3)
          ∧ r.2.mem ((c.tc : Thread Cert.OutNormIdeal.nD Cert.OutNormIdeal.τ).loc Cert.OutNormIdeal.main_arg4) = m ((c.tc : Thread Cert.OutNormIdeal.nD Cert.OutNormIdeal.τ).loc Cert.OutNormIdeal.main_arg4)
          ∧ r.2.mem ((c.tc : Thread Cert.OutNormIdeal.nD Cert.OutNormIdeal.τ).loc Cert.OutNormIdeal.main_arg5) = m ((c.tc : Thread Cert.OutNormIdeal.nD Cert.OutNormIdeal.τ).loc Cert.OutNormIdeal.main_arg5)
          ∧ r.2.mem ((c.tc : Thread Cert.OutNormIdeal.nD Cert.OutNormIdeal.τ).loc Cert.OutNormIdeal.main_arg6) = m ((c.tc : Thread Cert.OutNormIdeal.nD Cert.OutNormIdeal.τ).loc Cert.OutNormIdeal.main_arg6))
      ∧ θ_run (Cert.OutNormRefIdeal.defs (F := Ideal)) (onTc (τ := Cert.OutNormRefIdeal.τ) (Cert.OutNormRefIdeal.main (F := Ideal))) ⟨m', fun _ => 0, g'⟩ (fun r => ∀ c : Dev Cert.OutNormRefIdeal.nD,
          r.2.mem ((c.tc : Thread Cert.OutNormRefIdeal.nD Cert.OutNormRefIdeal.τ).loc Cert.OutNormRefIdeal.main_v47) = v0 c
          ∧ r.2.mem ((c.tc : Thread Cert.OutNormRefIdeal.nD Cert.OutNormRefIdeal.τ).loc Cert.OutNormRefIdeal.main_v51) = v1 c
          ∧ r.2.mem ((c.tc : Thread Cert.OutNormRefIdeal.nD Cert.OutNormRefIdeal.τ).loc Cert.OutNormRefIdeal.main_v24) = v2 c
          ∧ r.2.mem ((c.tc : Thread Cert.OutNormRefIdeal.nD Cert.OutNormRefIdeal.τ).loc Cert.OutNormRefIdeal.main_arg0) = m' ((c.tc : Thread Cert.OutNormRefIdeal.nD Cert.OutNormRefIdeal.τ).loc Cert.OutNormRefIdeal.main_arg0)
          ∧ r.2.mem ((c.tc : Thread Cert.OutNormRefIdeal.nD Cert.OutNormRefIdeal.τ).loc Cert.OutNormRefIdeal.main_arg1) = m' ((c.tc : Thread Cert.OutNormRefIdeal.nD Cert.OutNormRefIdeal.τ).loc Cert.OutNormRefIdeal.main_arg1)
          ∧ r.2.mem ((c.tc : Thread Cert.OutNormRefIdeal.nD Cert.OutNormRefIdeal.τ).loc Cert.OutNormRefIdeal.main_arg2) = m' ((c.tc : Thread Cert.OutNormRefIdeal.nD Cert.OutNormRefIdeal.τ).loc Cert.OutNormRefIdeal.main_arg2)
          ∧ r.2.mem ((c.tc : Thread Cert.OutNormRefIdeal.nD Cert.OutNormRefIdeal.τ).loc Cert.OutNormRefIdeal.main_arg3) = m' ((c.tc : Thread Cert.OutNormRefIdeal.nD Cert.OutNormRefIdeal.τ).loc Cert.OutNormRefIdeal.main_arg3)
          ∧ r.2.mem ((c.tc : Thread Cert.OutNormRefIdeal.nD Cert.OutNormRefIdeal.τ).loc Cert.OutNormRefIdeal.main_arg4) = m' ((c.tc : Thread Cert.OutNormRefIdeal.nD Cert.OutNormRefIdeal.τ).loc Cert.OutNormRefIdeal.main_arg4)
          ∧ r.2.mem ((c.tc : Thread Cert.OutNormRefIdeal.nD Cert.OutNormRefIdeal.τ).loc Cert.OutNormRefIdeal.main_arg5) = m' ((c.tc : Thread Cert.OutNormRefIdeal.nD Cert.OutNormRefIdeal.τ).loc Cert.OutNormRefIdeal.main_arg5)
          ∧ r.2.mem ((c.tc : Thread Cert.OutNormRefIdeal.nD Cert.OutNormRefIdeal.τ).loc Cert.OutNormRefIdeal.main_arg6) = m' ((c.tc : Thread Cert.OutNormRefIdeal.nD Cert.OutNormRefIdeal.τ).loc Cert.OutNormRefIdeal.main_arg6))

def preserves_InUpdate_InUpdateIdeal : Prop :=
  True

def algebraic_InUpdateIdeal_InUpdateRefIdeal [hInUpdateIdeal : Cert.InUpdateIdeal.Facts] [hInUpdateRefIdeal : Cert.InUpdateRefIdeal.Facts] : Prop :=
  ∀ (m : (ℓ : Loc Cert.InUpdateIdeal.nD Cert.InUpdateIdeal.τ Cert.InUpdateIdeal.sig) → Buf (Elt Ideal) ℓ) (g : Dev Cert.InUpdateIdeal.nD → PrngReg)
    (m' : (ℓ : Loc Cert.InUpdateRefIdeal.nD Cert.InUpdateRefIdeal.τ Cert.InUpdateRefIdeal.sig) → Buf (Elt Ideal) ℓ) (g' : Dev Cert.InUpdateRefIdeal.nD → PrngReg), Pre_InUpdateIdeal m →
    (∀ c : Dev Cert.InUpdateIdeal.nD,
      m' ((c.tc : Thread Cert.InUpdateRefIdeal.nD Cert.InUpdateRefIdeal.τ).loc Cert.InUpdateRefIdeal.main_arg0) = m ((c.tc : Thread Cert.InUpdateIdeal.nD Cert.InUpdateIdeal.τ).loc Cert.InUpdateIdeal.main_arg0)
      ∧ m' ((c.tc : Thread Cert.InUpdateRefIdeal.nD Cert.InUpdateRefIdeal.τ).loc Cert.InUpdateRefIdeal.main_arg1) = m ((c.tc : Thread Cert.InUpdateIdeal.nD Cert.InUpdateIdeal.τ).loc Cert.InUpdateIdeal.main_arg1)
      ∧ m' ((c.tc : Thread Cert.InUpdateRefIdeal.nD Cert.InUpdateRefIdeal.τ).loc Cert.InUpdateRefIdeal.main_arg2) = m ((c.tc : Thread Cert.InUpdateIdeal.nD Cert.InUpdateIdeal.τ).loc Cert.InUpdateIdeal.main_arg2)
      ∧ m' ((c.tc : Thread Cert.InUpdateRefIdeal.nD Cert.InUpdateRefIdeal.τ).loc Cert.InUpdateRefIdeal.main_arg3) = m ((c.tc : Thread Cert.InUpdateIdeal.nD Cert.InUpdateIdeal.τ).loc Cert.InUpdateIdeal.main_arg3)
      ∧ m' ((c.tc : Thread Cert.InUpdateRefIdeal.nD Cert.InUpdateRefIdeal.τ).loc Cert.InUpdateRefIdeal.main_arg4) = m ((c.tc : Thread Cert.InUpdateIdeal.nD Cert.InUpdateIdeal.τ).loc Cert.InUpdateIdeal.main_arg4)) →
    ∃ (v0 : (c : Dev Cert.InUpdateIdeal.nD) → Buf (Elt Ideal) ((c.tc : Thread Cert.InUpdateIdeal.nD Cert.InUpdateIdeal.τ).loc Cert.InUpdateIdeal.main_v1_0)) (v1 : (c : Dev Cert.InUpdateIdeal.nD) → Buf (Elt Ideal) ((c.tc : Thread Cert.InUpdateIdeal.nD Cert.InUpdateIdeal.τ).loc Cert.InUpdateIdeal.main_v1_1)) (v2 : (c : Dev Cert.InUpdateIdeal.nD) → Buf (Elt Ideal) ((c.tc : Thread Cert.InUpdateIdeal.nD Cert.InUpdateIdeal.τ).loc Cert.InUpdateIdeal.main_v1_2)) (v3 : (c : Dev Cert.InUpdateIdeal.nD) → Buf (Elt Ideal) ((c.tc : Thread Cert.InUpdateIdeal.nD Cert.InUpdateIdeal.τ).loc Cert.InUpdateIdeal.main_v1_3)),
      θ_run (Cert.InUpdateIdeal.defs (F := Ideal)) (onTc (τ := Cert.InUpdateIdeal.τ) (Cert.InUpdateIdeal.main (F := Ideal))) ⟨m, fun _ => 0, g⟩ (fun r => ∀ c : Dev Cert.InUpdateIdeal.nD,
          r.2.mem ((c.tc : Thread Cert.InUpdateIdeal.nD Cert.InUpdateIdeal.τ).loc Cert.InUpdateIdeal.main_v1_0) = v0 c
          ∧ r.2.mem ((c.tc : Thread Cert.InUpdateIdeal.nD Cert.InUpdateIdeal.τ).loc Cert.InUpdateIdeal.main_v1_1) = v1 c
          ∧ r.2.mem ((c.tc : Thread Cert.InUpdateIdeal.nD Cert.InUpdateIdeal.τ).loc Cert.InUpdateIdeal.main_v1_2) = v2 c
          ∧ r.2.mem ((c.tc : Thread Cert.InUpdateIdeal.nD Cert.InUpdateIdeal.τ).loc Cert.InUpdateIdeal.main_v1_3) = v3 c
          ∧ r.2.mem ((c.tc : Thread Cert.InUpdateIdeal.nD Cert.InUpdateIdeal.τ).loc Cert.InUpdateIdeal.main_arg0) = m ((c.tc : Thread Cert.InUpdateIdeal.nD Cert.InUpdateIdeal.τ).loc Cert.InUpdateIdeal.main_arg0)
          ∧ r.2.mem ((c.tc : Thread Cert.InUpdateIdeal.nD Cert.InUpdateIdeal.τ).loc Cert.InUpdateIdeal.main_arg1) = m ((c.tc : Thread Cert.InUpdateIdeal.nD Cert.InUpdateIdeal.τ).loc Cert.InUpdateIdeal.main_arg1)
          ∧ r.2.mem ((c.tc : Thread Cert.InUpdateIdeal.nD Cert.InUpdateIdeal.τ).loc Cert.InUpdateIdeal.main_arg2) = m ((c.tc : Thread Cert.InUpdateIdeal.nD Cert.InUpdateIdeal.τ).loc Cert.InUpdateIdeal.main_arg2)
          ∧ r.2.mem ((c.tc : Thread Cert.InUpdateIdeal.nD Cert.InUpdateIdeal.τ).loc Cert.InUpdateIdeal.main_arg3) = m ((c.tc : Thread Cert.InUpdateIdeal.nD Cert.InUpdateIdeal.τ).loc Cert.InUpdateIdeal.main_arg3)
          ∧ r.2.mem ((c.tc : Thread Cert.InUpdateIdeal.nD Cert.InUpdateIdeal.τ).loc Cert.InUpdateIdeal.main_arg4) = m ((c.tc : Thread Cert.InUpdateIdeal.nD Cert.InUpdateIdeal.τ).loc Cert.InUpdateIdeal.main_arg4))
      ∧ θ_run (Cert.InUpdateRefIdeal.defs (F := Ideal)) (onTc (τ := Cert.InUpdateRefIdeal.τ) (Cert.InUpdateRefIdeal.main (F := Ideal))) ⟨m', fun _ => 0, g'⟩ (fun r => ∀ c : Dev Cert.InUpdateRefIdeal.nD,
          r.2.mem ((c.tc : Thread Cert.InUpdateRefIdeal.nD Cert.InUpdateRefIdeal.τ).loc Cert.InUpdateRefIdeal.main_v4) = v0 c
          ∧ r.2.mem ((c.tc : Thread Cert.InUpdateRefIdeal.nD Cert.InUpdateRefIdeal.τ).loc Cert.InUpdateRefIdeal.main_v28) = v1 c
          ∧ r.2.mem ((c.tc : Thread Cert.InUpdateRefIdeal.nD Cert.InUpdateRefIdeal.τ).loc Cert.InUpdateRefIdeal.main_v9) = v2 c
          ∧ r.2.mem ((c.tc : Thread Cert.InUpdateRefIdeal.nD Cert.InUpdateRefIdeal.τ).loc Cert.InUpdateRefIdeal.main_v15) = v3 c
          ∧ r.2.mem ((c.tc : Thread Cert.InUpdateRefIdeal.nD Cert.InUpdateRefIdeal.τ).loc Cert.InUpdateRefIdeal.main_arg0) = m' ((c.tc : Thread Cert.InUpdateRefIdeal.nD Cert.InUpdateRefIdeal.τ).loc Cert.InUpdateRefIdeal.main_arg0)
          ∧ r.2.mem ((c.tc : Thread Cert.InUpdateRefIdeal.nD Cert.InUpdateRefIdeal.τ).loc Cert.InUpdateRefIdeal.main_arg1) = m' ((c.tc : Thread Cert.InUpdateRefIdeal.nD Cert.InUpdateRefIdeal.τ).loc Cert.InUpdateRefIdeal.main_arg1)
          ∧ r.2.mem ((c.tc : Thread Cert.InUpdateRefIdeal.nD Cert.InUpdateRefIdeal.τ).loc Cert.InUpdateRefIdeal.main_arg2) = m' ((c.tc : Thread Cert.InUpdateRefIdeal.nD Cert.InUpdateRefIdeal.τ).loc Cert.InUpdateRefIdeal.main_arg2)
          ∧ r.2.mem ((c.tc : Thread Cert.InUpdateRefIdeal.nD Cert.InUpdateRefIdeal.τ).loc Cert.InUpdateRefIdeal.main_arg3) = m' ((c.tc : Thread Cert.InUpdateRefIdeal.nD Cert.InUpdateRefIdeal.τ).loc Cert.InUpdateRefIdeal.main_arg3)
          ∧ r.2.mem ((c.tc : Thread Cert.InUpdateRefIdeal.nD Cert.InUpdateRefIdeal.τ).loc Cert.InUpdateRefIdeal.main_arg4) = m' ((c.tc : Thread Cert.InUpdateRefIdeal.nD Cert.InUpdateRefIdeal.τ).loc Cert.InUpdateRefIdeal.main_arg4))

def preserves_OutUpdate_OutUpdateIdeal : Prop :=
  True

def algebraic_OutUpdateIdeal_OutUpdateRefIdeal [hOutUpdateIdeal : Cert.OutUpdateIdeal.Facts] [hOutUpdateRefIdeal : Cert.OutUpdateRefIdeal.Facts] : Prop :=
  ∀ (m : (ℓ : Loc Cert.OutUpdateIdeal.nD Cert.OutUpdateIdeal.τ Cert.OutUpdateIdeal.sig) → Buf (Elt Ideal) ℓ) (g : Dev Cert.OutUpdateIdeal.nD → PrngReg)
    (m' : (ℓ : Loc Cert.OutUpdateRefIdeal.nD Cert.OutUpdateRefIdeal.τ Cert.OutUpdateRefIdeal.sig) → Buf (Elt Ideal) ℓ) (g' : Dev Cert.OutUpdateRefIdeal.nD → PrngReg), Pre_OutUpdateIdeal m →
    (∀ c : Dev Cert.OutUpdateIdeal.nD,
      m' ((c.tc : Thread Cert.OutUpdateRefIdeal.nD Cert.OutUpdateRefIdeal.τ).loc Cert.OutUpdateRefIdeal.main_arg0) = m ((c.tc : Thread Cert.OutUpdateIdeal.nD Cert.OutUpdateIdeal.τ).loc Cert.OutUpdateIdeal.main_arg0)
      ∧ m' ((c.tc : Thread Cert.OutUpdateRefIdeal.nD Cert.OutUpdateRefIdeal.τ).loc Cert.OutUpdateRefIdeal.main_arg1) = m ((c.tc : Thread Cert.OutUpdateIdeal.nD Cert.OutUpdateIdeal.τ).loc Cert.OutUpdateIdeal.main_arg1)
      ∧ m' ((c.tc : Thread Cert.OutUpdateRefIdeal.nD Cert.OutUpdateRefIdeal.τ).loc Cert.OutUpdateRefIdeal.main_arg2) = m ((c.tc : Thread Cert.OutUpdateIdeal.nD Cert.OutUpdateIdeal.τ).loc Cert.OutUpdateIdeal.main_arg2)
      ∧ m' ((c.tc : Thread Cert.OutUpdateRefIdeal.nD Cert.OutUpdateRefIdeal.τ).loc Cert.OutUpdateRefIdeal.main_arg3) = m ((c.tc : Thread Cert.OutUpdateIdeal.nD Cert.OutUpdateIdeal.τ).loc Cert.OutUpdateIdeal.main_arg3)
      ∧ m' ((c.tc : Thread Cert.OutUpdateRefIdeal.nD Cert.OutUpdateRefIdeal.τ).loc Cert.OutUpdateRefIdeal.main_arg4) = m ((c.tc : Thread Cert.OutUpdateIdeal.nD Cert.OutUpdateIdeal.τ).loc Cert.OutUpdateIdeal.main_arg4)) →
    ∃ (v0 : (c : Dev Cert.OutUpdateIdeal.nD) → Buf (Elt Ideal) ((c.tc : Thread Cert.OutUpdateIdeal.nD Cert.OutUpdateIdeal.τ).loc Cert.OutUpdateIdeal.main_v1_0)) (v1 : (c : Dev Cert.OutUpdateIdeal.nD) → Buf (Elt Ideal) ((c.tc : Thread Cert.OutUpdateIdeal.nD Cert.OutUpdateIdeal.τ).loc Cert.OutUpdateIdeal.main_v1_1)) (v2 : (c : Dev Cert.OutUpdateIdeal.nD) → Buf (Elt Ideal) ((c.tc : Thread Cert.OutUpdateIdeal.nD Cert.OutUpdateIdeal.τ).loc Cert.OutUpdateIdeal.main_v1_2)) (v3 : (c : Dev Cert.OutUpdateIdeal.nD) → Buf (Elt Ideal) ((c.tc : Thread Cert.OutUpdateIdeal.nD Cert.OutUpdateIdeal.τ).loc Cert.OutUpdateIdeal.main_v1_3)),
      θ_run (Cert.OutUpdateIdeal.defs (F := Ideal)) (onTc (τ := Cert.OutUpdateIdeal.τ) (Cert.OutUpdateIdeal.main (F := Ideal))) ⟨m, fun _ => 0, g⟩ (fun r => ∀ c : Dev Cert.OutUpdateIdeal.nD,
          r.2.mem ((c.tc : Thread Cert.OutUpdateIdeal.nD Cert.OutUpdateIdeal.τ).loc Cert.OutUpdateIdeal.main_v1_0) = v0 c
          ∧ r.2.mem ((c.tc : Thread Cert.OutUpdateIdeal.nD Cert.OutUpdateIdeal.τ).loc Cert.OutUpdateIdeal.main_v1_1) = v1 c
          ∧ r.2.mem ((c.tc : Thread Cert.OutUpdateIdeal.nD Cert.OutUpdateIdeal.τ).loc Cert.OutUpdateIdeal.main_v1_2) = v2 c
          ∧ r.2.mem ((c.tc : Thread Cert.OutUpdateIdeal.nD Cert.OutUpdateIdeal.τ).loc Cert.OutUpdateIdeal.main_v1_3) = v3 c
          ∧ r.2.mem ((c.tc : Thread Cert.OutUpdateIdeal.nD Cert.OutUpdateIdeal.τ).loc Cert.OutUpdateIdeal.main_arg0) = m ((c.tc : Thread Cert.OutUpdateIdeal.nD Cert.OutUpdateIdeal.τ).loc Cert.OutUpdateIdeal.main_arg0)
          ∧ r.2.mem ((c.tc : Thread Cert.OutUpdateIdeal.nD Cert.OutUpdateIdeal.τ).loc Cert.OutUpdateIdeal.main_arg1) = m ((c.tc : Thread Cert.OutUpdateIdeal.nD Cert.OutUpdateIdeal.τ).loc Cert.OutUpdateIdeal.main_arg1)
          ∧ r.2.mem ((c.tc : Thread Cert.OutUpdateIdeal.nD Cert.OutUpdateIdeal.τ).loc Cert.OutUpdateIdeal.main_arg2) = m ((c.tc : Thread Cert.OutUpdateIdeal.nD Cert.OutUpdateIdeal.τ).loc Cert.OutUpdateIdeal.main_arg2)
          ∧ r.2.mem ((c.tc : Thread Cert.OutUpdateIdeal.nD Cert.OutUpdateIdeal.τ).loc Cert.OutUpdateIdeal.main_arg3) = m ((c.tc : Thread Cert.OutUpdateIdeal.nD Cert.OutUpdateIdeal.τ).loc Cert.OutUpdateIdeal.main_arg3)
          ∧ r.2.mem ((c.tc : Thread Cert.OutUpdateIdeal.nD Cert.OutUpdateIdeal.τ).loc Cert.OutUpdateIdeal.main_arg4) = m ((c.tc : Thread Cert.OutUpdateIdeal.nD Cert.OutUpdateIdeal.τ).loc Cert.OutUpdateIdeal.main_arg4))
      ∧ θ_run (Cert.OutUpdateRefIdeal.defs (F := Ideal)) (onTc (τ := Cert.OutUpdateRefIdeal.τ) (Cert.OutUpdateRefIdeal.main (F := Ideal))) ⟨m', fun _ => 0, g'⟩ (fun r => ∀ c : Dev Cert.OutUpdateRefIdeal.nD,
          r.2.mem ((c.tc : Thread Cert.OutUpdateRefIdeal.nD Cert.OutUpdateRefIdeal.τ).loc Cert.OutUpdateRefIdeal.main_v4) = v0 c
          ∧ r.2.mem ((c.tc : Thread Cert.OutUpdateRefIdeal.nD Cert.OutUpdateRefIdeal.τ).loc Cert.OutUpdateRefIdeal.main_v28) = v1 c
          ∧ r.2.mem ((c.tc : Thread Cert.OutUpdateRefIdeal.nD Cert.OutUpdateRefIdeal.τ).loc Cert.OutUpdateRefIdeal.main_v9) = v2 c
          ∧ r.2.mem ((c.tc : Thread Cert.OutUpdateRefIdeal.nD Cert.OutUpdateRefIdeal.τ).loc Cert.OutUpdateRefIdeal.main_v15) = v3 c
          ∧ r.2.mem ((c.tc : Thread Cert.OutUpdateRefIdeal.nD Cert.OutUpdateRefIdeal.τ).loc Cert.OutUpdateRefIdeal.main_arg0) = m' ((c.tc : Thread Cert.OutUpdateRefIdeal.nD Cert.OutUpdateRefIdeal.τ).loc Cert.OutUpdateRefIdeal.main_arg0)
          ∧ r.2.mem ((c.tc : Thread Cert.OutUpdateRefIdeal.nD Cert.OutUpdateRefIdeal.τ).loc Cert.OutUpdateRefIdeal.main_arg1) = m' ((c.tc : Thread Cert.OutUpdateRefIdeal.nD Cert.OutUpdateRefIdeal.τ).loc Cert.OutUpdateRefIdeal.main_arg1)
          ∧ r.2.mem ((c.tc : Thread Cert.OutUpdateRefIdeal.nD Cert.OutUpdateRefIdeal.τ).loc Cert.OutUpdateRefIdeal.main_arg2) = m' ((c.tc : Thread Cert.OutUpdateRefIdeal.nD Cert.OutUpdateRefIdeal.τ).loc Cert.OutUpdateRefIdeal.main_arg2)
          ∧ r.2.mem ((c.tc : Thread Cert.OutUpdateRefIdeal.nD Cert.OutUpdateRefIdeal.τ).loc Cert.OutUpdateRefIdeal.main_arg3) = m' ((c.tc : Thread Cert.OutUpdateRefIdeal.nD Cert.OutUpdateRefIdeal.τ).loc Cert.OutUpdateRefIdeal.main_arg3)
          ∧ r.2.mem ((c.tc : Thread Cert.OutUpdateRefIdeal.nD Cert.OutUpdateRefIdeal.τ).loc Cert.OutUpdateRefIdeal.main_arg4) = m' ((c.tc : Thread Cert.OutUpdateRefIdeal.nD Cert.OutUpdateRefIdeal.τ).loc Cert.OutUpdateRefIdeal.main_arg4))

def preserves_NormUpdate_NormUpdateIdeal : Prop :=
  True

def algebraic_NormUpdateIdeal_NormUpdateRefIdeal [hNormUpdateIdeal : Cert.NormUpdateIdeal.Facts] [hNormUpdateRefIdeal : Cert.NormUpdateRefIdeal.Facts] : Prop :=
  ∀ (m : (ℓ : Loc Cert.NormUpdateIdeal.nD Cert.NormUpdateIdeal.τ Cert.NormUpdateIdeal.sig) → Buf (Elt Ideal) ℓ) (g : Dev Cert.NormUpdateIdeal.nD → PrngReg)
    (m' : (ℓ : Loc Cert.NormUpdateRefIdeal.nD Cert.NormUpdateRefIdeal.τ Cert.NormUpdateRefIdeal.sig) → Buf (Elt Ideal) ℓ) (g' : Dev Cert.NormUpdateRefIdeal.nD → PrngReg), Pre_NormUpdateIdeal m →
    (∀ c : Dev Cert.NormUpdateIdeal.nD,
      m' ((c.tc : Thread Cert.NormUpdateRefIdeal.nD Cert.NormUpdateRefIdeal.τ).loc Cert.NormUpdateRefIdeal.main_arg0) = m ((c.tc : Thread Cert.NormUpdateIdeal.nD Cert.NormUpdateIdeal.τ).loc Cert.NormUpdateIdeal.main_arg0)
      ∧ m' ((c.tc : Thread Cert.NormUpdateRefIdeal.nD Cert.NormUpdateRefIdeal.τ).loc Cert.NormUpdateRefIdeal.main_arg1) = m ((c.tc : Thread Cert.NormUpdateIdeal.nD Cert.NormUpdateIdeal.τ).loc Cert.NormUpdateIdeal.main_arg1)
      ∧ m' ((c.tc : Thread Cert.NormUpdateRefIdeal.nD Cert.NormUpdateRefIdeal.τ).loc Cert.NormUpdateRefIdeal.main_arg2) = m ((c.tc : Thread Cert.NormUpdateIdeal.nD Cert.NormUpdateIdeal.τ).loc Cert.NormUpdateIdeal.main_arg2)
      ∧ m' ((c.tc : Thread Cert.NormUpdateRefIdeal.nD Cert.NormUpdateRefIdeal.τ).loc Cert.NormUpdateRefIdeal.main_arg3) = m ((c.tc : Thread Cert.NormUpdateIdeal.nD Cert.NormUpdateIdeal.τ).loc Cert.NormUpdateIdeal.main_arg3)) →
    ∃ (v0 : (c : Dev Cert.NormUpdateIdeal.nD) → Buf (Elt Ideal) ((c.tc : Thread Cert.NormUpdateIdeal.nD Cert.NormUpdateIdeal.τ).loc Cert.NormUpdateIdeal.main_v0_0)) (v1 : (c : Dev Cert.NormUpdateIdeal.nD) → Buf (Elt Ideal) ((c.tc : Thread Cert.NormUpdateIdeal.nD Cert.NormUpdateIdeal.τ).loc Cert.NormUpdateIdeal.main_v0_1)) (v2 : (c : Dev Cert.NormUpdateIdeal.nD) → Buf (Elt Ideal) ((c.tc : Thread Cert.NormUpdateIdeal.nD Cert.NormUpdateIdeal.τ).loc Cert.NormUpdateIdeal.main_v0_2)),
      θ_run (Cert.NormUpdateIdeal.defs (F := Ideal)) (onTc (τ := Cert.NormUpdateIdeal.τ) (Cert.NormUpdateIdeal.main (F := Ideal))) ⟨m, fun _ => 0, g⟩ (fun r => ∀ c : Dev Cert.NormUpdateIdeal.nD,
          r.2.mem ((c.tc : Thread Cert.NormUpdateIdeal.nD Cert.NormUpdateIdeal.τ).loc Cert.NormUpdateIdeal.main_v0_0) = v0 c
          ∧ r.2.mem ((c.tc : Thread Cert.NormUpdateIdeal.nD Cert.NormUpdateIdeal.τ).loc Cert.NormUpdateIdeal.main_v0_1) = v1 c
          ∧ r.2.mem ((c.tc : Thread Cert.NormUpdateIdeal.nD Cert.NormUpdateIdeal.τ).loc Cert.NormUpdateIdeal.main_v0_2) = v2 c
          ∧ r.2.mem ((c.tc : Thread Cert.NormUpdateIdeal.nD Cert.NormUpdateIdeal.τ).loc Cert.NormUpdateIdeal.main_arg0) = m ((c.tc : Thread Cert.NormUpdateIdeal.nD Cert.NormUpdateIdeal.τ).loc Cert.NormUpdateIdeal.main_arg0)
          ∧ r.2.mem ((c.tc : Thread Cert.NormUpdateIdeal.nD Cert.NormUpdateIdeal.τ).loc Cert.NormUpdateIdeal.main_arg1) = m ((c.tc : Thread Cert.NormUpdateIdeal.nD Cert.NormUpdateIdeal.τ).loc Cert.NormUpdateIdeal.main_arg1)
          ∧ r.2.mem ((c.tc : Thread Cert.NormUpdateIdeal.nD Cert.NormUpdateIdeal.τ).loc Cert.NormUpdateIdeal.main_arg2) = m ((c.tc : Thread Cert.NormUpdateIdeal.nD Cert.NormUpdateIdeal.τ).loc Cert.NormUpdateIdeal.main_arg2)
          ∧ r.2.mem ((c.tc : Thread Cert.NormUpdateIdeal.nD Cert.NormUpdateIdeal.τ).loc Cert.NormUpdateIdeal.main_arg3) = m ((c.tc : Thread Cert.NormUpdateIdeal.nD Cert.NormUpdateIdeal.τ).loc Cert.NormUpdateIdeal.main_arg3))
      ∧ θ_run (Cert.NormUpdateRefIdeal.defs (F := Ideal)) (onTc (τ := Cert.NormUpdateRefIdeal.τ) (Cert.NormUpdateRefIdeal.main (F := Ideal))) ⟨m', fun _ => 0, g'⟩ (fun r => ∀ c : Dev Cert.NormUpdateRefIdeal.nD,
          r.2.mem ((c.tc : Thread Cert.NormUpdateRefIdeal.nD Cert.NormUpdateRefIdeal.τ).loc Cert.NormUpdateRefIdeal.main_v23) = v0 c
          ∧ r.2.mem ((c.tc : Thread Cert.NormUpdateRefIdeal.nD Cert.NormUpdateRefIdeal.τ).loc Cert.NormUpdateRefIdeal.main_v4) = v1 c
          ∧ r.2.mem ((c.tc : Thread Cert.NormUpdateRefIdeal.nD Cert.NormUpdateRefIdeal.τ).loc Cert.NormUpdateRefIdeal.main_v10) = v2 c
          ∧ r.2.mem ((c.tc : Thread Cert.NormUpdateRefIdeal.nD Cert.NormUpdateRefIdeal.τ).loc Cert.NormUpdateRefIdeal.main_arg0) = m' ((c.tc : Thread Cert.NormUpdateRefIdeal.nD Cert.NormUpdateRefIdeal.τ).loc Cert.NormUpdateRefIdeal.main_arg0)
          ∧ r.2.mem ((c.tc : Thread Cert.NormUpdateRefIdeal.nD Cert.NormUpdateRefIdeal.τ).loc Cert.NormUpdateRefIdeal.main_arg1) = m' ((c.tc : Thread Cert.NormUpdateRefIdeal.nD Cert.NormUpdateRefIdeal.τ).loc Cert.NormUpdateRefIdeal.main_arg1)
          ∧ r.2.mem ((c.tc : Thread Cert.NormUpdateRefIdeal.nD Cert.NormUpdateRefIdeal.τ).loc Cert.NormUpdateRefIdeal.main_arg2) = m' ((c.tc : Thread Cert.NormUpdateRefIdeal.nD Cert.NormUpdateRefIdeal.τ).loc Cert.NormUpdateRefIdeal.main_arg2)
          ∧ r.2.mem ((c.tc : Thread Cert.NormUpdateRefIdeal.nD Cert.NormUpdateRefIdeal.τ).loc Cert.NormUpdateRefIdeal.main_arg3) = m' ((c.tc : Thread Cert.NormUpdateRefIdeal.nD Cert.NormUpdateRefIdeal.τ).loc Cert.NormUpdateRefIdeal.main_arg3))

def preserves_PoolWeightUpdate_PoolWeightUpdateIdeal : Prop :=
  True

def algebraic_PoolWeightUpdateIdeal_PoolWeightUpdateRefIdeal [hPoolWeightUpdateIdeal : Cert.PoolWeightUpdateIdeal.Facts] [hPoolWeightUpdateRefIdeal : Cert.PoolWeightUpdateRefIdeal.Facts] : Prop :=
  ∀ (m : (ℓ : Loc Cert.PoolWeightUpdateIdeal.nD Cert.PoolWeightUpdateIdeal.τ Cert.PoolWeightUpdateIdeal.sig) → Buf (Elt Ideal) ℓ) (g : Dev Cert.PoolWeightUpdateIdeal.nD → PrngReg)
    (m' : (ℓ : Loc Cert.PoolWeightUpdateRefIdeal.nD Cert.PoolWeightUpdateRefIdeal.τ Cert.PoolWeightUpdateRefIdeal.sig) → Buf (Elt Ideal) ℓ) (g' : Dev Cert.PoolWeightUpdateRefIdeal.nD → PrngReg), Pre_PoolWeightUpdateIdeal m →
    (∀ c : Dev Cert.PoolWeightUpdateIdeal.nD,
      m' ((c.tc : Thread Cert.PoolWeightUpdateRefIdeal.nD Cert.PoolWeightUpdateRefIdeal.τ).loc Cert.PoolWeightUpdateRefIdeal.main_arg0) = m ((c.tc : Thread Cert.PoolWeightUpdateIdeal.nD Cert.PoolWeightUpdateIdeal.τ).loc Cert.PoolWeightUpdateIdeal.main_arg0)
      ∧ m' ((c.tc : Thread Cert.PoolWeightUpdateRefIdeal.nD Cert.PoolWeightUpdateRefIdeal.τ).loc Cert.PoolWeightUpdateRefIdeal.main_arg1) = m ((c.tc : Thread Cert.PoolWeightUpdateIdeal.nD Cert.PoolWeightUpdateIdeal.τ).loc Cert.PoolWeightUpdateIdeal.main_arg1)
      ∧ m' ((c.tc : Thread Cert.PoolWeightUpdateRefIdeal.nD Cert.PoolWeightUpdateRefIdeal.τ).loc Cert.PoolWeightUpdateRefIdeal.main_arg2) = m ((c.tc : Thread Cert.PoolWeightUpdateIdeal.nD Cert.PoolWeightUpdateIdeal.τ).loc Cert.PoolWeightUpdateIdeal.main_arg2)
      ∧ m' ((c.tc : Thread Cert.PoolWeightUpdateRefIdeal.nD Cert.PoolWeightUpdateRefIdeal.τ).loc Cert.PoolWeightUpdateRefIdeal.main_arg3) = m ((c.tc : Thread Cert.PoolWeightUpdateIdeal.nD Cert.PoolWeightUpdateIdeal.τ).loc Cert.PoolWeightUpdateIdeal.main_arg3)) →
    ∃ (v0 : (c : Dev Cert.PoolWeightUpdateIdeal.nD) → Buf (Elt Ideal) ((c.tc : Thread Cert.PoolWeightUpdateIdeal.nD Cert.PoolWeightUpdateIdeal.τ).loc Cert.PoolWeightUpdateIdeal.main_v4_0)) (v1 : (c : Dev Cert.PoolWeightUpdateIdeal.nD) → Buf (Elt Ideal) ((c.tc : Thread Cert.PoolWeightUpdateIdeal.nD Cert.PoolWeightUpdateIdeal.τ).loc Cert.PoolWeightUpdateIdeal.main_v4_1)) (v2 : (c : Dev Cert.PoolWeightUpdateIdeal.nD) → Buf (Elt Ideal) ((c.tc : Thread Cert.PoolWeightUpdateIdeal.nD Cert.PoolWeightUpdateIdeal.τ).loc Cert.PoolWeightUpdateIdeal.main_v4_2)),
      θ_run (Cert.PoolWeightUpdateIdeal.defs (F := Ideal)) (onTc (τ := Cert.PoolWeightUpdateIdeal.τ) (Cert.PoolWeightUpdateIdeal.main (F := Ideal))) ⟨m, fun _ => 0, g⟩ (fun r => ∀ c : Dev Cert.PoolWeightUpdateIdeal.nD,
          r.2.mem ((c.tc : Thread Cert.PoolWeightUpdateIdeal.nD Cert.PoolWeightUpdateIdeal.τ).loc Cert.PoolWeightUpdateIdeal.main_v4_0) = v0 c
          ∧ r.2.mem ((c.tc : Thread Cert.PoolWeightUpdateIdeal.nD Cert.PoolWeightUpdateIdeal.τ).loc Cert.PoolWeightUpdateIdeal.main_v4_1) = v1 c
          ∧ r.2.mem ((c.tc : Thread Cert.PoolWeightUpdateIdeal.nD Cert.PoolWeightUpdateIdeal.τ).loc Cert.PoolWeightUpdateIdeal.main_v4_2) = v2 c
          ∧ r.2.mem ((c.tc : Thread Cert.PoolWeightUpdateIdeal.nD Cert.PoolWeightUpdateIdeal.τ).loc Cert.PoolWeightUpdateIdeal.main_arg0) = m ((c.tc : Thread Cert.PoolWeightUpdateIdeal.nD Cert.PoolWeightUpdateIdeal.τ).loc Cert.PoolWeightUpdateIdeal.main_arg0)
          ∧ r.2.mem ((c.tc : Thread Cert.PoolWeightUpdateIdeal.nD Cert.PoolWeightUpdateIdeal.τ).loc Cert.PoolWeightUpdateIdeal.main_arg1) = m ((c.tc : Thread Cert.PoolWeightUpdateIdeal.nD Cert.PoolWeightUpdateIdeal.τ).loc Cert.PoolWeightUpdateIdeal.main_arg1)
          ∧ r.2.mem ((c.tc : Thread Cert.PoolWeightUpdateIdeal.nD Cert.PoolWeightUpdateIdeal.τ).loc Cert.PoolWeightUpdateIdeal.main_arg2) = m ((c.tc : Thread Cert.PoolWeightUpdateIdeal.nD Cert.PoolWeightUpdateIdeal.τ).loc Cert.PoolWeightUpdateIdeal.main_arg2)
          ∧ r.2.mem ((c.tc : Thread Cert.PoolWeightUpdateIdeal.nD Cert.PoolWeightUpdateIdeal.τ).loc Cert.PoolWeightUpdateIdeal.main_arg3) = m ((c.tc : Thread Cert.PoolWeightUpdateIdeal.nD Cert.PoolWeightUpdateIdeal.τ).loc Cert.PoolWeightUpdateIdeal.main_arg3))
      ∧ θ_run (Cert.PoolWeightUpdateRefIdeal.defs (F := Ideal)) (onTc (τ := Cert.PoolWeightUpdateRefIdeal.τ) (Cert.PoolWeightUpdateRefIdeal.main (F := Ideal))) ⟨m', fun _ => 0, g'⟩ (fun r => ∀ c : Dev Cert.PoolWeightUpdateRefIdeal.nD,
          r.2.mem ((c.tc : Thread Cert.PoolWeightUpdateRefIdeal.nD Cert.PoolWeightUpdateRefIdeal.τ).loc Cert.PoolWeightUpdateRefIdeal.main_v24) = v0 c
          ∧ r.2.mem ((c.tc : Thread Cert.PoolWeightUpdateRefIdeal.nD Cert.PoolWeightUpdateRefIdeal.τ).loc Cert.PoolWeightUpdateRefIdeal.main_v25) = v1 c
          ∧ r.2.mem ((c.tc : Thread Cert.PoolWeightUpdateRefIdeal.nD Cert.PoolWeightUpdateRefIdeal.τ).loc Cert.PoolWeightUpdateRefIdeal.main_v26) = v2 c
          ∧ r.2.mem ((c.tc : Thread Cert.PoolWeightUpdateRefIdeal.nD Cert.PoolWeightUpdateRefIdeal.τ).loc Cert.PoolWeightUpdateRefIdeal.main_arg0) = m' ((c.tc : Thread Cert.PoolWeightUpdateRefIdeal.nD Cert.PoolWeightUpdateRefIdeal.τ).loc Cert.PoolWeightUpdateRefIdeal.main_arg0)
          ∧ r.2.mem ((c.tc : Thread Cert.PoolWeightUpdateRefIdeal.nD Cert.PoolWeightUpdateRefIdeal.τ).loc Cert.PoolWeightUpdateRefIdeal.main_arg1) = m' ((c.tc : Thread Cert.PoolWeightUpdateRefIdeal.nD Cert.PoolWeightUpdateRefIdeal.τ).loc Cert.PoolWeightUpdateRefIdeal.main_arg1)
          ∧ r.2.mem ((c.tc : Thread Cert.PoolWeightUpdateRefIdeal.nD Cert.PoolWeightUpdateRefIdeal.τ).loc Cert.PoolWeightUpdateRefIdeal.main_arg2) = m' ((c.tc : Thread Cert.PoolWeightUpdateRefIdeal.nD Cert.PoolWeightUpdateRefIdeal.τ).loc Cert.PoolWeightUpdateRefIdeal.main_arg2)
          ∧ r.2.mem ((c.tc : Thread Cert.PoolWeightUpdateRefIdeal.nD Cert.PoolWeightUpdateRefIdeal.τ).loc Cert.PoolWeightUpdateRefIdeal.main_arg3) = m' ((c.tc : Thread Cert.PoolWeightUpdateRefIdeal.nD Cert.PoolWeightUpdateRefIdeal.τ).loc Cert.PoolWeightUpdateRefIdeal.main_arg3))

def preserves_ScaleUpdate_ScaleUpdateIdeal : Prop :=
  True

def algebraic_ScaleUpdateIdeal_ScaleUpdateRefIdeal [hScaleUpdateIdeal : Cert.ScaleUpdateIdeal.Facts] [hScaleUpdateRefIdeal : Cert.ScaleUpdateRefIdeal.Facts] : Prop :=
  ∀ (m : (ℓ : Loc Cert.ScaleUpdateIdeal.nD Cert.ScaleUpdateIdeal.τ Cert.ScaleUpdateIdeal.sig) → Buf (Elt Ideal) ℓ) (g : Dev Cert.ScaleUpdateIdeal.nD → PrngReg)
    (m' : (ℓ : Loc Cert.ScaleUpdateRefIdeal.nD Cert.ScaleUpdateRefIdeal.τ Cert.ScaleUpdateRefIdeal.sig) → Buf (Elt Ideal) ℓ) (g' : Dev Cert.ScaleUpdateRefIdeal.nD → PrngReg), Pre_ScaleUpdateIdeal m →
    (∀ c : Dev Cert.ScaleUpdateIdeal.nD,
      m' ((c.tc : Thread Cert.ScaleUpdateRefIdeal.nD Cert.ScaleUpdateRefIdeal.τ).loc Cert.ScaleUpdateRefIdeal.main_arg0) = m ((c.tc : Thread Cert.ScaleUpdateIdeal.nD Cert.ScaleUpdateIdeal.τ).loc Cert.ScaleUpdateIdeal.main_arg0)
      ∧ m' ((c.tc : Thread Cert.ScaleUpdateRefIdeal.nD Cert.ScaleUpdateRefIdeal.τ).loc Cert.ScaleUpdateRefIdeal.main_arg1) = m ((c.tc : Thread Cert.ScaleUpdateIdeal.nD Cert.ScaleUpdateIdeal.τ).loc Cert.ScaleUpdateIdeal.main_arg1)
      ∧ m' ((c.tc : Thread Cert.ScaleUpdateRefIdeal.nD Cert.ScaleUpdateRefIdeal.τ).loc Cert.ScaleUpdateRefIdeal.main_arg2) = m ((c.tc : Thread Cert.ScaleUpdateIdeal.nD Cert.ScaleUpdateIdeal.τ).loc Cert.ScaleUpdateIdeal.main_arg2)
      ∧ m' ((c.tc : Thread Cert.ScaleUpdateRefIdeal.nD Cert.ScaleUpdateRefIdeal.τ).loc Cert.ScaleUpdateRefIdeal.main_arg3) = m ((c.tc : Thread Cert.ScaleUpdateIdeal.nD Cert.ScaleUpdateIdeal.τ).loc Cert.ScaleUpdateIdeal.main_arg3)) →
    ∃ (v0 : (c : Dev Cert.ScaleUpdateIdeal.nD) → Buf (Elt Ideal) ((c.tc : Thread Cert.ScaleUpdateIdeal.nD Cert.ScaleUpdateIdeal.τ).loc Cert.ScaleUpdateIdeal.main_v0_0)) (v1 : (c : Dev Cert.ScaleUpdateIdeal.nD) → Buf (Elt Ideal) ((c.tc : Thread Cert.ScaleUpdateIdeal.nD Cert.ScaleUpdateIdeal.τ).loc Cert.ScaleUpdateIdeal.main_v0_1)) (v2 : (c : Dev Cert.ScaleUpdateIdeal.nD) → Buf (Elt Ideal) ((c.tc : Thread Cert.ScaleUpdateIdeal.nD Cert.ScaleUpdateIdeal.τ).loc Cert.ScaleUpdateIdeal.main_v0_2)),
      θ_run (Cert.ScaleUpdateIdeal.defs (F := Ideal)) (onTc (τ := Cert.ScaleUpdateIdeal.τ) (Cert.ScaleUpdateIdeal.main (F := Ideal))) ⟨m, fun _ => 0, g⟩ (fun r => ∀ c : Dev Cert.ScaleUpdateIdeal.nD,
          r.2.mem ((c.tc : Thread Cert.ScaleUpdateIdeal.nD Cert.ScaleUpdateIdeal.τ).loc Cert.ScaleUpdateIdeal.main_v0_0) = v0 c
          ∧ r.2.mem ((c.tc : Thread Cert.ScaleUpdateIdeal.nD Cert.ScaleUpdateIdeal.τ).loc Cert.ScaleUpdateIdeal.main_v0_1) = v1 c
          ∧ r.2.mem ((c.tc : Thread Cert.ScaleUpdateIdeal.nD Cert.ScaleUpdateIdeal.τ).loc Cert.ScaleUpdateIdeal.main_v0_2) = v2 c
          ∧ r.2.mem ((c.tc : Thread Cert.ScaleUpdateIdeal.nD Cert.ScaleUpdateIdeal.τ).loc Cert.ScaleUpdateIdeal.main_arg0) = m ((c.tc : Thread Cert.ScaleUpdateIdeal.nD Cert.ScaleUpdateIdeal.τ).loc Cert.ScaleUpdateIdeal.main_arg0)
          ∧ r.2.mem ((c.tc : Thread Cert.ScaleUpdateIdeal.nD Cert.ScaleUpdateIdeal.τ).loc Cert.ScaleUpdateIdeal.main_arg1) = m ((c.tc : Thread Cert.ScaleUpdateIdeal.nD Cert.ScaleUpdateIdeal.τ).loc Cert.ScaleUpdateIdeal.main_arg1)
          ∧ r.2.mem ((c.tc : Thread Cert.ScaleUpdateIdeal.nD Cert.ScaleUpdateIdeal.τ).loc Cert.ScaleUpdateIdeal.main_arg2) = m ((c.tc : Thread Cert.ScaleUpdateIdeal.nD Cert.ScaleUpdateIdeal.τ).loc Cert.ScaleUpdateIdeal.main_arg2)
          ∧ r.2.mem ((c.tc : Thread Cert.ScaleUpdateIdeal.nD Cert.ScaleUpdateIdeal.τ).loc Cert.ScaleUpdateIdeal.main_arg3) = m ((c.tc : Thread Cert.ScaleUpdateIdeal.nD Cert.ScaleUpdateIdeal.τ).loc Cert.ScaleUpdateIdeal.main_arg3))
      ∧ θ_run (Cert.ScaleUpdateRefIdeal.defs (F := Ideal)) (onTc (τ := Cert.ScaleUpdateRefIdeal.τ) (Cert.ScaleUpdateRefIdeal.main (F := Ideal))) ⟨m', fun _ => 0, g'⟩ (fun r => ∀ c : Dev Cert.ScaleUpdateRefIdeal.nD,
          r.2.mem ((c.tc : Thread Cert.ScaleUpdateRefIdeal.nD Cert.ScaleUpdateRefIdeal.τ).loc Cert.ScaleUpdateRefIdeal.main_v23) = v0 c
          ∧ r.2.mem ((c.tc : Thread Cert.ScaleUpdateRefIdeal.nD Cert.ScaleUpdateRefIdeal.τ).loc Cert.ScaleUpdateRefIdeal.main_v4) = v1 c
          ∧ r.2.mem ((c.tc : Thread Cert.ScaleUpdateRefIdeal.nD Cert.ScaleUpdateRefIdeal.τ).loc Cert.ScaleUpdateRefIdeal.main_v10) = v2 c
          ∧ r.2.mem ((c.tc : Thread Cert.ScaleUpdateRefIdeal.nD Cert.ScaleUpdateRefIdeal.τ).loc Cert.ScaleUpdateRefIdeal.main_arg0) = m' ((c.tc : Thread Cert.ScaleUpdateRefIdeal.nD Cert.ScaleUpdateRefIdeal.τ).loc Cert.ScaleUpdateRefIdeal.main_arg0)
          ∧ r.2.mem ((c.tc : Thread Cert.ScaleUpdateRefIdeal.nD Cert.ScaleUpdateRefIdeal.τ).loc Cert.ScaleUpdateRefIdeal.main_arg1) = m' ((c.tc : Thread Cert.ScaleUpdateRefIdeal.nD Cert.ScaleUpdateRefIdeal.τ).loc Cert.ScaleUpdateRefIdeal.main_arg1)
          ∧ r.2.mem ((c.tc : Thread Cert.ScaleUpdateRefIdeal.nD Cert.ScaleUpdateRefIdeal.τ).loc Cert.ScaleUpdateRefIdeal.main_arg2) = m' ((c.tc : Thread Cert.ScaleUpdateRefIdeal.nD Cert.ScaleUpdateRefIdeal.τ).loc Cert.ScaleUpdateRefIdeal.main_arg2)
          ∧ r.2.mem ((c.tc : Thread Cert.ScaleUpdateRefIdeal.nD Cert.ScaleUpdateRefIdeal.τ).loc Cert.ScaleUpdateRefIdeal.main_arg3) = m' ((c.tc : Thread Cert.ScaleUpdateRefIdeal.nD Cert.ScaleUpdateRefIdeal.τ).loc Cert.ScaleUpdateRefIdeal.main_arg3))

def preserves_ShortConvUpdate_ShortConvUpdateIdeal : Prop :=
  True

def algebraic_ShortConvUpdateIdeal_ShortConvUpdateRefIdeal [hShortConvUpdateIdeal : Cert.ShortConvUpdateIdeal.Facts] [hShortConvUpdateRefIdeal : Cert.ShortConvUpdateRefIdeal.Facts] : Prop :=
  ∀ (m : (ℓ : Loc Cert.ShortConvUpdateIdeal.nD Cert.ShortConvUpdateIdeal.τ Cert.ShortConvUpdateIdeal.sig) → Buf (Elt Ideal) ℓ) (g : Dev Cert.ShortConvUpdateIdeal.nD → PrngReg)
    (m' : (ℓ : Loc Cert.ShortConvUpdateRefIdeal.nD Cert.ShortConvUpdateRefIdeal.τ Cert.ShortConvUpdateRefIdeal.sig) → Buf (Elt Ideal) ℓ) (g' : Dev Cert.ShortConvUpdateRefIdeal.nD → PrngReg), Pre_ShortConvUpdateIdeal m →
    (∀ c : Dev Cert.ShortConvUpdateIdeal.nD,
      m' ((c.tc : Thread Cert.ShortConvUpdateRefIdeal.nD Cert.ShortConvUpdateRefIdeal.τ).loc Cert.ShortConvUpdateRefIdeal.main_arg0) = m ((c.tc : Thread Cert.ShortConvUpdateIdeal.nD Cert.ShortConvUpdateIdeal.τ).loc Cert.ShortConvUpdateIdeal.main_arg0)
      ∧ m' ((c.tc : Thread Cert.ShortConvUpdateRefIdeal.nD Cert.ShortConvUpdateRefIdeal.τ).loc Cert.ShortConvUpdateRefIdeal.main_arg1) = m ((c.tc : Thread Cert.ShortConvUpdateIdeal.nD Cert.ShortConvUpdateIdeal.τ).loc Cert.ShortConvUpdateIdeal.main_arg1)
      ∧ m' ((c.tc : Thread Cert.ShortConvUpdateRefIdeal.nD Cert.ShortConvUpdateRefIdeal.τ).loc Cert.ShortConvUpdateRefIdeal.main_arg2) = m ((c.tc : Thread Cert.ShortConvUpdateIdeal.nD Cert.ShortConvUpdateIdeal.τ).loc Cert.ShortConvUpdateIdeal.main_arg2)
      ∧ m' ((c.tc : Thread Cert.ShortConvUpdateRefIdeal.nD Cert.ShortConvUpdateRefIdeal.τ).loc Cert.ShortConvUpdateRefIdeal.main_arg3) = m ((c.tc : Thread Cert.ShortConvUpdateIdeal.nD Cert.ShortConvUpdateIdeal.τ).loc Cert.ShortConvUpdateIdeal.main_arg3)) →
    ∃ (v0 : (c : Dev Cert.ShortConvUpdateIdeal.nD) → Buf (Elt Ideal) ((c.tc : Thread Cert.ShortConvUpdateIdeal.nD Cert.ShortConvUpdateIdeal.τ).loc Cert.ShortConvUpdateIdeal.main_v4_0)) (v1 : (c : Dev Cert.ShortConvUpdateIdeal.nD) → Buf (Elt Ideal) ((c.tc : Thread Cert.ShortConvUpdateIdeal.nD Cert.ShortConvUpdateIdeal.τ).loc Cert.ShortConvUpdateIdeal.main_v4_1)) (v2 : (c : Dev Cert.ShortConvUpdateIdeal.nD) → Buf (Elt Ideal) ((c.tc : Thread Cert.ShortConvUpdateIdeal.nD Cert.ShortConvUpdateIdeal.τ).loc Cert.ShortConvUpdateIdeal.main_v4_2)),
      θ_run (Cert.ShortConvUpdateIdeal.defs (F := Ideal)) (onTc (τ := Cert.ShortConvUpdateIdeal.τ) (Cert.ShortConvUpdateIdeal.main (F := Ideal))) ⟨m, fun _ => 0, g⟩ (fun r => ∀ c : Dev Cert.ShortConvUpdateIdeal.nD,
          r.2.mem ((c.tc : Thread Cert.ShortConvUpdateIdeal.nD Cert.ShortConvUpdateIdeal.τ).loc Cert.ShortConvUpdateIdeal.main_v4_0) = v0 c
          ∧ r.2.mem ((c.tc : Thread Cert.ShortConvUpdateIdeal.nD Cert.ShortConvUpdateIdeal.τ).loc Cert.ShortConvUpdateIdeal.main_v4_1) = v1 c
          ∧ r.2.mem ((c.tc : Thread Cert.ShortConvUpdateIdeal.nD Cert.ShortConvUpdateIdeal.τ).loc Cert.ShortConvUpdateIdeal.main_v4_2) = v2 c
          ∧ r.2.mem ((c.tc : Thread Cert.ShortConvUpdateIdeal.nD Cert.ShortConvUpdateIdeal.τ).loc Cert.ShortConvUpdateIdeal.main_arg0) = m ((c.tc : Thread Cert.ShortConvUpdateIdeal.nD Cert.ShortConvUpdateIdeal.τ).loc Cert.ShortConvUpdateIdeal.main_arg0)
          ∧ r.2.mem ((c.tc : Thread Cert.ShortConvUpdateIdeal.nD Cert.ShortConvUpdateIdeal.τ).loc Cert.ShortConvUpdateIdeal.main_arg1) = m ((c.tc : Thread Cert.ShortConvUpdateIdeal.nD Cert.ShortConvUpdateIdeal.τ).loc Cert.ShortConvUpdateIdeal.main_arg1)
          ∧ r.2.mem ((c.tc : Thread Cert.ShortConvUpdateIdeal.nD Cert.ShortConvUpdateIdeal.τ).loc Cert.ShortConvUpdateIdeal.main_arg2) = m ((c.tc : Thread Cert.ShortConvUpdateIdeal.nD Cert.ShortConvUpdateIdeal.τ).loc Cert.ShortConvUpdateIdeal.main_arg2)
          ∧ r.2.mem ((c.tc : Thread Cert.ShortConvUpdateIdeal.nD Cert.ShortConvUpdateIdeal.τ).loc Cert.ShortConvUpdateIdeal.main_arg3) = m ((c.tc : Thread Cert.ShortConvUpdateIdeal.nD Cert.ShortConvUpdateIdeal.τ).loc Cert.ShortConvUpdateIdeal.main_arg3))
      ∧ θ_run (Cert.ShortConvUpdateRefIdeal.defs (F := Ideal)) (onTc (τ := Cert.ShortConvUpdateRefIdeal.τ) (Cert.ShortConvUpdateRefIdeal.main (F := Ideal))) ⟨m', fun _ => 0, g'⟩ (fun r => ∀ c : Dev Cert.ShortConvUpdateRefIdeal.nD,
          r.2.mem ((c.tc : Thread Cert.ShortConvUpdateRefIdeal.nD Cert.ShortConvUpdateRefIdeal.τ).loc Cert.ShortConvUpdateRefIdeal.main_v24) = v0 c
          ∧ r.2.mem ((c.tc : Thread Cert.ShortConvUpdateRefIdeal.nD Cert.ShortConvUpdateRefIdeal.τ).loc Cert.ShortConvUpdateRefIdeal.main_v25) = v1 c
          ∧ r.2.mem ((c.tc : Thread Cert.ShortConvUpdateRefIdeal.nD Cert.ShortConvUpdateRefIdeal.τ).loc Cert.ShortConvUpdateRefIdeal.main_v26) = v2 c
          ∧ r.2.mem ((c.tc : Thread Cert.ShortConvUpdateRefIdeal.nD Cert.ShortConvUpdateRefIdeal.τ).loc Cert.ShortConvUpdateRefIdeal.main_arg0) = m' ((c.tc : Thread Cert.ShortConvUpdateRefIdeal.nD Cert.ShortConvUpdateRefIdeal.τ).loc Cert.ShortConvUpdateRefIdeal.main_arg0)
          ∧ r.2.mem ((c.tc : Thread Cert.ShortConvUpdateRefIdeal.nD Cert.ShortConvUpdateRefIdeal.τ).loc Cert.ShortConvUpdateRefIdeal.main_arg1) = m' ((c.tc : Thread Cert.ShortConvUpdateRefIdeal.nD Cert.ShortConvUpdateRefIdeal.τ).loc Cert.ShortConvUpdateRefIdeal.main_arg1)
          ∧ r.2.mem ((c.tc : Thread Cert.ShortConvUpdateRefIdeal.nD Cert.ShortConvUpdateRefIdeal.τ).loc Cert.ShortConvUpdateRefIdeal.main_arg2) = m' ((c.tc : Thread Cert.ShortConvUpdateRefIdeal.nD Cert.ShortConvUpdateRefIdeal.τ).loc Cert.ShortConvUpdateRefIdeal.main_arg2)
          ∧ r.2.mem ((c.tc : Thread Cert.ShortConvUpdateRefIdeal.nD Cert.ShortConvUpdateRefIdeal.τ).loc Cert.ShortConvUpdateRefIdeal.main_arg3) = m' ((c.tc : Thread Cert.ShortConvUpdateRefIdeal.nD Cert.ShortConvUpdateRefIdeal.τ).loc Cert.ShortConvUpdateRefIdeal.main_arg3))

def preserves_VectorUpdate_VectorUpdateIdeal : Prop :=
  True

def algebraic_VectorUpdateIdeal_VectorUpdateRefIdeal [hVectorUpdateIdeal : Cert.VectorUpdateIdeal.Facts] [hVectorUpdateRefIdeal : Cert.VectorUpdateRefIdeal.Facts] : Prop :=
  ∀ (m : (ℓ : Loc Cert.VectorUpdateIdeal.nD Cert.VectorUpdateIdeal.τ Cert.VectorUpdateIdeal.sig) → Buf (Elt Ideal) ℓ) (g : Dev Cert.VectorUpdateIdeal.nD → PrngReg)
    (m' : (ℓ : Loc Cert.VectorUpdateRefIdeal.nD Cert.VectorUpdateRefIdeal.τ Cert.VectorUpdateRefIdeal.sig) → Buf (Elt Ideal) ℓ) (g' : Dev Cert.VectorUpdateRefIdeal.nD → PrngReg), Pre_VectorUpdateIdeal m →
    (∀ c : Dev Cert.VectorUpdateIdeal.nD,
      m' ((c.tc : Thread Cert.VectorUpdateRefIdeal.nD Cert.VectorUpdateRefIdeal.τ).loc Cert.VectorUpdateRefIdeal.main_arg0) = m ((c.tc : Thread Cert.VectorUpdateIdeal.nD Cert.VectorUpdateIdeal.τ).loc Cert.VectorUpdateIdeal.main_arg0)
      ∧ m' ((c.tc : Thread Cert.VectorUpdateRefIdeal.nD Cert.VectorUpdateRefIdeal.τ).loc Cert.VectorUpdateRefIdeal.main_arg1) = m ((c.tc : Thread Cert.VectorUpdateIdeal.nD Cert.VectorUpdateIdeal.τ).loc Cert.VectorUpdateIdeal.main_arg1)
      ∧ m' ((c.tc : Thread Cert.VectorUpdateRefIdeal.nD Cert.VectorUpdateRefIdeal.τ).loc Cert.VectorUpdateRefIdeal.main_arg2) = m ((c.tc : Thread Cert.VectorUpdateIdeal.nD Cert.VectorUpdateIdeal.τ).loc Cert.VectorUpdateIdeal.main_arg2)
      ∧ m' ((c.tc : Thread Cert.VectorUpdateRefIdeal.nD Cert.VectorUpdateRefIdeal.τ).loc Cert.VectorUpdateRefIdeal.main_arg3) = m ((c.tc : Thread Cert.VectorUpdateIdeal.nD Cert.VectorUpdateIdeal.τ).loc Cert.VectorUpdateIdeal.main_arg3)) →
    ∃ (v0 : (c : Dev Cert.VectorUpdateIdeal.nD) → Buf (Elt Ideal) ((c.tc : Thread Cert.VectorUpdateIdeal.nD Cert.VectorUpdateIdeal.τ).loc Cert.VectorUpdateIdeal.main_v0_0)) (v1 : (c : Dev Cert.VectorUpdateIdeal.nD) → Buf (Elt Ideal) ((c.tc : Thread Cert.VectorUpdateIdeal.nD Cert.VectorUpdateIdeal.τ).loc Cert.VectorUpdateIdeal.main_v0_1)) (v2 : (c : Dev Cert.VectorUpdateIdeal.nD) → Buf (Elt Ideal) ((c.tc : Thread Cert.VectorUpdateIdeal.nD Cert.VectorUpdateIdeal.τ).loc Cert.VectorUpdateIdeal.main_v0_2)),
      θ_run (Cert.VectorUpdateIdeal.defs (F := Ideal)) (onTc (τ := Cert.VectorUpdateIdeal.τ) (Cert.VectorUpdateIdeal.main (F := Ideal))) ⟨m, fun _ => 0, g⟩ (fun r => ∀ c : Dev Cert.VectorUpdateIdeal.nD,
          r.2.mem ((c.tc : Thread Cert.VectorUpdateIdeal.nD Cert.VectorUpdateIdeal.τ).loc Cert.VectorUpdateIdeal.main_v0_0) = v0 c
          ∧ r.2.mem ((c.tc : Thread Cert.VectorUpdateIdeal.nD Cert.VectorUpdateIdeal.τ).loc Cert.VectorUpdateIdeal.main_v0_1) = v1 c
          ∧ r.2.mem ((c.tc : Thread Cert.VectorUpdateIdeal.nD Cert.VectorUpdateIdeal.τ).loc Cert.VectorUpdateIdeal.main_v0_2) = v2 c
          ∧ r.2.mem ((c.tc : Thread Cert.VectorUpdateIdeal.nD Cert.VectorUpdateIdeal.τ).loc Cert.VectorUpdateIdeal.main_arg0) = m ((c.tc : Thread Cert.VectorUpdateIdeal.nD Cert.VectorUpdateIdeal.τ).loc Cert.VectorUpdateIdeal.main_arg0)
          ∧ r.2.mem ((c.tc : Thread Cert.VectorUpdateIdeal.nD Cert.VectorUpdateIdeal.τ).loc Cert.VectorUpdateIdeal.main_arg1) = m ((c.tc : Thread Cert.VectorUpdateIdeal.nD Cert.VectorUpdateIdeal.τ).loc Cert.VectorUpdateIdeal.main_arg1)
          ∧ r.2.mem ((c.tc : Thread Cert.VectorUpdateIdeal.nD Cert.VectorUpdateIdeal.τ).loc Cert.VectorUpdateIdeal.main_arg2) = m ((c.tc : Thread Cert.VectorUpdateIdeal.nD Cert.VectorUpdateIdeal.τ).loc Cert.VectorUpdateIdeal.main_arg2)
          ∧ r.2.mem ((c.tc : Thread Cert.VectorUpdateIdeal.nD Cert.VectorUpdateIdeal.τ).loc Cert.VectorUpdateIdeal.main_arg3) = m ((c.tc : Thread Cert.VectorUpdateIdeal.nD Cert.VectorUpdateIdeal.τ).loc Cert.VectorUpdateIdeal.main_arg3))
      ∧ θ_run (Cert.VectorUpdateRefIdeal.defs (F := Ideal)) (onTc (τ := Cert.VectorUpdateRefIdeal.τ) (Cert.VectorUpdateRefIdeal.main (F := Ideal))) ⟨m', fun _ => 0, g'⟩ (fun r => ∀ c : Dev Cert.VectorUpdateRefIdeal.nD,
          r.2.mem ((c.tc : Thread Cert.VectorUpdateRefIdeal.nD Cert.VectorUpdateRefIdeal.τ).loc Cert.VectorUpdateRefIdeal.main_v23) = v0 c
          ∧ r.2.mem ((c.tc : Thread Cert.VectorUpdateRefIdeal.nD Cert.VectorUpdateRefIdeal.τ).loc Cert.VectorUpdateRefIdeal.main_v4) = v1 c
          ∧ r.2.mem ((c.tc : Thread Cert.VectorUpdateRefIdeal.nD Cert.VectorUpdateRefIdeal.τ).loc Cert.VectorUpdateRefIdeal.main_v10) = v2 c
          ∧ r.2.mem ((c.tc : Thread Cert.VectorUpdateRefIdeal.nD Cert.VectorUpdateRefIdeal.τ).loc Cert.VectorUpdateRefIdeal.main_arg0) = m' ((c.tc : Thread Cert.VectorUpdateRefIdeal.nD Cert.VectorUpdateRefIdeal.τ).loc Cert.VectorUpdateRefIdeal.main_arg0)
          ∧ r.2.mem ((c.tc : Thread Cert.VectorUpdateRefIdeal.nD Cert.VectorUpdateRefIdeal.τ).loc Cert.VectorUpdateRefIdeal.main_arg1) = m' ((c.tc : Thread Cert.VectorUpdateRefIdeal.nD Cert.VectorUpdateRefIdeal.τ).loc Cert.VectorUpdateRefIdeal.main_arg1)
          ∧ r.2.mem ((c.tc : Thread Cert.VectorUpdateRefIdeal.nD Cert.VectorUpdateRefIdeal.τ).loc Cert.VectorUpdateRefIdeal.main_arg2) = m' ((c.tc : Thread Cert.VectorUpdateRefIdeal.nD Cert.VectorUpdateRefIdeal.τ).loc Cert.VectorUpdateRefIdeal.main_arg2)
          ∧ r.2.mem ((c.tc : Thread Cert.VectorUpdateRefIdeal.nD Cert.VectorUpdateRefIdeal.τ).loc Cert.VectorUpdateRefIdeal.main_arg3) = m' ((c.tc : Thread Cert.VectorUpdateRefIdeal.nD Cert.VectorUpdateRefIdeal.τ).loc Cert.VectorUpdateRefIdeal.main_arg3))

def preserves_GateUpdate_GateUpdateIdeal : Prop :=
  True

def algebraic_GateUpdateIdeal_GateUpdateRefIdeal [hGateUpdateIdeal : Cert.GateUpdateIdeal.Facts] [hGateUpdateRefIdeal : Cert.GateUpdateRefIdeal.Facts] : Prop :=
  ∀ (m : (ℓ : Loc Cert.GateUpdateIdeal.nD Cert.GateUpdateIdeal.τ Cert.GateUpdateIdeal.sig) → Buf (Elt Ideal) ℓ) (g : Dev Cert.GateUpdateIdeal.nD → PrngReg)
    (m' : (ℓ : Loc Cert.GateUpdateRefIdeal.nD Cert.GateUpdateRefIdeal.τ Cert.GateUpdateRefIdeal.sig) → Buf (Elt Ideal) ℓ) (g' : Dev Cert.GateUpdateRefIdeal.nD → PrngReg), Pre_GateUpdateIdeal m →
    (∀ c : Dev Cert.GateUpdateIdeal.nD,
      m' ((c.tc : Thread Cert.GateUpdateRefIdeal.nD Cert.GateUpdateRefIdeal.τ).loc Cert.GateUpdateRefIdeal.main_arg0) = m ((c.tc : Thread Cert.GateUpdateIdeal.nD Cert.GateUpdateIdeal.τ).loc Cert.GateUpdateIdeal.main_arg0)
      ∧ m' ((c.tc : Thread Cert.GateUpdateRefIdeal.nD Cert.GateUpdateRefIdeal.τ).loc Cert.GateUpdateRefIdeal.main_arg1) = m ((c.tc : Thread Cert.GateUpdateIdeal.nD Cert.GateUpdateIdeal.τ).loc Cert.GateUpdateIdeal.main_arg1)
      ∧ m' ((c.tc : Thread Cert.GateUpdateRefIdeal.nD Cert.GateUpdateRefIdeal.τ).loc Cert.GateUpdateRefIdeal.main_arg2) = m ((c.tc : Thread Cert.GateUpdateIdeal.nD Cert.GateUpdateIdeal.τ).loc Cert.GateUpdateIdeal.main_arg2)
      ∧ m' ((c.tc : Thread Cert.GateUpdateRefIdeal.nD Cert.GateUpdateRefIdeal.τ).loc Cert.GateUpdateRefIdeal.main_arg3) = m ((c.tc : Thread Cert.GateUpdateIdeal.nD Cert.GateUpdateIdeal.τ).loc Cert.GateUpdateIdeal.main_arg3)) →
    ∃ (v0 : (c : Dev Cert.GateUpdateIdeal.nD) → Buf (Elt Ideal) ((c.tc : Thread Cert.GateUpdateIdeal.nD Cert.GateUpdateIdeal.τ).loc Cert.GateUpdateIdeal.main_v4_0)) (v1 : (c : Dev Cert.GateUpdateIdeal.nD) → Buf (Elt Ideal) ((c.tc : Thread Cert.GateUpdateIdeal.nD Cert.GateUpdateIdeal.τ).loc Cert.GateUpdateIdeal.main_v4_1)) (v2 : (c : Dev Cert.GateUpdateIdeal.nD) → Buf (Elt Ideal) ((c.tc : Thread Cert.GateUpdateIdeal.nD Cert.GateUpdateIdeal.τ).loc Cert.GateUpdateIdeal.main_v4_2)),
      θ_run (Cert.GateUpdateIdeal.defs (F := Ideal)) (onTc (τ := Cert.GateUpdateIdeal.τ) (Cert.GateUpdateIdeal.main (F := Ideal))) ⟨m, fun _ => 0, g⟩ (fun r => ∀ c : Dev Cert.GateUpdateIdeal.nD,
          r.2.mem ((c.tc : Thread Cert.GateUpdateIdeal.nD Cert.GateUpdateIdeal.τ).loc Cert.GateUpdateIdeal.main_v4_0) = v0 c
          ∧ r.2.mem ((c.tc : Thread Cert.GateUpdateIdeal.nD Cert.GateUpdateIdeal.τ).loc Cert.GateUpdateIdeal.main_v4_1) = v1 c
          ∧ r.2.mem ((c.tc : Thread Cert.GateUpdateIdeal.nD Cert.GateUpdateIdeal.τ).loc Cert.GateUpdateIdeal.main_v4_2) = v2 c
          ∧ r.2.mem ((c.tc : Thread Cert.GateUpdateIdeal.nD Cert.GateUpdateIdeal.τ).loc Cert.GateUpdateIdeal.main_arg0) = m ((c.tc : Thread Cert.GateUpdateIdeal.nD Cert.GateUpdateIdeal.τ).loc Cert.GateUpdateIdeal.main_arg0)
          ∧ r.2.mem ((c.tc : Thread Cert.GateUpdateIdeal.nD Cert.GateUpdateIdeal.τ).loc Cert.GateUpdateIdeal.main_arg1) = m ((c.tc : Thread Cert.GateUpdateIdeal.nD Cert.GateUpdateIdeal.τ).loc Cert.GateUpdateIdeal.main_arg1)
          ∧ r.2.mem ((c.tc : Thread Cert.GateUpdateIdeal.nD Cert.GateUpdateIdeal.τ).loc Cert.GateUpdateIdeal.main_arg2) = m ((c.tc : Thread Cert.GateUpdateIdeal.nD Cert.GateUpdateIdeal.τ).loc Cert.GateUpdateIdeal.main_arg2)
          ∧ r.2.mem ((c.tc : Thread Cert.GateUpdateIdeal.nD Cert.GateUpdateIdeal.τ).loc Cert.GateUpdateIdeal.main_arg3) = m ((c.tc : Thread Cert.GateUpdateIdeal.nD Cert.GateUpdateIdeal.τ).loc Cert.GateUpdateIdeal.main_arg3))
      ∧ θ_run (Cert.GateUpdateRefIdeal.defs (F := Ideal)) (onTc (τ := Cert.GateUpdateRefIdeal.τ) (Cert.GateUpdateRefIdeal.main (F := Ideal))) ⟨m', fun _ => 0, g'⟩ (fun r => ∀ c : Dev Cert.GateUpdateRefIdeal.nD,
          r.2.mem ((c.tc : Thread Cert.GateUpdateRefIdeal.nD Cert.GateUpdateRefIdeal.τ).loc Cert.GateUpdateRefIdeal.main_v24) = v0 c
          ∧ r.2.mem ((c.tc : Thread Cert.GateUpdateRefIdeal.nD Cert.GateUpdateRefIdeal.τ).loc Cert.GateUpdateRefIdeal.main_v25) = v1 c
          ∧ r.2.mem ((c.tc : Thread Cert.GateUpdateRefIdeal.nD Cert.GateUpdateRefIdeal.τ).loc Cert.GateUpdateRefIdeal.main_v26) = v2 c
          ∧ r.2.mem ((c.tc : Thread Cert.GateUpdateRefIdeal.nD Cert.GateUpdateRefIdeal.τ).loc Cert.GateUpdateRefIdeal.main_arg0) = m' ((c.tc : Thread Cert.GateUpdateRefIdeal.nD Cert.GateUpdateRefIdeal.τ).loc Cert.GateUpdateRefIdeal.main_arg0)
          ∧ r.2.mem ((c.tc : Thread Cert.GateUpdateRefIdeal.nD Cert.GateUpdateRefIdeal.τ).loc Cert.GateUpdateRefIdeal.main_arg1) = m' ((c.tc : Thread Cert.GateUpdateRefIdeal.nD Cert.GateUpdateRefIdeal.τ).loc Cert.GateUpdateRefIdeal.main_arg1)
          ∧ r.2.mem ((c.tc : Thread Cert.GateUpdateRefIdeal.nD Cert.GateUpdateRefIdeal.τ).loc Cert.GateUpdateRefIdeal.main_arg2) = m' ((c.tc : Thread Cert.GateUpdateRefIdeal.nD Cert.GateUpdateRefIdeal.τ).loc Cert.GateUpdateRefIdeal.main_arg2)
          ∧ r.2.mem ((c.tc : Thread Cert.GateUpdateRefIdeal.nD Cert.GateUpdateRefIdeal.τ).loc Cert.GateUpdateRefIdeal.main_arg3) = m' ((c.tc : Thread Cert.GateUpdateRefIdeal.nD Cert.GateUpdateRefIdeal.τ).loc Cert.GateUpdateRefIdeal.main_arg3))

def preserves_GateBiasUpdate_GateBiasUpdateIdeal : Prop :=
  True

def algebraic_GateBiasUpdateIdeal_GateBiasUpdateRefIdeal [hGateBiasUpdateIdeal : Cert.GateBiasUpdateIdeal.Facts] [hGateBiasUpdateRefIdeal : Cert.GateBiasUpdateRefIdeal.Facts] : Prop :=
  ∀ (m : (ℓ : Loc Cert.GateBiasUpdateIdeal.nD Cert.GateBiasUpdateIdeal.τ Cert.GateBiasUpdateIdeal.sig) → Buf (Elt Ideal) ℓ) (g : Dev Cert.GateBiasUpdateIdeal.nD → PrngReg)
    (m' : (ℓ : Loc Cert.GateBiasUpdateRefIdeal.nD Cert.GateBiasUpdateRefIdeal.τ Cert.GateBiasUpdateRefIdeal.sig) → Buf (Elt Ideal) ℓ) (g' : Dev Cert.GateBiasUpdateRefIdeal.nD → PrngReg), Pre_GateBiasUpdateIdeal m →
    (∀ c : Dev Cert.GateBiasUpdateIdeal.nD,
      m' ((c.tc : Thread Cert.GateBiasUpdateRefIdeal.nD Cert.GateBiasUpdateRefIdeal.τ).loc Cert.GateBiasUpdateRefIdeal.main_arg0) = m ((c.tc : Thread Cert.GateBiasUpdateIdeal.nD Cert.GateBiasUpdateIdeal.τ).loc Cert.GateBiasUpdateIdeal.main_arg0)
      ∧ m' ((c.tc : Thread Cert.GateBiasUpdateRefIdeal.nD Cert.GateBiasUpdateRefIdeal.τ).loc Cert.GateBiasUpdateRefIdeal.main_arg1) = m ((c.tc : Thread Cert.GateBiasUpdateIdeal.nD Cert.GateBiasUpdateIdeal.τ).loc Cert.GateBiasUpdateIdeal.main_arg1)
      ∧ m' ((c.tc : Thread Cert.GateBiasUpdateRefIdeal.nD Cert.GateBiasUpdateRefIdeal.τ).loc Cert.GateBiasUpdateRefIdeal.main_arg2) = m ((c.tc : Thread Cert.GateBiasUpdateIdeal.nD Cert.GateBiasUpdateIdeal.τ).loc Cert.GateBiasUpdateIdeal.main_arg2)
      ∧ m' ((c.tc : Thread Cert.GateBiasUpdateRefIdeal.nD Cert.GateBiasUpdateRefIdeal.τ).loc Cert.GateBiasUpdateRefIdeal.main_arg3) = m ((c.tc : Thread Cert.GateBiasUpdateIdeal.nD Cert.GateBiasUpdateIdeal.τ).loc Cert.GateBiasUpdateIdeal.main_arg3)) →
    ∃ (v0 : (c : Dev Cert.GateBiasUpdateIdeal.nD) → Buf (Elt Ideal) ((c.tc : Thread Cert.GateBiasUpdateIdeal.nD Cert.GateBiasUpdateIdeal.τ).loc Cert.GateBiasUpdateIdeal.main_v4_0)) (v1 : (c : Dev Cert.GateBiasUpdateIdeal.nD) → Buf (Elt Ideal) ((c.tc : Thread Cert.GateBiasUpdateIdeal.nD Cert.GateBiasUpdateIdeal.τ).loc Cert.GateBiasUpdateIdeal.main_v4_1)) (v2 : (c : Dev Cert.GateBiasUpdateIdeal.nD) → Buf (Elt Ideal) ((c.tc : Thread Cert.GateBiasUpdateIdeal.nD Cert.GateBiasUpdateIdeal.τ).loc Cert.GateBiasUpdateIdeal.main_v4_2)),
      θ_run (Cert.GateBiasUpdateIdeal.defs (F := Ideal)) (onTc (τ := Cert.GateBiasUpdateIdeal.τ) (Cert.GateBiasUpdateIdeal.main (F := Ideal))) ⟨m, fun _ => 0, g⟩ (fun r => ∀ c : Dev Cert.GateBiasUpdateIdeal.nD,
          r.2.mem ((c.tc : Thread Cert.GateBiasUpdateIdeal.nD Cert.GateBiasUpdateIdeal.τ).loc Cert.GateBiasUpdateIdeal.main_v4_0) = v0 c
          ∧ r.2.mem ((c.tc : Thread Cert.GateBiasUpdateIdeal.nD Cert.GateBiasUpdateIdeal.τ).loc Cert.GateBiasUpdateIdeal.main_v4_1) = v1 c
          ∧ r.2.mem ((c.tc : Thread Cert.GateBiasUpdateIdeal.nD Cert.GateBiasUpdateIdeal.τ).loc Cert.GateBiasUpdateIdeal.main_v4_2) = v2 c
          ∧ r.2.mem ((c.tc : Thread Cert.GateBiasUpdateIdeal.nD Cert.GateBiasUpdateIdeal.τ).loc Cert.GateBiasUpdateIdeal.main_arg0) = m ((c.tc : Thread Cert.GateBiasUpdateIdeal.nD Cert.GateBiasUpdateIdeal.τ).loc Cert.GateBiasUpdateIdeal.main_arg0)
          ∧ r.2.mem ((c.tc : Thread Cert.GateBiasUpdateIdeal.nD Cert.GateBiasUpdateIdeal.τ).loc Cert.GateBiasUpdateIdeal.main_arg1) = m ((c.tc : Thread Cert.GateBiasUpdateIdeal.nD Cert.GateBiasUpdateIdeal.τ).loc Cert.GateBiasUpdateIdeal.main_arg1)
          ∧ r.2.mem ((c.tc : Thread Cert.GateBiasUpdateIdeal.nD Cert.GateBiasUpdateIdeal.τ).loc Cert.GateBiasUpdateIdeal.main_arg2) = m ((c.tc : Thread Cert.GateBiasUpdateIdeal.nD Cert.GateBiasUpdateIdeal.τ).loc Cert.GateBiasUpdateIdeal.main_arg2)
          ∧ r.2.mem ((c.tc : Thread Cert.GateBiasUpdateIdeal.nD Cert.GateBiasUpdateIdeal.τ).loc Cert.GateBiasUpdateIdeal.main_arg3) = m ((c.tc : Thread Cert.GateBiasUpdateIdeal.nD Cert.GateBiasUpdateIdeal.τ).loc Cert.GateBiasUpdateIdeal.main_arg3))
      ∧ θ_run (Cert.GateBiasUpdateRefIdeal.defs (F := Ideal)) (onTc (τ := Cert.GateBiasUpdateRefIdeal.τ) (Cert.GateBiasUpdateRefIdeal.main (F := Ideal))) ⟨m', fun _ => 0, g'⟩ (fun r => ∀ c : Dev Cert.GateBiasUpdateRefIdeal.nD,
          r.2.mem ((c.tc : Thread Cert.GateBiasUpdateRefIdeal.nD Cert.GateBiasUpdateRefIdeal.τ).loc Cert.GateBiasUpdateRefIdeal.main_v24) = v0 c
          ∧ r.2.mem ((c.tc : Thread Cert.GateBiasUpdateRefIdeal.nD Cert.GateBiasUpdateRefIdeal.τ).loc Cert.GateBiasUpdateRefIdeal.main_v25) = v1 c
          ∧ r.2.mem ((c.tc : Thread Cert.GateBiasUpdateRefIdeal.nD Cert.GateBiasUpdateRefIdeal.τ).loc Cert.GateBiasUpdateRefIdeal.main_v26) = v2 c
          ∧ r.2.mem ((c.tc : Thread Cert.GateBiasUpdateRefIdeal.nD Cert.GateBiasUpdateRefIdeal.τ).loc Cert.GateBiasUpdateRefIdeal.main_arg0) = m' ((c.tc : Thread Cert.GateBiasUpdateRefIdeal.nD Cert.GateBiasUpdateRefIdeal.τ).loc Cert.GateBiasUpdateRefIdeal.main_arg0)
          ∧ r.2.mem ((c.tc : Thread Cert.GateBiasUpdateRefIdeal.nD Cert.GateBiasUpdateRefIdeal.τ).loc Cert.GateBiasUpdateRefIdeal.main_arg1) = m' ((c.tc : Thread Cert.GateBiasUpdateRefIdeal.nD Cert.GateBiasUpdateRefIdeal.τ).loc Cert.GateBiasUpdateRefIdeal.main_arg1)
          ∧ r.2.mem ((c.tc : Thread Cert.GateBiasUpdateRefIdeal.nD Cert.GateBiasUpdateRefIdeal.τ).loc Cert.GateBiasUpdateRefIdeal.main_arg2) = m' ((c.tc : Thread Cert.GateBiasUpdateRefIdeal.nD Cert.GateBiasUpdateRefIdeal.τ).loc Cert.GateBiasUpdateRefIdeal.main_arg2)
          ∧ r.2.mem ((c.tc : Thread Cert.GateBiasUpdateRefIdeal.nD Cert.GateBiasUpdateRefIdeal.τ).loc Cert.GateBiasUpdateRefIdeal.main_arg3) = m' ((c.tc : Thread Cert.GateBiasUpdateRefIdeal.nD Cert.GateBiasUpdateRefIdeal.τ).loc Cert.GateBiasUpdateRefIdeal.main_arg3))

def preserves_LongConvUpdate_LongConvUpdateIdeal : Prop :=
  True

def algebraic_LongConvUpdateIdeal_LongConvUpdateRefIdeal [hLongConvUpdateIdeal : Cert.LongConvUpdateIdeal.Facts] [hLongConvUpdateRefIdeal : Cert.LongConvUpdateRefIdeal.Facts] : Prop :=
  ∀ (m : (ℓ : Loc Cert.LongConvUpdateIdeal.nD Cert.LongConvUpdateIdeal.τ Cert.LongConvUpdateIdeal.sig) → Buf (Elt Ideal) ℓ) (g : Dev Cert.LongConvUpdateIdeal.nD → PrngReg)
    (m' : (ℓ : Loc Cert.LongConvUpdateRefIdeal.nD Cert.LongConvUpdateRefIdeal.τ Cert.LongConvUpdateRefIdeal.sig) → Buf (Elt Ideal) ℓ) (g' : Dev Cert.LongConvUpdateRefIdeal.nD → PrngReg), Pre_LongConvUpdateIdeal m →
    (∀ c : Dev Cert.LongConvUpdateIdeal.nD,
      m' ((c.tc : Thread Cert.LongConvUpdateRefIdeal.nD Cert.LongConvUpdateRefIdeal.τ).loc Cert.LongConvUpdateRefIdeal.main_arg0) = m ((c.tc : Thread Cert.LongConvUpdateIdeal.nD Cert.LongConvUpdateIdeal.τ).loc Cert.LongConvUpdateIdeal.main_arg0)
      ∧ m' ((c.tc : Thread Cert.LongConvUpdateRefIdeal.nD Cert.LongConvUpdateRefIdeal.τ).loc Cert.LongConvUpdateRefIdeal.main_arg1) = m ((c.tc : Thread Cert.LongConvUpdateIdeal.nD Cert.LongConvUpdateIdeal.τ).loc Cert.LongConvUpdateIdeal.main_arg1)
      ∧ m' ((c.tc : Thread Cert.LongConvUpdateRefIdeal.nD Cert.LongConvUpdateRefIdeal.τ).loc Cert.LongConvUpdateRefIdeal.main_arg2) = m ((c.tc : Thread Cert.LongConvUpdateIdeal.nD Cert.LongConvUpdateIdeal.τ).loc Cert.LongConvUpdateIdeal.main_arg2)
      ∧ m' ((c.tc : Thread Cert.LongConvUpdateRefIdeal.nD Cert.LongConvUpdateRefIdeal.τ).loc Cert.LongConvUpdateRefIdeal.main_arg3) = m ((c.tc : Thread Cert.LongConvUpdateIdeal.nD Cert.LongConvUpdateIdeal.τ).loc Cert.LongConvUpdateIdeal.main_arg3)) →
    ∃ (v0 : (c : Dev Cert.LongConvUpdateIdeal.nD) → Buf (Elt Ideal) ((c.tc : Thread Cert.LongConvUpdateIdeal.nD Cert.LongConvUpdateIdeal.τ).loc Cert.LongConvUpdateIdeal.main_v4_0)) (v1 : (c : Dev Cert.LongConvUpdateIdeal.nD) → Buf (Elt Ideal) ((c.tc : Thread Cert.LongConvUpdateIdeal.nD Cert.LongConvUpdateIdeal.τ).loc Cert.LongConvUpdateIdeal.main_v4_1)) (v2 : (c : Dev Cert.LongConvUpdateIdeal.nD) → Buf (Elt Ideal) ((c.tc : Thread Cert.LongConvUpdateIdeal.nD Cert.LongConvUpdateIdeal.τ).loc Cert.LongConvUpdateIdeal.main_v4_2)),
      θ_run (Cert.LongConvUpdateIdeal.defs (F := Ideal)) (onTc (τ := Cert.LongConvUpdateIdeal.τ) (Cert.LongConvUpdateIdeal.main (F := Ideal))) ⟨m, fun _ => 0, g⟩ (fun r => ∀ c : Dev Cert.LongConvUpdateIdeal.nD,
          r.2.mem ((c.tc : Thread Cert.LongConvUpdateIdeal.nD Cert.LongConvUpdateIdeal.τ).loc Cert.LongConvUpdateIdeal.main_v4_0) = v0 c
          ∧ r.2.mem ((c.tc : Thread Cert.LongConvUpdateIdeal.nD Cert.LongConvUpdateIdeal.τ).loc Cert.LongConvUpdateIdeal.main_v4_1) = v1 c
          ∧ r.2.mem ((c.tc : Thread Cert.LongConvUpdateIdeal.nD Cert.LongConvUpdateIdeal.τ).loc Cert.LongConvUpdateIdeal.main_v4_2) = v2 c
          ∧ r.2.mem ((c.tc : Thread Cert.LongConvUpdateIdeal.nD Cert.LongConvUpdateIdeal.τ).loc Cert.LongConvUpdateIdeal.main_arg0) = m ((c.tc : Thread Cert.LongConvUpdateIdeal.nD Cert.LongConvUpdateIdeal.τ).loc Cert.LongConvUpdateIdeal.main_arg0)
          ∧ r.2.mem ((c.tc : Thread Cert.LongConvUpdateIdeal.nD Cert.LongConvUpdateIdeal.τ).loc Cert.LongConvUpdateIdeal.main_arg1) = m ((c.tc : Thread Cert.LongConvUpdateIdeal.nD Cert.LongConvUpdateIdeal.τ).loc Cert.LongConvUpdateIdeal.main_arg1)
          ∧ r.2.mem ((c.tc : Thread Cert.LongConvUpdateIdeal.nD Cert.LongConvUpdateIdeal.τ).loc Cert.LongConvUpdateIdeal.main_arg2) = m ((c.tc : Thread Cert.LongConvUpdateIdeal.nD Cert.LongConvUpdateIdeal.τ).loc Cert.LongConvUpdateIdeal.main_arg2)
          ∧ r.2.mem ((c.tc : Thread Cert.LongConvUpdateIdeal.nD Cert.LongConvUpdateIdeal.τ).loc Cert.LongConvUpdateIdeal.main_arg3) = m ((c.tc : Thread Cert.LongConvUpdateIdeal.nD Cert.LongConvUpdateIdeal.τ).loc Cert.LongConvUpdateIdeal.main_arg3))
      ∧ θ_run (Cert.LongConvUpdateRefIdeal.defs (F := Ideal)) (onTc (τ := Cert.LongConvUpdateRefIdeal.τ) (Cert.LongConvUpdateRefIdeal.main (F := Ideal))) ⟨m', fun _ => 0, g'⟩ (fun r => ∀ c : Dev Cert.LongConvUpdateRefIdeal.nD,
          r.2.mem ((c.tc : Thread Cert.LongConvUpdateRefIdeal.nD Cert.LongConvUpdateRefIdeal.τ).loc Cert.LongConvUpdateRefIdeal.main_v24) = v0 c
          ∧ r.2.mem ((c.tc : Thread Cert.LongConvUpdateRefIdeal.nD Cert.LongConvUpdateRefIdeal.τ).loc Cert.LongConvUpdateRefIdeal.main_v25) = v1 c
          ∧ r.2.mem ((c.tc : Thread Cert.LongConvUpdateRefIdeal.nD Cert.LongConvUpdateRefIdeal.τ).loc Cert.LongConvUpdateRefIdeal.main_v26) = v2 c
          ∧ r.2.mem ((c.tc : Thread Cert.LongConvUpdateRefIdeal.nD Cert.LongConvUpdateRefIdeal.τ).loc Cert.LongConvUpdateRefIdeal.main_arg0) = m' ((c.tc : Thread Cert.LongConvUpdateRefIdeal.nD Cert.LongConvUpdateRefIdeal.τ).loc Cert.LongConvUpdateRefIdeal.main_arg0)
          ∧ r.2.mem ((c.tc : Thread Cert.LongConvUpdateRefIdeal.nD Cert.LongConvUpdateRefIdeal.τ).loc Cert.LongConvUpdateRefIdeal.main_arg1) = m' ((c.tc : Thread Cert.LongConvUpdateRefIdeal.nD Cert.LongConvUpdateRefIdeal.τ).loc Cert.LongConvUpdateRefIdeal.main_arg1)
          ∧ r.2.mem ((c.tc : Thread Cert.LongConvUpdateRefIdeal.nD Cert.LongConvUpdateRefIdeal.τ).loc Cert.LongConvUpdateRefIdeal.main_arg2) = m' ((c.tc : Thread Cert.LongConvUpdateRefIdeal.nD Cert.LongConvUpdateRefIdeal.τ).loc Cert.LongConvUpdateRefIdeal.main_arg2)
          ∧ r.2.mem ((c.tc : Thread Cert.LongConvUpdateRefIdeal.nD Cert.LongConvUpdateRefIdeal.τ).loc Cert.LongConvUpdateRefIdeal.main_arg3) = m' ((c.tc : Thread Cert.LongConvUpdateRefIdeal.nD Cert.LongConvUpdateRefIdeal.τ).loc Cert.LongConvUpdateRefIdeal.main_arg3))

def Claim : Prop :=
  ∃ (hLnGrad : Cert.LnGrad.Facts) (hLnGradIdeal : Cert.LnGradIdeal.Facts) (hLnGradRefIdeal : Cert.LnGradRefIdeal.Facts) (hLossGrad : Cert.LossGrad.Facts) (hLossGradIdeal : Cert.LossGradIdeal.Facts) (hLossGradRefIdeal : Cert.LossGradRefIdeal.Facts) (hTotalLoss : Cert.TotalLoss.Facts) (hTotalLossIdeal : Cert.TotalLossIdeal.Facts) (hTotalLossRefIdeal : Cert.TotalLossRefIdeal.Facts) (hEvenGrad : Cert.EvenGrad.Facts) (hEvenGradIdeal : Cert.EvenGradIdeal.Facts) (hEvenGradRefIdeal : Cert.EvenGradRefIdeal.Facts) (hInProj : Cert.InProj.Facts) (hInProjIdeal : Cert.InProjIdeal.Facts) (hInProjRefIdeal : Cert.InProjRefIdeal.Facts) (hInWeightGrad : Cert.InWeightGrad.Facts) (hInWeightGradIdeal : Cert.InWeightGradIdeal.Facts) (hInWeightGradRefIdeal : Cert.InWeightGradRefIdeal.Facts) (hInGrad : Cert.InGrad.Facts) (hInGradIdeal : Cert.InGradIdeal.Facts) (hInGradRefIdeal : Cert.InGradRefIdeal.Facts) (hOutWeightGrad : Cert.OutWeightGrad.Facts) (hOutWeightGradIdeal : Cert.OutWeightGradIdeal.Facts) (hOutWeightGradRefIdeal : Cert.OutWeightGradRefIdeal.Facts) (hOutGrad : Cert.OutGrad.Facts) (hOutGradIdeal : Cert.OutGradIdeal.Facts) (hOutGradRefIdeal : Cert.OutGradRefIdeal.Facts) (hOutNorm : Cert.OutNorm.Facts) (hOutNormIdeal : Cert.OutNormIdeal.Facts) (hOutNormRefIdeal : Cert.OutNormRefIdeal.Facts) (hInUpdate : Cert.InUpdate.Facts) (hInUpdateIdeal : Cert.InUpdateIdeal.Facts) (hInUpdateRefIdeal : Cert.InUpdateRefIdeal.Facts) (hOutUpdate : Cert.OutUpdate.Facts) (hOutUpdateIdeal : Cert.OutUpdateIdeal.Facts) (hOutUpdateRefIdeal : Cert.OutUpdateRefIdeal.Facts) (hNormUpdate : Cert.NormUpdate.Facts) (hNormUpdateIdeal : Cert.NormUpdateIdeal.Facts) (hNormUpdateRefIdeal : Cert.NormUpdateRefIdeal.Facts) (hPoolWeightUpdate : Cert.PoolWeightUpdate.Facts) (hPoolWeightUpdateIdeal : Cert.PoolWeightUpdateIdeal.Facts) (hPoolWeightUpdateRefIdeal : Cert.PoolWeightUpdateRefIdeal.Facts) (hScaleUpdate : Cert.ScaleUpdate.Facts) (hScaleUpdateIdeal : Cert.ScaleUpdateIdeal.Facts) (hScaleUpdateRefIdeal : Cert.ScaleUpdateRefIdeal.Facts) (hShortConvUpdate : Cert.ShortConvUpdate.Facts) (hShortConvUpdateIdeal : Cert.ShortConvUpdateIdeal.Facts) (hShortConvUpdateRefIdeal : Cert.ShortConvUpdateRefIdeal.Facts) (hVectorUpdate : Cert.VectorUpdate.Facts) (hVectorUpdateIdeal : Cert.VectorUpdateIdeal.Facts) (hVectorUpdateRefIdeal : Cert.VectorUpdateRefIdeal.Facts) (hGateUpdate : Cert.GateUpdate.Facts) (hGateUpdateIdeal : Cert.GateUpdateIdeal.Facts) (hGateUpdateRefIdeal : Cert.GateUpdateRefIdeal.Facts) (hGateBiasUpdate : Cert.GateBiasUpdate.Facts) (hGateBiasUpdateIdeal : Cert.GateBiasUpdateIdeal.Facts) (hGateBiasUpdateRefIdeal : Cert.GateBiasUpdateRefIdeal.Facts) (hLongConvUpdate : Cert.LongConvUpdate.Facts) (hLongConvUpdateIdeal : Cert.LongConvUpdateIdeal.Facts) (hLongConvUpdateRefIdeal : Cert.LongConvUpdateRefIdeal.Facts) (hPre_ln_finite : Cert.Pre_ln_finite.Facts) (hPre_loss_finite : Cert.Pre_loss_finite.Facts),
    quiescent_LnGrad (hLnGrad := hLnGrad)
    ∧ quiescent_LnGradIdeal (hLnGradIdeal := hLnGradIdeal)
    ∧ quiescent_LnGradIdeal_pre_ln_finite (hLnGradIdeal := hLnGradIdeal) (hPre_ln_finite := hPre_ln_finite)
    ∧ quiescent_LnGradRefIdeal (hLnGradRefIdeal := hLnGradRefIdeal)
    ∧ quiescent_LnGradRefIdeal_pre_ln_finite (hLnGradRefIdeal := hLnGradRefIdeal) (hPre_ln_finite := hPre_ln_finite)
    ∧ quiescent_LossGrad (hLossGrad := hLossGrad)
    ∧ quiescent_LossGradIdeal (hLossGradIdeal := hLossGradIdeal)
    ∧ quiescent_LossGradIdeal_pre_loss_finite (hLossGradIdeal := hLossGradIdeal) (hPre_loss_finite := hPre_loss_finite)
    ∧ quiescent_LossGradRefIdeal (hLossGradRefIdeal := hLossGradRefIdeal)
    ∧ quiescent_LossGradRefIdeal_pre_loss_finite (hLossGradRefIdeal := hLossGradRefIdeal) (hPre_loss_finite := hPre_loss_finite)
    ∧ quiescent_TotalLoss (hTotalLoss := hTotalLoss)
    ∧ quiescent_TotalLossIdeal (hTotalLossIdeal := hTotalLossIdeal)
    ∧ quiescent_TotalLossRefIdeal (hTotalLossRefIdeal := hTotalLossRefIdeal)
    ∧ quiescent_EvenGrad (hEvenGrad := hEvenGrad)
    ∧ quiescent_EvenGradIdeal (hEvenGradIdeal := hEvenGradIdeal)
    ∧ quiescent_EvenGradRefIdeal (hEvenGradRefIdeal := hEvenGradRefIdeal)
    ∧ quiescent_InProj (hInProj := hInProj)
    ∧ quiescent_InProjIdeal (hInProjIdeal := hInProjIdeal)
    ∧ quiescent_InProjRefIdeal (hInProjRefIdeal := hInProjRefIdeal)
    ∧ quiescent_InWeightGrad (hInWeightGrad := hInWeightGrad)
    ∧ quiescent_InWeightGradIdeal (hInWeightGradIdeal := hInWeightGradIdeal)
    ∧ quiescent_InWeightGradRefIdeal (hInWeightGradRefIdeal := hInWeightGradRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_OutWeightGrad (hOutWeightGrad := hOutWeightGrad)
    ∧ quiescent_OutWeightGradIdeal (hOutWeightGradIdeal := hOutWeightGradIdeal)
    ∧ quiescent_OutWeightGradRefIdeal (hOutWeightGradRefIdeal := hOutWeightGradRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_OutNorm (hOutNorm := hOutNorm)
    ∧ quiescent_OutNormIdeal (hOutNormIdeal := hOutNormIdeal)
    ∧ quiescent_OutNormRefIdeal (hOutNormRefIdeal := hOutNormRefIdeal)
    ∧ quiescent_InUpdate (hInUpdate := hInUpdate)
    ∧ quiescent_InUpdateIdeal (hInUpdateIdeal := hInUpdateIdeal)
    ∧ quiescent_InUpdateRefIdeal (hInUpdateRefIdeal := hInUpdateRefIdeal)
    ∧ quiescent_OutUpdate (hOutUpdate := hOutUpdate)
    ∧ quiescent_OutUpdateIdeal (hOutUpdateIdeal := hOutUpdateIdeal)
    ∧ quiescent_OutUpdateRefIdeal (hOutUpdateRefIdeal := hOutUpdateRefIdeal)
    ∧ quiescent_NormUpdate (hNormUpdate := hNormUpdate)
    ∧ quiescent_NormUpdateIdeal (hNormUpdateIdeal := hNormUpdateIdeal)
    ∧ quiescent_NormUpdateRefIdeal (hNormUpdateRefIdeal := hNormUpdateRefIdeal)
    ∧ quiescent_PoolWeightUpdate (hPoolWeightUpdate := hPoolWeightUpdate)
    ∧ quiescent_PoolWeightUpdateIdeal (hPoolWeightUpdateIdeal := hPoolWeightUpdateIdeal)
    ∧ quiescent_PoolWeightUpdateRefIdeal (hPoolWeightUpdateRefIdeal := hPoolWeightUpdateRefIdeal)
    ∧ quiescent_ScaleUpdate (hScaleUpdate := hScaleUpdate)
    ∧ quiescent_ScaleUpdateIdeal (hScaleUpdateIdeal := hScaleUpdateIdeal)
    ∧ quiescent_ScaleUpdateRefIdeal (hScaleUpdateRefIdeal := hScaleUpdateRefIdeal)
    ∧ quiescent_ShortConvUpdate (hShortConvUpdate := hShortConvUpdate)
    ∧ quiescent_ShortConvUpdateIdeal (hShortConvUpdateIdeal := hShortConvUpdateIdeal)
    ∧ quiescent_ShortConvUpdateRefIdeal (hShortConvUpdateRefIdeal := hShortConvUpdateRefIdeal)
    ∧ quiescent_VectorUpdate (hVectorUpdate := hVectorUpdate)
    ∧ quiescent_VectorUpdateIdeal (hVectorUpdateIdeal := hVectorUpdateIdeal)
    ∧ quiescent_VectorUpdateRefIdeal (hVectorUpdateRefIdeal := hVectorUpdateRefIdeal)
    ∧ quiescent_GateUpdate (hGateUpdate := hGateUpdate)
    ∧ quiescent_GateUpdateIdeal (hGateUpdateIdeal := hGateUpdateIdeal)
    ∧ quiescent_GateUpdateRefIdeal (hGateUpdateRefIdeal := hGateUpdateRefIdeal)
    ∧ quiescent_GateBiasUpdate (hGateBiasUpdate := hGateBiasUpdate)
    ∧ quiescent_GateBiasUpdateIdeal (hGateBiasUpdateIdeal := hGateBiasUpdateIdeal)
    ∧ quiescent_GateBiasUpdateRefIdeal (hGateBiasUpdateRefIdeal := hGateBiasUpdateRefIdeal)
    ∧ quiescent_LongConvUpdate (hLongConvUpdate := hLongConvUpdate)
    ∧ quiescent_LongConvUpdateIdeal (hLongConvUpdateIdeal := hLongConvUpdateIdeal)
    ∧ quiescent_LongConvUpdateRefIdeal (hLongConvUpdateRefIdeal := hLongConvUpdateRefIdeal)
    ∧ preserves_LnGrad_LnGradIdeal
    ∧ algebraic_LnGradIdeal_LnGradRefIdeal_pre_ln_finite (hLnGradIdeal := hLnGradIdeal) (hLnGradRefIdeal := hLnGradRefIdeal) (hPre_ln_finite := hPre_ln_finite)
    ∧ preserves_LossGrad_LossGradIdeal
    ∧ algebraic_LossGradIdeal_LossGradRefIdeal_pre_loss_finite (hLossGradIdeal := hLossGradIdeal) (hLossGradRefIdeal := hLossGradRefIdeal) (hPre_loss_finite := hPre_loss_finite)
    ∧ preserves_TotalLoss_TotalLossIdeal
    ∧ algebraic_TotalLossIdeal_TotalLossRefIdeal (hTotalLossIdeal := hTotalLossIdeal) (hTotalLossRefIdeal := hTotalLossRefIdeal)
    ∧ preserves_EvenGrad_EvenGradIdeal
    ∧ preserves_InProj_InProjIdeal
    ∧ algebraic_InProjIdeal_InProjRefIdeal (hInProjIdeal := hInProjIdeal) (hInProjRefIdeal := hInProjRefIdeal)
    ∧ preserves_InWeightGrad_InWeightGradIdeal
    ∧ algebraic_InWeightGradIdeal_InWeightGradRefIdeal (hInWeightGradIdeal := hInWeightGradIdeal) (hInWeightGradRefIdeal := hInWeightGradRefIdeal)
    ∧ preserves_InGrad_InGradIdeal
    ∧ algebraic_InGradIdeal_InGradRefIdeal (hInGradIdeal := hInGradIdeal) (hInGradRefIdeal := hInGradRefIdeal)
    ∧ preserves_OutWeightGrad_OutWeightGradIdeal
    ∧ algebraic_OutWeightGradIdeal_OutWeightGradRefIdeal (hOutWeightGradIdeal := hOutWeightGradIdeal) (hOutWeightGradRefIdeal := hOutWeightGradRefIdeal)
    ∧ preserves_OutGrad_OutGradIdeal
    ∧ algebraic_OutGradIdeal_OutGradRefIdeal (hOutGradIdeal := hOutGradIdeal) (hOutGradRefIdeal := hOutGradRefIdeal)
    ∧ preserves_OutNorm_OutNormIdeal
    ∧ algebraic_OutNormIdeal_OutNormRefIdeal (hOutNormIdeal := hOutNormIdeal) (hOutNormRefIdeal := hOutNormRefIdeal)
    ∧ preserves_InUpdate_InUpdateIdeal
    ∧ algebraic_InUpdateIdeal_InUpdateRefIdeal (hInUpdateIdeal := hInUpdateIdeal) (hInUpdateRefIdeal := hInUpdateRefIdeal)
    ∧ preserves_OutUpdate_OutUpdateIdeal
    ∧ algebraic_OutUpdateIdeal_OutUpdateRefIdeal (hOutUpdateIdeal := hOutUpdateIdeal) (hOutUpdateRefIdeal := hOutUpdateRefIdeal)
    ∧ preserves_NormUpdate_NormUpdateIdeal
    ∧ algebraic_NormUpdateIdeal_NormUpdateRefIdeal (hNormUpdateIdeal := hNormUpdateIdeal) (hNormUpdateRefIdeal := hNormUpdateRefIdeal)
    ∧ preserves_PoolWeightUpdate_PoolWeightUpdateIdeal
    ∧ algebraic_PoolWeightUpdateIdeal_PoolWeightUpdateRefIdeal (hPoolWeightUpdateIdeal := hPoolWeightUpdateIdeal) (hPoolWeightUpdateRefIdeal := hPoolWeightUpdateRefIdeal)
    ∧ preserves_ScaleUpdate_ScaleUpdateIdeal
    ∧ algebraic_ScaleUpdateIdeal_ScaleUpdateRefIdeal (hScaleUpdateIdeal := hScaleUpdateIdeal) (hScaleUpdateRefIdeal := hScaleUpdateRefIdeal)
    ∧ preserves_ShortConvUpdate_ShortConvUpdateIdeal
    ∧ algebraic_ShortConvUpdateIdeal_ShortConvUpdateRefIdeal (hShortConvUpdateIdeal := hShortConvUpdateIdeal) (hShortConvUpdateRefIdeal := hShortConvUpdateRefIdeal)
    ∧ preserves_VectorUpdate_VectorUpdateIdeal
    ∧ algebraic_VectorUpdateIdeal_VectorUpdateRefIdeal (hVectorUpdateIdeal := hVectorUpdateIdeal) (hVectorUpdateRefIdeal := hVectorUpdateRefIdeal)
    ∧ preserves_GateUpdate_GateUpdateIdeal
    ∧ algebraic_GateUpdateIdeal_GateUpdateRefIdeal (hGateUpdateIdeal := hGateUpdateIdeal) (hGateUpdateRefIdeal := hGateUpdateRefIdeal)
    ∧ preserves_GateBiasUpdate_GateBiasUpdateIdeal
    ∧ algebraic_GateBiasUpdateIdeal_GateBiasUpdateRefIdeal (hGateBiasUpdateIdeal := hGateBiasUpdateIdeal) (hGateBiasUpdateRefIdeal := hGateBiasUpdateRefIdeal)
    ∧ preserves_LongConvUpdate_LongConvUpdateIdeal
    ∧ algebraic_LongConvUpdateIdeal_LongConvUpdateRefIdeal (hLongConvUpdateIdeal := hLongConvUpdateIdeal) (hLongConvUpdateRefIdeal := hLongConvUpdateRefIdeal)
-- ==== Pre_ln_finite.lean ====
abbrev S8192x1024 : Shape := ⟨2, ![8192, 1024]⟩
abbrev S1x1024 : Shape := ⟨2, ![1, 1024]⟩
abbrev S3x1024x6144 : Shape := ⟨3, ![3, 1024, 6144]⟩
abbrev S8192x6144 : Shape := ⟨2, ![8192, 6144]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S3x1024x6144 : S_.BroadcastsInDim S3x1024x6144 (![] : Fin 0 → Fin S3x1024x6144.rank)
  bitsLt_bf16_f32 : FTy.bits .bf16 < FTy.bits .f32
  bcast_S_S8192x6144 : S_.BroadcastsInDim S8192x6144 (![] : Fin 0 → Fin S8192x6144.rank)

variable [Facts]

def fn {F : FTy → Type} [FloatOps F] (main_arg0 : FVec F S8192x1024 .f32) (main_arg1 : FVec F S1x1024 .f32) (main_arg2 : FVec F S1x1024 .f32) (main_arg3 : FVec F S3x1024x6144 .f32) (main_arg4 : FVec F S8192x1024 .f32) (main_arg5 : FVec F S8192x6144 .bf16) : IVec S8192x1024 1 × IVec S1x1024 1 × IVec S3x1024x6144 1 × IVec S8192x1024 1 × IVec S8192x6144 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S3x1024x6144 .f32 := Host.absf main_arg3
  let main_cst_1 : FVec F S_ .f32 := constant S_ .f32 0x7F800000#32
  let main_v7 : FVec F S3x1024x6144 .f32 := broadcastInDim S3x1024x6144 ![] bcast_S_S3x1024x6144 main_cst_1
  let main_v8 : IVec S3x1024x6144 1 := cmpf .olt main_v6 main_v7
  let main_v9 : FVec F S8192x1024 .f32 := Host.absf main_arg4
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x6144 .f32 := (extf .f32 · bitsLt_bf16_f32) main_arg5
  let main_v13 : FVec F S8192x6144 .f32 := Host.absf main_v12
  let main_cst_3 : FVec F S_ .f32 := constant S_ .f32 0x7F800000#32
  let main_v14 : FVec F S8192x6144 .f32 := broadcastInDim S8192x6144 ![] bcast_S_S8192x6144 main_cst_3
  let main_v15 : IVec S8192x6144 1 := cmpf .olt main_v13 main_v14
  (main_v2, main_v5, main_v8, main_v11, main_v15)
-- ==== Pre_loss_finite.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S1x1024 .f32) (main_arg2 : FVec F S1x1024 .f32) (main_arg3 : FVec F S8192x1024 .f32) : IVec S8192x1024 1 × IVec S1x1024 1 × IVec S1x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== LnGrad.lean ====
abbrev S8192x1024 : Shape := ⟨2, ![8192, 1024]⟩
abbrev S1x1024 : Shape := ⟨2, ![1, 1024]⟩
abbrev S3x1024x6144 : Shape := ⟨3, ![3, 1024, 6144]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S3x2x512x4x1536 : Shape := ⟨5, ![3, 2, 512, 4, 1536]⟩
abbrev S4x2x3x512x1536 : Shape := ⟨5, ![4, 2, 3, 512, 1536]⟩
abbrev S512x6144 : Shape := ⟨2, ![512, 6144]⟩
abbrev S4x2x1x512x1536 : Shape := ⟨5, ![4, 2, 1, 512, 1536]⟩
abbrev S512x1024 : Shape := ⟨2, ![512, 1024]⟩
abbrev S512x1 : Shape := ⟨2, ![512, 1]⟩
abbrev S512x1536 : Shape := ⟨2, ![512, 1536]⟩
abbrev S1x2x1x512x1536 : Shape := ⟨5, ![1, 2, 1, 512, 1536]⟩
abbrev S2x512x1536 : Shape := ⟨3, ![2, 512, 1536]⟩
abbrev S1024x1536 : Shape := ⟨2, ![1024, 1536]⟩
abbrev S512x128 : Shape := ⟨2, ![512, 128]⟩
abbrev S512 : Shape := ⟨1, ![512]⟩
abbrev S1024 : Shape := ⟨1, ![1024]⟩

abbrev nBuf : Space → Nat
  | .hbm => 36
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S3x1024x6144, .f32⟩
  | .hbm, ⟨4, _⟩ => ⟨S8192x1024, .f32⟩
  | .hbm, ⟨5, _⟩ => ⟨S8192x6144, .bf16⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S3x2x512x4x1536, .f32⟩
  | .hbm, ⟨30, _⟩ => ⟨S4x2x3x512x1536, .f32⟩
  | .hbm, ⟨31, _⟩ => ⟨S4x2x3x512x1536, .bf16⟩
  | .hbm, ⟨32, _⟩ => ⟨S8192x1024, .f32⟩
  | .hbm, ⟨33, _⟩ => ⟨S8192x1024, .bf16⟩
  | .hbm, ⟨34, _⟩ => ⟨S1x1024, .f32⟩
  | .hbm, ⟨35, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S4x2x1x512x1536, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v21_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  let c0_i32_2 : BitVec 32 := 0#32
  let c0_i32_3 : BitVec 32 := 0#32
  ![c0_i32.toNat, c0_i32_0.toNat, c1_i32.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2x1x512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LnGradRefIdeal.lean ====
abbrev S8192x1024 : Shape := ⟨2, ![8192, 1024]⟩
abbrev S1x1024 : Shape := ⟨2, ![1, 1024]⟩
abbrev S3x1024x6144 : Shape := ⟨3, ![3, 1024, 6144]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S1x1024x6144 : Shape := ⟨3, ![1, 1024, 6144]⟩
abbrev S1024x6144 : Shape := ⟨2, ![1024, 6144]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S3x1024x6144, .f32⟩
  | .hbm, ⟨4, _⟩ => ⟨S8192x1024, .f32⟩
  | .hbm, ⟨5, _⟩ => ⟨S8192x6144, .bf16⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S1x1024x6144, .f32⟩
  | .hbm, ⟨44, _⟩ => ⟨S1024x6144, .f32⟩
  | .hbm, ⟨45, _⟩ => ⟨S8192x6144, .f32⟩
  | .hbm, ⟨46, _⟩ => ⟨S8192x6144, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x1024, .f32⟩
  | .hbm, ⟨91, _⟩ => ⟨S8192x1024, .f32⟩
  | .hbm, ⟨92, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== LossGrad.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1x1 : Shape := ⟨2, ![1, 1]⟩
abbrev S512x1024 : Shape := ⟨2, ![512, 1024]⟩
abbrev S512x1 : Shape := ⟨2, ![512, 1]⟩
abbrev S512 : Shape := ⟨1, ![512]⟩
abbrev S1 : Shape := ⟨1, ![1]⟩
abbrev S512x128 : Shape := ⟨2, ![512, 128]⟩
abbrev S1024 : Shape := ⟨1, ![1024]⟩

abbrev nBuf : Space → Nat
  | .hbm => 32
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1x1, .f32⟩
  | .hbm, ⟨28, _⟩ => ⟨S8192x1024, .f32⟩
  | .hbm, ⟨29, _⟩ => ⟨S8192x1024, .bf16⟩
  | .hbm, ⟨30, _⟩ => ⟨S1x1024, .f32⟩
  | .hbm, ⟨31, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1, .f32⟩
  | .local _ .vmem, ⟨3, _⟩ => ⟨S512x1, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossGradRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1 : Shape := ⟨2, ![1, 1]⟩

abbrev nBuf : Space → Nat
  | .hbm => 103
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x1024, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x1024, .f32⟩
  | .hbm, ⟨100, _⟩ => ⟨S8192x1024, .f32⟩
  | .hbm, ⟨101, _⟩ => ⟨S1x1, .f32⟩
  | .hbm, ⟨102, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_cst_11 : Ref sig .tc := ⟨.hbm, 52, rfl⟩
abbrev main_cst_12 : Ref sig .tc := ⟨.hbm, 53, rfl⟩
abbrev main_v36 : Ref sig .tc := ⟨.hbm, 54, rfl⟩
abbrev main_v37 : Ref sig .tc := ⟨.hbm, 55, rfl⟩
abbrev main_cst_13 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_14 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_15 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_16 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_17 : Ref sig .tc := ⟨.hbm, 78, rfl⟩
abbrev main_v56 : Ref sig .tc := ⟨.hbm, 79, rfl⟩
abbrev main_v57 : Ref sig .tc := ⟨.hbm, 80, rfl⟩
abbrev main_cst_18 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_20 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_21 : Ref sig .tc := ⟨.hbm, 94, rfl⟩
abbrev main_v68 : Ref sig .tc := ⟨.hbm, 95, rfl⟩
abbrev main_v69 : Ref sig .tc := ⟨.hbm, 96, rfl⟩
abbrev main_cst_22 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]
-- ==== TotalLoss.lean ====
abbrev S1x1 : Shape := ⟨2, ![1, 1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1x1, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S1x1, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v2_s0 : Ref sig .tc := ⟨.hbm, 3, rfl⟩
abbrev main_v2_s1 : Ref sig .tc := ⟨.hbm, 4, rfl⟩
abbrev main_v2_s2 : Ref sig .tc := ⟨.hbm, 5, rfl⟩
abbrev main_v2_s3 : Ref sig .tc := ⟨.hbm, 6, rfl⟩
abbrev main_v2_s4 : Ref sig .tc := ⟨.hbm, 7, rfl⟩
abbrev main_v2_s5 : Ref sig .tc := ⟨.hbm, 8, rfl⟩
abbrev main_v2_s6 : Ref sig .tc := ⟨.hbm, 9, rfl⟩
abbrev main_v2_s7 : Ref sig .tc := ⟨.hbm, 10, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v2_s0 | 1 => main_v2_s1 | 2 => main_v2_s2 | 3 => main_v2_s3 | 4 => main_v2_s4 | 5 => main_v2_s5 | 6 => main_v2_s6 | 7 => main_v2_s7 | ⟨_ + 8, h⟩ => absurd h (Nat.not_lt.2 (Nat.le_add_left _ _))
-- ==== TotalLossRefIdeal.lean ====
abbrev S8x1 : Shape := ⟨2, ![8, 1]⟩
abbrev S_ : Shape := ⟨0, ![]⟩

abbrev nBuf : Space → Nat
  | .hbm => 3
  | .vmem => 0
  | .smem => 0
  | _ => 0

abbrev bufTy : (tb : Table) → Fin (tcTables nBuf tb) → BufTy
  | .hbm, ⟨0, _⟩ => ⟨S8x1, .f32⟩
  | .hbm, ⟨1, _⟩ => ⟨S_, .f32⟩
  | .hbm, ⟨2, _⟩ => ⟨S_, .f32⟩
  | _, _ => ⟨S8x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== EvenGrad.lean ====
abbrev S8192x6144 : Shape := ⟨2, ![8192, 6144]⟩
abbrev S8192x2048 : Shape := ⟨2, ![8192, 2048]⟩
abbrev S4x256x256 : Shape := ⟨3, ![4, 256, 256]⟩
abbrev S1x1024 : Shape := ⟨2, ![1, 1024]⟩
abbrev S3x1024 : Shape := ⟨2, ![3, 1024]⟩
abbrev S256x6144 : Shape := ⟨2, ![256, 6144]⟩
abbrev S16x6144 : Shape := ⟨2, ![16, 6144]⟩
abbrev S256x2048 : Shape := ⟨2, ![256, 2048]⟩
abbrev S16x2048 : Shape := ⟨2, ![16, 2048]⟩
abbrev S288x128 : Shape := ⟨2, ![288, 128]⟩
abbrev S256x1024 : Shape := ⟨2, ![256, 1024]⟩
abbrev S272x1024 : Shape := ⟨2, ![272, 1024]⟩
abbrev S272x1 : Shape := ⟨2, ![272, 1]⟩
abbrev S256x128 : Shape := ⟨2, ![256, 128]⟩
abbrev S16x128 : Shape := ⟨2, ![16, 128]⟩
abbrev S272x128 : Shape := ⟨2, ![272, 128]⟩
abbrev S256x1 : Shape := ⟨2, ![256, 1]⟩
abbrev S256x256 : Shape := ⟨2, ![256, 256]⟩
abbrev S1x256x256 : Shape := ⟨3, ![1, 256, 256]⟩
abbrev S1x128 : Shape := ⟨2, ![1, 128]⟩
abbrev S32x128 : Shape := ⟨2, ![32, 128]⟩
abbrev S8x128 : Shape := ⟨2, ![8, 128]⟩
abbrev S128 : Shape := ⟨1, ![128]⟩
abbrev S272x256 : Shape := ⟨2, ![272, 256]⟩

abbrev nBuf : Space → Nat
  | .hbm => 14
  | .vmem => 27
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S4x256x256, .f32⟩
  | .hbm, ⟨3, _⟩ => ⟨S1x1024, .f32⟩
  | .hbm, ⟨4, _⟩ => ⟨S3x1024, .f32⟩
  | .hbm, ⟨5, _⟩ => ⟨S1x1024, .f32⟩
  | .hbm, ⟨6, _⟩ => ⟨S4x256x256, .bf16⟩
  | .hbm, ⟨7, _⟩ => ⟨S4x256x256, .f32⟩
  | .hbm, ⟨8, _⟩ => ⟨S4x256x256, .bf16⟩
  | .hbm, ⟨9, _⟩ => ⟨S8192x6144, .bf16⟩
  | .hbm, ⟨10, _⟩ => ⟨S4x256x256, .f32⟩
  | .hbm, ⟨11, _⟩ => ⟨S1x1024, .f32⟩
  | .hbm, ⟨12, _⟩ => ⟨S3x1024, .f32⟩
  | .hbm, ⟨13, _⟩ => ⟨S1x1024, .f32⟩
  | .local _ .vmem, ⟨0, _⟩ => ⟨S256x6144, .bf16⟩
  | .local _ .vmem, ⟨1, _⟩ => ⟨S256x6144, .bf16⟩
  | .local _ .vmem, ⟨2, _⟩ => ⟨S16x6144, .bf16⟩
  | .local _ .vmem, ⟨3, _⟩ => ⟨S16x6144, .bf16⟩
  | .local _ .vmem, ⟨4, _⟩ => ⟨S16x6144, .bf16⟩
  | .local _ .vmem, ⟨5, _⟩ => ⟨S16x6144, .bf16⟩
  | .local _ .vmem, ⟨6, _⟩ => ⟨S256x2048, .bf16⟩
  | .local _ .vmem, ⟨7, _⟩ => ⟨S256x2048, .bf16⟩
  | .local _ .vmem, ⟨8, _⟩ => ⟨S16x2048, .bf16⟩
  | .local _ .vmem, ⟨9, _⟩ => ⟨S16x2048, .bf16⟩
  | .local _ .vmem, ⟨10, _⟩ => ⟨S4x256x256, .bf16⟩
  | .local _ .vmem, ⟨11, _⟩ => ⟨S4x256x256, .bf16⟩
  | .local _ .vmem, ⟨12, _⟩ => ⟨S1x1024, .f32⟩
  | .local _ .vmem, ⟨13, _⟩ => ⟨S3x1024, .f32⟩
  | .local _ .vmem, ⟨14, _⟩ => ⟨S1x1024, .f32⟩
  | .local _ .vmem, ⟨15, _⟩ => ⟨S256x6144, .bf16⟩
  | .local _ .vmem, ⟨16, _⟩ => ⟨S256x6144, .bf16⟩
  | .local _ .vmem, ⟨17, _⟩ => ⟨S4x256x256, .f32⟩
  | .local _ .vmem, ⟨18, _⟩ => ⟨S1x1024, .f32⟩
  | .local _ .vmem, ⟨19, _⟩ => ⟨S3x1024, .f32⟩
  | .local _ .vmem, ⟨20, _⟩ => ⟨S1x1024, .f32⟩
  | .local _ .vmem, ⟨21, _⟩ => ⟨S288x128, .f32⟩
  | .local _ .vmem, ⟨22, _⟩ => ⟨S256x1024, .bf16⟩
  | .local _ .vmem, ⟨23, _⟩ => ⟨S256x1024, .f32⟩
  | .local _ .vmem, ⟨24, _⟩ => ⟨S272x1024, .bf16⟩
  | .local _ .vmem, ⟨25, _⟩ => ⟨S272x1024, .f32⟩
  | .local _ .vmem, ⟨26, _⟩ => ⟨S288x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x6144 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== EvenGradRefIdeal.lean ====
abbrev S8192x6144 : Shape := ⟨2, ![8192, 6144]⟩
abbrev S8192x2048 : Shape := ⟨2, ![8192, 2048]⟩
abbrev S4x256x256 : Shape := ⟨3, ![4, 256, 256]⟩
abbrev S1x1024 : Shape := ⟨2, ![1, 1024]⟩
abbrev S3x1024 : Shape := ⟨2, ![3, 1024]⟩
abbrev S8192x1024 : Shape := ⟨2, ![8192, 1024]⟩
abbrev S_ : Shape := ⟨0, ![]⟩
abbrev S8193x1024 : Shape := ⟨2, ![8193, 1024]⟩
abbrev S8192 : Shape := ⟨1, ![8192]⟩
abbrev S8193x256 : Shape := ⟨2, ![8193, 256]⟩
abbrev S8191x256 : Shape := ⟨2, ![8191, 256]⟩
abbrev S1x256 : Shape := ⟨2, ![1, 256]⟩
abbrev S8192x256 : Shape := ⟨2, ![8192, 256]⟩
abbrev S8192x1 : Shape := ⟨2, ![8192, 1]⟩
abbrev S8189x256 : Shape := ⟨2, ![8189, 256]⟩
abbrev S3x256 : Shape := ⟨2, ![3, 256]⟩
abbrev S8185x256 : Shape := ⟨2, ![8185, 256]⟩
abbrev S7x256 : Shape := ⟨2, ![7, 256]⟩
abbrev S8177x256 : Shape := ⟨2, ![8177, 256]⟩
abbrev S15x256 : Shape := ⟨2, ![15, 256]⟩
abbrev S8192x4x256 : Shape := ⟨3, ![8192, 4, 256]⟩
abbrev S4x256x8192 : Shape := ⟨3, ![4, 256, 8192]⟩
abbrev S2x1024 : Shape := ⟨2, ![2, 1024]⟩
abbrev S8194x1024 : Shape := ⟨2, ![8194, 1024]⟩
abbrev S1024 : Shape := ⟨1, ![1024]⟩
abbrev S4x8192x256 : Shape := ⟨3, ![4, 8192, 256]⟩

abbrev nBuf : Space → Nat
  | .hbm => 299
  | .vmem => 0
  | .smem => 0
  | _ => 0

abbrev hbmTy0_0 (i : Nat) : BufTy := match i % 128 with
  | 0 => ⟨S8192x6144, .bf16⟩
  | 1 => ⟨S8192x2048, .bf16⟩
  | 2 => ⟨S4x256x256, .f32⟩
  | 3 => ⟨S1x1024, .f32⟩
  | 4 => ⟨S3x1024, .f32⟩
  | 5 => ⟨S1x1024, .f32⟩
  | 6 => ⟨S8192x6144, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S_, .f32⟩
  | 15 => ⟨S8192x1024, .f32⟩
  | 16 => ⟨S_, .f32⟩
  | 17 => ⟨S1x1024, .f32⟩
  | 18 => ⟨S8193x1024, .f32⟩
  | 19 => ⟨S_, .f32⟩
  | 20 => ⟨S1x1024, .f32⟩
  | 21 => ⟨S8192, .i32⟩
  | 22 => ⟨S_, .i32⟩
  | 23 => ⟨S8192, .i32⟩
  | 24 => ⟨S8192, .i32⟩
  | 25 => ⟨S8192, .f32⟩
  | 26 => ⟨S8193x256, .f32⟩
  | 27 => ⟨S8191x256, .f32⟩
  | 28 => ⟨S_, .f32⟩
  | 29 => ⟨S1x256, .f32⟩
  | 30 => ⟨S8192x256, .f32⟩
  | 31 => ⟨S_, .f32⟩
  | 32 => ⟨S1x256, .f32⟩
  | 33 => ⟨S_, .f32⟩
  | 34 => ⟨S8192, .f32⟩
  | 35 => ⟨S8192, .f32⟩
  | 36 => ⟨S8192x1, .f32⟩
  | 37 => ⟨S8192x256, .f32⟩
  | 38 => ⟨S8192x256, .f32⟩
  | 39 => ⟨S8192x256, .f32⟩
  | 40 => ⟨S8192x256, .f32⟩
  | 41 => ⟨S8193x256, .f32⟩
  | 42 => ⟨S8189x256, .f32⟩
  | 43 => ⟨S_, .f32⟩
  | 44 => ⟨S3x256, .f32⟩
  | 45 => ⟨S8192x256, .f32⟩
  | 46 => ⟨S_, .f32⟩
  | 47 => ⟨S3x256, .f32⟩
  | 48 => ⟨S_, .f32⟩
  | 49 => ⟨S8192, .f32⟩
  | 50 => ⟨S8192, .f32⟩
  | 51 => ⟨S8192x1, .f32⟩
  | 52 => ⟨S8192x256, .f32⟩
  | 53 => ⟨S8192x256, .f32⟩
  | 54 => ⟨S8192x256, .f32⟩
  | 55 => ⟨S8192x256, .f32⟩
  | 56 => ⟨S8193x256, .f32⟩
  | 57 => ⟨S8185x256, .f32⟩
  | 58 => ⟨S_, .f32⟩
  | 59 => ⟨S7x256, .f32⟩
  | 60 => ⟨S8192x256, .f32⟩
  | 61 => ⟨S_, .f32⟩
  | 62 => ⟨S7x256, .f32⟩
  | 63 => ⟨S_, .f32⟩
  | 64 => ⟨S8192, .f32⟩
  | 65 => ⟨S8192, .f32⟩
  | 66 => ⟨S8192x1, .f32⟩
  | 67 => ⟨S8192x256, .f32⟩
  | 68 => ⟨S8192x256, .f32⟩
  | 69 => ⟨S8192x256, .f32⟩
  | 70 => ⟨S8192x256, .f32⟩
  | 71 => ⟨S8193x256, .f32⟩
  | 72 => ⟨S8177x256, .f32⟩
  | 73 => ⟨S_, .f32⟩
  | 74 => ⟨S15x256, .f32⟩
  | 75 => ⟨S8192x256, .f32⟩
  | 76 => ⟨S_, .f32⟩
  | 77 => ⟨S15x256, .f32⟩
  | 78 => ⟨S_, .f32⟩
  | 79 => ⟨S8192, .f32⟩
  | 80 => ⟨S8192, .f32⟩
  | 81 => ⟨S8192x1, .f32⟩
  | 82 => ⟨S8192x256, .f32⟩
  | 83 => ⟨S8192x256, .f32⟩
  | 84 => ⟨S8192x256, .f32⟩
  | 85 => ⟨S8192x256, .f32⟩
  | 86 => ⟨S8192x1024, .f32⟩
  | 87 => ⟨S8192x1024, .f32⟩
  | 88 => ⟨S8192x4x256, .f32⟩
  | 89 => ⟨S4x256x8192, .f32⟩
  | 90 => ⟨S8192x4x256, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S_, .f32⟩
  | 97 => ⟨S8192x1024, .f32⟩
  | 98 => ⟨S8192x1024, .f32⟩
  | 99 => ⟨S_, .f32⟩
  | 100 => ⟨S8192x1024, .f32⟩
  | 101 => ⟨S8192x1024, .f32⟩
  | 102 => ⟨S_, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S_, .f32⟩
  | 110 => ⟨S2x1024, .f32⟩
  | 111 => ⟨S8194x1024, .f32⟩
  | 112 => ⟨S_, .f32⟩
  | 113 => ⟨S2x1024, .f32⟩
  | 114 => ⟨S1x1024, .f32⟩
  | 115 => ⟨S1024, .f32⟩
  | 116 => ⟨S8192x1024, .f32⟩
  | 117 => ⟨S1x1024, .f32⟩
  | 118 => ⟨S8192x1024, .f32⟩
  | 119 => ⟨S8192x1024, .f32⟩
  | 120 => ⟨S_, .f32⟩
  | 121 => ⟨S8192x1024, .f32⟩
  | 122 => ⟨S8192x1024, .f32⟩
  | 123 => ⟨S1x1024, .f32⟩
  | 124 => ⟨S1024, .f32⟩
  | 125 => ⟨S8192x1024, .f32⟩
  | 126 => ⟨S1x1024, .f32⟩
  | 127 => ⟨S8192x1024, .f32⟩
  | _ => ⟨S8192x6144, .bf16⟩

abbrev hbmTy0_1 (i : Nat) : BufTy := match i % 128 with
  | 0 => ⟨S8192x1024, .f32⟩
  | 1 => ⟨S8192x1024, .f32⟩
  | 2 => ⟨S1x1024, .f32⟩
  | 3 => ⟨S1024, .f32⟩
  | 4 => ⟨S8192x1024, .f32⟩
  | 5 => ⟨S1x1024, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S_, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S8192x2048, .f32⟩
  | 27 => ⟨S8192x2048, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S_, .f32⟩
  | 39 => ⟨S1024, .f32⟩
  | 40 => ⟨S1x1024, .f32⟩
  | 41 => ⟨S8192x1024, .f32⟩
  | 42 => ⟨S8192x1024, .f32⟩
  | 43 => ⟨S8192x1024, .f32⟩
  | 44 => ⟨S_, .f32⟩
  | 45 => ⟨S1024, .f32⟩
  | 46 => ⟨S1x1024, .f32⟩
  | 47 => ⟨S_, .f32⟩
  | 48 => ⟨S1024, .f32⟩
  | 49 => ⟨S_, .f32⟩
  | 50 => ⟨S8194x1024, .f32⟩
  | 51 => ⟨S1x1024, .f32⟩
  | 52 => ⟨S_, .f32⟩
  | 53 => ⟨S3x1024, .f32⟩
  | 54 => ⟨S8192x1024, .f32⟩
  | 55 => ⟨S8192x1024, .f32⟩
  | 56 => ⟨S8192x1024, .f32⟩
  | 57 => ⟨S_, .f32⟩
  | 58 => ⟨S1024, .f32⟩
  | 59 => ⟨S1x1024, .f32⟩
  | 60 => ⟨S_, .f32⟩
  | 61 => ⟨S1024, .f32⟩
  | 62 => ⟨S_, .f32⟩
  | 63 => ⟨S8194x1024, .f32⟩
  | 64 => ⟨S8194x1024, .f32⟩
  | 65 => ⟨S1x1024, .f32⟩
  | 66 => ⟨S_, .f32⟩
  | 67 => ⟨S3x1024, .f32⟩
  | 68 => ⟨S3x1024, .f32⟩
  | 69 => ⟨S8192x1024, .f32⟩
  | 70 => ⟨S8192x1024, .f32⟩
  | 71 => ⟨S8192x1024, .f32⟩
  | 72 => ⟨S_, .f32⟩
  | 73 => ⟨S1024, .f32⟩
  | 74 => ⟨S1x1024, .f32⟩
  | 75 => ⟨S_, .f32⟩
  | 76 => ⟨S1024, .f32⟩
  | 77 => ⟨S_, .f32⟩
  | 78 => ⟨S8194x1024, .f32⟩
  | 79 => ⟨S8194x1024, .f32⟩
  | 80 => ⟨S1x1024, .f32⟩
  | 81 => ⟨S_, .f32⟩
  | 82 => ⟨S3x1024, .f32⟩
  | 83 => ⟨S3x1024, .f32⟩
  | 84 => ⟨S2x1024, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S_, .f32⟩
  | 96 => ⟨S1024, .f32⟩
  | 97 => ⟨S1x1024, .f32⟩
  | 98 => ⟨S8192x1024, .f32⟩
  | 99 => ⟨S8192x1024, .f32⟩
  | 100 => ⟨S8192x4x256, .f32⟩
  | 101 => ⟨S4x256x8192, .f32⟩
  | 102 => ⟨S4x8192x256, .f32⟩
  | 103 => ⟨S8192x4x256, .f32⟩
  | 104 => ⟨S4x256x256, .f32⟩
  | 105 => ⟨S4x256x256, .f32⟩
  | 106 => ⟨S8192x1024, .f32⟩
  | 107 => ⟨S8192x1024, .f32⟩
  | 108 => ⟨S8192x256, .f32⟩
  | 109 => ⟨S8192x256, .f32⟩
  | 110 => ⟨S8192x256, .f32⟩
  | 111 => ⟨S8192x256, .f32⟩
  | 112 => ⟨S8192x256, .f32⟩
  | 113 => ⟨S8192x256, .f32⟩
  | 114 => ⟨S8192x256, .f32⟩
  | 115 => ⟨S_, .f32⟩
  | 116 => ⟨S8193x256, .f32⟩
  | 117 => ⟨S15x256, .f32⟩
  | 118 => ⟨S8177x256, .f32⟩
  | 119 => ⟨S_, .f32⟩
  | 120 => ⟨S8193x256, .f32⟩
  | 121 => ⟨S8193x256, .f32⟩
  | 122 => ⟨S_, .f32⟩
  | 123 => ⟨S8193x1024, .f32⟩
  | 124 => ⟨S8192x256, .f32⟩
  | 125 => ⟨S8192x256, .f32⟩
  | 126 => ⟨S8192x256, .f32⟩
  | 127 => ⟨S_, .f32⟩
  | _ => ⟨S8192x6144, .bf16⟩

abbrev hbmTy0_2 (i : Nat) : BufTy := match i % 128 with
  | 0 => ⟨S8193x256, .f32⟩
  | 1 => ⟨S7x256, .f32⟩
  | 2 => ⟨S8185x256, .f32⟩
  | 3 => ⟨S_, .f32⟩
  | 4 => ⟨S8193x256, .f32⟩
  | 5 => ⟨S8193x256, .f32⟩
  | 6 => ⟨S_, .f32⟩
  | 7 => ⟨S8193x1024, .f32⟩
  | 8 => ⟨S8193x1024, .f32⟩
  | 9 => ⟨S8192x256, .f32⟩
  | 10 => ⟨S8192x256, .f32⟩
  | 11 => ⟨S8192x256, .f32⟩
  | 12 => ⟨S_, .f32⟩
  | 13 => ⟨S8193x256, .f32⟩
  | 14 => ⟨S3x256, .f32⟩
  | 15 => ⟨S8189x256, .f32⟩
  | 16 => ⟨S_, .f32⟩
  | 17 => ⟨S8193x256, .f32⟩
  | 18 => ⟨S8193x256, .f32⟩
  | 19 => ⟨S_, .f32⟩
  | 20 => ⟨S8193x1024, .f32⟩
  | 21 => ⟨S8193x1024, .f32⟩
  | 22 => ⟨S8192x256, .f32⟩
  | 23 => ⟨S8192x256, .f32⟩
  | 24 => ⟨S8192x256, .f32⟩
  | 25 => ⟨S_, .f32⟩
  | 26 => ⟨S8193x256, .f32⟩
  | 27 => ⟨S1x256, .f32⟩
  | 28 => ⟨S8191x256, .f32⟩
  | 29 => ⟨S_, .f32⟩
  | 30 => ⟨S8193x256, .f32⟩
  | 31 => ⟨S8193x256, .f32⟩
  | 32 => ⟨S_, .f32⟩
  | 33 => ⟨S8193x1024, .f32⟩
  | 34 => ⟨S8193x1024, .f32⟩
  | 35 => ⟨S1x1024, .f32⟩
  | 36 => ⟨S8192x1024, .f32⟩
  | 37 => ⟨S_, .f32⟩
  | 38 => ⟨S_, .f32⟩
  | 39 => ⟨S8192x1024, .f32⟩
  | 40 => ⟨S8192x1024, .f32⟩
  | 41 => ⟨S8192x6144, .f32⟩
  | 42 => ⟨S8192x6144, .bf16⟩
  | _ => ⟨S8192x6144, .bf16⟩

abbrev hbmTy (i : Nat) : BufTy := match i / 128 with
  | 0 => hbmTy0_0 i
  | 1 => hbmTy0_1 i
  | 2 => hbmTy0_2 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_call0_cst : Ref sig .tc := ⟨.hbm, 13, rfl⟩
abbrev main_call0_call0_v0 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_v71_2 : Ref sig .tc := ⟨.hbm, 101, rfl⟩
abbrev main_call1_cst_1 : Ref sig .tc := ⟨.hbm, 102, rfl⟩
abbrev main_call1_v6 : Ref sig .tc := ⟨.hbm, 103, rfl⟩
abbrev main_call1_v7 : Ref sig .tc := ⟨.hbm, 104, rfl⟩
abbrev main_v71_1 : Ref sig .tc := ⟨.hbm, 105, rfl⟩
abbrev main_v71_0 : Ref sig .tc := ⟨.hbm, 106, rfl⟩
abbrev main_v72 : Ref sig .tc := ⟨.hbm, 107, rfl⟩
abbrev main_v73 : Ref sig .tc := ⟨.hbm, 108, rfl⟩
abbrev main_cst_13 : Ref sig .tc := ⟨.hbm, 109, rfl⟩
abbrev main_v74 : Ref sig .tc := ⟨.hbm, 110, rfl⟩
abbrev main_v75 : Ref sig .tc := ⟨.hbm, 111, rfl⟩
abbrev main_cst_14 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_15 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_call2_v0 : Ref sig .tc := ⟨.hbm, 140, rfl⟩
abbrev main_call2_v1 : Ref sig .tc := ⟨.hbm, 141, rfl⟩
abbrev main_call2_cst : Ref sig .tc := ⟨.hbm, 142, rfl⟩
abbrev main_call2_v2 : Ref sig .tc := ⟨.hbm, 143, rfl⟩
abbrev main_call2_v3 : Ref sig .tc := ⟨.hbm, 144, rfl⟩
abbrev main_call2_cst_0 : Ref sig .tc := ⟨.hbm, 145, rfl⟩
abbrev main_call2_v4 : Ref sig .tc := ⟨.hbm, 146, rfl⟩
abbrev main_v102_2 : Ref sig .tc := ⟨.hbm, 147, rfl⟩
abbrev main_call2_cst_1 : Ref sig .tc := ⟨.hbm, 148, rfl⟩
abbrev main_call2_v6 : Ref sig .tc := ⟨.hbm, 149, rfl⟩
abbrev main_call2_v7 : Ref sig .tc := ⟨.hbm, 150, rfl⟩
abbrev main_v102_1 : Ref sig .tc := ⟨.hbm, 151, rfl⟩
abbrev main_v102_0 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_call3_v0 : Ref sig .tc := ⟨.hbm, 160, rfl⟩
abbrev main_call3_v1 : Ref sig .tc := ⟨.hbm, 161, rfl⟩
abbrev main_call3_v2 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_16 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_cst_17 : Ref sig .tc := ⟨.hbm, 172, rfl⟩
abbrev main_v118 : Ref sig .tc := ⟨.hbm, 173, rfl⟩
abbrev main_v119 : Ref sig .tc := ⟨.hbm, 174, rfl⟩
abbrev main_cst_18 : Ref sig .tc := ⟨.hbm, 175, rfl⟩
abbrev main_v120 : Ref sig .tc := ⟨.hbm, 176, rfl⟩
abbrev main_cst_19 : Ref sig .tc := ⟨.hbm, 177, rfl⟩
abbrev main_v121 : Ref sig .tc := ⟨.hbm, 178, rfl⟩
abbrev main_v122 : Ref sig .tc := ⟨.hbm, 179, rfl⟩
abbrev main_cst_20 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_cst_21 : Ref sig .tc := ⟨.hbm, 185, rfl⟩
abbrev main_v127 : Ref sig .tc := ⟨.hbm, 186, rfl⟩
abbrev main_v128 : Ref sig .tc := ⟨.hbm, 187, rfl⟩
abbrev main_cst_22 : Ref sig .tc := ⟨.hbm, 188, rfl⟩
abbrev main_v129 : Ref sig .tc := ⟨.hbm, 189, rfl⟩
abbrev main_cst_23 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_cst_24 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_cst_25 : Ref sig .tc := ⟨.hbm, 200, rfl⟩
abbrev main_v138 : Ref sig .tc := ⟨.hbm, 201, rfl⟩
abbrev main_v139 : Ref sig .tc := ⟨.hbm, 202, rfl⟩
abbrev main_cst_26 : Ref sig .tc := ⟨.hbm, 203, rfl⟩
abbrev main_v140 : Ref sig .tc := ⟨.hbm, 204, rfl⟩
abbrev main_cst_27 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_cst_28 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_call4_v0 : Ref sig .tc := ⟨.hbm, 218, rfl⟩
abbrev main_call4_v1 : Ref sig .tc := ⟨.hbm, 219, rfl⟩
abbrev main_call4_v2 : Ref sig .tc := ⟨.hbm, 220, rfl⟩
abbrev main_v152 : Ref sig .tc := ⟨.hbm, 221, rfl⟩
abbrev main_v153 : Ref sig .tc := ⟨.hbm, 222, rfl⟩
abbrev main_cst_29 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_cst_30 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_cst_31 : Ref sig .tc := ⟨.hbm, 247, rfl⟩
abbrev main_v176 : Ref sig .tc := ⟨.hbm, 248, rfl⟩
abbrev main_v177 : Ref sig .tc := ⟨.hbm, 249, rfl⟩
abbrev main_cst_32 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_cst_33 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_cst_34 : Ref sig .tc := ⟨.hbm, 259, rfl⟩
abbrev main_v185 : Ref sig .tc := ⟨.hbm, 260, rfl⟩
abbrev main_v186 : Ref sig .tc := ⟨.hbm, 261, rfl⟩
abbrev main_cst_35 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_cst_36 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_cst_37 : Ref sig .tc := ⟨.hbm, 272, rfl⟩
abbrev main_v195 : Ref sig .tc := ⟨.hbm, 273, rfl⟩
abbrev main_v196 : Ref sig .tc := ⟨.hbm, 274, rfl⟩
abbrev main_cst_38 : Ref sig .tc := ⟨.hbm, 275, rfl⟩
abbrev main_v197 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_cst_39 : Ref sig .tc := ⟨.hbm, 281, rfl⟩
abbrev main_v202 : Ref sig .tc := ⟨.hbm, 282, rfl⟩
abbrev main_v203 : Ref sig .tc := ⟨.hbm, 283, rfl⟩
abbrev main_v204 : Ref sig .tc := ⟨.hbm, 284, rfl⟩
abbrev main_cst_40 : Ref sig .tc := ⟨.hbm, 285, rfl⟩
abbrev main_v205 : Ref sig .tc := ⟨.hbm, 286, rfl⟩
abbrev main_v206 : Ref sig .tc := ⟨.hbm, 287, rfl⟩
abbrev main_cst_41 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_call5_call0_cst : Ref sig .tc := ⟨.hbm, 293, rfl⟩
abbrev main_call5_call0_v0 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩

abbrev nD : Nat := 1
abbrev τ : Topo := Topo.v7x

variable {F : FTy → Type} [FloatOps F]
-- ==== InProj.lean ====
abbrev S8192x1024 : Shape := ⟨2, ![8192, 1024]⟩
abbrev S3x1024x6144 : Shape := ⟨3, ![3, 1024, 6144]⟩
abbrev S3x2x512x4x1536 : Shape := ⟨5, ![3, 2, 512, 4, 1536]⟩
abbrev S4x2x3x512x1536 : Shape := ⟨5, ![4, 2, 3, 512, 1536]⟩
abbrev S8192x6144 : Shape := ⟨2, ![8192, 6144]⟩
abbrev S1024x1024 : Shape := ⟨2, ![1024, 1024]⟩
abbrev S1x2x1x512x1536 : Shape := ⟨5, ![1, 2, 1, 512, 1536]⟩
abbrev S1024x1536 : Shape := ⟨2, ![1024, 1536]⟩
abbrev S2x512x1536 : Shape := ⟨3, ![2, 512, 1536]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S3x1024x6144, .f32⟩
  | .hbm, ⟨2, _⟩ => ⟨S3x2x512x4x1536, .f32⟩
  | .hbm, ⟨3, _⟩ => ⟨S4x2x3x512x1536, .f32⟩
  | .hbm, ⟨4, _⟩ => ⟨S4x2x3x512x1536, .bf16⟩
  | .hbm, ⟨5, _⟩ => ⟨S8192x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1x2x1x512x1536, .bf16⟩
  | .local _ .vmem, ⟨3, _⟩ => ⟨S1x2x1x512x1536, .bf16⟩
  | .local _ .vmem, ⟨4, _⟩ => ⟨S1024x1536, .bf16⟩
  | .local _ .vmem, ⟨5, _⟩ => ⟨S1024x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![arg0.toNat, c0_i32.toNat, c1_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2x1x512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x1024 : Shape := ⟨2, ![8192, 1024]⟩
abbrev S3x1024x6144 : Shape := ⟨3, ![3, 1024, 6144]⟩
abbrev S1x1024x6144 : Shape := ⟨3, ![1, 1024, 6144]⟩
abbrev S1024x6144 : Shape := ⟨2, ![1024, 6144]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x1024x6144, .f32⟩
  | .hbm, ⟨2, _⟩ => ⟨S8192x1024, .f32⟩
  | .hbm, ⟨3, _⟩ => ⟨S1x1024x6144, .f32⟩
  | .hbm, ⟨4, _⟩ => ⟨S1024x6144, .f32⟩
  | .hbm, ⟨5, _⟩ => ⟨S8192x6144, .f32⟩
  | .hbm, ⟨6, _⟩ => ⟨S8192x6144, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InWeightGrad.lean ====
abbrev S8192x1024 : Shape := ⟨2, ![8192, 1024]⟩
abbrev S8192x6144 : Shape := ⟨2, ![8192, 6144]⟩
abbrev S4x1024x1536 : Shape := ⟨3, ![4, 1024, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S4x1024x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .f32⟩
  | .local _ .vmem, ⟨5, _⟩ => ⟨S1x1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InWeightGradRefIdeal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩
abbrev S1024x1536 : Shape := ⟨2, ![1024, 1536]⟩
abbrev S1x1024x1536 : Shape := ⟨3, ![1, 1024, 1536]⟩
abbrev S4x1024x1536 : Shape := ⟨3, ![4, 1024, 1536]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S_, .f32⟩
  | .hbm, ⟨3, _⟩ => ⟨S1024x6144, .f32⟩
  | .hbm, ⟨4, _⟩ => ⟨S8192x1024, .f32⟩
  | .hbm, ⟨5, _⟩ => ⟨S8192x6144, .f32⟩
  | .hbm, ⟨6, _⟩ => ⟨S8192x6144, .f32⟩
  | .hbm, ⟨7, _⟩ => ⟨S6144x1024, .f32⟩
  | .hbm, ⟨8, _⟩ => ⟨S1024x6144, .f32⟩
  | .hbm, ⟨9, _⟩ => ⟨S1024x1536, .f32⟩
  | .hbm, ⟨10, _⟩ => ⟨S1024x1536, .f32⟩
  | .hbm, ⟨11, _⟩ => ⟨S1024x1536, .f32⟩
  | .hbm, ⟨12, _⟩ => ⟨S1024x1536, .f32⟩
  | .hbm, ⟨13, _⟩ => ⟨S1x1024x1536, .f32⟩
  | .hbm, ⟨14, _⟩ => ⟨S1x1024x1536, .f32⟩
  | .hbm, ⟨15, _⟩ => ⟨S1x1024x1536, .f32⟩
  | .hbm, ⟨16, _⟩ => ⟨S1x1024x1536, .f32⟩
  | .hbm, ⟨17, _⟩ => ⟨S4x1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== InGrad.lean ====
abbrev S8192x6144 : Shape := ⟨2, ![8192, 6144]⟩
abbrev S1024x6144 : Shape := ⟨2, ![1024, 6144]⟩
abbrev S8192x1024 : Shape := ⟨2, ![8192, 1024]⟩
abbrev S2x512x4x1536 : Shape := ⟨4, ![2, 512, 4, 1536]⟩
abbrev S4x2x512x1536 : Shape := ⟨4, ![4, 2, 512, 1536]⟩
abbrev S4x2x1x512x1536 : Shape := ⟨5, ![4, 2, 1, 512, 1536]⟩
abbrev S512x6144 : Shape := ⟨2, ![512, 6144]⟩
abbrev S512x1024 : Shape := ⟨2, ![512, 1024]⟩
abbrev S512x1536 : Shape := ⟨2, ![512, 1536]⟩
abbrev S1x2x1x512x1536 : Shape := ⟨5, ![1, 2, 1, 512, 1536]⟩
abbrev S2x512x1536 : Shape := ⟨3, ![2, 512, 1536]⟩
abbrev S1024x1536 : Shape := ⟨2, ![1024, 1536]⟩

abbrev nBuf : Space → Nat
  | .hbm => 8
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S1024x6144, .f32⟩
  | .hbm, ⟨2, _⟩ => ⟨S8192x1024, .f32⟩
  | .hbm, ⟨3, _⟩ => ⟨S2x512x4x1536, .f32⟩
  | .hbm, ⟨4, _⟩ => ⟨S4x2x512x1536, .f32⟩
  | .hbm, ⟨5, _⟩ => ⟨S4x2x512x1536, .bf16⟩
  | .hbm, ⟨6, _⟩ => ⟨S4x2x1x512x1536, .bf16⟩
  | .hbm, ⟨7, _⟩ => ⟨S8192x1024, .f32⟩
  | .local _ .vmem, ⟨0, _⟩ => ⟨S512x6144, .bf16⟩
  | .local _ .vmem, ⟨1, _⟩ => ⟨S512x6144, .bf16⟩
  | .local _ .vmem, ⟨2, _⟩ => ⟨S4x2x1x512x1536, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2x1x512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InGradRefIdeal.lean ====
abbrev S8192x6144 : Shape := ⟨2, ![8192, 6144]⟩
abbrev S1024x6144 : Shape := ⟨2, ![1024, 6144]⟩
abbrev S8192x1024 : Shape := ⟨2, ![8192, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S1024x6144, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x6144, .f32⟩
  | .hbm, ⟨9, _⟩ => ⟨S8192x6144, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== OutWeightGrad.lean ====
abbrev S8192x2048 : Shape := ⟨2, ![8192, 2048]⟩
abbrev S8192x1024 : Shape := ⟨2, ![8192, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== OutWeightGradRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutGrad.lean ====
abbrev S8192x1024 : Shape := ⟨2, ![8192, 1024]⟩
abbrev S3x2048x1024 : Shape := ⟨3, ![3, 2048, 1024]⟩
abbrev S3x4x2x256x1024 : Shape := ⟨5, ![3, 4, 2, 256, 1024]⟩
abbrev S4x2x3x256x1024 : Shape := ⟨5, ![4, 2, 3, 256, 1024]⟩
abbrev S8192x2048 : Shape := ⟨2, ![8192, 2048]⟩
abbrev S512x1024 : Shape := ⟨2, ![512, 1024]⟩
abbrev S4x2x1x256x1024 : Shape := ⟨5, ![4, 2, 1, 256, 1024]⟩
abbrev S512x2048 : Shape := ⟨2, ![512, 2048]⟩
abbrev S4x2x256x1024 : Shape := ⟨4, ![4, 2, 256, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S3x2048x1024, .f32⟩
  | .hbm, ⟨2, _⟩ => ⟨S3x4x2x256x1024, .f32⟩
  | .hbm, ⟨3, _⟩ => ⟨S4x2x3x256x1024, .f32⟩
  | .hbm, ⟨4, _⟩ => ⟨S4x2x3x256x1024, .bf16⟩
  | .hbm, ⟨5, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S4x2x1x256x1024, .bf16⟩
  | .local _ .vmem, ⟨3, _⟩ => ⟨S512x2048, .bf16⟩
  | .local _ .vmem, ⟨4, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  let c0_i32_2 : BitVec 32 := 0#32
  let c0_i32_3 : BitVec 32 := 0#32
  ![c0_i32.toNat, c0_i32_0.toNat, c1_i32.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutGradRefIdeal.lean ====
abbrev S8192x1024 : Shape := ⟨2, ![8192, 1024]⟩
abbrev S3x2048x1024 : Shape := ⟨3, ![3, 2048, 1024]⟩
abbrev S_ : Shape := ⟨0, ![]⟩
abbrev S8192x2048 : Shape := ⟨2, ![8192, 2048]⟩
abbrev S1x2048x1024 : Shape := ⟨3, ![1, 2048, 1024]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x2048x1024, .f32⟩
  | .hbm, ⟨2, _⟩ => ⟨S_, .f32⟩
  | .hbm, ⟨3, _⟩ => ⟨S8192x2048, .f32⟩
  | .hbm, ⟨4, _⟩ => ⟨S1x2048x1024, .f32⟩
  | .hbm, ⟨5, _⟩ => ⟨S2048x1024, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutNorm.lean ====
abbrev S8192x2048 : Shape := ⟨2, ![8192, 2048]⟩
abbrev S3x2048x1024 : Shape := ⟨3, ![3, 2048, 1024]⟩
abbrev S8192x1024 : Shape := ⟨2, ![8192, 1024]⟩
abbrev S1x1024 : Shape := ⟨2, ![1, 1024]⟩
abbrev S3x4x2x256x1024 : Shape := ⟨5, ![3, 4, 2, 256, 1024]⟩
abbrev S4x2x3x256x1024 : Shape := ⟨5, ![4, 2, 3, 256, 1024]⟩
abbrev S8192x1 : Shape := ⟨2, ![8192, 1]⟩
abbrev S512x2048 : Shape := ⟨2, ![512, 2048]⟩
abbrev S4x2x1x256x1024 : Shape := ⟨5, ![4, 2, 1, 256, 1024]⟩
abbrev S512x1024 : Shape := ⟨2, ![512, 1024]⟩
abbrev S512x1 : Shape := ⟨2, ![512, 1]⟩
abbrev S4x2x256x1024 : Shape := ⟨4, ![4, 2, 256, 1024]⟩
abbrev S2048x1024 : Shape := ⟨2, ![2048, 1024]⟩
abbrev S512x128 : Shape := ⟨2, ![512, 128]⟩
abbrev S512 : Shape := ⟨1, ![512]⟩

abbrev nBuf : Space → Nat
  | .hbm => 13
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S3x2048x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S3x4x2x256x1024, .f32⟩
  | .hbm, ⟨8, _⟩ => ⟨S4x2x3x256x1024, .f32⟩
  | .hbm, ⟨9, _⟩ => ⟨S4x2x3x256x1024, .bf16⟩
  | .hbm, ⟨10, _⟩ => ⟨S8192x1024, .bf16⟩
  | .hbm, ⟨11, _⟩ => ⟨S8192x1024, .f32⟩
  | .hbm, ⟨12, _⟩ => ⟨S8192x1, .f32⟩
  | .local _ .vmem, ⟨0, _⟩ => ⟨S512x2048, .bf16⟩
  | .local _ .vmem, ⟨1, _⟩ => ⟨S512x2048, .bf16⟩
  | .local _ .vmem, ⟨2, _⟩ => ⟨S4x2x1x256x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 5 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  let c0_i32_2 : BitVec 32 := 0#32
  let c0_i32_3 : BitVec 32 := 0#32
  ![c0_i32.toNat, c0_i32_0.toNat, c1_i32.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutNormRefIdeal.lean ====
abbrev S8192x2048 : Shape := ⟨2, ![8192, 2048]⟩
abbrev S3x2048x1024 : Shape := ⟨3, ![3, 2048, 1024]⟩
abbrev S8192x1024 : Shape := ⟨2, ![8192, 1024]⟩
abbrev S1x1024 : Shape := ⟨2, ![1, 1024]⟩
abbrev S_ : Shape := ⟨0, ![]⟩
abbrev S1x2048x1024 : Shape := ⟨3, ![1, 2048, 1024]⟩
abbrev S2048x1024 : Shape := ⟨2, ![2048, 1024]⟩
abbrev S8192 : Shape := ⟨1, ![8192]⟩
abbrev S8192x1 : Shape := ⟨2, ![8192, 1]⟩

abbrev nBuf : Space → Nat
  | .hbm => 70
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S3x2048x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x2048, .f32⟩
  | .hbm, ⟨15, _⟩ => ⟨S1x2048x1024, .f32⟩
  | .hbm, ⟨16, _⟩ => ⟨S2048x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .bf16⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== InUpdate.lean ====
abbrev S2x1024x1536 : Shape := ⟨3, ![2, 1024, 1536]⟩
abbrev S2x512x1536 : Shape := ⟨3, ![2, 512, 1536]⟩
abbrev S1x256x1536 : Shape := ⟨3, ![1, 256, 1536]⟩
abbrev S256x1536 : Shape := ⟨2, ![256, 1536]⟩

abbrev nBuf : Space → Nat
  | .hbm => 13
  | .vmem => 32
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x512x1536, .f32⟩
  | .hbm, ⟨4, _⟩ => ⟨S2x512x1536, .f32⟩
  | .hbm, ⟨5, _⟩ => ⟨S2x1024x1536, .f32⟩
  | .hbm, ⟨6, _⟩ => ⟨S2x1024x1536, .f32⟩
  | .hbm, ⟨7, _⟩ => ⟨S2x1024x1536, .f32⟩
  | .hbm, ⟨8, _⟩ => ⟨S2x1024x1536, .f32⟩
  | .hbm, ⟨9, _⟩ => ⟨S2x1024x1536, .f32⟩
  | .hbm, ⟨10, _⟩ => ⟨S2x1024x1536, .f32⟩
  | .hbm, ⟨11, _⟩ => ⟨S2x1024x1536, .f32⟩
  | .hbm, ⟨12, _⟩ => ⟨S2x1024x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | .local _ .vmem, ⟨17, _⟩ => ⟨S1x256x1536, .f32⟩
  | .local _ .vmem, ⟨18, _⟩ => ⟨S1x256x1536, .f32⟩
  | .local _ .vmem, ⟨19, _⟩ => ⟨S1x256x1536, .f32⟩
  | .local _ .vmem, ⟨20, _⟩ => ⟨S1x256x1536, .f32⟩
  | .local _ .vmem, ⟨21, _⟩ => ⟨S1x256x1536, .f32⟩
  | .local _ .vmem, ⟨22, _⟩ => ⟨S1x256x1536, .f32⟩
  | .local _ .vmem, ⟨23, _⟩ => ⟨S1x256x1536, .f32⟩
  | .local _ .vmem, ⟨24, _⟩ => ⟨S1x256x1536, .f32⟩
  | .local _ .vmem, ⟨25, _⟩ => ⟨S1x256x1536, .f32⟩
  | .local _ .vmem, ⟨26, _⟩ => ⟨S1x256x1536, .f32⟩
  | .local _ .vmem, ⟨27, _⟩ => ⟨S1x256x1536, .f32⟩
  | .local _ .vmem, ⟨28, _⟩ => ⟨S1x256x1536, .f32⟩
  | .local _ .vmem, ⟨29, _⟩ => ⟨S1x256x1536, .f32⟩
  | .local _ .vmem, ⟨30, _⟩ => ⟨S1x256x1536, .f32⟩
  | .local _ .vmem, ⟨31, _⟩ => ⟨S1x256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 2], ![false, false]⟩

def cc1_transform_0 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage1_0 : Fin 2 → Memref sig .tc .vmem S1x256x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x1536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x1536 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x1536 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x1536 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x1536 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== InUpdateIdeal.lean ====
abbrev S2x1024x1536 : Shape := ⟨3, ![2, 1024, 1536]⟩
abbrev S2x512x1536 : Shape := ⟨3, ![2, 512, 1536]⟩
abbrev S1x256x1536 : Shape := ⟨3, ![1, 256, 1536]⟩
abbrev S256x1536 : Shape := ⟨2, ![256, 1536]⟩

abbrev nBuf : Space → Nat
  | .hbm => 13
  | .vmem => 32
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x512x1536, .f32⟩
  | .hbm, ⟨4, _⟩ => ⟨S2x512x1536, .f32⟩
  | .hbm, ⟨5, _⟩ => ⟨S2x1024x1536, .f32⟩
  | .hbm, ⟨6, _⟩ => ⟨S2x1024x1536, .f32⟩
  | .hbm, ⟨7, _⟩ => ⟨S2x1024x1536, .f32⟩
  | .hbm, ⟨8, _⟩ => ⟨S2x1024x1536, .f32⟩
  | .hbm, ⟨9, _⟩ => ⟨S2x1024x1536, .f32⟩
  | .hbm, ⟨10, _⟩ => ⟨S2x1024x1536, .f32⟩
  | .hbm, ⟨11, _⟩ => ⟨S2x1024x1536, .f32⟩
  | .hbm, ⟨12, _⟩ => ⟨S2x1024x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | .local _ .vmem, ⟨17, _⟩ => ⟨S1x256x1536, .f32⟩
  | .local _ .vmem, ⟨18, _⟩ => ⟨S1x256x1536, .f32⟩
  | .local _ .vmem, ⟨19, _⟩ => ⟨S1x256x1536, .f32⟩
  | .local _ .vmem, ⟨20, _⟩ => ⟨S1x256x1536, .f32⟩
  | .local _ .vmem, ⟨21, _⟩ => ⟨S1x256x1536, .f32⟩
  | .local _ .vmem, ⟨22, _⟩ => ⟨S1x256x1536, .f32⟩
  | .local _ .vmem, ⟨23, _⟩ => ⟨S1x256x1536, .f32⟩
  | .local _ .vmem, ⟨24, _⟩ => ⟨S1x256x1536, .f32⟩
  | .local _ .vmem, ⟨25, _⟩ => ⟨S1x256x1536, .f32⟩
  | .local _ .vmem, ⟨26, _⟩ => ⟨S1x256x1536, .f32⟩
  | .local _ .vmem, ⟨27, _⟩ => ⟨S1x256x1536, .f32⟩
  | .local _ .vmem, ⟨28, _⟩ => ⟨S1x256x1536, .f32⟩
  | .local _ .vmem, ⟨29, _⟩ => ⟨S1x256x1536, .f32⟩
  | .local _ .vmem, ⟨30, _⟩ => ⟨S1x256x1536, .f32⟩
  | .local _ .vmem, ⟨31, _⟩ => ⟨S1x256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 2], ![false, false]⟩

def cc1_transform_0 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage1_0 : Fin 2 → Memref sig .tc .vmem S1x256x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x1536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x1536 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x1536 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x1536 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x1536 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== InUpdateRefIdeal.lean ====
abbrev S2x1024x1536 : Shape := ⟨3, ![2, 1024, 1536]⟩
abbrev S2x512x1536 : Shape := ⟨3, ![2, 512, 1536]⟩
abbrev S1024x1536 : Shape := ⟨2, ![1024, 1536]⟩
abbrev S1x1024x1536 : Shape := ⟨3, ![1, 1024, 1536]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x512x1536, .f32⟩
  | .hbm, ⟨4, _⟩ => ⟨S2x512x1536, .f32⟩
  | .hbm, ⟨5, _⟩ => ⟨S1024x1536, .f32⟩
  | .hbm, ⟨6, _⟩ => ⟨S1024x1536, .f32⟩
  | .hbm, ⟨7, _⟩ => ⟨S1x1024x1536, .f32⟩
  | .hbm, ⟨8, _⟩ => ⟨S1x1024x1536, .f32⟩
  | .hbm, ⟨9, _⟩ => ⟨S2x1024x1536, .f32⟩
  | .hbm, ⟨10, _⟩ => ⟨S_, .f32⟩
  | .hbm, ⟨11, _⟩ => ⟨S2x1024x1536, .f32⟩
  | .hbm, ⟨12, _⟩ => ⟨S2x1024x1536, .f32⟩
  | .hbm, ⟨13, _⟩ => ⟨S_, .f32⟩
  | .hbm, ⟨14, _⟩ => ⟨S2x1024x1536, .f32⟩
  | .hbm, ⟨15, _⟩ => ⟨S2x1024x1536, .f32⟩
  | .hbm, ⟨16, _⟩ => ⟨S2x1024x1536, .f32⟩
  | .hbm, ⟨17, _⟩ => ⟨S_, .f32⟩
  | .hbm, ⟨18, _⟩ => ⟨S2x1024x1536, .f32⟩
  | .hbm, ⟨19, _⟩ => ⟨S2x1024x1536, .f32⟩
  | .hbm, ⟨20, _⟩ => ⟨S2x1024x1536, .f32⟩
  | .hbm, ⟨21, _⟩ => ⟨S_, .f32⟩
  | .hbm, ⟨22, _⟩ => ⟨S2x1024x1536, .f32⟩
  | .hbm, ⟨23, _⟩ => ⟨S2x1024x1536, .f32⟩
  | .hbm, ⟨24, _⟩ => ⟨S2x1024x1536, .f32⟩
  | .hbm, ⟨25, _⟩ => ⟨S_, .f32⟩
  | .hbm, ⟨26, _⟩ => ⟨S2x1024x1536, .f32⟩
  | .hbm, ⟨27, _⟩ => ⟨S2x1024x1536, .f32⟩
  | .hbm, ⟨28, _⟩ => ⟨S_, .f32⟩
  | .hbm, ⟨29, _⟩ => ⟨S2x1024x1536, .f32⟩
  | .hbm, ⟨30, _⟩ => ⟨S2x1024x1536, .f32⟩
  | .hbm, ⟨31, _⟩ => ⟨S2x1024x1536, .f32⟩
  | .hbm, ⟨32, _⟩ => ⟨S_, .f32⟩
  | .hbm, ⟨33, _⟩ => ⟨S2x1024x1536, .f32⟩
  | .hbm, ⟨34, _⟩ => ⟨S2x1024x1536, .f32⟩
  | .hbm, ⟨35, _⟩ => ⟨S2x1024x1536, .f32⟩
  | .hbm, ⟨36, _⟩ => ⟨S_, .f32⟩
  | .hbm, ⟨37, _⟩ => ⟨S2x1024x1536, .f32⟩
  | .hbm, ⟨38, _⟩ => ⟨S2x1024x1536, .f32⟩
  | .hbm, ⟨39, _⟩ => ⟨S2x1024x1536, .f32⟩
  | .hbm, ⟨40, _⟩ => ⟨S_, .f32⟩
  | .hbm, ⟨41, _⟩ => ⟨S2x1024x1536, .f32⟩
  | .hbm, ⟨42, _⟩ => ⟨S2x1024x1536, .f32⟩
  | _, _ => ⟨S2x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== OutUpdate.lean ====
abbrev S2x512x1024 : Shape := ⟨3, ![2, 512, 1024]⟩
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 13
  | .vmem => 32
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x256x1024, .f32⟩
  | .hbm, ⟨4, _⟩ => ⟨S2x256x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .hbm, ⟨9, _⟩ => ⟨S2x512x1024, .f32⟩
  | .hbm, ⟨10, _⟩ => ⟨S2x512x1024, .f32⟩
  | .hbm, ⟨11, _⟩ => ⟨S2x512x1024, .f32⟩
  | .hbm, ⟨12, _⟩ => ⟨S2x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | .local _ .vmem, ⟨28, _⟩ => ⟨S1x256x1024, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 1], ![false, false]⟩

def cc1_transform_0 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== OutUpdateRefIdeal.lean ====
abbrev S2x512x1024 : Shape := ⟨3, ![2, 512, 1024]⟩
abbrev S2x256x1024 : Shape := ⟨3, ![2, 256, 1024]⟩
abbrev S512x1024 : Shape := ⟨2, ![512, 1024]⟩
abbrev S1x512x1024 : Shape := ⟨3, ![1, 512, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x256x1024, .f32⟩
  | .hbm, ⟨4, _⟩ => ⟨S2x256x1024, .f32⟩
  | .hbm, ⟨5, _⟩ => ⟨S512x1024, .f32⟩
  | .hbm, ⟨6, _⟩ => ⟨S512x1024, .f32⟩
  | .hbm, ⟨7, _⟩ => ⟨S1x512x1024, .f32⟩
  | .hbm, ⟨8, _⟩ => ⟨S1x512x1024, .f32⟩
  | .hbm, ⟨9, _⟩ => ⟨S2x512x1024, .f32⟩
  | .hbm, ⟨10, _⟩ => ⟨S_, .f32⟩
  | .hbm, ⟨11, _⟩ => ⟨S2x512x1024, .f32⟩
  | .hbm, ⟨12, _⟩ => ⟨S2x512x1024, .f32⟩
  | .hbm, ⟨13, _⟩ => ⟨S_, .f32⟩
  | .hbm, ⟨14, _⟩ => ⟨S2x512x1024, .f32⟩
  | .hbm, ⟨15, _⟩ => ⟨S2x512x1024, .f32⟩
  | .hbm, ⟨16, _⟩ => ⟨S2x512x1024, .f32⟩
  | .hbm, ⟨17, _⟩ => ⟨S_, .f32⟩
  | .hbm, ⟨18, _⟩ => ⟨S2x512x1024, .f32⟩
  | .hbm, ⟨19, _⟩ => ⟨S2x512x1024, .f32⟩
  | .hbm, ⟨20, _⟩ => ⟨S2x512x1024, .f32⟩
  | .hbm, ⟨21, _⟩ => ⟨S_, .f32⟩
  | .hbm, ⟨22, _⟩ => ⟨S2x512x1024, .f32⟩
  | .hbm, ⟨23, _⟩ => ⟨S2x512x1024, .f32⟩
  | .hbm, ⟨24, _⟩ => ⟨S2x512x1024, .f32⟩
  | .hbm, ⟨25, _⟩ => ⟨S_, .f32⟩
  | .hbm, ⟨26, _⟩ => ⟨S2x512x1024, .f32⟩
  | .hbm, ⟨27, _⟩ => ⟨S2x512x1024, .f32⟩
  | .hbm, ⟨28, _⟩ => ⟨S_, .f32⟩
  | .hbm, ⟨29, _⟩ => ⟨S2x512x1024, .f32⟩
  | .hbm, ⟨30, _⟩ => ⟨S2x512x1024, .f32⟩
  | .hbm, ⟨31, _⟩ => ⟨S2x512x1024, .f32⟩
  | .hbm, ⟨32, _⟩ => ⟨S_, .f32⟩
  | .hbm, ⟨33, _⟩ => ⟨S2x512x1024, .f32⟩
  | .hbm, ⟨34, _⟩ => ⟨S2x512x1024, .f32⟩
  | .hbm, ⟨35, _⟩ => ⟨S2x512x1024, .f32⟩
  | .hbm, ⟨36, _⟩ => ⟨S_, .f32⟩
  | .hbm, ⟨37, _⟩ => ⟨S2x512x1024, .f32⟩
  | .hbm, ⟨38, _⟩ => ⟨S2x512x1024, .f32⟩
  | .hbm, ⟨39, _⟩ => ⟨S2x512x1024, .f32⟩
  | .hbm, ⟨40, _⟩ => ⟨S_, .f32⟩
  | .hbm, ⟨41, _⟩ => ⟨S2x512x1024, .f32⟩
  | .hbm, ⟨42, _⟩ => ⟨S2x512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== NormUpdate.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== NormUpdateIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== NormUpdateRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== PoolWeightUpdate.lean ====
abbrev S2x4x64x256 : Shape := ⟨4, ![2, 4, 64, 256]⟩
abbrev S512x256 : Shape := ⟨2, ![512, 256]⟩
abbrev S256x256 : Shape := ⟨2, ![256, 256]⟩

abbrev nBuf : Space → Nat
  | .hbm => 11
  | .vmem => 14
  | .smem => 0
  | _ => 0

abbrev bufTy : (tb : Table) → Fin (tcTables nBuf tb) → BufTy
  | .hbm, ⟨0, _⟩ => ⟨S2x4x64x256, .f32⟩
  | .hbm, ⟨1, _⟩ => ⟨S2x4x64x256, .f32⟩
  | .hbm, ⟨2, _⟩ => ⟨S2x4x64x256, .f32⟩
  | .hbm, ⟨3, _⟩ => ⟨S2x4x64x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S2x4x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolWeightUpdateIdeal.lean ====
abbrev S2x4x64x256 : Shape := ⟨4, ![2, 4, 64, 256]⟩
abbrev S512x256 : Shape := ⟨2, ![512, 256]⟩
abbrev S256x256 : Shape := ⟨2, ![256, 256]⟩

abbrev nBuf : Space → Nat
  | .hbm => 11
  | .vmem => 14
  | .smem => 0
  | _ => 0

abbrev bufTy : (tb : Table) → Fin (tcTables nBuf tb) → BufTy
  | .hbm, ⟨0, _⟩ => ⟨S2x4x64x256, .f32⟩
  | .hbm, ⟨1, _⟩ => ⟨S2x4x64x256, .f32⟩
  | .hbm, ⟨2, _⟩ => ⟨S2x4x64x256, .f32⟩
  | .hbm, ⟨3, _⟩ => ⟨S2x4x64x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S2x4x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolWeightUpdateRefIdeal.lean ====
abbrev S2x4x64x256 : Shape := ⟨4, ![2, 4, 64, 256]⟩
abbrev S_ : Shape := ⟨0, ![]⟩
abbrev S512x256 : Shape := ⟨2, ![512, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x4x64x256, .f32⟩
  | .hbm, ⟨1, _⟩ => ⟨S2x4x64x256, .f32⟩
  | .hbm, ⟨2, _⟩ => ⟨S2x4x64x256, .f32⟩
  | .hbm, ⟨3, _⟩ => ⟨S2x4x64x256, .f32⟩
  | .hbm, ⟨4, _⟩ => ⟨S_, .f32⟩
  | .hbm, ⟨5, _⟩ => ⟨S2x4x64x256, .f32⟩
  | .hbm, ⟨6, _⟩ => ⟨S2x4x64x256, .f32⟩
  | .hbm, ⟨7, _⟩ => ⟨S_, .f32⟩
  | .hbm, ⟨8, _⟩ => ⟨S2x4x64x256, .f32⟩
  | .hbm, ⟨9, _⟩ => ⟨S2x4x64x256, .f32⟩
  | .hbm, ⟨10, _⟩ => ⟨S2x4x64x256, .f32⟩
  | .hbm, ⟨11, _⟩ => ⟨S_, .f32⟩
  | .hbm, ⟨12, _⟩ => ⟨S2x4x64x256, .f32⟩
  | .hbm, ⟨13, _⟩ => ⟨S2x4x64x256, .f32⟩
  | .hbm, ⟨14, _⟩ => ⟨S2x4x64x256, .f32⟩
  | .hbm, ⟨15, _⟩ => ⟨S_, .f32⟩
  | .hbm, ⟨16, _⟩ => ⟨S2x4x64x256, .f32⟩
  | .hbm, ⟨17, _⟩ => ⟨S2x4x64x256, .f32⟩
  | .hbm, ⟨18, _⟩ => ⟨S2x4x64x256, .f32⟩
  | .hbm, ⟨19, _⟩ => ⟨S_, .f32⟩
  | .hbm, ⟨20, _⟩ => ⟨S2x4x64x256, .f32⟩
  | .hbm, ⟨21, _⟩ => ⟨S2x4x64x256, .f32⟩
  | .hbm, ⟨22, _⟩ => ⟨S_, .f32⟩
  | .hbm, ⟨23, _⟩ => ⟨S2x4x64x256, .f32⟩
  | .hbm, ⟨24, _⟩ => ⟨S2x4x64x256, .f32⟩
  | .hbm, ⟨25, _⟩ => ⟨S2x4x64x256, .f32⟩
  | .hbm, ⟨26, _⟩ => ⟨S_, .f32⟩
  | .hbm, ⟨27, _⟩ => ⟨S2x4x64x256, .f32⟩
  | .hbm, ⟨28, _⟩ => ⟨S2x4x64x256, .f32⟩
  | .hbm, ⟨29, _⟩ => ⟨S2x4x64x256, .f32⟩
  | .hbm, ⟨30, _⟩ => ⟨S_, .f32⟩
  | .hbm, ⟨31, _⟩ => ⟨S2x4x64x256, .f32⟩
  | .hbm, ⟨32, _⟩ => ⟨S2x4x64x256, .f32⟩
  | .hbm, ⟨33, _⟩ => ⟨S2x4x64x256, .f32⟩
  | .hbm, ⟨34, _⟩ => ⟨S_, .f32⟩
  | .hbm, ⟨35, _⟩ => ⟨S2x4x64x256, .f32⟩
  | .hbm, ⟨36, _⟩ => ⟨S2x4x64x256, .f32⟩
  | .hbm, ⟨37, _⟩ => ⟨S512x256, .f32⟩
  | .hbm, ⟨38, _⟩ => ⟨S512x256, .f32⟩
  | .hbm, ⟨39, _⟩ => ⟨S512x256, .f32⟩
  | _, _ => ⟨S2x4x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== ScaleUpdate.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ScaleUpdateIdeal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ScaleUpdateRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ShortConvUpdate.lean ====
abbrev S2x3x256 : Shape := ⟨3, ![2, 3, 256]⟩
abbrev S6x256 : Shape := ⟨2, ![6, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S6x256, .f32⟩
  | .hbm, ⟨5, _⟩ => ⟨S6x256, .f32⟩
  | .hbm, ⟨6, _⟩ => ⟨S6x256, .f32⟩
  | .hbm, ⟨7, _⟩ => ⟨S6x256, .f32⟩
  | .hbm, ⟨8, _⟩ => ⟨S6x256, .f32⟩
  | .hbm, ⟨9, _⟩ => ⟨S6x256, .f32⟩
  | .hbm, ⟨10, _⟩ => ⟨S6x256, .f32⟩
  | .local _ .vmem, ⟨0, _⟩ => ⟨S6x256, .f32⟩
  | .local _ .vmem, ⟨1, _⟩ => ⟨S6x256, .f32⟩
  | .local _ .vmem, ⟨2, _⟩ => ⟨S6x256, .f32⟩
  | .local _ .vmem, ⟨3, _⟩ => ⟨S6x256, .f32⟩
  | .local _ .vmem, ⟨4, _⟩ => ⟨S6x256, .f32⟩
  | .local _ .vmem, ⟨5, _⟩ => ⟨S6x256, .f32⟩
  | .local _ .vmem, ⟨6, _⟩ => ⟨S6x256, .f32⟩
  | _, _ => ⟨S2x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ShortConvUpdateIdeal.lean ====
abbrev S2x3x256 : Shape := ⟨3, ![2, 3, 256]⟩
abbrev S6x256 : Shape := ⟨2, ![6, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S6x256, .f32⟩
  | .hbm, ⟨5, _⟩ => ⟨S6x256, .f32⟩
  | .hbm, ⟨6, _⟩ => ⟨S6x256, .f32⟩
  | .hbm, ⟨7, _⟩ => ⟨S6x256, .f32⟩
  | .hbm, ⟨8, _⟩ => ⟨S6x256, .f32⟩
  | .hbm, ⟨9, _⟩ => ⟨S6x256, .f32⟩
  | .hbm, ⟨10, _⟩ => ⟨S6x256, .f32⟩
  | .local _ .vmem, ⟨0, _⟩ => ⟨S6x256, .f32⟩
  | .local _ .vmem, ⟨1, _⟩ => ⟨S6x256, .f32⟩
  | .local _ .vmem, ⟨2, _⟩ => ⟨S6x256, .f32⟩
  | .local _ .vmem, ⟨3, _⟩ => ⟨S6x256, .f32⟩
  | .local _ .vmem, ⟨4, _⟩ => ⟨S6x256, .f32⟩
  | .local _ .vmem, ⟨5, _⟩ => ⟨S6x256, .f32⟩
  | .local _ .vmem, ⟨6, _⟩ => ⟨S6x256, .f32⟩
  | _, _ => ⟨S2x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ShortConvUpdateRefIdeal.lean ====
abbrev S2x3x256 : Shape := ⟨3, ![2, 3, 256]⟩
abbrev S_ : Shape := ⟨0, ![]⟩
abbrev S6x256 : Shape := ⟨2, ![6, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S_, .f32⟩
  | .hbm, ⟨5, _⟩ => ⟨S2x3x256, .f32⟩
  | .hbm, ⟨6, _⟩ => ⟨S2x3x256, .f32⟩
  | .hbm, ⟨7, _⟩ => ⟨S_, .f32⟩
  | .hbm, ⟨8, _⟩ => ⟨S2x3x256, .f32⟩
  | .hbm, ⟨9, _⟩ => ⟨S2x3x256, .f32⟩
  | .hbm, ⟨10, _⟩ => ⟨S2x3x256, .f32⟩
  | .hbm, ⟨11, _⟩ => ⟨S_, .f32⟩
  | .hbm, ⟨12, _⟩ => ⟨S2x3x256, .f32⟩
  | .hbm, ⟨13, _⟩ => ⟨S2x3x256, .f32⟩
  | .hbm, ⟨14, _⟩ => ⟨S2x3x256, .f32⟩
  | .hbm, ⟨15, _⟩ => ⟨S_, .f32⟩
  | .hbm, ⟨16, _⟩ => ⟨S2x3x256, .f32⟩
  | .hbm, ⟨17, _⟩ => ⟨S2x3x256, .f32⟩
  | .hbm, ⟨18, _⟩ => ⟨S2x3x256, .f32⟩
  | .hbm, ⟨19, _⟩ => ⟨S_, .f32⟩
  | .hbm, ⟨20, _⟩ => ⟨S2x3x256, .f32⟩
  | .hbm, ⟨21, _⟩ => ⟨S2x3x256, .f32⟩
  | .hbm, ⟨22, _⟩ => ⟨S_, .f32⟩
  | .hbm, ⟨23, _⟩ => ⟨S2x3x256, .f32⟩
  | .hbm, ⟨24, _⟩ => ⟨S2x3x256, .f32⟩
  | .hbm, ⟨25, _⟩ => ⟨S2x3x256, .f32⟩
  | .hbm, ⟨26, _⟩ => ⟨S_, .f32⟩
  | .hbm, ⟨27, _⟩ => ⟨S2x3x256, .f32⟩
  | .hbm, ⟨28, _⟩ => ⟨S2x3x256, .f32⟩
  | .hbm, ⟨29, _⟩ => ⟨S2x3x256, .f32⟩
  | .hbm, ⟨30, _⟩ => ⟨S_, .f32⟩
  | .hbm, ⟨31, _⟩ => ⟨S2x3x256, .f32⟩
  | .hbm, ⟨32, _⟩ => ⟨S2x3x256, .f32⟩
  | .hbm, ⟨33, _⟩ => ⟨S2x3x256, .f32⟩
  | .hbm, ⟨34, _⟩ => ⟨S_, .f32⟩
  | .hbm, ⟨35, _⟩ => ⟨S2x3x256, .f32⟩
  | .hbm, ⟨36, _⟩ => ⟨S2x3x256, .f32⟩
  | .hbm, ⟨37, _⟩ => ⟨S6x256, .f32⟩
  | .hbm, ⟨38, _⟩ => ⟨S6x256, .f32⟩
  | .hbm, ⟨39, _⟩ => ⟨S6x256, .f32⟩
  | _, _ => ⟨S2x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== VectorUpdate.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== VectorUpdateIdeal.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== VectorUpdateRefIdeal.lean ====
abbrev S2x256 : Shape := ⟨2, ![2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GateUpdate.lean ====
abbrev S2x4x128x128 : Shape := ⟨4, ![2, 4, 128, 128]⟩
abbrev S1024x128 : Shape := ⟨2, ![1024, 128]⟩
abbrev S256x128 : Shape := ⟨2, ![256, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x4x128x128, .f32⟩
  | .hbm, ⟨1, _⟩ => ⟨S2x4x128x128, .f32⟩
  | .hbm, ⟨2, _⟩ => ⟨S2x4x128x128, .f32⟩
  | .hbm, ⟨3, _⟩ => ⟨S2x4x128x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateUpdateIdeal.lean ====
abbrev S2x4x128x128 : Shape := ⟨4, ![2, 4, 128, 128]⟩
abbrev S1024x128 : Shape := ⟨2, ![1024, 128]⟩
abbrev S256x128 : Shape := ⟨2, ![256, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x4x128x128, .f32⟩
  | .hbm, ⟨1, _⟩ => ⟨S2x4x128x128, .f32⟩
  | .hbm, ⟨2, _⟩ => ⟨S2x4x128x128, .f32⟩
  | .hbm, ⟨3, _⟩ => ⟨S2x4x128x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateUpdateRefIdeal.lean ====
abbrev S2x4x128x128 : Shape := ⟨4, ![2, 4, 128, 128]⟩
abbrev S_ : Shape := ⟨0, ![]⟩
abbrev S1024x128 : Shape := ⟨2, ![1024, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x4x128x128, .f32⟩
  | .hbm, ⟨1, _⟩ => ⟨S2x4x128x128, .f32⟩
  | .hbm, ⟨2, _⟩ => ⟨S2x4x128x128, .f32⟩
  | .hbm, ⟨3, _⟩ => ⟨S2x4x128x128, .f32⟩
  | .hbm, ⟨4, _⟩ => ⟨S_, .f32⟩
  | .hbm, ⟨5, _⟩ => ⟨S2x4x128x128, .f32⟩
  | .hbm, ⟨6, _⟩ => ⟨S2x4x128x128, .f32⟩
  | .hbm, ⟨7, _⟩ => ⟨S_, .f32⟩
  | .hbm, ⟨8, _⟩ => ⟨S2x4x128x128, .f32⟩
  | .hbm, ⟨9, _⟩ => ⟨S2x4x128x128, .f32⟩
  | .hbm, ⟨10, _⟩ => ⟨S2x4x128x128, .f32⟩
  | .hbm, ⟨11, _⟩ => ⟨S_, .f32⟩
  | .hbm, ⟨12, _⟩ => ⟨S2x4x128x128, .f32⟩
  | .hbm, ⟨13, _⟩ => ⟨S2x4x128x128, .f32⟩
  | .hbm, ⟨14, _⟩ => ⟨S2x4x128x128, .f32⟩
  | .hbm, ⟨15, _⟩ => ⟨S_, .f32⟩
  | .hbm, ⟨16, _⟩ => ⟨S2x4x128x128, .f32⟩
  | .hbm, ⟨17, _⟩ => ⟨S2x4x128x128, .f32⟩
  | .hbm, ⟨18, _⟩ => ⟨S2x4x128x128, .f32⟩
  | .hbm, ⟨19, _⟩ => ⟨S_, .f32⟩
  | .hbm, ⟨20, _⟩ => ⟨S2x4x128x128, .f32⟩
  | .hbm, ⟨21, _⟩ => ⟨S2x4x128x128, .f32⟩
  | .hbm, ⟨22, _⟩ => ⟨S_, .f32⟩
  | .hbm, ⟨23, _⟩ => ⟨S2x4x128x128, .f32⟩
  | .hbm, ⟨24, _⟩ => ⟨S2x4x128x128, .f32⟩
  | .hbm, ⟨25, _⟩ => ⟨S2x4x128x128, .f32⟩
  | .hbm, ⟨26, _⟩ => ⟨S_, .f32⟩
  | .hbm, ⟨27, _⟩ => ⟨S2x4x128x128, .f32⟩
  | .hbm, ⟨28, _⟩ => ⟨S2x4x128x128, .f32⟩
  | .hbm, ⟨29, _⟩ => ⟨S2x4x128x128, .f32⟩
  | .hbm, ⟨30, _⟩ => ⟨S_, .f32⟩
  | .hbm, ⟨31, _⟩ => ⟨S2x4x128x128, .f32⟩
  | .hbm, ⟨32, _⟩ => ⟨S2x4x128x128, .f32⟩
  | .hbm, ⟨33, _⟩ => ⟨S2x4x128x128, .f32⟩
  | .hbm, ⟨34, _⟩ => ⟨S_, .f32⟩
  | .hbm, ⟨35, _⟩ => ⟨S2x4x128x128, .f32⟩
  | .hbm, ⟨36, _⟩ => ⟨S2x4x128x128, .f32⟩
  | .hbm, ⟨37, _⟩ => ⟨S1024x128, .f32⟩
  | .hbm, ⟨38, _⟩ => ⟨S1024x128, .f32⟩
  | .hbm, ⟨39, _⟩ => ⟨S1024x128, .f32⟩
  | _, _ => ⟨S2x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== GateBiasUpdate.lean ====
abbrev S2x4x128 : Shape := ⟨3, ![2, 4, 128]⟩
abbrev S8x128 : Shape := ⟨2, ![8, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x4x128, .f32⟩
  | .hbm, ⟨1, _⟩ => ⟨S2x4x128, .f32⟩
  | .hbm, ⟨2, _⟩ => ⟨S2x4x128, .f32⟩
  | .hbm, ⟨3, _⟩ => ⟨S2x4x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S2x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== GateBiasUpdateIdeal.lean ====
abbrev S2x4x128 : Shape := ⟨3, ![2, 4, 128]⟩
abbrev S8x128 : Shape := ⟨2, ![8, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x4x128, .f32⟩
  | .hbm, ⟨1, _⟩ => ⟨S2x4x128, .f32⟩
  | .hbm, ⟨2, _⟩ => ⟨S2x4x128, .f32⟩
  | .hbm, ⟨3, _⟩ => ⟨S2x4x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S2x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== GateBiasUpdateRefIdeal.lean ====
abbrev S2x4x128 : Shape := ⟨3, ![2, 4, 128]⟩
abbrev S_ : Shape := ⟨0, ![]⟩
abbrev S8x128 : Shape := ⟨2, ![8, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x4x128, .f32⟩
  | .hbm, ⟨1, _⟩ => ⟨S2x4x128, .f32⟩
  | .hbm, ⟨2, _⟩ => ⟨S2x4x128, .f32⟩
  | .hbm, ⟨3, _⟩ => ⟨S2x4x128, .f32⟩
  | .hbm, ⟨4, _⟩ => ⟨S_, .f32⟩
  | .hbm, ⟨5, _⟩ => ⟨S2x4x128, .f32⟩
  | .hbm, ⟨6, _⟩ => ⟨S2x4x128, .f32⟩
  | .hbm, ⟨7, _⟩ => ⟨S_, .f32⟩
  | .hbm, ⟨8, _⟩ => ⟨S2x4x128, .f32⟩
  | .hbm, ⟨9, _⟩ => ⟨S2x4x128, .f32⟩
  | .hbm, ⟨10, _⟩ => ⟨S2x4x128, .f32⟩
  | .hbm, ⟨11, _⟩ => ⟨S_, .f32⟩
  | .hbm, ⟨12, _⟩ => ⟨S2x4x128, .f32⟩
  | .hbm, ⟨13, _⟩ => ⟨S2x4x128, .f32⟩
  | .hbm, ⟨14, _⟩ => ⟨S2x4x128, .f32⟩
  | .hbm, ⟨15, _⟩ => ⟨S_, .f32⟩
  | .hbm, ⟨16, _⟩ => ⟨S2x4x128, .f32⟩
  | .hbm, ⟨17, _⟩ => ⟨S2x4x128, .f32⟩
  | .hbm, ⟨18, _⟩ => ⟨S2x4x128, .f32⟩
  | .hbm, ⟨19, _⟩ => ⟨S_, .f32⟩
  | .hbm, ⟨20, _⟩ => ⟨S2x4x128, .f32⟩
  | .hbm, ⟨21, _⟩ => ⟨S2x4x128, .f32⟩
  | .hbm, ⟨22, _⟩ => ⟨S_, .f32⟩
  | .hbm, ⟨23, _⟩ => ⟨S2x4x128, .f32⟩
  | .hbm, ⟨24, _⟩ => ⟨S2x4x128, .f32⟩
  | .hbm, ⟨25, _⟩ => ⟨S2x4x128, .f32⟩
  | .hbm, ⟨26, _⟩ => ⟨S_, .f32⟩
  | .hbm, ⟨27, _⟩ => ⟨S2x4x128, .f32⟩
  | .hbm, ⟨28, _⟩ => ⟨S2x4x128, .f32⟩
  | .hbm, ⟨29, _⟩ => ⟨S2x4x128, .f32⟩
  | .hbm, ⟨30, _⟩ => ⟨S_, .f32⟩
  | .hbm, ⟨31, _⟩ => ⟨S2x4x128, .f32⟩
  | .hbm, ⟨32, _⟩ => ⟨S2x4x128, .f32⟩
  | .hbm, ⟨33, _⟩ => ⟨S2x4x128, .f32⟩
  | .hbm, ⟨34, _⟩ => ⟨S_, .f32⟩
  | .hbm, ⟨35, _⟩ => ⟨S2x4x128, .f32⟩
  | .hbm, ⟨36, _⟩ => ⟨S2x4x128, .f32⟩
  | .hbm, ⟨37, _⟩ => ⟨S8x128, .f32⟩
  | .hbm, ⟨38, _⟩ => ⟨S8x128, .f32⟩
  | .hbm, ⟨39, _⟩ => ⟨S8x128, .f32⟩
  | _, _ => ⟨S2x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== LongConvUpdate.lean ====
abbrev S2x31x256 : Shape := ⟨3, ![2, 31, 256]⟩
abbrev S62x256 : Shape := ⟨2, ![62, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x31x256, .f32⟩
  | .hbm, ⟨1, _⟩ => ⟨S2x31x256, .f32⟩
  | .hbm, ⟨2, _⟩ => ⟨S2x31x256, .f32⟩
  | .hbm, ⟨3, _⟩ => ⟨S2x31x256, .f32⟩
  | .hbm, ⟨4, _⟩ => ⟨S62x256, .f32⟩
  | .hbm, ⟨5, _⟩ => ⟨S62x256, .f32⟩
  | .hbm, ⟨6, _⟩ => ⟨S62x256, .f32⟩
  | .hbm, ⟨7, _⟩ => ⟨S62x256, .f32⟩
  | .hbm, ⟨8, _⟩ => ⟨S62x256, .f32⟩
  | .hbm, ⟨9, _⟩ => ⟨S62x256, .f32⟩
  | .hbm, ⟨10, _⟩ => ⟨S62x256, .f32⟩
  | .local _ .vmem, ⟨0, _⟩ => ⟨S62x256, .f32⟩
  | .local _ .vmem, ⟨1, _⟩ => ⟨S62x256, .f32⟩
  | .local _ .vmem, ⟨2, _⟩ => ⟨S62x256, .f32⟩
  | .local _ .vmem, ⟨3, _⟩ => ⟨S62x256, .f32⟩
  | .local _ .vmem, ⟨4, _⟩ => ⟨S62x256, .f32⟩
  | .local _ .vmem, ⟨5, _⟩ => ⟨S62x256, .f32⟩
  | .local _ .vmem, ⟨6, _⟩ => ⟨S62x256, .f32⟩
  | _, _ => ⟨S2x31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== LongConvUpdateRefIdeal.lean ====
abbrev S2x31x256 : Shape := ⟨3, ![2, 31, 256]⟩
abbrev S_ : Shape := ⟨0, ![]⟩
abbrev S62x256 : Shape := ⟨2, ![62, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x31x256, .f32⟩
  | .hbm, ⟨1, _⟩ => ⟨S2x31x256, .f32⟩
  | .hbm, ⟨2, _⟩ => ⟨S2x31x256, .f32⟩
  | .hbm, ⟨3, _⟩ => ⟨S2x31x256, .f32⟩
  | .hbm, ⟨4, _⟩ => ⟨S_, .f32⟩
  | .hbm, ⟨5, _⟩ => ⟨S2x31x256, .f32⟩
  | .hbm, ⟨6, _⟩ => ⟨S2x31x256, .f32⟩
  | .hbm, ⟨7, _⟩ => ⟨S_, .f32⟩
  | .hbm, ⟨8, _⟩ => ⟨S2x31x256, .f32⟩
  | .hbm, ⟨9, _⟩ => ⟨S2x31x256, .f32⟩
  | .hbm, ⟨10, _⟩ => ⟨S2x31x256, .f32⟩
  | .hbm, ⟨11, _⟩ => ⟨S_, .f32⟩
  | .hbm, ⟨12, _⟩ => ⟨S2x31x256, .f32⟩
  | .hbm, ⟨13, _⟩ => ⟨S2x31x256, .f32⟩
  | .hbm, ⟨14, _⟩ => ⟨S2x31x256, .f32⟩
  | .hbm, ⟨15, _⟩ => ⟨S_, .f32⟩
  | .hbm, ⟨16, _⟩ => ⟨S2x31x256, .f32⟩
  | .hbm, ⟨17, _⟩ => ⟨S2x31x256, .f32⟩
  | .hbm, ⟨18, _⟩ => ⟨S2x31x256, .f32⟩
  | .hbm, ⟨19, _⟩ => ⟨S_, .f32⟩
  | .hbm, ⟨20, _⟩ => ⟨S2x31x256, .f32⟩
  | .hbm, ⟨21, _⟩ => ⟨S2x31x256, .f32⟩
  | .hbm, ⟨22, _⟩ => ⟨S_, .f32⟩
  | .hbm, ⟨23, _⟩ => ⟨S2x31x256, .f32⟩
  | .hbm, ⟨24, _⟩ => ⟨S2x31x256, .f32⟩
  | .hbm, ⟨25, _⟩ => ⟨S2x31x256, .f32⟩
  | .hbm, ⟨26, _⟩ => ⟨S_, .f32⟩
  | .hbm, ⟨27, _⟩ => ⟨S2x31x256, .f32⟩
  | .hbm, ⟨28, _⟩ => ⟨S2x31x256, .f32⟩
  | .hbm, ⟨29, _⟩ => ⟨S2x31x256, .f32⟩
  | .hbm, ⟨30, _⟩ => ⟨S_, .f32⟩
  | .hbm, ⟨31, _⟩ => ⟨S2x31x256, .f32⟩
  | .hbm, ⟨32, _⟩ => ⟨S2x31x256, .f32⟩
  | .hbm, ⟨33, _⟩ => ⟨S2x31x256, .f32⟩
  | .hbm, ⟨34, _⟩ => ⟨S_, .f32⟩
  | .hbm, ⟨35, _⟩ => ⟨S2x31x256, .f32⟩
  | .hbm, ⟨36, _⟩ => ⟨S2x31x256, .f32⟩
  | .hbm, ⟨37, _⟩ => ⟨S62x256, .f32⟩
  | .hbm, ⟨38, _⟩ => ⟨S62x256, .f32⟩
  | .hbm, ⟨39, _⟩ => ⟨S62x256, .f32⟩
  | _, _ => ⟨S2x31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.EvenRef.lean ====
module

public import proofs.«01_k».proof.Defs
public import proofs.«01_k».proof.Proof.Gen.EvenGradRefIdeal.Run

@[expose] public section

/-! The frame of the reference for the gated mixer's gradient: its run leaves every argument as it was. -/

noncomputable section

namespace Cert.EvenGrad.Value

open Idealize.ShloMosaic Idealize.SL.Sem

theorem refFrame : Cert.quiescent_EvenGradRefIdeal := fun m ρ _ =>
  (θ_run _ _ _).mono (fun r h => ⟨fun c => (h c).2.2.2.2.2, sem_eq_zero_of_no_sems rfl r.2⟩) (Cert.EvenGradRefIdeal.Value.run m ρ)

end Cert.EvenGrad.Value
end
-- ==== Proof.Adam.lean ====
module

public import Idealize.ShloMosaic.Lib.Pointwise
public import Idealize.ShloMosaic.Lib.Pipeline.ValueKit
public import Idealize.ShloMosaic.Lib.Claim

@[expose] public section

/-! One step of the optimiser, elementwise, over arrays of any shape: the new moments and the weight's change. -/

noncomputable section

namespace Cert.Adam

open Idealize.ShloMosaic

/-- A literal's value. -/
abbrev lit (b : BitVec 32) : EReal := Ideal.ofBits .f32 b

variable {S : Shape}

/-- The new first moment of gradient `g` and old moment `m`. -/
def first (g m : FVec Ideal S .f32) : FVec Ideal S .f32 :=
  fun i => lit 0x3F666666#32 * m i + lit 0x3DCCCCCD#32 * g i

/-- The new second moment of gradient `g` and old moment `v`. -/
def second (g v : FVec Ideal S .f32) : FVec Ideal S .f32 :=
  fun i => lit 0x3F7FBE77#32 * v i + lit 0x3A83126F#32 * (g i * g i)

/-- The weight's change: the corrected first moment over the corrected second moment's root, and the weight's decay. -/
def change (w g m v : FVec Ideal S .f32) : FVec Ideal S .f32 :=
  fun i => lit 0xBA83126F#32 * (Ideal.div (Ideal.div (first g m i) (lit 0x3F26BD02#32))
      (Ideal.sqrt (Ideal.div (second g v i) (lit 0x3C231ACC#32)) + lit 0x322BCC77#32)
    + lit 0x3C23D70A#32 * w i)

variable {T : Shape} {x : T.Idx} {y : S.Idx} {w' g' m' v' : FVec Ideal T .f32} {w g m v : FVec Ideal S .f32}

theorem first_congr (hg : g' x = g y) (hm : m' x = m y) : first g' m' x = first g m y := by
  simp only [first, hg, hm]

theorem second_congr (hg : g' x = g y) (hv : v' x = v y) : second g' v' x = second g v y := by
  simp only [second, hg, hv]

theorem change_congr (hw : w' x = w y) (hg : g' x = g y) (hm : m' x = m y) (hv : v' x = v y) :
    change w' g' m' v' x = change w g m v y := by
  simp only [change, hw, first_congr hg hm, second_congr hg hv]

end Cert.Adam
end
-- ==== Proof.GateBiasUpdate.lean ====
module

public import proofs.«01_k».proof.Defs
public import proofs.«01_k».proof.Proof.Adam
public import proofs.«01_k».proof.Proof.Gen.GateBiasUpdateIdeal.Value
public import proofs.«01_k».proof.Proof.Gen.GateBiasUpdateRefIdeal.Run

@[expose] public section

set_option maxRecDepth 16384

/-! The optimiser's step for the spatial gates' biases. -/

noncomputable section

namespace Cert.GateBiasUpdateIdeal.Value

open Cert.GateBiasUpdateIdeal Cert.GateBiasUpdateIdeal.Gen Idealize.ShloMosaic Idealize.ShloMosaic.TcCoe Idealize.SL.Sem
open Idealize.ShloMosaic.Pipeline (Dat)

variable (m : (ℓ : Loc nD τ sig) → Buf (Elt Ideal) ℓ)

/-- An argument, its rows in one axis. -/
abbrev flat (a : FVec Ideal S2x4x128 .f32) : FVec Ideal S8x128 .f32 := shapeCast _ a shapeCasts_S2x4x128_S8x128

abbrev aW (c : Dev nD) := flat (m ((c.tc : Thread nD τ).loc main_arg0))
abbrev aG (c : Dev nD) := flat (m ((c.tc : Thread nD τ).loc main_arg1))
abbrev aM (c : Dev nD) := flat (m ((c.tc : Thread nD τ).loc main_arg2))
abbrev aV (c : Dev nD) := flat (m ((c.tc : Thread nD τ).loc main_arg3))

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ t.val < 1 :=
  (by decide +kernel : ∀ t : Fin grid0.N, _)

/-- Row `p` of point `t`'s block of rows. -/
def row (t : Fin cfg0.N) (p : Fin 8) : Fin 8 := ⟨t.val * 8 + p, by have := (idx t).2.2.2.2.2.2.2; omega⟩

theorem blkW (c : Dev nD) (t : Fin cfg0.N) (p : Fin 8) (k : Fin 128) :
    (iblk m c 0 t : FVec Ideal S8x128 .f32) (ix2 p k) = aW m c (ix2 (row t p) k) := by
  refine Eq.trans ?_ (congrFun (show V m c main_v0 = aW m c by entry_read; rfl) (ix2 (row t p) k))
  blk_ext [iblk, idx t, row]

theorem blkG (c : Dev nD) (t : Fin cfg0.N) (p : Fin 8) (k : Fin 128) :
    (iblk m c 1 t : FVec Ideal S8x128 .f32) (ix2 p k) = aG m c (ix2 (row t p) k) := by
  refine Eq.trans ?_ (congrFun (show V m c main_v1 = aG m c by entry_read; rfl) (ix2 (row t p) k))
  blk_ext [iblk, idx t, row]

theorem blkM (c : Dev nD) (t : Fin cfg0.N) (p : Fin 8) (k : Fin 128) :
    (iblk m c 2 t : FVec Ideal S8x128 .f32) (ix2 p k) = aM m c (ix2 (row t p) k) := by
  refine Eq.trans ?_ (congrFun (show V m c main_v2 = aM m c by entry_read; rfl) (ix2 (row t p) k))
  blk_ext [iblk, idx t, row]

theorem blkV (c : Dev nD) (t : Fin cfg0.N) (p : Fin 8) (k : Fin 128) :
    (iblk m c 3 t : FVec Ideal S8x128 .f32) (ix2 p k) = aV m c (ix2 (row t p) k) := by
  refine Eq.trans ?_ (congrFun (show V m c main_v3 = aV m c by entry_read; rfl) (ix2 (row t p) k))
  blk_ext [iblk, idx t, row]

theorem emb4 (t : Fin cfg0.N) (p : Fin 8) (k : Fin 128) :
    (((cfg0.win 4).blk t).view.emb (ix2 p k) : S8x128.Idx) = ix2 (row t p) k := by
  blk_ext [idx t, row]

theorem emb5 (t : Fin cfg0.N) (p : Fin 8) (k : Fin 128) :
    (((cfg0.win 5).blk t).view.emb (ix2 p k) : S8x128.Idx) = ix2 (row t p) k := by
  blk_ext [idx t, row]

theorem emb6 (t : Fin cfg0.N) (p : Fin 8) (k : Fin 128) :
    (((cfg0.win 6).blk t).view.emb (ix2 p k) : S8x128.Idx) = ix2 (row t p) k := by
  blk_ext [idx t, row]

theorem pay2_eq (g v : FVec Ideal S8x128 .f32) : k0_pay2 g v = Adam.first g v := by
  pointwise [k0_pay1, k0_pay2]
  rfl

theorem pay3_eq (g v : FVec Ideal S8x128 .f32) : k0_pay3 g v = Adam.second g v := by
  pointwise [k0_pay1, k0_pay3]
  rfl

theorem pay4_eq (w g v u : FVec Ideal S8x128 .f32) : k0_pay4 w g v u = Adam.change w g v u := by
  funext y
  rw [k0_pay4, pay2_eq, pay3_eq]
  idx_vars y
  pointwise [Adam.change]

theorem final4 (c : Dev nD) : (dats m 0 c).arrAt 4 (cfgs 0).N = Adam.change (aW m c) (aG m c) (aM m c) (aV m c) := by
  refine (dats m 0 c).arrAt_eq_of_covers 4 _ (by decide +kernel) fun t hf y => ?_
  blk_simp
  rw [after0_4]
  idx_vars y
  refine Eq.trans ?_ (congrArg (Adam.change (aW m c) (aG m c) (aM m c) (aV m c)) (emb4 t y0 y1)).symm
  frame_out
  rw [pay4_eq]
  exact Adam.change_congr (blkW m c t y0 y1) (blkG m c t y0 y1) (blkM m c t y0 y1) (blkV m c t y0 y1)

theorem final5 (c : Dev nD) : (dats m 0 c).arrAt 5 (cfgs 0).N = Adam.first (aG m c) (aM m c) := by
  refine (dats m 0 c).arrAt_eq_of_covers 5 _ (by decide +kernel) fun t hf y => ?_
  blk_simp
  rw [after0_5]
  idx_vars y
  refine Eq.trans ?_ (congrArg (Adam.first (aG m c) (aM m c)) (emb5 t y0 y1)).symm
  frame_out
  rw [pay2_eq]
  exact Adam.first_congr (blkG m c t y0 y1) (blkM m c t y0 y1)

theorem final6 (c : Dev nD) : (dats m 0 c).arrAt 6 (cfgs 0).N = Adam.second (aG m c) (aV m c) := by
  refine (dats m 0 c).arrAt_eq_of_covers 6 _ (by decide +kernel) fun t hf y => ?_
  blk_simp
  rw [after0_6]
  idx_vars y
  refine Eq.trans ?_ (congrArg (Adam.second (aG m c) (aV m c)) (emb6 t y0 y1)).symm
  frame_out
  rw [pay3_eq]
  exact Adam.second_congr (blkG m c t y0 y1) (blkV m c t y0 y1)

end Cert.GateBiasUpdateIdeal.Value

namespace Cert.GateBiasUpdate

open Idealize.ShloMosaic Idealize.ShloMosaic.TcCoe Idealize.SL.Sem

theorem refFrame : Cert.quiescent_GateBiasUpdateRefIdeal := fun m ρ _ =>
  (θ_run _ _ _).mono (fun r h => ⟨fun c => (h c).2.2.2, sem_eq_zero_of_no_sems rfl r.2⟩) (Cert.GateBiasUpdateRefIdeal.Value.run m ρ)

open Cert.GateBiasUpdateIdeal.Value in
theorem algebraic : Cert.algebraic_GateBiasUpdateIdeal_GateBiasUpdateRefIdeal := by
  intro m g m' g' _ hag
  refine ⟨fun c => Adam.change (aW m c) (aG m c) (aM m c) (aV m c), fun c => Adam.first (aG m c) (aM m c),
    fun c => Adam.second (aG m c) (aV m c), ?_, ?_⟩
  · exact (θ_run _ _ _).mono (fun r h c => ⟨(h c).1.trans (final4 m c), (h c).2.1.trans (final5 m c),
      (h c).2.2.1.trans (final6 m c), (h c).2.2.2⟩) (Cert.GateBiasUpdateIdeal.Value.run_blocks m g)
  · refine (θ_run _ _ _).mono (fun r h c => ?_) (Cert.GateBiasUpdateRefIdeal.Value.run m' g')
    obtain ⟨h0, h1, h2, h3⟩ := hag c
    refine ⟨(h c).1.trans ?_, (h c).2.1.trans ?_, (h c).2.2.1.trans ?_, (h c).2.2.2⟩
    · rw [h0, h1, h2, h3]; rfl
    · rw [h1, h2]; rfl
    · rw [h1, h3]; rfl

end Cert.GateBiasUpdate
end
-- ==== Proof.GateUpdate.lean ====
module

public import proofs.«01_k».proof.Defs
public import proofs.«01_k».proof.Proof.Adam
public import proofs.«01_k».proof.Proof.Gen.GateUpdateIdeal.Value
public import proofs.«01_k».proof.Proof.Gen.GateUpdateRefIdeal.Run

@[expose] public section

set_option maxRecDepth 16384

/-! The optimiser's step for the spatial gates' weights. -/

noncomputable section

namespace Cert.GateUpdateIdeal.Value

open Cert.GateUpdateIdeal Cert.GateUpdateIdeal.Gen Idealize.ShloMosaic Idealize.ShloMosaic.TcCoe Idealize.SL.Sem
open Idealize.ShloMosaic.Pipeline (Dat)

variable (m : (ℓ : Loc nD τ sig) → Buf (Elt Ideal) ℓ)

/-- An argument, its rows in one axis. -/
abbrev flat (a : FVec Ideal S2x4x128x128 .f32) : FVec Ideal S1024x128 .f32 := shapeCast _ a shapeCasts_S2x4x128x128_S1024x128

abbrev aW (c : Dev nD) := flat (m ((c.tc : Thread nD τ).loc main_arg0))
abbrev aG (c : Dev nD) := flat (m ((c.tc : Thread nD τ).loc main_arg1))
abbrev aM (c : Dev nD) := flat (m ((c.tc : Thread nD τ).loc main_arg2))
abbrev aV (c : Dev nD) := flat (m ((c.tc : Thread nD τ).loc main_arg3))

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ t.val < 4 :=
  (by decide +kernel : ∀ t : Fin grid0.N, _)

/-- Row `p` of point `t`'s block of rows. -/
def row (t : Fin cfg0.N) (p : Fin 256) : Fin 1024 := ⟨t.val * 256 + p, by have := (idx t).2.2.2.2.2.2.2; omega⟩

theorem blkW (c : Dev nD) (t : Fin cfg0.N) (p : Fin 256) (k : Fin 128) :
    (iblk m c 0 t : FVec Ideal S256x128 .f32) (ix2 p k) = aW m c (ix2 (row t p) k) := by
  refine Eq.trans ?_ (congrFun (show V m c main_v0 = aW m c by entry_read; rfl) (ix2 (row t p) k))
  blk_ext [iblk, idx t, row]

theorem blkG (c : Dev nD) (t : Fin cfg0.N) (p : Fin 256) (k : Fin 128) :
    (iblk m c 1 t : FVec Ideal S256x128 .f32) (ix2 p k) = aG m c (ix2 (row t p) k) := by
  refine Eq.trans ?_ (congrFun (show V m c main_v1 = aG m c by entry_read; rfl) (ix2 (row t p) k))
  blk_ext [iblk, idx t, row]

theorem blkM (c : Dev nD) (t : Fin cfg0.N) (p : Fin 256) (k : Fin 128) :
    (iblk m c 2 t : FVec Ideal S256x128 .f32) (ix2 p k) = aM m c (ix2 (row t p) k) := by
  refine Eq.trans ?_ (congrFun (show V m c main_v2 = aM m c by entry_read; rfl) (ix2 (row t p) k))
  blk_ext [iblk, idx t, row]

theorem blkV (c : Dev nD) (t : Fin cfg0.N) (p : Fin 256) (k : Fin 128) :
    (iblk m c 3 t : FVec Ideal S256x128 .f32) (ix2 p k) = aV m c (ix2 (row t p) k) := by
  refine Eq.trans ?_ (congrFun (show V m c main_v3 = aV m c by entry_read; rfl) (ix2 (row t p) k))
  blk_ext [iblk, idx t, row]

theorem emb4 (t : Fin cfg0.N) (p : Fin 256) (k : Fin 128) :
    (((cfg0.win 4).blk t).view.emb (ix2 p k) : S1024x128.Idx) = ix2 (row t p) k := by
  blk_ext [idx t, row]

theorem emb5 (t : Fin cfg0.N) (p : Fin 256) (k : Fin 128) :
    (((cfg0.win 5).blk t).view.emb (ix2 p k) : S1024x128.Idx) = ix2 (row t p) k := by
  blk_ext [idx t, row]

theorem emb6 (t : Fin cfg0.N) (p : Fin 256) (k : Fin 128) :
    (((cfg0.win 6).blk t).view.emb (ix2 p k) : S1024x128.Idx) = ix2 (row t p) k := by
  blk_ext [idx t, row]

theorem pay2_eq (g v : FVec Ideal S256x128 .f32) : k0_pay2 g v = Adam.first g v := by
  pointwise [k0_pay1, k0_pay2]
  rfl

theorem pay3_eq (g v : FVec Ideal S256x128 .f32) : k0_pay3 g v = Adam.second g v := by
  pointwise [k0_pay1, k0_pay3]
  rfl

theorem pay4_eq (w g v u : FVec Ideal S256x128 .f32) : k0_pay4 w g v u = Adam.change w g v u := by
  funext y
  rw [k0_pay4, pay2_eq, pay3_eq]
  idx_vars y
  pointwise [Adam.change]

theorem final4 (c : Dev nD) : (dats m 0 c).arrAt 4 (cfgs 0).N = Adam.change (aW m c) (aG m c) (aM m c) (aV m c) := by
  refine (dats m 0 c).arrAt_eq_of_covers 4 _ (by decide +kernel) fun t hf y => ?_
  blk_simp
  rw [after0_4]
  idx_vars y
  refine Eq.trans ?_ (congrArg (Adam.change (aW m c) (aG m c) (aM m c) (aV m c)) (emb4 t y0 y1)).symm
  frame_out
  rw [pay4_eq]
  exact Adam.change_congr (blkW m c t y0 y1) (blkG m c t y0 y1) (blkM m c t y0 y1) (blkV m c t y0 y1)

theorem final5 (c : Dev nD) : (dats m 0 c).arrAt 5 (cfgs 0).N = Adam.first (aG m c) (aM m c) := by
  refine (dats m 0 c).arrAt_eq_of_covers 5 _ (by decide +kernel) fun t hf y => ?_
  blk_simp
  rw [after0_5]
  idx_vars y
  refine Eq.trans ?_ (congrArg (Adam.first (aG m c) (aM m c)) (emb5 t y0 y1)).symm
  frame_out
  rw [pay2_eq]
  exact Adam.first_congr (blkG m c t y0 y1) (blkM m c t y0 y1)

theorem final6 (c : Dev nD) : (dats m 0 c).arrAt 6 (cfgs 0).N = Adam.second (aG m c) (aV m c) := by
  refine (dats m 0 c).arrAt_eq_of_covers 6 _ (by decide +kernel) fun t hf y => ?_
  blk_simp
  rw [after0_6]
  idx_vars y
  refine Eq.trans ?_ (congrArg (Adam.second (aG m c) (aV m c)) (emb6 t y0 y1)).symm
  frame_out
  rw [pay3_eq]
  exact Adam.second_congr (blkG m c t y0 y1) (blkV m c t y0 y1)

end Cert.GateUpdateIdeal.Value

namespace Cert.GateUpdate

open Idealize.ShloMosaic Idealize.ShloMosaic.TcCoe Idealize.SL.Sem

theorem refFrame : Cert.quiescent_GateUpdateRefIdeal := fun m ρ _ =>
  (θ_run _ _ _).mono (fun r h => ⟨fun c => (h c).2.2.2, sem_eq_zero_of_no_sems rfl r.2⟩) (Cert.GateUpdateRefIdeal.Value.run m ρ)

open Cert.GateUpdateIdeal.Value in
theorem algebraic : Cert.algebraic_GateUpdateIdeal_GateUpdateRefIdeal := by
  intro m g m' g' _ hag
  refine ⟨fun c => Adam.change (aW m c) (aG m c) (aM m c) (aV m c), fun c => Adam.first (aG m c) (aM m c),
    fun c => Adam.second (aG m c) (aV m c), ?_, ?_⟩
  · exact (θ_run _ _ _).mono (fun r h c => ⟨(h c).1.trans (final4 m c), (h c).2.1.trans (final5 m c),
      (h c).2.2.1.trans (final6 m c), (h c).2.2.2⟩) (Cert.GateUpdateIdeal.Value.run_blocks m g)
  · refine (θ_run _ _ _).mono (fun r h c => ?_) (Cert.GateUpdateRefIdeal.Value.run m' g')
    obtain ⟨h0, h1, h2, h3⟩ := hag c
    refine ⟨(h c).1.trans ?_, (h c).2.1.trans ?_, (h c).2.2.1.trans ?_, (h c).2.2.2⟩
    · rw [h0, h1, h2, h3]; rfl
    · rw [h1, h2]; rfl
    · rw [h1, h3]; rfl

end Cert.GateUpdate
end
-- ==== Proof.InGrad.lean ====
module

public import proofs.«01_k».proof.Defs
public import proofs.«01_k».proof.Proof.Gen.InGradIdeal.Value
public import proofs.«01_k».proof.Proof.Gen.InGradRefIdeal.Run
public import Idealize.ShloMosaic.Lib.Pointwise
public import Idealize.ShloMosaic.Lib.Pipeline.ValueKit
public import Idealize.ShloMosaic.Lib.Claim

/-! The gradient of the first layer's input: the residual's gradient with its factor, plus the incoming gradient times the
transposed gathered weights, a quarter of the columns at a time. -/

@[expose] public section

set_option maxRecDepth 16384

noncomputable section

namespace Cert.InGradIdeal.Value

open Cert.InGradIdeal Cert.InGradIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0, 0, 0, 0] ∧ win0_2.index t = ![t.val, 0]
    ∧ win0_3.index t = ![t.val, 0] ∧ t.val < 16 :=
  (by decide +kernel : ∀ t : Fin grid0.N, _)

theorem lt16 (t : Fin cfg0.N) : t.val < 16 := (idx t).2.2.2.2

abbrev aZ (c : Dev nD) : FVec Ideal S8192x6144 .bf16 := m ((c.tc : Thread nD τ).loc main_arg0)
abbrev aW (c : Dev nD) : FVec Ideal S1024x6144 .f32 := m ((c.tc : Thread nD τ).loc main_arg1)
abbrev aD (c : Dev nD) : FVec Ideal S8192x1024 .f32 := m ((c.tc : Thread nD τ).loc main_arg2)

/-- Row `p` of point `t`'s block of rows. -/
def row (t : Fin cfg0.N) (p : Fin 512) : Fin 8192 := ⟨t.val * 512 + p, by have := lt16 t; omega⟩

theorem blk0 (c : Dev nD) (t : Fin cfg0.N) (p : Fin 512) (k : Fin 6144) :
    (iblk m c 0 t : FVec Ideal S512x6144 .bf16) (ix2 p k) = aZ m c (ix2 (row t p) k) := by
  blk_ext [iblk, V, idx t, row]

/-- The gathered weights, laid out by chips and halves. -/
theorem gathered (c : Dev nD) (q : Fin 4) (h : Fin 2) (r : Fin 512) (k : Fin 1536) :
    (V m c main_v3 : FVec Ideal S4x2x1x512x1536 .bf16) (ix5 q h 0 r k)
      = aW m c (ix2 ⟨h * 512 + r, by omega⟩ ⟨q * 1536 + k, by omega⟩) := by
  entry_read
  pointwise

theorem blk1 (c : Dev nD) (t : Fin cfg0.N) (q : Fin 4) (h : Fin 2) (r : Fin 512) (k : Fin 1536) :
    (iblk m c 1 t : FVec Ideal S4x2x1x512x1536 .bf16) (ix5 q h 0 r k)
      = aW m c (ix2 ⟨h * 512 + r, by omega⟩ ⟨q * 1536 + k, by omega⟩) := by
  refine Eq.trans ?_ (gathered m c q h r k)
  blk_ext [iblk, idx t]

theorem blk2 (c : Dev nD) (t : Fin cfg0.N) (p : Fin 512) (k : Fin 1024) :
    (iblk m c 2 t : FVec Ideal S512x1024 .f32) (ix2 p k) = aD m c (ix2 (row t p) k) := by
  blk_ext [iblk, V, idx t, row]

theorem pay_at (v0 : FVec Ideal S512x1024 .f32) (a0 a1 a2 a3 : FVec Ideal S512x1536 .bf16)
    (w0 w1 w2 w3 : FVec Ideal S1x2x1x512x1536 .bf16) (p : Fin 512) (n : Fin 1024) :
    k0_pay1 (F := Ideal) (k0_pay2 v0 a0 w0 a1 w1 a2 w2) a3 (k0_pay3 w3) (ix2 p n)
      = Ideal.ofBits .f32 0x3FD744FD#32 * v0 (ix2 p n)
        + (∑ k : Fin 1536, a0 (ix2 p k) * w0 (ix5 0 ⟨n / 512, by omega⟩ 0 ⟨n % 512, by omega⟩ k))
        + (∑ k : Fin 1536, a1 (ix2 p k) * w1 (ix5 0 ⟨n / 512, by omega⟩ 0 ⟨n % 512, by omega⟩ k))
        + (∑ k : Fin 1536, a2 (ix2 p k) * w2 (ix5 0 ⟨n / 512, by omega⟩ 0 ⟨n % 512, by omega⟩ k))
        + (∑ k : Fin 1536, a3 (ix2 p k) * w3 (ix5 0 ⟨n / 512, by omega⟩ 0 ⟨n % 512, by omega⟩ k)) := by
  pointwise [k0_pay1, k0_pay2, k0_pay3]

/-- The gradient, over the arguments. -/
def prod (z : FVec Ideal S8192x6144 .bf16) (w : FVec Ideal S1024x6144 .f32) (d : FVec Ideal S8192x1024 .f32) :
    FVec Ideal S8192x1024 .f32 :=
  fun i => Ideal.ofBits .f32 0x3FD744FD#32 * d i + ∑ k : Fin 6144, z (ix2 (i 0) k) * w (ix2 (i 1) k)

theorem emb (t : Fin cfg0.N) (p : Fin 512) (n : Fin 1024) :
    (((cfg0.win 3).blk t).view.emb (ix2 p n) : S8192x1024.Idx) = ix2 (row t p) n := by
  blk_ext [idx t, row]

theorem final (c : Dev nD) : (dats m 0 c).arrAt 3 (cfgs 0).N = prod (aZ m c) (aW m c) (aD m c) := by
  refine (dats m 0 c).arrAt_eq_of_covers 3 _ (by decide +kernel) fun t hf y => ?_
  blk_simp
  rw [after0_3]
  idx_vars y
  refine Eq.trans ?_ (congrArg (prod (aZ m c) (aW m c) (aD m c)) (emb t y0 y1)).symm
  frame_out
  rw [pay_at]
  have hn : (⟨(⟨y1 / 512, by omega⟩ : Fin 2) * 512 + (⟨y1 % 512, by omega⟩ : Fin 512), by
      have := y1.isLt; show y1.val / 512 * 512 + y1.val % 512 < 1024; omega⟩ : Fin 1024) = y1 := by
    apply Fin.ext; show y1.val / 512 * 512 + y1.val % 512 = y1.val; omega
  have hw (q : Fin 4) (k : Fin 1536) := (blk1 m c t q ⟨y1 / 512, by omega⟩ ⟨y1 % 512, by omega⟩ k).trans
    (congrArg (fun n => aW m c (ix2 n _)) hn)
  show _ = Ideal.ofBits .f32 0x3FD744FD#32 * aD m c (ix2 (row t y0) y1) + ∑ k : Fin 6144, aZ m c (ix2 (row t y0) k) * aW m c (ix2 y1 k)
  rw [Fin.sum_univ_tiles 4 1536 rfl (fun k : Fin 6144 => aZ m c (ix2 (row t y0) k) * aW m c (ix2 y1 k)), Fin.sum_univ_four]
  simp only [← add_assoc]
  refine congrArg₂ (· + ·) (congrArg₂ (· + ·) (congrArg₂ (· + ·) (congrArg₂ (· + ·) (congrArg _ (blk2 m c t y0 y1))
    (Fin.sum_fin_congr fun k => ?_)) (Fin.sum_fin_congr fun k => ?_)) (Fin.sum_fin_congr fun k => ?_)) (Fin.sum_fin_congr fun k => ?_)
  · refine congrArg₂ (· * ·) (Eq.trans ?_ (blk0 m c t y0 ⟨0 * 1536 + k, by omega⟩)) (Eq.trans ?_ (hw 0 k)) <;> pointwise
  · refine congrArg₂ (· * ·) (Eq.trans ?_ (blk0 m c t y0 ⟨1 * 1536 + k, by omega⟩)) (Eq.trans ?_ (hw 1 k)) <;> pointwise
  · refine congrArg₂ (· * ·) (Eq.trans ?_ (blk0 m c t y0 ⟨2 * 1536 + k, by omega⟩)) (Eq.trans ?_ (hw 2 k)) <;> pointwise
  · refine congrArg₂ (· * ·) (Eq.trans ?_ (blk0 m c t y0 ⟨3 * 1536 + k, by omega⟩)) (Eq.trans ?_ (hw 3 k)) <;> pointwise

end Cert.InGradIdeal.Value

namespace Cert.InGrad.Value

open Idealize.ShloMosaic Idealize.ShloMosaic.TcCoe Idealize.SL.Sem

theorem refFrame : Cert.quiescent_InGradRefIdeal := fun m ρ _ =>
  (θ_run _ _ _).mono (fun r h => ⟨fun c => (h c).2, sem_eq_zero_of_no_sems rfl r.2⟩) (Cert.InGradRefIdeal.Value.run m ρ)

theorem algebraic : Cert.algebraic_InGradIdeal_InGradRefIdeal := by
  intro m g m' g' _ hag
  refine ⟨fun c => Cert.InGradIdeal.Value.prod (Cert.InGradIdeal.Value.aZ m c) (Cert.InGradIdeal.Value.aW m c) (Cert.InGradIdeal.Value.aD m c), ?_, ?_⟩
  · exact (θ_run _ _ _).mono (fun r h c => ⟨(h c).1.trans (Cert.InGradIdeal.Value.final m c), (h c).2⟩)
      (Cert.InGradIdeal.Value.run_blocks m g)
  · refine (θ_run _ _ _).mono (fun r h c => ⟨(h c).1.trans (funext fun y => ?_), (h c).2⟩) (Cert.InGradRefIdeal.Value.run m' g')
    obtain ⟨h0, h1, h2⟩ := hag c
    rw [h0, h1, h2]
    idx_vars y
    refine Eq.trans (b := (∑ k : Fin 6144, Cert.InGradIdeal.Value.aZ m c (ix2 y0 k) * Cert.InGradIdeal.Value.aW m c (ix2 y1 k))
      + Ideal.ofBits .f32 0x3FD744FD#32 * Cert.InGradIdeal.Value.aD m c (ix2 y0 y1)) (by pointwise) (add_comm _ _)

end Cert.InGrad.Value
end
-- ==== Proof.InProj.lean ====
module

public import proofs.«01_k».proof.Defs
public import proofs.«01_k».proof.Proof.Gen.InProjIdeal.Value
public import proofs.«01_k».proof.Proof.Gen.InProjRefIdeal.Run
public import Idealize.ShloMosaic.Lib.Pointwise
public import Idealize.ShloMosaic.Lib.Pipeline.ValueKit
public import Idealize.ShloMosaic.Lib.Claim

/-! The input projection: one layer's rows times that layer's slot of the gathered weights. -/

@[expose] public section

set_option maxRecDepth 16384

noncomputable section

namespace Cert.InProjIdeal.Value

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 8, 0] ∧ win0_1.index t = ![t.val / 8, 0, 1, 0, 0]
    ∧ win0_2.index t = ![t.val % 8, t.val / 8] ∧ t.val < 32 :=
  (by decide +kernel : ∀ t : Fin grid0.N, _)

theorem lt32 (t : Fin cfg0.N) : t.val < 32 := (idx t).2.2.2

abbrev aX (c : Dev nD) : FVec Ideal S8192x1024 .bf16 := m ((c.tc : Thread nD τ).loc main_arg0)
abbrev aW (c : Dev nD) : FVec Ideal S3x1024x6144 .f32 := m ((c.tc : Thread nD τ).loc main_arg1)

/-- Row `p` of point `t`'s block of rows, and column `n` of its block of columns. -/
def row (t : Fin cfg0.N) (p : Fin 1024) : Fin 8192 := ⟨t.val % 8 * 1024 + p, by have := lt32 t; omega⟩
def col (t : Fin cfg0.N) (n : Fin 1536) : Fin 6144 := ⟨t.val / 8 * 1536 + n, by have := lt32 t; omega⟩

theorem blk0 (c : Dev nD) (t : Fin cfg0.N) (p k : Fin 1024) :
    (iblk m c 0 t : FVec Ideal S1024x1024 .bf16) (ix2 p k) = aX m c (ix2 (row t p) k) := by
  blk_ext [iblk, V, idx t, row]

/-- The gathered weights, laid out by chips, halves, slots. -/
theorem gathered (c : Dev nD) (q : Fin 4) (h : Fin 2) (s : Fin 3) (r : Fin 512) (k : Fin 1536) :
    (V m c main_v2 : FVec Ideal S4x2x3x512x1536 .bf16) (ix5 q h s r k)
      = aW m c (ix3 s ⟨h * 512 + r, by omega⟩ ⟨q * 1536 + k, by omega⟩) := by
  entry_read
  pointwise

theorem blk1 (c : Dev nD) (t : Fin cfg0.N) (h : Fin 2) (r : Fin 512) (n : Fin 1536) :
    (iblk m c 1 t : FVec Ideal S1x2x1x512x1536 .bf16) (ix5 0 h 0 r n) = aW m c (ix3 1 ⟨h * 512 + r, by omega⟩ (col t n)) := by
  refine Eq.trans ?_ (gathered m c ⟨t.val / 8, by have := lt32 t; omega⟩ h 1 r n)
  blk_ext [iblk, idx t]

theorem pay_at (x : FVec Ideal S1024x1024 .bf16) (w : FVec Ideal S1x2x1x512x1536 .bf16) (p : Fin 1024) (n : Fin 1536) :
    k0_pay1 (F := Ideal) x w (ix2 p n) = ∑ k : Fin 1024, x (ix2 p k) * w (ix5 0 ⟨k / 512, by omega⟩ 0 ⟨k % 512, by omega⟩ n) := by
  pointwise [k0_pay1]

/-- The product, over the arguments. -/
def prod (x : FVec Ideal S8192x1024 .bf16) (w : FVec Ideal S3x1024x6144 .f32) : FVec Ideal S8192x6144 .bf16 :=
  fun i => ∑ k : Fin 1024, x (ix2 (i 0) k) * w (ix3 1 k (i 1))

theorem emb (t : Fin cfg0.N) (p : Fin 1024) (n : Fin 1536) :
    (((cfg0.win 2).blk t).view.emb (ix2 p n) : S8192x6144.Idx) = ix2 (row t p) (col t n) := by
  blk_ext [idx t, row, col]

theorem final (c : Dev nD) : (dats m 0 c).arrAt 2 (cfgs 0).N = prod (aX m c) (aW m c) := by
  refine (dats m 0 c).arrAt_eq_of_covers 2 _ (by decide +kernel) fun t hf y => ?_
  blk_simp
  rw [after0_2]
  idx_vars y
  refine Eq.trans ?_ (congrArg (prod (aX m c) (aW m c)) (emb t y0 y1)).symm
  frame_out
  rw [pay_at]
  refine Fin.sum_fin_congr fun k => ?_
  rw [blk0, blk1]
  have hk : (⟨(⟨k / 512, by omega⟩ : Fin 2) * 512 + (⟨k % 512, by omega⟩ : Fin 512), by
      have := k.isLt; show k.val / 512 * 512 + k.val % 512 < 1024; omega⟩ : Fin 1024) = k := by
    apply Fin.ext; show k.val / 512 * 512 + k.val % 512 = k.val; omega
  rw [hk]
  rfl

end Cert.InProjIdeal.Value

namespace Cert.InProj.Value

open Idealize.ShloMosaic Idealize.ShloMosaic.TcCoe Idealize.SL.Sem

theorem refFrame : Cert.quiescent_InProjRefIdeal := fun m ρ _ =>
  (θ_run _ _ _).mono (fun r h => ⟨fun c => (h c).2, sem_eq_zero_of_no_sems rfl r.2⟩) (Cert.InProjRefIdeal.Value.run m ρ)

theorem algebraic : Cert.algebraic_InProjIdeal_InProjRefIdeal := by
  intro m g m' g' _ hag
  refine ⟨fun c => Cert.InProjIdeal.Value.prod (Cert.InProjIdeal.Value.aX m c) (Cert.InProjIdeal.Value.aW m c), ?_, ?_⟩
  · exact (θ_run _ _ _).mono (fun r h c => ⟨(h c).1.trans (Cert.InProjIdeal.Value.final m c), (h c).2⟩)
      (Cert.InProjIdeal.Value.run_blocks m g)
  · refine (θ_run _ _ _).mono (fun r h c => ⟨(h c).1.trans (funext fun y => ?_), (h c).2⟩) (Cert.InProjRefIdeal.Value.run m' g')
    obtain ⟨h0, h1⟩ := hag c
    rw [h0, h1]
    idx_vars y
    pointwise [Cert.InProjIdeal.Value.prod]

end Cert.InProj.Value
end
-- ==== Proof.InUpdate.lean ====
module

public import proofs.«01_k».proof.Defs
public import proofs.«01_k».proof.Proof.Adam
public import proofs.«01_k».proof.Proof.Gen.InUpdateIdeal.Frame
public import proofs.«01_k».proof.Proof.Gen.InUpdateRefIdeal.Run
public import Idealize.ShloMosaic.Lib.Pointwise
public import Idealize.ShloMosaic.Lib.Pipeline.ValueKit
public import Idealize.ShloMosaic.Lib.Claim

@[expose] public section

set_option maxRecDepth 16384

/-! The optimiser's step for the input projections' weights.

The first call writes the second layer's half of each array, the second call the first layer's half over what the first call
left. -/

noncomputable section

namespace Cert.InUpdateIdeal.Value

open Cert.InUpdateIdeal Cert.InUpdateIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Every run ends with the buffers at the last boundary's contents. -/
theorem run_mem : θ_run defs (onTc (τ := τ) (main (F := Ideal))) ⟨m, fun _ => 0, ρ⟩ fun r =>
    ∀ c : Dev nD, ∀ b ∈ Pipeline.ucRefs τ sig, r.2.mem (((c : Thread nD τ)).1, b) = W3 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

abbrev aW (c : Dev nD) : FVec Ideal S2x1024x1536 .f32 := m ((c.tc : Thread nD τ).loc main_arg0)
abbrev aM (c : Dev nD) : FVec Ideal S2x1024x1536 .f32 := m ((c.tc : Thread nD τ).loc main_arg1)
abbrev aV (c : Dev nD) : FVec Ideal S2x1024x1536 .f32 := m ((c.tc : Thread nD τ).loc main_arg2)
abbrev aG0 (c : Dev nD) : FVec Ideal S2x512x1536 .f32 := m ((c.tc : Thread nD τ).loc main_arg3)
abbrev aG1 (c : Dev nD) : FVec Ideal S2x512x1536 .f32 := m ((c.tc : Thread nD τ).loc main_arg4)

/-- The two layers' gradients as one array, each with its halves of the rows joined. -/
def stack (g0 g1 : FVec Ideal S2x512x1536 .f32) : FVec Ideal S2x1024x1536 .f32 := fun i =>
  (if (i 0 : ℕ) = 0 then g0 else g1)
    (ix3 ⟨(i 1 : ℕ) / 512, by have : (i 1 : ℕ) < 1024 := (i 1).isLt; omega⟩ ⟨(i 1 : ℕ) % 512, by omega⟩ (i 2))

abbrev aG (c : Dev nD) : FVec Ideal S2x1024x1536 .f32 := stack (aG0 m c) (aG1 m c)

theorem idx0 : ∀ t : Fin cfg0.N, win0_0.index t = ![1, t.val, 0] ∧ win0_1.index t = ![1, t.val, 0]
    ∧ win0_2.index t = ![1, t.val, 0] ∧ win0_3.index t = ![t.val / 2, t.val % 2, 0] ∧ win0_4.index t = ![1, t.val, 0]
    ∧ win0_5.index t = ![1, t.val, 0]
    ∧ win0_6.index t = ![1, t.val, 0] ∧ win0_7.index t = ![1, t.val, 0] ∧ t.val < 4 :=
  (by decide +kernel : ∀ t : Fin grid0.N, _)

theorem idx1 : ∀ t : Fin cfg1.N, win1_0.index t = ![0, t.val, 0] ∧ win1_1.index t = ![0, t.val, 0]
    ∧ win1_2.index t = ![0, t.val, 0] ∧ win1_3.index t = ![t.val / 2, t.val % 2, 0] ∧ win1_4.index t = ![0, t.val, 0]
    ∧ win1_5.index t = ![0, t.val, 0]
    ∧ win1_6.index t = ![0, t.val, 0] ∧ win1_7.index t = ![0, t.val, 0] ∧ t.val < 4 :=
  (by decide +kernel : ∀ t : Fin grid1.N, _)

/-- Row `p` of the `t`th block of rows. -/
def row (t : ℕ) (ht : t < 4) (p : Fin 256) : Fin 1024 := ⟨t * 256 + p, by omega⟩

theorem lt0 (t : Fin cfg0.N) : t.val < 4 := (idx0 t).2.2.2.2.2.2.2.2
theorem lt1 (t : Fin cfg1.N) : t.val < 4 := (idx1 t).2.2.2.2.2.2.2.2

/-! ## The blocks -/

theorem blk0_W (c : Dev nD) (t : Fin cfg0.N) (p : Fin 256) (n : Fin 1536) :
    (iblk0 (V0 m ρ) c 0 t : FVec Ideal S1x256x1536 .f32) (ix3 0 p n) = aW m c (ix3 1 (row t (lt0 t) p) n) := by
  blk_ext [iblk0, idx0 t, row]

theorem blk0_M (c : Dev nD) (t : Fin cfg0.N) (p : Fin 256) (n : Fin 1536) :
    (iblk0 (V0 m ρ) c 1 t : FVec Ideal S1x256x1536 .f32) (ix3 0 p n) = aM m c (ix3 1 (row t (lt0 t) p) n) := by
  blk_ext [iblk0, idx0 t, row]

theorem blk0_V (c : Dev nD) (t : Fin cfg0.N) (p : Fin 256) (n : Fin 1536) :
    (iblk0 (V0 m ρ) c 2 t : FVec Ideal S1x256x1536 .f32) (ix3 0 p n) = aV m c (ix3 1 (row t (lt0 t) p) n) := by
  blk_ext [iblk0, idx0 t, row]

theorem blk0_G (c : Dev nD) (t : Fin cfg0.N) (p : Fin 256) (n : Fin 1536) :
    (iblk0 (V0 m ρ) c 3 t : FVec Ideal S1x256x1536 .f32) (ix3 0 p n) = aG m c (ix3 1 (row t (lt0 t) p) n) := by
  have ht := lt0 t
  refine Eq.trans (b := aG1 m c (ix3 ⟨t.val / 2, by omega⟩ ⟨t.val % 2 * 256 + p, by omega⟩ n)) ?_ ?_
  · blk_ext [iblk0, idx0 t]
  · have h1 : (⟨t.val / 2, by omega⟩ : Fin 2) = ⟨(row t ht p : ℕ) / 512, by have := (row t ht p).isLt; omega⟩ :=
      Fin.ext (show t.val / 2 = (t.val * 256 + p) / 512 by omega)
    have h2 : (⟨t.val % 2 * 256 + p, by omega⟩ : Fin 512) = ⟨(row t ht p : ℕ) % 512, by omega⟩ :=
      Fin.ext (show t.val % 2 * 256 + p = (t.val * 256 + p) % 512 by omega)
    rw [h1, h2]; rfl

theorem emb0_4 (t : Fin cfg0.N) (p : Fin 256) (n : Fin 1536) :
    (((cfg0.win 4).blk t).view.emb (ix3 0 p n) : S2x1024x1536.Idx) = ix3 1 (row t (lt0 t) p) n := by
  blk_ext [idx0 t, row]

theorem emb0_5 (t : Fin cfg0.N) (p : Fin 256) (n : Fin 1536) :
    (((cfg0.win 5).blk t).view.emb (ix3 0 p n) : S2x1024x1536.Idx) = ix3 1 (row t (lt0 t) p) n := by
  blk_ext [idx0 t, row]

theorem emb0_6 (t : Fin cfg0.N) (p : Fin 256) (n : Fin 1536) :
    (((cfg0.win 6).blk t).view.emb (ix3 0 p n) : S2x1024x1536.Idx) = ix3 1 (row t (lt0 t) p) n := by
  blk_ext [idx0 t, row]

theorem emb0_7 (t : Fin cfg0.N) (p : Fin 256) (n : Fin 1536) :
    (((cfg0.win 7).blk t).view.emb (ix3 0 p n) : S2x1024x1536.Idx) = ix3 1 (row t (lt0 t) p) n := by
  blk_ext [idx0 t, row]

theorem blk1_W (c : Dev nD) (t : Fin cfg1.N) (p : Fin 256) (n : Fin 1536) :
    (iblk1 (V2 m ρ) c 0 t : FVec Ideal S1x256x1536 .f32) (ix3 0 p n) = aW m c (ix3 0 (row t (lt1 t) p) n) := by
  refine Eq.trans ?_ (congrFun (W2_args m ρ c main_arg0 (by decide)) (ix3 0 (row t (lt1 t) p) n))
  blk_ext [iblk1, idx1 t, row]

theorem blk1_M (c : Dev nD) (t : Fin cfg1.N) (p : Fin 256) (n : Fin 1536) :
    (iblk1 (V2 m ρ) c 1 t : FVec Ideal S1x256x1536 .f32) (ix3 0 p n) = aM m c (ix3 0 (row t (lt1 t) p) n) := by
  refine Eq.trans ?_ (congrFun (W2_args m ρ c main_arg1 (by decide)) (ix3 0 (row t (lt1 t) p) n))
  blk_ext [iblk1, idx1 t, row]

theorem blk1_V (c : Dev nD) (t : Fin cfg1.N) (p : Fin 256) (n : Fin 1536) :
    (iblk1 (V2 m ρ) c 2 t : FVec Ideal S1x256x1536 .f32) (ix3 0 p n) = aV m c (ix3 0 (row t (lt1 t) p) n) := by
  refine Eq.trans ?_ (congrFun (W2_args m ρ c main_arg2 (by decide)) (ix3 0 (row t (lt1 t) p) n))
  blk_ext [iblk1, idx1 t, row]

theorem blk1_G (c : Dev nD) (t : Fin cfg1.N) (p : Fin 256) (n : Fin 1536) :
    (iblk1 (V2 m ρ) c 3 t : FVec Ideal S1x256x1536 .f32) (ix3 0 p n) = aG m c (ix3 0 (row t (lt1 t) p) n) := by
  have ht := lt1 t
  refine Eq.trans (b := aG0 m c (ix3 ⟨t.val / 2, by omega⟩ ⟨t.val % 2 * 256 + p, by omega⟩ n)) ?_ ?_
  · refine Eq.trans ?_ (congrFun (W2_args m ρ c main_arg3 (by decide)) _)
    blk_ext [iblk1, idx1 t]
  · have h1 : (⟨t.val / 2, by omega⟩ : Fin 2) = ⟨(row t ht p : ℕ) / 512, by have := (row t ht p).isLt; omega⟩ :=
      Fin.ext (show t.val / 2 = (t.val * 256 + p) / 512 by omega)
    have h2 : (⟨t.val % 2 * 256 + p, by omega⟩ : Fin 512) = ⟨(row t ht p : ℕ) % 512, by omega⟩ :=
      Fin.ext (show t.val % 2 * 256 + p = (t.val * 256 + p) % 512 by omega)
    rw [h1, h2]; rfl

theorem emb1_4 (t : Fin cfg1.N) (p : Fin 256) (n : Fin 1536) :
    (((cfg1.win 4).blk t).view.emb (ix3 0 p n) : S2x1024x1536.Idx) = ix3 0 (row t (lt1 t) p) n := by
  blk_ext [idx1 t, row]

theorem emb1_5 (t : Fin cfg1.N) (p : Fin 256) (n : Fin 1536) :
    (((cfg1.win 5).blk t).view.emb (ix3 0 p n) : S2x1024x1536.Idx) = ix3 0 (row t (lt1 t) p) n := by
  blk_ext [idx1 t, row]

theorem emb1_6 (t : Fin cfg1.N) (p : Fin 256) (n : Fin 1536) :
    (((cfg1.win 6).blk t).view.emb (ix3 0 p n) : S2x1024x1536.Idx) = ix3 0 (row t (lt1 t) p) n := by
  blk_ext [idx1 t, row]

theorem emb1_7 (t : Fin cfg1.N) (p : Fin 256) (n : Fin 1536) :
    (((cfg1.win 7).blk t).view.emb (ix3 0 p n) : S2x1024x1536.Idx) = ix3 0 (row t (lt1 t) p) n := by
  blk_ext [idx1 t, row]

/-! ## What the body computes of its blocks -/

theorem pay0_4 (g : FVec Ideal S1x256x1536 .f32) (p : Fin 256) (n : Fin 1536) : k0_pay5 g (ix3 0 p n) = g (ix3 0 p n) := by
  pointwise [k0_pay5, k0_pay4]

theorem pay0_5 (w g v u : FVec Ideal S1x256x1536 .f32) (p : Fin 256) (n : Fin 1536) :
    k0_pay1 (k0_pay8 g w v u) (Scalar.ofBits (F := Ideal) .f32 0xBA83126F#32) (ix3 0 p n) = Adam.change w g v u (ix3 0 p n) := by
  pointwise [k0_pay1, k0_pay8, k0_pay6, k0_pay7, k0_pay4, Adam.change, Adam.first, Adam.second]

theorem pay0_6 (g v : FVec Ideal S1x256x1536 .f32) (p : Fin 256) (n : Fin 1536) :
    k0_pay2 (k0_pay6 g v) (ix3 0 p n) = Adam.first g v (ix3 0 p n) := by
  pointwise [k0_pay2, k0_pay6, k0_pay4, Adam.first]

theorem pay0_7 (g u : FVec Ideal S1x256x1536 .f32) (p : Fin 256) (n : Fin 1536) :
    k0_pay3 (k0_pay7 g u) (ix3 0 p n) = Adam.second g u (ix3 0 p n) := by
  pointwise [k0_pay3, k0_pay7, k0_pay4, Adam.second]

theorem pay1_4 (g : FVec Ideal S1x256x1536 .f32) (p : Fin 256) (n : Fin 1536) : k1_pay5 g (ix3 0 p n) = g (ix3 0 p n) := by
  pointwise [k1_pay5, k1_pay4]

theorem pay1_5 (w g v u : FVec Ideal S1x256x1536 .f32) (p : Fin 256) (n : Fin 1536) :
    k1_pay1 (k1_pay8 g w v u) (Scalar.ofBits (F := Ideal) .f32 0xBA83126F#32) (ix3 0 p n) = Adam.change w g v u (ix3 0 p n) := by
  pointwise [k1_pay1, k1_pay8, k1_pay6, k1_pay7, k1_pay4, Adam.change, Adam.first, Adam.second]

theorem pay1_6 (g v : FVec Ideal S1x256x1536 .f32) (p : Fin 256) (n : Fin 1536) :
    k1_pay2 (k1_pay6 g v) (ix3 0 p n) = Adam.first g v (ix3 0 p n) := by
  pointwise [k1_pay2, k1_pay6, k1_pay4, Adam.first]

theorem pay1_7 (g u : FVec Ideal S1x256x1536 .f32) (p : Fin 256) (n : Fin 1536) :
    k1_pay3 (k1_pay7 g u) (ix3 0 p n) = Adam.second g u (ix3 0 p n) := by
  pointwise [k1_pay3, k1_pay7, k1_pay4, Adam.second]

theorem hz3 : (![0, 0, 0] : Fin 3 → ℕ) = 0 := by funext a; fin_cases a <;> rfl

theorem outs_4 (V : (c : Dev nD) → (b : Ref sig .tc) → Buf (Elt Ideal) ((c : Thread nD τ).loc b)) (c : Dev nD) (t : Fin cfg1.N) :
    (outsAt1 V c t).1 = k1_pay5 (iblk1 V c 3 t) := by
  unfold outsAt1
  dsimp only
  unfold out1_A_4
  rw [View.read_writes_eq_canon _ _ _ (cover1_A_4 _ _ _ _ _ _ _ _ _ _ _ _ _ _ _ _ _ _ _ _ _ _)]
  unfold kernelRun1_A
  dsimp only
  try sl_unfold_words
  rw [View.canon_unit_zero hz3]
  simp only [View.readAt_eq_ld, (hs1_0 t).read_unread, (hs1_1 t).read_unread, (hs1_2 t).read_unread, (hs1_3 t).read_unread,
    View.ld_unit_zero (S := S1x256x1536) hz3, shapeCast_self]

theorem outs_5 (V : (c : Dev nD) → (b : Ref sig .tc) → Buf (Elt Ideal) ((c : Thread nD τ).loc b)) (c : Dev nD) (t : Fin cfg1.N) :
    (outsAt1 V c t).2.1 = k1_pay1 (k1_pay8 (iblk1 V c 3 t) (iblk1 V c 0 t) (iblk1 V c 1 t) (iblk1 V c 2 t)) (Scalar.ofBits (F := Ideal) .f32 0xBA83126F#32) := by
  unfold outsAt1
  dsimp only
  unfold out1_A_5
  rw [View.read_writes_eq_canon _ _ _ (cover1_A_5 _ _ _ _ _ _ _ _ _ _ _ _ _ _ _ _ _ _ _ _ _ _)]
  unfold kernelRun1_A
  dsimp only
  try sl_unfold_words
  rw [View.canon_unit_zero hz3]
  simp only [View.readAt_eq_ld, (hs1_0 t).read_unread, (hs1_1 t).read_unread, (hs1_2 t).read_unread, (hs1_3 t).read_unread,
    View.ld_unit_zero (S := S1x256x1536) hz3, shapeCast_self]

theorem outs_6 (V : (c : Dev nD) → (b : Ref sig .tc) → Buf (Elt Ideal) ((c : Thread nD τ).loc b)) (c : Dev nD) (t : Fin cfg1.N) :
    (outsAt1 V c t).2.2.1 = k1_pay2 (k1_pay6 (iblk1 V c 3 t) (iblk1 V c 1 t)) := by
  unfold outsAt1
  dsimp only
  unfold out1_A_6
  rw [View.read_writes_eq_canon _ _ _ (cover1_A_6 _ _ _ _ _ _ _ _ _ _ _ _ _ _ _ _ _ _ _ _ _ _)]
  unfold kernelRun1_A
  dsimp only
  try sl_unfold_words
  rw [View.canon_unit_zero hz3]
  simp only [View.readAt_eq_ld, (hs1_0 t).read_unread, (hs1_1 t).read_unread, (hs1_2 t).read_unread, (hs1_3 t).read_unread,
    View.ld_unit_zero (S := S1x256x1536) hz3, shapeCast_self]

theorem outs_7 (V : (c : Dev nD) → (b : Ref sig .tc) → Buf (Elt Ideal) ((c : Thread nD τ).loc b)) (c : Dev nD) (t : Fin cfg1.N) :
    (outsAt1 V c t).2.2.2 = k1_pay3 (k1_pay7 (iblk1 V c 3 t) (iblk1 V c 2 t)) := by
  unfold outsAt1
  dsimp only
  unfold out1_A_7
  rw [View.read_writes_eq_canon _ _ _ (cover1_A_7 _ _ _ _ _ _ _ _ _ _ _ _ _ _ _ _ _ _ _ _ _ _)]
  unfold kernelRun1_A
  dsimp only
  try sl_unfold_words
  rw [View.canon_unit_zero hz3]
  simp only [View.readAt_eq_ld, (hs1_0 t).read_unread, (hs1_1 t).read_unread, (hs1_2 t).read_unread, (hs1_3 t).read_unread,
    View.ld_unit_zero (S := S1x256x1536) hz3, shapeCast_self]

/-! ## The arrays -/

theorem first_4 (c : Dev nD) : (dat0 (V0 m ρ) c).arrAt 4 cfg0.N = fun i : S2x1024x1536.Idx =>
    if 1 ≤ (i 0 : ℕ) then aG m c i else (dat0 (V0 m ρ) c).A 4 i := by
  refine (dat0 (V0 m ρ) c).arrAt_eq_of_coversWhere 4 (aG m c) (fun β => 1 ≤ β (0 : Fin 3)) (by decide +kernel)
    (fun t hf y => ?_) (fun j => ?_)
  · blk_simp
    rw [after0_4]
    idx_vars y
    obtain rfl : y0 = 0 := Subsingleton.elim _ _
    refine Eq.trans ?_ (congrArg (aG m c) (emb0_4 t y1 y2)).symm
    frame_out
    rw [pay0_4]
    exact blk0_G m ρ c t y1 y2
  · exact show 1 ≤ (j 0 : ℕ) ↔ 1 ≤ (j 0 : ℕ) / 1 by rw [Nat.div_one]

theorem carried_4 (c : Dev nD) : (dat1 (V2 m ρ) c).A 4 = (dat0 (V0 m ρ) c).arrAt 4 cfg0.N := by
  rw [A_eq1]
  refine Eq.trans ?_ (W1_arr m ρ c 4)
  show StableHlo.after hostOps1 (W1 m ρ c) (Proc.devRef .tc main_v1_0) = W1 m ρ c (Proc.devRef .tc main_v0_0)
  entry_read; rfl

theorem final_4 (c : Dev nD) : W3 m ρ c (Proc.devRef .tc main_v1_0) = aG m c := by
  refine (W3_arr m ρ c 4).trans ?_
  refine (dat1 (V2 m ρ) c).arrAt_eq_of_coversWhere_of_agree 4 _ (fun β => β (0 : Fin 3) < 1) (by decide +kernel)
    (fun t hf y => ?_) (fun j hj => ?_)
  · blk_simp
    rw [after1_4, outs_4]
    idx_vars y
    obtain rfl : y0 = 0 := Subsingleton.elim _ _
    refine Eq.trans ?_ (congrArg (aG m c) (emb1_4 t y1 y2)).symm
    refine (pay1_4 _ y1 y2).trans ?_
    exact blk1_G m ρ c t y1 y2
  · rw [carried_4, first_4]
    have h1 : 1 ≤ (j 0 : ℕ) := by
      have : ¬ (j 0 : ℕ) / 1 < 1 := hj
      omega
    exact if_pos h1

theorem first_5 (c : Dev nD) : (dat0 (V0 m ρ) c).arrAt 5 cfg0.N = fun i : S2x1024x1536.Idx =>
    if 1 ≤ (i 0 : ℕ) then Adam.change (aW m c) (aG m c) (aM m c) (aV m c) i else (dat0 (V0 m ρ) c).A 5 i := by
  refine (dat0 (V0 m ρ) c).arrAt_eq_of_coversWhere 5 (Adam.change (aW m c) (aG m c) (aM m c) (aV m c)) (fun β => 1 ≤ β (0 : Fin 3)) (by decide +kernel)
    (fun t hf y => ?_) (fun j => ?_)
  · blk_simp
    rw [after0_5]
    idx_vars y
    obtain rfl : y0 = 0 := Subsingleton.elim _ _
    refine Eq.trans ?_ (congrArg (Adam.change (aW m c) (aG m c) (aM m c) (aV m c)) (emb0_5 t y1 y2)).symm
    frame_out
    rw [pay0_5]
    exact Adam.change_congr (blk0_W m ρ c t y1 y2) (blk0_G m ρ c t y1 y2) (blk0_M m ρ c t y1 y2) (blk0_V m ρ c t y1 y2)
  · exact show 1 ≤ (j 0 : ℕ) ↔ 1 ≤ (j 0 : ℕ) / 1 by rw [Nat.div_one]

theorem carried_5 (c : Dev nD) : (dat1 (V2 m ρ) c).A 5 = (dat0 (V0 m ρ) c).arrAt 5 cfg0.N := by
  rw [A_eq1]
  refine Eq.trans ?_ (W1_arr m ρ c 5)
  show StableHlo.after hostOps1 (W1 m ρ c) (Proc.devRef .tc main_v1_1) = W1 m ρ c (Proc.devRef .tc main_v0_1)
  entry_read; rfl

theorem final_5 (c : Dev nD) : W3 m ρ c (Proc.devRef .tc main_v1_1) = Adam.change (aW m c) (aG m c) (aM m c) (aV m c) := by
  refine (W3_arr m ρ c 5).trans ?_
  refine (dat1 (V2 m ρ) c).arrAt_eq_of_coversWhere_of_agree 5 _ (fun β => β (0 : Fin 3) < 1) (by decide +kernel)
    (fun t hf y => ?_) (fun j hj => ?_)
  · blk_simp
    rw [after1_5, outs_5]
    idx_vars y
    obtain rfl : y0 = 0 := Subsingleton.elim _ _
    refine Eq.trans ?_ (congrArg (Adam.change (aW m c) (aG m c) (aM m c) (aV m c)) (emb1_5 t y1 y2)).symm
    refine (pay1_5 _ _ _ _ y1 y2).trans ?_
    exact Adam.change_congr (blk1_W m ρ c t y1 y2) (blk1_G m ρ c t y1 y2) (blk1_M m ρ c t y1 y2) (blk1_V m ρ c t y1 y2)
  · rw [carried_5, first_5]
    have h1 : 1 ≤ (j 0 : ℕ) := by
      have : ¬ (j 0 : ℕ) / 1 < 1 := hj
      omega
    exact if_pos h1

theorem first_6 (c : Dev nD) : (dat0 (V0 m ρ) c).arrAt 6 cfg0.N = fun i : S2x1024x1536.Idx =>
    if 1 ≤ (i 0 : ℕ) then Adam.first (aG m c) (aM m c) i else (dat0 (V0 m ρ) c).A 6 i := by
  refine (dat0 (V0 m ρ) c).arrAt_eq_of_coversWhere 6 (Adam.first (aG m c) (aM m c)) (fun β => 1 ≤ β (0 : Fin 3)) (by decide +kernel)
    (fun t hf y => ?_) (fun j => ?_)
  · blk_simp
    rw [after0_6]
    idx_vars y
    obtain rfl : y0 = 0 := Subsingleton.elim _ _
    refine Eq.trans ?_ (congrArg (Adam.first (aG m c) (aM m c)) (emb0_6 t y1 y2)).symm
    frame_out
    rw [pay0_6]
    exact Adam.first_congr (blk0_G m ρ c t y1 y2) (blk0_M m ρ c t y1 y2)
  · exact show 1 ≤ (j 0 : ℕ) ↔ 1 ≤ (j 0 : ℕ) / 1 by rw [Nat.div_one]

theorem carried_6 (c : Dev nD) : (dat1 (V2 m ρ) c).A 6 = (dat0 (V0 m ρ) c).arrAt 6 cfg0.N := by
  rw [A_eq1]
  refine Eq.trans ?_ (W1_arr m ρ c 6)
  show StableHlo.after hostOps1 (W1 m ρ c) (Proc.devRef .tc main_v1_2) = W1 m ρ c (Proc.devRef .tc main_v0_2)
  entry_read; rfl

theorem final_6 (c : Dev nD) : W3 m ρ c (Proc.devRef .tc main_v1_2) = Adam.first (aG m c) (aM m c) := by
  refine (W3_arr m ρ c 6).trans ?_
  refine (dat1 (V2 m ρ) c).arrAt_eq_of_coversWhere_of_agree 6 _ (fun β => β (0 : Fin 3) < 1) (by decide +kernel)
    (fun t hf y => ?_) (fun j hj => ?_)
  · blk_simp
    rw [after1_6, outs_6]
    idx_vars y
    obtain rfl : y0 = 0 := Subsingleton.elim _ _
    refine Eq.trans ?_ (congrArg (Adam.first (aG m c) (aM m c)) (emb1_6 t y1 y2)).symm
    refine (pay1_6 _ _ y1 y2).trans ?_
    exact Adam.first_congr (blk1_G m ρ c t y1 y2) (blk1_M m ρ c t y1 y2)
  · rw [carried_6, first_6]
    have h1 : 1 ≤ (j 0 : ℕ) := by
      have : ¬ (j 0 : ℕ) / 1 < 1 := hj
      omega
    exact if_pos h1

theorem first_7 (c : Dev nD) : (dat0 (V0 m ρ) c).arrAt 7 cfg0.N = fun i : S2x1024x1536.Idx =>
    if 1 ≤ (i 0 : ℕ) then Adam.second (aG m c) (aV m c) i else (dat0 (V0 m ρ) c).A 7 i := by
  refine (dat0 (V0 m ρ) c).arrAt_eq_of_coversWhere 7 (Adam.second (aG m c) (aV m c)) (fun β => 1 ≤ β (0 : Fin 3)) (by decide +kernel)
    (fun t hf y => ?_) (fun j => ?_)
  · blk_simp
    rw [after0_7]
    idx_vars y
    obtain rfl : y0 = 0 := Subsingleton.elim _ _
    refine Eq.trans ?_ (congrArg (Adam.second (aG m c) (aV m c)) (emb0_7 t y1 y2)).symm
    frame_out
    rw [pay0_7]
    exact Adam.second_congr (blk0_G m ρ c t y1 y2) (blk0_V m ρ c t y1 y2)
  · exact show 1 ≤ (j 0 : ℕ) ↔ 1 ≤ (j 0 : ℕ) / 1 by rw [Nat.div_one]

theorem carried_7 (c : Dev nD) : (dat1 (V2 m ρ) c).A 7 = (dat0 (V0 m ρ) c).arrAt 7 cfg0.N := by
  rw [A_eq1]
  refine Eq.trans ?_ (W1_arr m ρ c 7)
  show StableHlo.after hostOps1 (W1 m ρ c) (Proc.devRef .tc main_v1_3) = W1 m ρ c (Proc.devRef .tc main_v0_3)
  entry_read; rfl

theorem final_7 (c : Dev nD) : W3 m ρ c (Proc.devRef .tc main_v1_3) = Adam.second (aG m c) (aV m c) := by
  refine (W3_arr m ρ c 7).trans ?_
  refine (dat1 (V2 m ρ) c).arrAt_eq_of_coversWhere_of_agree 7 _ (fun β => β (0 : Fin 3) < 1) (by decide +kernel)
    (fun t hf y => ?_) (fun j hj => ?_)
  · blk_simp
    rw [after1_7, outs_7]
    idx_vars y
    obtain rfl : y0 = 0 := Subsingleton.elim _ _
    refine Eq.trans ?_ (congrArg (Adam.second (aG m c) (aV m c)) (emb1_7 t y1 y2)).symm
    refine (pay1_7 _ _ y1 y2).trans ?_
    exact Adam.second_congr (blk1_G m ρ c t y1 y2) (blk1_V m ρ c t y1 y2)
  · rw [carried_7, first_7]
    have h1 : 1 ≤ (j 0 : ℕ) := by
      have : ¬ (j 0 : ℕ) / 1 < 1 := hj
      omega
    exact if_pos h1

end Cert.InUpdateIdeal.Value

namespace Cert.InUpdate

open Idealize.ShloMosaic Idealize.ShloMosaic.TcCoe Idealize.SL.Sem
open Cert.InUpdateIdeal Cert.InUpdateIdeal.Value Cert.InUpdateIdeal.Gen

theorem refFrame : Cert.quiescent_InUpdateRefIdeal := fun m ρ _ =>
  (θ_run _ _ _).mono (fun r h => ⟨fun c => (h c).2.2.2.2, sem_eq_zero_of_no_sems rfl r.2⟩) (Cert.InUpdateRefIdeal.Value.run m ρ)

/-- The reference's stack of the two gradients. -/
theorem stacked (g0 g1 : FVec Ideal Cert.InUpdateRefIdeal.S2x512x1536 .f32) :
    concatenate Cert.InUpdateRefIdeal.S2x1024x1536 0
      [⟨Cert.InUpdateRefIdeal.S1x1024x1536, broadcastInDim Cert.InUpdateRefIdeal.S1x1024x1536 ![1, 2] Cert.InUpdateRefIdeal.Gen.bcast_S1024x1536_S1x1024x1536_1_2
        (shapeCast Cert.InUpdateRefIdeal.S1024x1536 g0 Cert.InUpdateRefIdeal.Gen.shapeCasts_S2x512x1536_S1024x1536)⟩,
       ⟨Cert.InUpdateRefIdeal.S1x1024x1536, broadcastInDim Cert.InUpdateRefIdeal.S1x1024x1536 ![1, 2] Cert.InUpdateRefIdeal.Gen.bcast_S1024x1536_S1x1024x1536_1_2
        (shapeCast Cert.InUpdateRefIdeal.S1024x1536 g1 Cert.InUpdateRefIdeal.Gen.shapeCasts_S2x512x1536_S1024x1536)⟩]
      Cert.InUpdateRefIdeal.Gen.concatenates_S1x1024x1536_S1x1024x1536_S2x1024x1536_d0 = stack g0 g1 := by
  funext y
  idx_vars y
  fin_cases y0 <;> pointwise [stack]

theorem algebraic : Cert.algebraic_InUpdateIdeal_InUpdateRefIdeal := by
  intro m g m' g' _ hag
  refine ⟨fun c => aG m c, fun c => Adam.change (aW m c) (aG m c) (aM m c) (aV m c), fun c => Adam.first (aG m c) (aM m c),
    fun c => Adam.second (aG m c) (aV m c), ?_, ?_⟩
  · exact (θ_run _ _ _).mono (fun r h c => ⟨(h c _ (mem_uc main_v1_0 (by decide))).trans (final_4 m g c), (h c _ (mem_uc main_v1_1 (by decide))).trans (final_5 m g c),
      (h c _ (mem_uc main_v1_2 (by decide))).trans (final_6 m g c), (h c _ (mem_uc main_v1_3 (by decide))).trans (final_7 m g c),
      (h c _ (mem_uc main_arg0 (by decide))).trans (W3_main_arg0 m g c),
      (h c _ (mem_uc main_arg1 (by decide))).trans (W3_main_arg1 m g c),
      (h c _ (mem_uc main_arg2 (by decide))).trans (W3_main_arg2 m g c),
      (h c _ (mem_uc main_arg3 (by decide))).trans (W3_main_arg3 m g c),
      (h c _ (mem_uc main_arg4 (by decide))).trans (W3_main_arg4 m g c)⟩) (run_mem m g)
  · refine (θ_run _ _ _).mono (fun r h c => ?_) (Cert.InUpdateRefIdeal.Value.run m' g')
    obtain ⟨h0, h1, h2, h3, h4⟩ := hag c
    have hs := stacked (aG0 m c) (aG1 m c)
    refine ⟨(h c).1.trans ?_, (h c).2.1.trans ?_, (h c).2.2.1.trans ?_, (h c).2.2.2.1.trans ?_, (h c).2.2.2.2⟩
    · rw [h3, h4, hs]
    · rw [h0, h1, h2, h3, h4, hs]; rfl
    · rw [h1, h3, h4, hs]; rfl
    · rw [h2, h3, h4, hs]; rfl

end Cert.InUpdate
end
-- ==== Proof.InWeightGrad.lean ====
module

public import proofs.«01_k».proof.Defs
public import proofs.«01_k».proof.Proof.Gen.InWeightGradIdeal.Value
public import proofs.«01_k».proof.Proof.Gen.InWeightGradRefIdeal.Run
public import Idealize.ShloMosaic.Lib.Pointwise
public import Idealize.ShloMosaic.Lib.Pipeline.ValueKit
public import Idealize.ShloMosaic.Lib.Claim

/-! The gradient of the input projection's weights: the transposed rows times the incoming gradient, a quarter of the columns
per chip, summed over blocks of 2048 rows. -/

@[expose] public section

set_option maxRecDepth 16384

noncomputable section

namespace Cert.InWeightGradIdeal.Value

open Cert.InWeightGradIdeal Cert.InWeightGradIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 4, 0] ∧ win0_1.index t = ![t.val % 4, t.val / 4]
    ∧ win0_2.index t = ![t.val / 4, 0, 0] ∧ t.val < 16 :=
  (by decide +kernel : ∀ t : Fin grid0.N, _)

theorem lt16 (t : Fin cfg0.N) : t.val < 16 := (idx t).2.2.2

abbrev aX (c : Dev nD) : FVec Ideal S8192x1024 .bf16 := m ((c.tc : Thread nD τ).loc main_arg0)
abbrev aZ (c : Dev nD) : FVec Ideal S8192x6144 .bf16 := m ((c.tc : Thread nD τ).loc main_arg1)

/-- Row `k` of point `t`'s block of rows, its chip, and column `n` of that chip's columns. -/
def row (t : Fin cfg0.N) (k : Fin 2048) : Fin 8192 := ⟨t.val % 4 * 2048 + k, by have := lt16 t; omega⟩
def chip (t : Fin cfg0.N) : Fin 4 := ⟨t.val / 4, by have := lt16 t; omega⟩
def col (q : Fin 4) (n : Fin 1536) : Fin 6144 := ⟨q * 1536 + n, by omega⟩

theorem blk0 (c : Dev nD) (t : Fin cfg0.N) (k : Fin 2048) (i : Fin 1024) :
    (iblk m c 0 t : FVec Ideal S2048x1024 .bf16) (ix2 k i) = aX m c (ix2 (row t k) i) := by
  blk_ext [iblk, V, idx t, row]

theorem blk1 (c : Dev nD) (t : Fin cfg0.N) (k : Fin 2048) (n : Fin 1536) :
    (iblk m c 1 t : FVec Ideal S2048x1536 .bf16) (ix2 k n) = aZ m c (ix2 (row t k) (col (chip t) n)) := by
  blk_ext [iblk, V, idx t, row, col, chip]

theorem pay1_at (i : Fin 1024) (n : Fin 1536) : k0_pay1 (F := Ideal) (ix3 0 i n) = 0 := by pointwise [k0_pay1]

theorem pay2_at (acc : FVec Ideal S1x1024x1536 .f32) (x : FVec Ideal S2048x1024 .bf16) (z : FVec Ideal S2048x1536 .bf16)
    (i : Fin 1024) (n : Fin 1536) :
    k0_pay2 (F := Ideal) acc x z (ix3 0 i n) = acc (ix3 0 i n) + ∑ k : Fin 2048, x (ix2 k i) * z (ix2 k n) := by
  pointwise [k0_pay2]

/-- The product, over the arguments. -/
def prod (x : FVec Ideal S8192x1024 .bf16) (z : FVec Ideal S8192x6144 .bf16) : FVec Ideal S4x1024x1536 .f32 :=
  fun i => ∑ k : Fin 8192, x (ix2 k (i 1)) * z (ix2 k (col (i 0) (i 2)))

theorem emb (t : Fin cfg0.N) (i : Fin 1024) (n : Fin 1536) :
    (((cfg0.win 2).blk t).view.emb (ix3 0 i n) : S4x1024x1536.Idx) = ix3 (chip t) i n := by
  blk_ext [idx t, chip]

theorem final (c : Dev nD) : (dats m 0 c).arrAt 2 (cfgs 0).N = prod (aX m c) (aZ m c) := by
  refine (dats m 0 c).arrAt_eq_of_covers 2 _ (by decide +kernel) fun t hf y => ?_
  blk_simp
  rw [after0_2]
  idx_vars y
  obtain rfl : y0 = 0 := Subsingleton.elim _ _
  refine Eq.trans ?_ (congrArg (prod (aX m c) (aZ m c)) (emb t y1 y2)).symm
  rw [Pipeline.eq_sum_fin_of_reset_step_apply_of_flush (fun n h => outsAt0 m c n h) 4 (fun _ => 0)
    (fun t y => ∑ k : Fin 2048, aX m c (ix2 (row t k) (y 1)) * aZ m c (ix2 (row t k) (col (chip t) (y 2))))
    (fun t h j => ?_) (fun t h j => ?_) t ((flush0_2 t).mp hf) _, zero_add]
  · refine Fin.sum_mul_add_congr fun s k hl => ?_
    have e : row ⟨4 * (t.val / 4) + s.val, Pipeline.run_point_lt_of_flush t ((flush0_2 t).mp hf) s⟩ k = ⟨s * 2048 + k, hl⟩ := by
      apply Fin.ext; show (4 * (t.val / 4) + s.val) % 4 * 2048 + k.val = s.val * 2048 + k.val; omega
    have e' : chip ⟨4 * (t.val / 4) + s.val, Pipeline.run_point_lt_of_flush t ((flush0_2 t).mp hf) s⟩ = chip t := by
      apply Fin.ext; show (4 * (t.val / 4) + s.val) / 4 = t.val / 4; omega
    rw [e, e']; rfl
  · idx_vars j
    obtain rfl : j0 = 0 := Subsingleton.elim _ _
    rw [outsAt0_A m c t h]
    frame_out
    rw [pay2_at, pay1_at]
    refine congrArg (0 + ·) (Fin.sum_fin_congr fun k => ?_)
    rw [blk0, blk1]
  · idx_vars j
    obtain rfl : j0 = 0 := Subsingleton.elim _ _
    rw [outsAt0_B m c t h]
    frame_out
    rw [pay2_at]
    refine congrArg (_ + ·) (Fin.sum_fin_congr fun k => ?_)
    rw [blk0, blk1]

end Cert.InWeightGradIdeal.Value

namespace Cert.InWeightGrad.Value

open Idealize.ShloMosaic Idealize.ShloMosaic.TcCoe Idealize.SL.Sem

theorem refFrame : Cert.quiescent_InWeightGradRefIdeal := fun m ρ _ =>
  (θ_run _ _ _).mono (fun r h => ⟨fun c => (h c).2, sem_eq_zero_of_no_sems rfl r.2⟩) (Cert.InWeightGradRefIdeal.Value.run m ρ)

theorem algebraic : Cert.algebraic_InWeightGradIdeal_InWeightGradRefIdeal := by
  intro m g m' g' _ hag
  refine ⟨fun c => Cert.InWeightGradIdeal.Value.prod (Cert.InWeightGradIdeal.Value.aX m c) (Cert.InWeightGradIdeal.Value.aZ m c), ?_, ?_⟩
  · exact (θ_run _ _ _).mono (fun r h c => ⟨(h c).1.trans (Cert.InWeightGradIdeal.Value.final m c), (h c).2⟩)
      (Cert.InWeightGradIdeal.Value.run_blocks m g)
  · refine (θ_run _ _ _).mono (fun r h c => ⟨(h c).1.trans (funext fun y => ?_), (h c).2⟩) (Cert.InWeightGradRefIdeal.Value.run m' g')
    obtain ⟨h0, h1⟩ := hag c
    rw [h0, h1]
    idx_vars y
    refine Eq.trans (b := ∑ k : Fin 8192, Cert.InWeightGradIdeal.Value.aZ m c (ix2 k (Cert.InWeightGradIdeal.Value.col y0 y2))
      * Cert.InWeightGradIdeal.Value.aX m c (ix2 k y1)) ?_ (Fin.sum_fin_congr fun k => mul_comm _ _)
    fin_cases y0 <;> pointwise [Cert.InWeightGradIdeal.Value.col]

end Cert.InWeightGrad.Value
end
-- ==== Proof.Reals.lean ====
module

public import Idealize.ShloMosaic.Lib.Pointwise

/-! Extended reals that are real numbers: sums, quotients and the constants of the programs. -/

@[expose] public section

set_option maxRecDepth 16384

noncomputable section

namespace Cert.Reals

open Idealize.ShloMosaic

/-- A finite sum of real numbers, taken in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of real numbers by a divisor that is not zero. -/
theorem div_real (x y : ℝ) (h : y ≠ 0) : Ideal.div (x : EReal) (y : EReal) = ((x / y : ℝ) : EReal) := by
  rw [Ideal.div_coe h, ← EReal.coe_mul, mul_one_div]

/-- The reciprocal square root of a positive number. -/
theorem rsqrt_pos (x : ℝ) (h : 0 < x) : Ideal.rsqrt (x : EReal) = (((Real.sqrt x)⁻¹ : ℝ) : EReal) := by
  rw [Ideal.rsqrt_coe, if_neg (not_lt.2 h.le), if_neg h.ne']

/-- What is below infinity in absolute value is a real number. -/
theorem real_of_abs {x : EReal} (h : max x (-x) < ⊤) : ∃ r : ℝ, x = r := by
  induction x with
  | bot => simp at h
  | top => simp at h
  | coe r => exact ⟨r, rfl⟩

theorem c1024 : Ideal.ofBits .f32 0x44800000#32 = ((1024 : ℝ) : EReal) := by
  simp [Ideal.ofBits, Ideal.ieee, -EReal.coe_mul]; norm_num
theorem cInv1024 : Ideal.ofBits .f32 0x3A800000#32 = ((1 / 1024 : ℝ) : EReal) := by
  simp [Ideal.ofBits, Ideal.ieee, -EReal.coe_mul]; norm_num
theorem cTwo : Ideal.ofBits .f32 0x40000000#32 = ((2 : ℝ) : EReal) := by
  simp [Ideal.ofBits, Ideal.ieee, -EReal.coe_mul]; norm_num
theorem cNegHalf : Ideal.ofBits .f32 0xBF000000#32 = ((-(1 / 2) : ℝ) : EReal) := by
  simp [Ideal.ofBits, Ideal.ieee, -EReal.coe_mul]; norm_num
theorem cInf : Ideal.ofBits .f32 0x7F800000#32 = (⊤ : EReal) := by
  simp [Ideal.ofBits, Ideal.ieee]
/-- The small number added to a variance. -/
theorem cEps : Ideal.ofBits .f32 0x3727C5AC#32 = ((10995116 / 2 ^ 40 : ℝ) : EReal) := by
  simp [Ideal.ofBits, Ideal.ieee, -EReal.coe_mul]; norm_num
/-- The weight of the residual. -/
theorem cAlpha : Ideal.ofBits .f32 0x3FD744FD#32 = ((14107901 / 2 ^ 23 : ℝ) : EReal) := by
  simp [Ideal.ofBits, Ideal.ieee, -EReal.coe_mul]; norm_num

/-- A row of 1024 summed as its eight blocks of 128 added lane by lane. -/
theorem lanes (v : Fin 1024 → EReal) :
    ∑ l : Fin 128, (v ⟨l, by omega⟩ + v ⟨128 + l, by omega⟩ + v ⟨256 + l, by omega⟩ + v ⟨384 + l, by omega⟩
      + v ⟨512 + l, by omega⟩ + v ⟨640 + l, by omega⟩ + v ⟨768 + l, by omega⟩ + v ⟨896 + l, by omega⟩)
    = ∑ k, v k := by
  rw [Fin.sum_univ_tiles 8 128 rfl v, Fin.sum_univ_eight]
  simp only [Finset.sum_add_distrib]
  rfl

end Cert.Reals
end
-- ==== Proof.LnRow.lean ====
module

public import proofs.«01_k».proof.Proof.Reals

/-! The gradient of a layer norm along one row of 1024 numbers: the three-term form the kernel computes, and the form the
derivative of the norm's own lines has, agree wherever the row, the gain and the incoming gradient are real numbers. -/

@[expose] public section

set_option maxRecDepth 16384

noncomputable section

namespace Cert.LnRow

open Idealize.ShloMosaic Cert.Reals

/-- The mean of a row. -/
def mu (x : Fin 1024 → EReal) : EReal := Ideal.div (∑ k, x k) (Ideal.ofBits .f32 0x44800000#32)
/-- The variance of a row, with the small number added. -/
def va (x : Fin 1024 → EReal) : EReal :=
  Ideal.div (∑ k, (x k - mu x) * (x k - mu x)) (Ideal.ofBits .f32 0x44800000#32) + Ideal.ofBits .f32 0x3727C5AC#32
/-- The reciprocal standard deviation. -/
def rs (x : Fin 1024 → EReal) : EReal := Ideal.rsqrt (va x)
/-- The normalised row. -/
def xh (x : Fin 1024 → EReal) (k : Fin 1024) : EReal := (x k - mu x) * rs x

/-- The kernel's gradient: `rstd · (d − mean d − xhat · mean (d · xhat))`. -/
def ker (x d : Fin 1024 → EReal) (j : Fin 1024) : EReal :=
  rs x * (d j - (∑ k, d k) * Ideal.ofBits .f32 0x3A800000#32
    - xh x j * ((∑ k, d k * xh x k) * Ideal.ofBits .f32 0x3A800000#32))

/-- The gradient that flows back through the variance. -/
def viaVar (x d : Fin 1024 → EReal) : EReal :=
  ∑ _k : Fin 1, Ideal.div ((∑ k, (x k - mu x) * d k) * (Ideal.ofBits .f32 0xBF000000#32 * Ideal.div (rs x) (va x)))
    (Ideal.ofBits .f32 0x44800000#32)

/-- The derivative of the norm's own lines. -/
def ref (x d : Fin 1024 → EReal) (j : Fin 1024) : EReal :=
  d j * rs x + viaVar x d * (Ideal.ofBits .f32 0x40000000#32 * (x j - mu x))
    + ∑ _k : Fin 1, Ideal.div (∑ k, -(d k * rs x)
        + ∑ k, -(viaVar x d * (Ideal.ofBits .f32 0x40000000#32 * (x k - mu x)))) (Ideal.ofBits .f32 0x44800000#32)

theorem ker_eq_ref (x d : Fin 1024 → EReal) (hx : ∀ k, ∃ r : ℝ, x k = r) (hd : ∀ k, ∃ r : ℝ, d k = r) (j : Fin 1024) :
    ker x d j = ref x d j := by
  choose X hX using hx
  choose E hE using hd
  obtain rfl : x = fun k => ((X k : ℝ) : EReal) := funext hX
  obtain rfl : d = fun k => ((E k : ℝ) : EReal) := funext hE
  have hmu : mu (fun k => ((X k : ℝ) : EReal)) = (((∑ k, X k) / 1024 : ℝ) : EReal) := by
    rw [mu, c1024, coe_sum, div_real _ _ (by norm_num)]
  set M : ℝ := (∑ k, X k) / 1024 with hM
  have hva : va (fun k => ((X k : ℝ) : EReal))
      = (((∑ k, (X k - M) * (X k - M)) / 1024 + 10995116 / 2 ^ 40 : ℝ) : EReal) := by
    simp only [va, hmu, c1024, cEps, ← EReal.coe_sub, ← EReal.coe_mul, coe_sum]
    rw [div_real _ _ (by norm_num), ← EReal.coe_add]
  set V : ℝ := (∑ k, (X k - M) * (X k - M)) / 1024 + 10995116 / 2 ^ 40 with hV
  have hpos : 0 < V := by
    have : 0 ≤ ∑ k, (X k - M) * (X k - M) := Finset.sum_nonneg fun k _ => mul_self_nonneg _
    rw [hV]; positivity
  have hrs : rs (fun k => ((X k : ℝ) : EReal)) = (((Real.sqrt V)⁻¹ : ℝ) : EReal) := by
    rw [rs, hva, rsqrt_pos _ hpos]
  set R : ℝ := (Real.sqrt V)⁻¹ with hR
  have hRR : R / V = R * R * R := by
    have hs : Real.sqrt V ≠ 0 := (Real.sqrt_pos.2 hpos).ne'
    have hVs : V = Real.sqrt V * Real.sqrt V := (Real.mul_self_sqrt hpos.le).symm
    rw [hR]
    conv_lhs => rw [hVs]
    rw [Real.sqrt_mul_self (Real.sqrt_nonneg V)]
    field_simp
  have hzero : ∑ k, (X k - M) = 0 := by
    rw [Finset.sum_sub_distrib, hM]
    simp
    ring
  simp only [ker, ref, viaVar, xh, hmu, hva, hrs, c1024, cInv1024, cTwo, cNegHalf, Fin.sum_univ_one,
    ← EReal.coe_sub, ← EReal.coe_mul, ← EReal.coe_add, ← EReal.coe_neg, coe_sum,
    div_real _ _ hpos.ne', div_real _ _ (show (1024 : ℝ) ≠ 0 by norm_num)]
  congr 1
  rw [hRR]
  have h2 : ∑ k, -((∑ k, (X k - M) * E k) * (-(1 / 2) * (R * R * R)) / 1024 * (2 * (X k - M))) = 0 := by
    rw [Finset.sum_congr rfl fun k _ => (by ring :
      -((∑ k, (X k - M) * E k) * (-(1 / 2) * (R * R * R)) / 1024 * (2 * (X k - M)))
        = (∑ k, (X k - M) * E k) * (R * R * R) / 1024 * (X k - M)), ← Finset.mul_sum, hzero, mul_zero]
  rw [h2]
  have h3 : ∑ k, E k * ((X k - M) * R) = (∑ k, (X k - M) * E k) * R := by
    rw [Finset.sum_mul]; exact Finset.sum_congr rfl fun k _ => by ring
  have h4 : ∑ k, -(E k * R) = -((∑ k, E k) * R) := by
    rw [Finset.sum_neg_distrib, Finset.sum_mul]
  rw [h3, h4]
  ring

end Cert.LnRow
end
-- ==== Proof.LnPay.lean ====
module

public import proofs.«01_k».proof.Proof.Gen.LnGradIdeal.Skeleton
public import proofs.«01_k».proof.Proof.LnRow

/-! What the body of `dx_ln_bwd` stores, read at an index: over the vectors it loads. -/

@[expose] public section

set_option maxRecDepth 16384

noncomputable section

namespace Cert.LnGradIdeal.Value

open Cert.LnGradIdeal Cert.LnGradIdeal.Gen Idealize.ShloMosaic Idealize.ShloMosaic.TcCoe Idealize.SL.Sem

/-- The gradient that reaches the norm's result: the residual's share and the product's, by quarters of the contraction. -/
theorem pay8_at (v3 : FVec Ideal S512x1024 .f32) (a0 a1 a2 a3 : FVec Ideal S512x1536 .bf16)
    (w0 w1 w2 w3 : FVec Ideal S1x2x1x512x1536 .bf16) (p : Fin 512) (n : Fin 1024) :
    k0_pay8 (F := Ideal) (k0_pay7 v3 a0 w0 a1 w1 a2 w2) a3 w3 (ix2 p n)
      = Ideal.ofBits .f32 0x3FD744FD#32 * v3 (ix2 p n)
        + (∑ k : Fin 1536, a0 (ix2 p k) * w0 (ix5 0 ⟨n / 512, by omega⟩ 0 ⟨n % 512, by omega⟩ k))
        + (∑ k : Fin 1536, a1 (ix2 p k) * w1 (ix5 0 ⟨n / 512, by omega⟩ 0 ⟨n % 512, by omega⟩ k))
        + (∑ k : Fin 1536, a2 (ix2 p k) * w2 (ix5 0 ⟨n / 512, by omega⟩ 0 ⟨n % 512, by omega⟩ k))
        + (∑ k : Fin 1536, a3 (ix2 p k) * w3 (ix5 0 ⟨n / 512, by omega⟩ 0 ⟨n % 512, by omega⟩ k)) := by
  pointwise [k0_pay8, k0_pay7]

/-- The three-term gradient of the norm. -/
theorem pay1_at (X : FVec Ideal S512x1024 .f32) (R : FVec Ideal S512x1 .f32) (G : FVec Ideal S1x1024 .f32)
    (v23 : FVec Ideal S512x1024 .f32) (v24 : FVec Ideal S512x1536 .bf16) (v25 : FVec Ideal S1x2x1x512x1536 .bf16)
    (p : Fin 512) (n : Fin 1024) :
    k0_pay1 (F := Ideal) (k0_pay9 X) (k0_pay10 v23 v24 v25 G) (k0_pay11 R) (k0_pay12 v23 v24 v25 G)
        (k0_pay13 v23 v24 v25 X G) (ix2 p n)
      = R (ix2 p 0) * (k0_pay8 v23 v24 v25 (ix2 p n) * G (ix2 0 n)
          - (∑ k : Fin 1024, k0_pay8 v23 v24 v25 (ix2 p k) * G (ix2 0 k)) * Ideal.ofBits .f32 0x3A800000#32
          - X (ix2 p n) * ((∑ k : Fin 1024, k0_pay8 v23 v24 v25 (ix2 p k) * G (ix2 0 k) * X (ix2 p k))
              * Ideal.ofBits .f32 0x3A800000#32)) := by
  rw [← Cert.Reals.lanes, ← Cert.Reals.lanes fun k => k0_pay8 v23 v24 v25 (ix2 p k) * G (ix2 0 k) * X (ix2 p k)]
  pointwise [k0_pay1, k0_pay9, k0_pay10, k0_pay11, k0_pay12, k0_pay13]

theorem pay2_at (X : FVec Ideal S512x1024 .f32) (R : FVec Ideal S512x1 .f32) (D : FVec Ideal S512x1024 .f32)
    (A : FVec Ideal S512x1 .f32) (B : FVec Ideal S512x128 .f32) (p : Fin 512) (n : Fin 1024) :
    k0_pay2 (F := Ideal) X D R A B (ix2 p n) = k0_pay1 (F := Ideal) X D R A B (ix2 p n) := by
  pointwise [k0_pay2]

theorem pay3_at (X T : FVec Ideal S512x1024 .f32) (acc : FVec Ideal S1x1024 .f32) (n : Fin 1024) :
    k0_pay3 (F := Ideal) T (k0_pay9 X) acc (ix2 0 n) = acc (ix2 0 n) + ∑ p : Fin 512, T (ix2 p n) * X (ix2 p n) := by
  pointwise [k0_pay3, k0_pay9]

theorem pay4_at (T : FVec Ideal S512x1024 .f32) (acc : FVec Ideal S1x1024 .f32) (n : Fin 1024) :
    k0_pay4 (F := Ideal) T acc (ix2 0 n) = acc (ix2 0 n) + ∑ p : Fin 512, T (ix2 p n) := by
  pointwise [k0_pay4]

theorem pay5_at (n : Fin 1024) : k0_pay5 (F := Ideal) (ix2 0 n) = 0 := by pointwise [k0_pay5]
theorem pay6_at (n : Fin 1024) : k0_pay6 (F := Ideal) (ix2 0 n) = 0 := by pointwise [k0_pay6]

end Cert.LnGradIdeal.Value
end
-- ==== Proof.LnBlocks.lean ====
module

public import proofs.«01_k».proof.Proof.Gen.LnGradIdeal.Value
public import proofs.«01_k».proof.Proof.LnPay
public import Idealize.ShloMosaic.Lib.Pipeline.ValueKit
public import Idealize.ShloMosaic.Lib.Claim

/-! The blocks `dx_ln_bwd` is given at a grid point, over the arguments of the program. -/

@[expose] public section

set_option maxRecDepth 16384

noncomputable section

namespace Cert.LnGradIdeal.Value

open Cert.LnGradIdeal Cert.LnGradIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies, at every grid point. -/
theorem idx : ∀ t : Fin cfg0.N, win0_0.index t = ![t.val, 0] ∧ win0_1.index t = ![0, 0, 1, 0, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![0, 0] ∧ win0_9.index t = ![0, 0] ∧ t.val < 16 :=
  (by decide +kernel : ∀ t : Fin grid0.N, _)

theorem lt16 (t : Fin cfg0.N) : t.val < 16 := (idx t).2.2.2.2.2.2.2.2.2.2

/-- Row `p` of point `t`'s block of 512 rows. -/
def at_ (t : Fin cfg0.N) (p : Fin 512) : Fin 8192 := ⟨t.val * 512 + p, by have := lt16 t; omega⟩

/-- The arguments, at the types the mathematics reads them at. -/
abbrev aR (c : Dev nD) : FVec Ideal S8192x1024 .f32 := m ((c : Thread nD τ).loc main_arg0)
abbrev aG (c : Dev nD) : FVec Ideal S1x1024 .f32 := m ((c : Thread nD τ).loc main_arg1)
abbrev aW (c : Dev nD) : FVec Ideal S3x1024x6144 .f32 := m ((c : Thread nD τ).loc main_arg3)
abbrev aD (c : Dev nD) : FVec Ideal S8192x1024 .f32 := m ((c : Thread nD τ).loc main_arg4)
abbrev aZ (c : Dev nD) : FVec Ideal S8192x6144 .bf16 := m ((c : Thread nD τ).loc main_arg5)

theorem blk0 (c : Dev nD) (t : Fin cfg0.N) (p : Fin 512) (k : Fin 6144) :
    (iblk m c 0 t : FVec Ideal S512x6144 .bf16) (ix2 p k) = aZ m c (ix2 (at_ t p) k) := by
  blk_ext [iblk, V, idx t, at_]

theorem blk2 (c : Dev nD) (t : Fin cfg0.N) (p : Fin 512) (k : Fin 1024) :
    (iblk m c 2 t : FVec Ideal S512x1024 .f32) (ix2 p k) = aD m c (ix2 (at_ t p) k) := by
  blk_ext [iblk, V, idx t, at_]

theorem blk5 (c : Dev nD) (t : Fin cfg0.N) (k : Fin 1024) :
    (iblk m c 5 t : FVec Ideal S1x1024 .f32) (ix2 0 k) = aG m c (ix2 0 k) := by
  blk_ext [iblk, V, idx t]

/-- The gathered weights, laid out by chips, halves, slots. -/
theorem V20 (c : Dev nD) (q : Fin 4) (h : Fin 2) (s : Fin 3) (r : Fin 512) (k : Fin 1536) :
    (V m c main_v20 : FVec Ideal S4x2x3x512x1536 .bf16) (ix5 q h s r k)
      = aW m c (ix3 s ⟨h * 512 + r, by omega⟩ ⟨q * 1536 + k, by omega⟩) := by
  entry_read
  pointwise
  blk_ext

theorem V17 (c : Dev nD) (i : Fin 8192) (k : Fin 1024) :
    (V m c main_v17 : FVec Ideal S8192x1024 .f32) (ix2 i k) = LnRow.xh (fun k => aR m c (ix2 i k)) k := by
  entry_read
  pointwise [LnRow.xh, LnRow.rs, LnRow.va, LnRow.mu]

theorem V13 (c : Dev nD) (i : Fin 8192) :
    (V m c main_v13 : FVec Ideal S8192x1 .f32) (ix2 i 0) = LnRow.rs (fun k => aR m c (ix2 i k)) := by
  entry_read
  pointwise [LnRow.rs, LnRow.va, LnRow.mu]

theorem blk1 (c : Dev nD) (t : Fin cfg0.N) (q : Fin 4) (h : Fin 2) (r : Fin 512) (k : Fin 1536) :
    (iblk m c 1 t : FVec Ideal S4x2x1x512x1536 .bf16) (ix5 q h 0 r k)
      = aW m c (ix3 1 ⟨h * 512 + r, by omega⟩ ⟨q * 1536 + k, by omega⟩) := by
  refine Eq.trans ?_ (V20 m c q h 1 r k)
  blk_ext [iblk, idx t]

theorem blk3 (c : Dev nD) (t : Fin cfg0.N) (p : Fin 512) (k : Fin 1024) :
    (iblk m c 3 t : FVec Ideal S512x1024 .f32) (ix2 p k) = LnRow.xh (fun k => aR m c (ix2 (at_ t p) k)) k := by
  refine Eq.trans ?_ (V17 m c (at_ t p) k)
  blk_ext [iblk, idx t, at_]

theorem blk4 (c : Dev nD) (t : Fin cfg0.N) (p : Fin 512) :
    (iblk m c 4 t : FVec Ideal S512x1 .f32) (ix2 p 0) = LnRow.rs (fun k => aR m c (ix2 (at_ t p) k)) := by
  refine Eq.trans ?_ (V13 m c (at_ t p))
  blk_ext [iblk, idx t, at_]

end Cert.LnGradIdeal.Value
end
-- ==== Proof.LnFinal.lean ====
module

public import proofs.«01_k».proof.Proof.LnBlocks

/-! The arrays `dx_ln_bwd` leaves, each one function of the program's arguments. -/

@[expose] public section

set_option maxRecDepth 16384

noncomputable section

namespace Cert.LnGradIdeal.Value

open Cert.LnGradIdeal Cert.LnGradIdeal.Gen Idealize.ShloMosaic Idealize.ShloMosaic.TcCoe Idealize.SL.Sem
open Idealize.ShloMosaic.Pipeline (Dat)

variable (m : (ℓ : Loc nD τ sig) → Buf (Elt Ideal) ℓ)

/-- The gradient that reaches the norm's result at row `i`, column `n`. -/
def dxA (c : Dev nD) (i : Fin 8192) (n : Fin 1024) : EReal :=
  Ideal.ofBits .f32 0x3FD744FD#32 * aD m c (ix2 i n) + ∑ k : Fin 6144, aZ m c (ix2 i k) * aW m c (ix3 1 n k)

/-- Row `i` of the norm's argument. -/
abbrev rowR (c : Dev nD) (i : Fin 8192) : Fin 1024 → EReal := fun k => aR m c (ix2 i k)

/-- The loaded pieces of the blocks, as reads of the arguments. -/
structure Loads (c : Dev nD) (t : Fin cfg0.N) (v3 : FVec Ideal S512x1024 .f32) (a0 a1 a2 a3 : FVec Ideal S512x1536 .bf16)
    (w0 w1 w2 w3 : FVec Ideal S1x2x1x512x1536 .bf16) : Prop where
  v3 : ∀ p n, v3 (ix2 p n) = aD m c (ix2 (at_ t p) n)
  a0 : ∀ (p : Fin 512) (k : Fin 1536), a0 (ix2 p k) = aZ m c (ix2 (at_ t p) ⟨0 * 1536 + k, by omega⟩)
  a1 : ∀ (p : Fin 512) (k : Fin 1536), a1 (ix2 p k) = aZ m c (ix2 (at_ t p) ⟨1 * 1536 + k, by omega⟩)
  a2 : ∀ (p : Fin 512) (k : Fin 1536), a2 (ix2 p k) = aZ m c (ix2 (at_ t p) ⟨2 * 1536 + k, by omega⟩)
  a3 : ∀ (p : Fin 512) (k : Fin 1536), a3 (ix2 p k) = aZ m c (ix2 (at_ t p) ⟨3 * 1536 + k, by omega⟩)
  w0 : ∀ (h : Fin 2) (r : Fin 512) (k : Fin 1536),
    w0 (ix5 0 h 0 r k) = aW m c (ix3 1 ⟨h * 512 + r, by omega⟩ ⟨0 * 1536 + k, by omega⟩)
  w1 : ∀ (h : Fin 2) (r : Fin 512) (k : Fin 1536),
    w1 (ix5 0 h 0 r k) = aW m c (ix3 1 ⟨h * 512 + r, by omega⟩ ⟨1 * 1536 + k, by omega⟩)
  w2 : ∀ (h : Fin 2) (r : Fin 512) (k : Fin 1536),
    w2 (ix5 0 h 0 r k) = aW m c (ix3 1 ⟨h * 512 + r, by omega⟩ ⟨2 * 1536 + k, by omega⟩)
  w3 : ∀ (h : Fin 2) (r : Fin 512) (k : Fin 1536),
    w3 (ix5 0 h 0 r k) = aW m c (ix3 1 ⟨h * 512 + r, by omega⟩ ⟨3 * 1536 + k, by omega⟩)

variable {m} in
theorem Loads.dx {c : Dev nD} {t : Fin cfg0.N} {v3 a0 a1 a2 a3 w0 w1 w2 w3} (L : Loads m c t v3 a0 a1 a2 a3 w0 w1 w2 w3)
    (p : Fin 512) (n : Fin 1024) :
    k0_pay8 (F := Ideal) (k0_pay7 v3 a0 w0 a1 w1 a2 w2) a3 w3 (ix2 p n) = dxA m c (at_ t p) n := by
  have hn : (⟨(⟨n / 512, by omega⟩ : Fin 2) * 512 + (⟨n % 512, by omega⟩ : Fin 512), by
      have := n.isLt; show n.val / 512 * 512 + n.val % 512 < 1024; omega⟩ : Fin 1024) = n := by
    apply Fin.ext; show n.val / 512 * 512 + n.val % 512 = n.val; omega
  rw [pay8_at, dxA, Fin.sum_univ_tiles 4 1536 rfl (fun k : Fin 6144 => aZ m c (ix2 (at_ t p) k) * aW m c (ix3 1 n k)),
    Fin.sum_univ_four]
  simp only [L.v3, L.a0, L.a1, L.a2, L.a3, L.w0, L.w1, L.w2, L.w3, hn, ← add_assoc]
  rfl

variable {m} in
theorem Loads.row {c : Dev nD} {t : Fin cfg0.N} {v3 a0 a1 a2 a3 w0 w1 w2 w3} (L : Loads m c t v3 a0 a1 a2 a3 w0 w1 w2 w3)
    (X : FVec Ideal S512x1024 .f32) (R : FVec Ideal S512x1 .f32) (G : FVec Ideal S1x1024 .f32)
    (hX : ∀ p k, X (ix2 p k) = LnRow.xh (rowR m c (at_ t p)) k) (hR : ∀ p, R (ix2 p 0) = LnRow.rs (rowR m c (at_ t p)))
    (hG : ∀ k, G (ix2 0 k) = aG m c (ix2 0 k)) (p : Fin 512) (n : Fin 1024) :
    k0_pay1 (F := Ideal) (k0_pay9 X) (k0_pay10 (k0_pay7 v3 a0 w0 a1 w1 a2 w2) a3 w3 G) (k0_pay11 R)
        (k0_pay12 (k0_pay7 v3 a0 w0 a1 w1 a2 w2) a3 w3 G) (k0_pay13 (k0_pay7 v3 a0 w0 a1 w1 a2 w2) a3 w3 X G) (ix2 p n)
      = LnRow.ker (rowR m c (at_ t p)) (fun k => dxA m c (at_ t p) k * aG m c (ix2 0 k)) n := by
  rw [pay1_at, LnRow.ker]
  simp only [L.dx, hX, hR, hG]

/-- The gradient of the norm's argument, over the arguments. -/
def G6 (c : Dev nD) : FVec Ideal S8192x1024 .f32 := fun i =>
  LnRow.ker (rowR m c (i 0)) (fun k => dxA m c (i 0) k * aG m c (ix2 0 k)) (i 1)

/-- Where an element of point `t`'s block lies in the array. -/
theorem emb6 (t : Fin cfg0.N) (p : Fin 512) (n : Fin 1024) :
    (((cfg0.win 6).blk t).view.emb (ix2 p n) : S8192x1024.Idx) = ix2 (at_ t p) n := by
  blk_ext [idx t, at_]

theorem loads (c : Dev nD) (t : Fin cfg0.N) {v3 a0 a1 a2 a3 w0 w1 w2 w3}
    (h : v3 = iblk m c 2 t ∧ (∀ (p : Fin 512) (k : Fin 1536), a0 (ix2 p k) = (iblk m c 0 t : FVec Ideal S512x6144 .bf16) (ix2 p ⟨k, by omega⟩))
      ∧ (∀ (p : Fin 512) (k : Fin 1536), a1 (ix2 p k) = (iblk m c 0 t : FVec Ideal S512x6144 .bf16) (ix2 p ⟨1536 + k, by omega⟩))
      ∧ (∀ (p : Fin 512) (k : Fin 1536), a2 (ix2 p k) = (iblk m c 0 t : FVec Ideal S512x6144 .bf16) (ix2 p ⟨3072 + k, by omega⟩))
      ∧ (∀ (p : Fin 512) (k : Fin 1536), a3 (ix2 p k) = (iblk m c 0 t : FVec Ideal S512x6144 .bf16) (ix2 p ⟨4608 + k, by omega⟩))
      ∧ (∀ (h : Fin 2) (r : Fin 512) (k : Fin 1536), w0 (ix5 0 h 0 r k) = (iblk m c 1 t : FVec Ideal S4x2x1x512x1536 .bf16) (ix5 0 h 0 r k))
      ∧ (∀ (h : Fin 2) (r : Fin 512) (k : Fin 1536), w1 (ix5 0 h 0 r k) = (iblk m c 1 t : FVec Ideal S4x2x1x512x1536 .bf16) (ix5 1 h 0 r k))
      ∧ (∀ (h : Fin 2) (r : Fin 512) (k : Fin 1536), w2 (ix5 0 h 0 r k) = (iblk m c 1 t : FVec Ideal S4x2x1x512x1536 .bf16) (ix5 2 h 0 r k))
      ∧ (∀ (h : Fin 2) (r : Fin 512) (k : Fin 1536), w3 (ix5 0 h 0 r k) = (iblk m c 1 t : FVec Ideal S4x2x1x512x1536 .bf16) (ix5 3 h 0 r k))) :
    Loads m c t v3 a0 a1 a2 a3 w0 w1 w2 w3 := by
  obtain ⟨rfl, h0, h1, h2, h3, g0, g1, g2, g3⟩ := h
  refine ⟨blk2 m c t, fun p k => (h0 p k).trans ((blk0 m c t p _).trans ?_), fun p k => (h1 p k).trans (blk0 m c t p _),
    fun p k => (h2 p k).trans (blk0 m c t p _), fun p k => (h3 p k).trans (blk0 m c t p _),
    fun h r k => (g0 h r k).trans (blk1 m c t 0 h r k), fun h r k => (g1 h r k).trans (blk1 m c t 1 h r k),
    fun h r k => (g2 h r k).trans (blk1 m c t 2 h r k), fun h r k => (g3 h r k).trans (blk1 m c t 3 h r k)⟩
  simp only [Nat.zero_mul, Nat.zero_add]

theorem final6 (c : Dev nD) : (dats m 0 c).arrAt 6 (cfgs 0).N = G6 m c := by
  refine (dats m 0 c).arrAt_eq_of_covers 6 _ (by decide +kernel) fun t hf y => ?_
  blk_simp
  rw [after0_6]
  idx_vars y
  refine Eq.trans ?_ (congrArg (G6 m c) (emb6 t y0 y1)).symm
  by_cases h : t.val % 16 = 0
  · rw [outsAt0_A m c t h]
    frame_out
    refine (loads m c t ⟨rfl, ?_, ?_, ?_, ?_, ?_, ?_, ?_, ?_⟩).row _ _ _ (blk3 m c t) (blk4 m c t) (blk5 m c t) y0 y1 <;>
      (intros; pointwise)
  · rw [outsAt0_B m c t h]
    frame_out
    refine (loads m c t ⟨rfl, ?_, ?_, ?_, ?_, ?_, ?_, ?_, ?_⟩).row _ _ _ (blk3 m c t) (blk4 m c t) (blk5 m c t) y0 y1 <;>
      (intros; pointwise)

theorem emb7 (t : Fin cfg0.N) (p : Fin 512) (n : Fin 1024) :
    (((cfg0.win 7).blk t).view.emb (ix2 p n) : S8192x1024.Idx) = ix2 (at_ t p) n := by
  blk_ext [idx t, at_]

/-- The rounded copy of it is the same numbers. -/
theorem final7 (c : Dev nD) : (dats m 0 c).arrAt 7 (cfgs 0).N = G6 m c := by
  refine (dats m 0 c).arrAt_eq_of_covers 7 _ (by decide +kernel) fun t hf y => ?_
  blk_simp
  rw [after0_7]
  idx_vars y
  refine Eq.trans ?_ (congrArg (G6 m c) (emb7 t y0 y1)).symm
  by_cases h : t.val % 16 = 0
  · rw [outsAt0_A m c t h]
    frame_out
    rw [pay2_at]
    refine (loads m c t ⟨rfl, ?_, ?_, ?_, ?_, ?_, ?_, ?_, ?_⟩).row _ _ _ (blk3 m c t) (blk4 m c t) (blk5 m c t) y0 y1 <;>
      (intros; pointwise)
  · rw [outsAt0_B m c t h]
    frame_out
    rw [pay2_at]
    refine (loads m c t ⟨rfl, ?_, ?_, ?_, ?_, ?_, ?_, ?_, ?_⟩).row _ _ _ (blk3 m c t) (blk4 m c t) (blk5 m c t) y0 y1 <;>
      (intros; pointwise)

/-- The gradients of the norm's two vectors. -/
def G8 (c : Dev nD) : FVec Ideal S1x1024 .f32 := fun j =>
  ∑ i : Fin 8192, dxA m c i (j 1) * LnRow.xh (rowR m c i) (j 1)
def G9 (c : Dev nD) : FVec Ideal S1x1024 .f32 := fun j => ∑ i : Fin 8192, dxA m c i (j 1)

theorem emb8 (t : Fin cfg0.N) (n : Fin 1024) : (((cfg0.win 8).blk t).view.emb (ix2 0 n) : S1x1024.Idx) = ix2 0 n := by
  blk_ext [idx t]
theorem emb9 (t : Fin cfg0.N) (n : Fin 1024) : (((cfg0.win 9).blk t).view.emb (ix2 0 n) : S1x1024.Idx) = ix2 0 n := by
  blk_ext [idx t]

variable {m} in
theorem Loads.col {c : Dev nD} {t : Fin cfg0.N} {v3 a0 a1 a2 a3 w0 w1 w2 w3} (L : Loads m c t v3 a0 a1 a2 a3 w0 w1 w2 w3)
    (X : FVec Ideal S512x1024 .f32) (hX : ∀ p k, X (ix2 p k) = LnRow.xh (rowR m c (at_ t p)) k) (acc : FVec Ideal S1x1024 .f32)
    (n : Fin 1024) :
    k0_pay3 (F := Ideal) (k0_pay8 (k0_pay7 v3 a0 w0 a1 w1 a2 w2) a3 w3) (k0_pay9 X) acc (ix2 0 n)
      = acc (ix2 0 n) + ∑ p : Fin 512, dxA m c (at_ t p) n * LnRow.xh (rowR m c (at_ t p)) n := by
  rw [pay3_at]; simp only [L.dx, hX]

variable {m} in
theorem Loads.col' {c : Dev nD} {t : Fin cfg0.N} {v3 a0 a1 a2 a3 w0 w1 w2 w3} (L : Loads m c t v3 a0 a1 a2 a3 w0 w1 w2 w3)
    (acc : FVec Ideal S1x1024 .f32) (n : Fin 1024) :
    k0_pay4 (F := Ideal) (k0_pay8 (k0_pay7 v3 a0 w0 a1 w1 a2 w2) a3 w3) acc (ix2 0 n)
      = acc (ix2 0 n) + ∑ p : Fin 512, dxA m c (at_ t p) n := by
  rw [pay4_at]; simp only [L.dx]

theorem final8 (c : Dev nD) : (dats m 0 c).arrAt 8 (cfgs 0).N = G8 m c := by
  refine (dats m 0 c).arrAt_eq_of_covers 8 _ (by decide +kernel) fun t hf y => ?_
  blk_simp
  rw [after0_8]
  idx_vars y
  refine Eq.trans ?_ (congrArg (G8 m c) (emb8 t y1)).symm
  rw [Pipeline.eq_sum_fin_of_reset_step_apply_of_flush (fun n h => (outsAt0 m c n h).2.2.1) 16 (fun _ => 0)
    (fun t y => ∑ p : Fin 512, dxA m c (at_ t p) (y 1) * LnRow.xh (rowR m c (at_ t p)) (y 1))
    (fun t h j => ?_) (fun t h j => ?_) t ((flush0_8 t).mp hf) _, zero_add]
  · refine Fin.sum_mul_add_congr fun s k hl => ?_
    have e : at_ ⟨16 * (t.val / 16) + s.val, Pipeline.run_point_lt_of_flush t ((flush0_8 t).mp hf) s⟩ k = ⟨s * 512 + k, hl⟩ := by
      apply Fin.ext; show (16 * (t.val / 16) + s.val) * 512 + k.val = s.val * 512 + k.val; have := lt16 t; omega
    rw [e]; rfl
  · idx_vars j
    obtain rfl : j0 = 0 := Subsingleton.elim _ _
    rw [outsAt0_A m c t h]
    frame_out
    refine Eq.trans (Loads.col (loads m c t ⟨rfl, ?_, ?_, ?_, ?_, ?_, ?_, ?_, ?_⟩) _ (blk3 m c t) _ j1) ?_
    on_goal 9 => rw [pay5_at]
    all_goals (intros; pointwise)
  · idx_vars j
    obtain rfl : j0 = 0 := Subsingleton.elim _ _
    rw [outsAt0_B m c t h]
    frame_out
    refine (loads m c t ⟨rfl, ?_, ?_, ?_, ?_, ?_, ?_, ?_, ?_⟩).col _ (blk3 m c t) _ j1 <;> (intros; pointwise)

theorem final9 (c : Dev nD) : (dats m 0 c).arrAt 9 (cfgs 0).N = G9 m c := by
  refine (dats m 0 c).arrAt_eq_of_covers 9 _ (by decide +kernel) fun t hf y => ?_
  blk_simp
  rw [after0_9]
  idx_vars y
  refine Eq.trans ?_ (congrArg (G9 m c) (emb9 t y1)).symm
  rw [Pipeline.eq_sum_fin_of_reset_step_apply_of_flush (fun n h => (outsAt0 m c n h).2.2.2) 16 (fun _ => 0)
    (fun t y => ∑ p : Fin 512, dxA m c (at_ t p) (y 1))
    (fun t h j => ?_) (fun t h j => ?_) t ((flush0_9 t).mp hf) _, zero_add]
  · refine Fin.sum_mul_add_congr fun s k hl => ?_
    have e : at_ ⟨16 * (t.val / 16) + s.val, Pipeline.run_point_lt_of_flush t ((flush0_9 t).mp hf) s⟩ k = ⟨s * 512 + k, hl⟩ := by
      apply Fin.ext; show (16 * (t.val / 16) + s.val) * 512 + k.val = s.val * 512 + k.val; have := lt16 t; omega
    rw [e]; rfl
  · idx_vars j
    obtain rfl : j0 = 0 := Subsingleton.elim _ _
    rw [outsAt0_A m c t h]
    frame_out
    refine Eq.trans (Loads.col' (loads m c t ⟨rfl, ?_, ?_, ?_, ?_, ?_, ?_, ?_, ?_⟩) _ j1) ?_
    on_goal 9 => rw [pay6_at]
    all_goals (intros; pointwise)
  · idx_vars j
    obtain rfl : j0 = 0 := Subsingleton.elim _ _
    rw [outsAt0_B m c t h]
    frame_out
    refine (loads m c t ⟨rfl, ?_, ?_, ?_, ?_, ?_, ?_, ?_, ?_⟩).col' _ j1 <;> (intros; pointwise)

end Cert.LnGradIdeal.Value
end
-- ==== Proof.LnRef.lean ====
module

public import proofs.«01_k».proof.Proof.LnRow
public import proofs.«01_k».proof.Proof.Gen.LnGradRefIdeal.Run
public import proofs.«01_k».proof.Proof.Gen.Pre_ln_finite
public import Idealize.ShloMosaic.Lib.Pointwise
public import Idealize.ShloMosaic.Lib.Claim

/-! The derivative of the norm's lines, element by element. -/

@[expose] public section

set_option maxRecDepth 16384

noncomputable section

namespace Cert.LnGradRefIdeal.Value

open Cert.LnGradRefIdeal Idealize.ShloMosaic Idealize.ShloMosaic.TcCoe Idealize.SL.Sem

variable (m : (ℓ : Loc nD τ sig) → Buf (Elt Ideal) ℓ)

abbrev aR (c : Dev nD) : FVec Ideal S8192x1024 .f32 := m ((c.tc : Thread nD τ).loc main_arg0)
abbrev aG (c : Dev nD) : FVec Ideal S1x1024 .f32 := m ((c.tc : Thread nD τ).loc main_arg1)
abbrev aW (c : Dev nD) : FVec Ideal S3x1024x6144 .f32 := m ((c.tc : Thread nD τ).loc main_arg3)
abbrev aD (c : Dev nD) : FVec Ideal S8192x1024 .f32 := m ((c.tc : Thread nD τ).loc main_arg4)
abbrev aZ (c : Dev nD) : FVec Ideal S8192x6144 .bf16 := m ((c.tc : Thread nD τ).loc main_arg5)

theorem out0_at (c : Dev nD) (i : Fin 8192) (j : Fin 1024) :
    (res_out0 m c : FVec Ideal S8192x1024 .f32) (ix2 i j)
      = LnRow.ref (fun k => aR m c (ix2 i k)) (fun k => ((∑ n : Fin 6144, aZ m c (ix2 i n) * aW m c (ix3 1 k n))
          + Ideal.ofBits .f32 0x3FD744FD#32 * aD m c (ix2 i k)) * aG m c (ix2 0 k)) j := by
  unfold res_out0 res_main_v67
  pointwise [LnRow.ref, LnRow.viaVar, LnRow.rs, LnRow.va, LnRow.mu]

theorem out1_at (c : Dev nD) (i : Fin 8192) (j : Fin 1024) :
    (res_out1 m c : FVec Ideal S8192x1024 .bf16) (ix2 i j) = (res_out0 m c : FVec Ideal S8192x1024 .f32) (ix2 i j) := rfl

end Cert.LnGradRefIdeal.Value
end
-- ==== Proof.LnPre.lean ====
module

public import proofs.«01_k».proof.Proof.Reals
public import proofs.«01_k».proof.Proof.Gen.Pre_ln_finite

/-! What the precondition says of each element: it is a real number. -/

@[expose] public section

set_option maxRecDepth 16384

noncomputable section

namespace Cert.LnPre

open Idealize.ShloMosaic Cert.Reals Cert.Pre_ln_finite

variable (a0 : FVec Ideal S8192x1024 .f32) (a1 a2 : FVec Ideal S1x1024 .f32) (a3 : FVec Ideal S3x1024x6144 .f32)
  (a4 : FVec Ideal S8192x1024 .f32) (a5 : FVec Ideal S8192x6144 .bf16)

/-- The word a comparison of a magnitude with infinity leaves: one exactly for real numbers. -/
theorem real_of_word {x : EReal}
    (h : BitVec.ofBool (decide (FloatOps.absf (F := Ideal) (φ := .f32) x < Ideal.ofBits .f32 0x7F800000#32)) = 1#1) : ∃ r : ℝ, x = r := by
  refine real_of_abs ?_
  rw [cInf] at h
  by_contra hn
  have : decide (FloatOps.absf (F := Ideal) (φ := .f32) x < (⊤ : EReal)) = false := decide_eq_false hn
  rw [this] at h
  exact absurd h (by decide)

/-- Every element of the named arguments is a real number. -/
structure Finite : Prop where
  r : ∀ (i : Fin 8192) (k : Fin 1024), ∃ x : ℝ, a0 (ix2 i k) = x
  g : ∀ k : Fin 1024, ∃ x : ℝ, a1 (ix2 0 k) = x
  w : ∀ (s : Fin 3) (k : Fin 1024) (n : Fin 6144), ∃ x : ℝ, a3 (ix3 s k n) = x
  d : ∀ (i : Fin 8192) (k : Fin 1024), ∃ x : ℝ, a4 (ix2 i k) = x
  z : ∀ (i : Fin 8192) (n : Fin 6144), ∃ x : ℝ, a5 (ix2 i n) = x

theorem finite (h0 : (fn (F := Ideal) a0 a1 a2 a3 a4 a5).1 = fun _ => 1#1) (h1 : (fn (F := Ideal) a0 a1 a2 a3 a4 a5).2.1 = fun _ => 1#1)
    (h3 : (fn (F := Ideal) a0 a1 a2 a3 a4 a5).2.2.1 = fun _ => 1#1) (h4 : (fn (F := Ideal) a0 a1 a2 a3 a4 a5).2.2.2.1 = fun _ => 1#1)
    (h5 : (fn (F := Ideal) a0 a1 a2 a3 a4 a5).2.2.2.2 = fun _ => 1#1) : Finite a0 a1 a3 a4 a5 := by
  refine ⟨fun i k => real_of_word (Eq.trans ?_ (congrFun h0 (ix2 i k))), fun k => real_of_word (Eq.trans ?_ (congrFun h1 (ix2 0 k))),
    fun s k n => real_of_word (Eq.trans ?_ (congrFun h3 (ix3 s k n))), fun i k => real_of_word (Eq.trans ?_ (congrFun h4 (ix2 i k))),
    fun i k => real_of_word (Eq.trans ?_ (congrFun h5 (ix2 i k)))⟩ <;> (unfold fn; pointwise)

end Cert.LnPre
end
-- ==== Proof.LnClaim.lean ====
module

public import proofs.«01_k».proof.Defs
public import proofs.«01_k».proof.Proof.LnFinal
public import proofs.«01_k».proof.Proof.LnRef
public import proofs.«01_k».proof.Proof.LnPre

/-! The gradient of the layer norm: the call and the derivative of the norm's lines leave the same four arrays. -/

@[expose] public section

set_option maxRecDepth 16384

noncomputable section

namespace Cert.LnClaim

open Idealize.ShloMosaic Idealize.ShloMosaic.TcCoe Idealize.SL.Sem Cert.Reals
open Cert.LnGradIdeal.Value (G6 G8 G9 dxA rowR)

variable {m : (ℓ : Loc Cert.LnGradIdeal.nD Cert.LnGradIdeal.τ Cert.LnGradIdeal.sig) → Buf (Elt Ideal) ℓ}
  {m' : (ℓ : Loc Cert.LnGradRefIdeal.nD Cert.LnGradRefIdeal.τ Cert.LnGradRefIdeal.sig) → Buf (Elt Ideal) ℓ}

/-- The gradient reaching the norm is real where the arguments are. -/
theorem dxA_real (c : Dev Cert.LnGradIdeal.nD) (F : Cert.LnPre.Finite (Cert.LnGradIdeal.Value.aR m c) (Cert.LnGradIdeal.Value.aG m c)
    (Cert.LnGradIdeal.Value.aW m c) (Cert.LnGradIdeal.Value.aD m c) (Cert.LnGradIdeal.Value.aZ m c)) (i : Fin 8192) (n : Fin 1024) :
    ∃ x : ℝ, dxA m c i n = x := by
  obtain ⟨d, hd⟩ := F.d i n
  choose z hz using F.z i
  choose w hw using F.w 1 n
  refine ⟨14107901 / 2 ^ 23 * d + ∑ k, z k * w k, ?_⟩
  rw [dxA, hd, cAlpha]
  simp only [hz, hw, ← EReal.coe_mul, coe_sum, ← EReal.coe_add]

theorem out0 (c : Dev Cert.LnGradIdeal.nD) (F : Cert.LnPre.Finite (Cert.LnGradIdeal.Value.aR m c) (Cert.LnGradIdeal.Value.aG m c)
    (Cert.LnGradIdeal.Value.aW m c) (Cert.LnGradIdeal.Value.aD m c) (Cert.LnGradIdeal.Value.aZ m c))
    (h0 : Cert.LnGradRefIdeal.Value.aR m' c = Cert.LnGradIdeal.Value.aR m c)
    (h1 : Cert.LnGradRefIdeal.Value.aG m' c = Cert.LnGradIdeal.Value.aG m c)
    (h3 : Cert.LnGradRefIdeal.Value.aW m' c = Cert.LnGradIdeal.Value.aW m c)
    (h4 : Cert.LnGradRefIdeal.Value.aD m' c = Cert.LnGradIdeal.Value.aD m c)
    (h5 : Cert.LnGradRefIdeal.Value.aZ m' c = Cert.LnGradIdeal.Value.aZ m c) (i : Fin 8192) (j : Fin 1024) :
    Cert.LnGradRefIdeal.Value.res_out0 m' c (ix2 i j) = G6 m c (ix2 i j) := by
  rw [Cert.LnGradRefIdeal.Value.out0_at, h0, h1, h3, h4, h5]
  refine Eq.trans ?_ (LnRow.ker_eq_ref (rowR m c i) (fun k => dxA m c i k * Cert.LnGradIdeal.Value.aG m c (ix2 0 k))
    (fun k => F.r i k) (fun k => ?_) j).symm
  · refine congrFun (congrArg _ (funext fun k => ?_)) j
    rw [dxA, add_comm]
  · obtain ⟨x, hx⟩ := dxA_real c F i k
    obtain ⟨y, hy⟩ := F.g k
    exact ⟨x * y, by rw [hx, hy, EReal.coe_mul]⟩

/-- The reference leaves its arguments as they are, and has no semaphore. -/
theorem refFrame : Cert.quiescent_LnGradRefIdeal := fun m ρ _ =>
  (θ_run _ _ _).mono (fun r h => ⟨fun c => (h c).2.2.2.2, sem_eq_zero_of_no_sems rfl r.2⟩) (Cert.LnGradRefIdeal.Value.run m ρ)

theorem algebraic : Cert.algebraic_LnGradIdeal_LnGradRefIdeal_pre_ln_finite := by
  intro m g m' g' hpre hag
  have hF c := (Cert.LnPre.finite _ _ _ _ _ _ (hpre c).1 (hpre c).2.1 (hpre c).2.2.1 (hpre c).2.2.2.1 (hpre c).2.2.2.2)
  refine ⟨fun c => G6 m c, fun c => G6 m c, fun c => G8 m c, fun c => G9 m c, ?_, ?_⟩
  · refine (θ_run _ _ _).mono (fun r h c => ?_) (Cert.LnGradIdeal.Value.run_blocks m g)
    obtain ⟨e0, e1, e2, e3, k⟩ := h c
    exact ⟨e0.trans (Cert.LnGradIdeal.Value.final6 m c), e1.trans (Cert.LnGradIdeal.Value.final7 m c),
      e2.trans (Cert.LnGradIdeal.Value.final8 m c), e3.trans (Cert.LnGradIdeal.Value.final9 m c), k⟩
  · refine (θ_run _ _ _).mono (fun r h c => ?_) (Cert.LnGradRefIdeal.Value.run m' g')
    obtain ⟨e0, e1, e2, e3, k⟩ := h c
    obtain ⟨h0, h1, -, h3, h4, h5⟩ := hag c
    have o := out0 c (hF c) h0 h1 h3 h4 h5
    refine ⟨e0.trans (funext fun y => ?_), e1.trans (funext fun y => ?_), e2.trans (funext fun y => ?_), e3.trans (funext fun y => ?_), k⟩
    · idx_vars y; exact o y0 y1
    · idx_vars y; exact o y0 y1
    · idx_vars y
      obtain rfl : y0 = 0 := Subsingleton.elim _ _
      refine Eq.trans (b := ∑ i : Fin 8192, LnRow.xh (fun k => Cert.LnGradRefIdeal.Value.aR m' c (ix2 i k)) y1
        * ((∑ n : Fin 6144, Cert.LnGradRefIdeal.Value.aZ m' c (ix2 i n) * Cert.LnGradRefIdeal.Value.aW m' c (ix3 1 y1 n))
          + Ideal.ofBits .f32 0x3FD744FD#32 * Cert.LnGradRefIdeal.Value.aD m' c (ix2 i y1)))
        (by pointwise [LnRow.xh, LnRow.rs, LnRow.va, LnRow.mu]) ?_
      rw [show Cert.LnGradRefIdeal.Value.aR m' c = _ from h0, show Cert.LnGradRefIdeal.Value.aW m' c = _ from h3,
        show Cert.LnGradRefIdeal.Value.aD m' c = _ from h4, show Cert.LnGradRefIdeal.Value.aZ m' c = _ from h5]
      refine Finset.sum_congr rfl fun i _ => ?_
      show _ = dxA m c i y1 * _
      rw [mul_comm, dxA, add_comm]; rfl
    · idx_vars y
      obtain rfl : y0 = 0 := Subsingleton.elim _ _
      refine Eq.trans (b := ∑ i : Fin 8192,
        ((∑ n : Fin 6144, Cert.LnGradRefIdeal.Value.aZ m' c (ix2 i n) * Cert.LnGradRefIdeal.Value.aW m' c (ix3 1 y1 n))
          + Ideal.ofBits .f32 0x3FD744FD#32 * Cert.LnGradRefIdeal.Value.aD m' c (ix2 i y1))) (by pointwise) ?_
      rw [show Cert.LnGradRefIdeal.Value.aW m' c = _ from h3,
        show Cert.LnGradRefIdeal.Value.aD m' c = _ from h4, show Cert.LnGradRefIdeal.Value.aZ m' c = _ from h5]
      refine Finset.sum_congr rfl fun i _ => ?_
      show _ = dxA m c i y1
      rw [dxA, add_comm]

end Cert.LnClaim
end
-- ==== Proof.LongConvUpdate.lean ====
module

public import proofs.«01_k».proof.Defs
public import proofs.«01_k».proof.Proof.Adam
public import proofs.«01_k».proof.Proof.Gen.LongConvUpdateIdeal.Value
public import proofs.«01_k».proof.Proof.Gen.LongConvUpdateRefIdeal.Run

@[expose] public section

set_option maxRecDepth 16384

/-! The optimiser's step for the long convolution's taps. -/

noncomputable section

namespace Cert.LongConvUpdateIdeal.Value

open Cert.LongConvUpdateIdeal Cert.LongConvUpdateIdeal.Gen Idealize.ShloMosaic Idealize.ShloMosaic.TcCoe Idealize.SL.Sem
open Idealize.ShloMosaic.Pipeline (Dat)

variable (m : (ℓ : Loc nD τ sig) → Buf (Elt Ideal) ℓ)

/-- An argument, its rows in one axis. -/
abbrev flat (a : FVec Ideal S2x31x256 .f32) : FVec Ideal S62x256 .f32 := shapeCast _ a shapeCasts_S2x31x256_S62x256

abbrev aW (c : Dev nD) := flat (m ((c.tc : Thread nD τ).loc main_arg0))
abbrev aG (c : Dev nD) := flat (m ((c.tc : Thread nD τ).loc main_arg1))
abbrev aM (c : Dev nD) := flat (m ((c.tc : Thread nD τ).loc main_arg2))
abbrev aV (c : Dev nD) := flat (m ((c.tc : Thread nD τ).loc main_arg3))

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ t.val < 1 :=
  (by decide +kernel : ∀ t : Fin grid0.N, _)

/-- Row `p` of point `t`'s block of rows. -/
def row (t : Fin cfg0.N) (p : Fin 62) : Fin 62 := ⟨t.val * 62 + p, by have := (idx t).2.2.2.2.2.2.2; omega⟩

theorem blkW (c : Dev nD) (t : Fin cfg0.N) (p : Fin 62) (k : Fin 256) :
    (iblk m c 0 t : FVec Ideal S62x256 .f32) (ix2 p k) = aW m c (ix2 (row t p) k) := by
  refine Eq.trans ?_ (congrFun (show V m c main_v0 = aW m c by entry_read; rfl) (ix2 (row t p) k))
  blk_ext [iblk, idx t, row]

theorem blkG (c : Dev nD) (t : Fin cfg0.N) (p : Fin 62) (k : Fin 256) :
    (iblk m c 1 t : FVec Ideal S62x256 .f32) (ix2 p k) = aG m c (ix2 (row t p) k) := by
  refine Eq.trans ?_ (congrFun (show V m c main_v1 = aG m c by entry_read; rfl) (ix2 (row t p) k))
  blk_ext [iblk, idx t, row]

theorem blkM (c : Dev nD) (t : Fin cfg0.N) (p : Fin 62) (k : Fin 256) :
    (iblk m c 2 t : FVec Ideal S62x256 .f32) (ix2 p k) = aM m c (ix2 (row t p) k) := by
  refine Eq.trans ?_ (congrFun (show V m c main_v2 = aM m c by entry_read; rfl) (ix2 (row t p) k))
  blk_ext [iblk, idx t, row]

theorem blkV (c : Dev nD) (t : Fin cfg0.N) (p : Fin 62) (k : Fin 256) :
    (iblk m c 3 t : FVec Ideal S62x256 .f32) (ix2 p k) = aV m c (ix2 (row t p) k) := by
  refine Eq.trans ?_ (congrFun (show V m c main_v3 = aV m c by entry_read; rfl) (ix2 (row t p) k))
  blk_ext [iblk, idx t, row]

theorem emb4 (t : Fin cfg0.N) (p : Fin 62) (k : Fin 256) :
    (((cfg0.win 4).blk t).view.emb (ix2 p k) : S62x256.Idx) = ix2 (row t p) k := by
  blk_ext [idx t, row]

theorem emb5 (t : Fin cfg0.N) (p : Fin 62) (k : Fin 256) :
    (((cfg0.win 5).blk t).view.emb (ix2 p k) : S62x256.Idx) = ix2 (row t p) k := by
  blk_ext [idx t, row]

theorem emb6 (t : Fin cfg0.N) (p : Fin 62) (k : Fin 256) :
    (((cfg0.win 6).blk t).view.emb (ix2 p k) : S62x256.Idx) = ix2 (row t p) k := by
  blk_ext [idx t, row]

theorem pay2_eq (g v : FVec Ideal S62x256 .f32) : k0_pay2 g v = Adam.first g v := by
  pointwise [k0_pay1, k0_pay2]
  rfl

theorem pay3_eq (g v : FVec Ideal S62x256 .f32) : k0_pay3 g v = Adam.second g v := by
  pointwise [k0_pay1, k0_pay3]
  rfl

theorem pay4_eq (w g v u : FVec Ideal S62x256 .f32) : k0_pay4 w g v u = Adam.change w g v u := by
  funext y
  rw [k0_pay4, pay2_eq, pay3_eq]
  idx_vars y
  pointwise [Adam.change]

theorem final4 (c : Dev nD) : (dats m 0 c).arrAt 4 (cfgs 0).N = Adam.change (aW m c) (aG m c) (aM m c) (aV m c) := by
  refine (dats m 0 c).arrAt_eq_of_covers 4 _ (by decide +kernel) fun t hf y => ?_
  blk_simp
  rw [after0_4]
  idx_vars y
  refine Eq.trans ?_ (congrArg (Adam.change (aW m c) (aG m c) (aM m c) (aV m c)) (emb4 t y0 y1)).symm
  frame_out
  rw [pay4_eq]
  exact Adam.change_congr (blkW m c t y0 y1) (blkG m c t y0 y1) (blkM m c t y0 y1) (blkV m c t y0 y1)

theorem final5 (c : Dev nD) : (dats m 0 c).arrAt 5 (cfgs 0).N = Adam.first (aG m c) (aM m c) := by
  refine (dats m 0 c).arrAt_eq_of_covers 5 _ (by decide +kernel) fun t hf y => ?_
  blk_simp
  rw [after0_5]
  idx_vars y
  refine Eq.trans ?_ (congrArg (Adam.first (aG m c) (aM m c)) (emb5 t y0 y1)).symm
  frame_out
  rw [pay2_eq]
  exact Adam.first_congr (blkG m c t y0 y1) (blkM m c t y0 y1)

theorem final6 (c : Dev nD) : (dats m 0 c).arrAt 6 (cfgs 0).N = Adam.second (aG m c) (aV m c) := by
  refine (dats m 0 c).arrAt_eq_of_covers 6 _ (by decide +kernel) fun t hf y => ?_
  blk_simp
  rw [after0_6]
  idx_vars y
  refine Eq.trans ?_ (congrArg (Adam.second (aG m c) (aV m c)) (emb6 t y0 y1)).symm
  frame_out
  rw [pay3_eq]
  exact Adam.second_congr (blkG m c t y0 y1) (blkV m c t y0 y1)

end Cert.LongConvUpdateIdeal.Value

namespace Cert.LongConvUpdate

open Idealize.ShloMosaic Idealize.ShloMosaic.TcCoe Idealize.SL.Sem

theorem refFrame : Cert.quiescent_LongConvUpdateRefIdeal := fun m ρ _ =>
  (θ_run _ _ _).mono (fun r h => ⟨fun c => (h c).2.2.2, sem_eq_zero_of_no_sems rfl r.2⟩) (Cert.LongConvUpdateRefIdeal.Value.run m ρ)

open Cert.LongConvUpdateIdeal.Value in
theorem algebraic : Cert.algebraic_LongConvUpdateIdeal_LongConvUpdateRefIdeal := by
  intro m g m' g' _ hag
  refine ⟨fun c => Adam.change (aW m c) (aG m c) (aM m c) (aV m c), fun c => Adam.first (aG m c) (aM m c),
    fun c => Adam.second (aG m c) (aV m c), ?_, ?_⟩
  · exact (θ_run _ _ _).mono (fun r h c => ⟨(h c).1.trans (final4 m c), (h c).2.1.trans (final5 m c),
      (h c).2.2.1.trans (final6 m c), (h c).2.2.2⟩) (Cert.LongConvUpdateIdeal.Value.run_blocks m g)
  · refine (θ_run _ _ _).mono (fun r h c => ?_) (Cert.LongConvUpdateRefIdeal.Value.run m' g')
    obtain ⟨h0, h1, h2, h3⟩ := hag c
    refine ⟨(h c).1.trans ?_, (h c).2.1.trans ?_, (h c).2.2.1.trans ?_, (h c).2.2.2⟩
    · rw [h0, h1, h2, h3]; rfl
    · rw [h1, h2]; rfl
    · rw [h1, h3]; rfl

end Cert.LongConvUpdate
end
-- ==== Proof.LossPay.lean ====
module

public import proofs.«01_k».proof.Proof.Gen.LossGradIdeal.Skeleton
public import proofs.«01_k».proof.Proof.LnRow

/-! What the body of `loss_ln_bwd` stores, read at an index: over the vectors it loads. -/

@[expose] public section

set_option maxRecDepth 16384

noncomputable section

namespace Cert.LossGradIdeal.Value

open Cert.LossGradIdeal Cert.LossGradIdeal.Gen Idealize.ShloMosaic Idealize.ShloMosaic.TcCoe Idealize.SL.Sem

variable (X T : FVec Ideal S512x1024 .f32) (G B : FVec Ideal S1x1024 .f32) (R : FVec Ideal S512x1 .f32)

/-- The error: the norm's result less the target. -/
theorem pay7_at (p : Fin 512) (n : Fin 1024) :
    k0_pay7 (F := Ideal) X G B T (ix2 p n) = X (ix2 p n) * G (ix2 0 n) + B (ix2 0 n) - T (ix2 p n) := by
  pointwise [k0_pay7, k0_pay6]

/-- The loss gains half the sum of the rows' mean squared errors. -/
theorem pay8_at (acc : FVec Ideal S1x1 .f32) :
    k0_pay8 (F := Ideal) X G B T acc (ix2 0 0)
      = acc (ix2 0 0) + Ideal.ofBits .f32 0x3F000000#32
          * ∑ p : Fin 512, Ideal.div (∑ k : Fin 1024, k0_pay7 (F := Ideal) X G B T (ix2 p k) * k0_pay7 (F := Ideal) X G B T (ix2 p k))
              (Ideal.ofBits .f32 0x44800000#32) := by
  pointwise [k0_pay8]

/-- The gradient that reaches the norm's result. -/
theorem pay9_at (p : Fin 512) (n : Fin 1024) :
    k0_pay9 (F := Ideal) X G B T (ix2 p n) = k0_pay7 (F := Ideal) X G B T (ix2 p n) * Ideal.ofBits .f32 0x3A800000#32 := by
  pointwise [k0_pay9]

/-- The three-term gradient of the norm. -/
theorem pay14_at (p : Fin 512) (n : Fin 1024) :
    k0_pay14 (F := Ideal) (k0_pay6 X) (k0_pay10 X G B T) (k0_pay11 R) (k0_pay12 X G B T) (k0_pay13 X G B T) (ix2 p n)
      = R (ix2 p 0) * (k0_pay9 (F := Ideal) X G B T (ix2 p n) * G (ix2 0 n)
          - (∑ k : Fin 1024, k0_pay9 (F := Ideal) X G B T (ix2 p k) * G (ix2 0 k)) * Ideal.ofBits .f32 0x3A800000#32
          - X (ix2 p n) * ((∑ k : Fin 1024, k0_pay9 (F := Ideal) X G B T (ix2 p k) * G (ix2 0 k) * X (ix2 p k))
              * Ideal.ofBits .f32 0x3A800000#32)) := by
  rw [← Cert.Reals.lanes fun k => k0_pay9 (F := Ideal) X G B T (ix2 p k) * G (ix2 0 k),
    ← Cert.Reals.lanes fun k => k0_pay9 (F := Ideal) X G B T (ix2 p k) * G (ix2 0 k) * X (ix2 p k)]
  pointwise [k0_pay14, k0_pay6, k0_pay10, k0_pay11, k0_pay12, k0_pay13]

theorem pay15_at (X D : FVec Ideal S512x1024 .f32) (R : FVec Ideal S512x1 .f32) (A B : FVec Ideal S512x128 .f32)
    (p : Fin 512) (n : Fin 1024) :
    k0_pay15 (F := Ideal) X D R A B (ix2 p n) = k0_pay14 (F := Ideal) X D R A B (ix2 p n) := by
  pointwise [k0_pay15]

theorem pay1_at (D : FVec Ideal S512x1024 .f32) (acc : FVec Ideal S1x1024 .f32) (n : Fin 1024) :
    k0_pay1 (F := Ideal) (k0_pay16 acc) (k0_pay17 (k0_pay6 X) D) (ix2 0 n)
      = acc (ix2 0 n) + ∑ p : Fin 512, D (ix2 p n) * X (ix2 p n) := by
  pointwise [k0_pay1, k0_pay16, k0_pay17, k0_pay6]

theorem pay2_at (D : FVec Ideal S512x1024 .f32) (acc : FVec Ideal S1x1024 .f32) (n : Fin 1024) :
    k0_pay2 (F := Ideal) D acc (ix2 0 n) = acc (ix2 0 n) + ∑ p : Fin 512, D (ix2 p n) := by
  pointwise [k0_pay2]

theorem pay3_at : k0_pay3 (F := Ideal) (ix2 0 0) = 0 := by pointwise [k0_pay3]
theorem pay4_at (n : Fin 1024) : k0_pay4 (F := Ideal) (ix2 0 n) = 0 := by pointwise [k0_pay4]
theorem pay5_at (n : Fin 1024) : k0_pay5 (F := Ideal) (ix2 0 n) = 0 := by pointwise [k0_pay5]

end Cert.LossGradIdeal.Value
end
-- ==== Proof.LossBlocks.lean ====
module

public import proofs.«01_k».proof.Proof.Gen.LossGradIdeal.Value
public import proofs.«01_k».proof.Proof.LossPay
public import Idealize.ShloMosaic.Lib.Pipeline.ValueKit
public import Idealize.ShloMosaic.Lib.Claim

/-! The blocks `loss_ln_bwd` is given at a grid point, over the arguments of the program. -/

@[expose] public section

set_option maxRecDepth 16384

noncomputable section

namespace Cert.LossGradIdeal.Value

open Cert.LossGradIdeal Cert.LossGradIdeal.Gen Idealize.ShloMosaic Idealize.ShloMosaic.TcCoe Idealize.SL.Sem
open Idealize.ShloMosaic.Pipeline (Dat)

variable (m : (ℓ : Loc nD τ sig) → Buf (Elt Ideal) ℓ)

/-- Where each window's block lies, at every grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0] ∧ win0_9.index t = ![0, 0] ∧ t.val < 16 :=
  (by decide +kernel : ∀ t : Fin grid0.N, _)

theorem lt16 (t : Fin cfg0.N) : t.val < 16 := (idx t).2.2.2.2.2.2.2.2.2.2

/-- Row `p` of point `t`'s block of 512 rows. -/
def at_ (t : Fin cfg0.N) (p : Fin 512) : Fin 8192 := ⟨t.val * 512 + p, by have := lt16 t; omega⟩

/-- The arguments, at the types the mathematics reads them at. -/
abbrev aR (c : Dev nD) : FVec Ideal S8192x1024 .f32 := m ((c : Thread nD τ).loc main_arg0)
abbrev aG (c : Dev nD) : FVec Ideal S1x1024 .f32 := m ((c : Thread nD τ).loc main_arg1)
abbrev aB (c : Dev nD) : FVec Ideal S1x1024 .f32 := m ((c : Thread nD τ).loc main_arg2)
abbrev aT (c : Dev nD) : FVec Ideal S8192x1024 .f32 := m ((c : Thread nD τ).loc main_arg3)

/-- Row `i` of the norm's argument. -/
abbrev rowR (c : Dev nD) (i : Fin 8192) : Fin 1024 → EReal := fun k => aR m c (ix2 i k)

theorem blk2 (c : Dev nD) (t : Fin cfg0.N) (k : Fin 1024) :
    (iblk m c 2 t : FVec Ideal S1x1024 .f32) (ix2 0 k) = aG m c (ix2 0 k) := by
  blk_ext [iblk, V, idx t]

theorem blk3 (c : Dev nD) (t : Fin cfg0.N) (k : Fin 1024) :
    (iblk m c 3 t : FVec Ideal S1x1024 .f32) (ix2 0 k) = aB m c (ix2 0 k) := by
  blk_ext [iblk, V, idx t]

theorem blk4 (c : Dev nD) (t : Fin cfg0.N) (p : Fin 512) (k : Fin 1024) :
    (iblk m c 4 t : FVec Ideal S512x1024 .f32) (ix2 p k) = aT m c (ix2 (at_ t p) k) := by
  blk_ext [iblk, V, idx t, at_]

theorem V17 (c : Dev nD) (i : Fin 8192) (k : Fin 1024) :
    (V m c main_v17 : FVec Ideal S8192x1024 .f32) (ix2 i k) = LnRow.xh (rowR m c i) k := by
  entry_read
  pointwise [LnRow.xh, LnRow.rs, LnRow.va, LnRow.mu]

theorem V13 (c : Dev nD) (i : Fin 8192) :
    (V m c main_v13 : FVec Ideal S8192x1 .f32) (ix2 i 0) = LnRow.rs (rowR m c i) := by
  entry_read
  pointwise [LnRow.rs, LnRow.va, LnRow.mu]

theorem blk0 (c : Dev nD) (t : Fin cfg0.N) (p : Fin 512) (k : Fin 1024) :
    (iblk m c 0 t : FVec Ideal S512x1024 .f32) (ix2 p k) = LnRow.xh (rowR m c (at_ t p)) k := by
  refine Eq.trans ?_ (V17 m c (at_ t p) k)
  blk_ext [iblk, idx t, at_]

theorem blk1 (c : Dev nD) (t : Fin cfg0.N) (p : Fin 512) :
    (iblk m c 1 t : FVec Ideal S512x1 .f32) (ix2 p 0) = LnRow.rs (rowR m c (at_ t p)) := by
  refine Eq.trans ?_ (V13 m c (at_ t p))
  blk_ext [iblk, idx t, at_]

/-- The error at row `i`, column `n`: the norm's result less the target. -/
def err (c : Dev nD) (i : Fin 8192) (n : Fin 1024) : EReal :=
  LnRow.xh (rowR m c i) n * aG m c (ix2 0 n) + aB m c (ix2 0 n) - aT m c (ix2 i n)

/-- The gradient that reaches the norm's result. -/
def dA (c : Dev nD) (i : Fin 8192) (n : Fin 1024) : EReal := err m c i n * Ideal.ofBits .f32 0x3A800000#32

/-- Row `i`'s mean squared error. -/
def mse (c : Dev nD) (i : Fin 8192) : EReal :=
  Ideal.div (∑ k : Fin 1024, err m c i k * err m c i k) (Ideal.ofBits .f32 0x44800000#32)

/-- The error the body computes at point `t`, from its blocks. -/
theorem err_at (c : Dev nD) (t : Fin cfg0.N) (p : Fin 512) (n : Fin 1024) :
    k0_pay7 (F := Ideal) (iblk m c 0 t) (iblk m c 2 t) (iblk m c 3 t) (iblk m c 4 t) (ix2 p n) = err m c (at_ t p) n := by
  rw [pay7_at, err, blk0 m c t p n, blk2 m c t n, blk3 m c t n, blk4 m c t p n]

theorem d_at (c : Dev nD) (t : Fin cfg0.N) (p : Fin 512) (n : Fin 1024) :
    k0_pay9 (F := Ideal) (iblk m c 0 t) (iblk m c 2 t) (iblk m c 3 t) (iblk m c 4 t) (ix2 p n) = dA m c (at_ t p) n := by
  rw [pay9_at, err_at, dA]

theorem row_at (c : Dev nD) (t : Fin cfg0.N) (p : Fin 512) (n : Fin 1024) :
    k0_pay14 (F := Ideal) (k0_pay6 (iblk m c 0 t)) (k0_pay10 (iblk m c 0 t) (iblk m c 2 t) (iblk m c 3 t) (iblk m c 4 t))
        (k0_pay11 (iblk m c 1 t)) (k0_pay12 (iblk m c 0 t) (iblk m c 2 t) (iblk m c 3 t) (iblk m c 4 t))
        (k0_pay13 (iblk m c 0 t) (iblk m c 2 t) (iblk m c 3 t) (iblk m c 4 t)) (ix2 p n)
      = LnRow.ker (rowR m c (at_ t p)) (fun k => dA m c (at_ t p) k * aG m c (ix2 0 k)) n := by
  rw [pay14_at, LnRow.ker, blk1 m c t p, blk0 m c t p n]
  simp only [d_at, blk0 m c t p, blk2 m c t]

theorem loss_at (c : Dev nD) (t : Fin cfg0.N) (acc : FVec Ideal S1x1 .f32) :
    k0_pay8 (F := Ideal) (iblk m c 0 t) (iblk m c 2 t) (iblk m c 3 t) (iblk m c 4 t) acc (ix2 0 0)
      = acc (ix2 0 0) + Ideal.ofBits .f32 0x3F000000#32 * ∑ p : Fin 512, mse m c (at_ t p) := by
  rw [pay8_at]
  simp only [err_at, mse]

theorem gain_at (c : Dev nD) (t : Fin cfg0.N) (acc : FVec Ideal S1x1024 .f32) (n : Fin 1024) :
    k0_pay1 (F := Ideal) (k0_pay16 acc) (k0_pay17 (k0_pay6 (iblk m c 0 t))
        (k0_pay9 (iblk m c 0 t) (iblk m c 2 t) (iblk m c 3 t) (iblk m c 4 t))) (ix2 0 n)
      = acc (ix2 0 n) + ∑ p : Fin 512, dA m c (at_ t p) n * LnRow.xh (rowR m c (at_ t p)) n := by
  rw [pay1_at]
  simp only [d_at]
  exact congrArg _ (Finset.sum_congr rfl fun p _ => congrArg _ (blk0 m c t p n))

theorem bias_at (c : Dev nD) (t : Fin cfg0.N) (acc : FVec Ideal S1x1024 .f32) (n : Fin 1024) :
    k0_pay2 (F := Ideal) (k0_pay9 (iblk m c 0 t) (iblk m c 2 t) (iblk m c 3 t) (iblk m c 4 t)) acc (ix2 0 n)
      = acc (ix2 0 n) + ∑ p : Fin 512, dA m c (at_ t p) n := by
  rw [pay2_at]
  simp only [d_at]

end Cert.LossGradIdeal.Value
end
-- ==== Proof.LossFinal.lean ====
module

public import proofs.«01_k».proof.Proof.LossBlocks

/-! The arrays `loss_ln_bwd` leaves, each one function of the program's arguments. -/

@[expose] public section

set_option maxRecDepth 16384

noncomputable section

namespace Cert.LossGradIdeal.Value

open Cert.LossGradIdeal Cert.LossGradIdeal.Gen Idealize.ShloMosaic Idealize.ShloMosaic.TcCoe Idealize.SL.Sem
open Idealize.ShloMosaic.Pipeline (Dat)

variable (m : (ℓ : Loc nD τ sig) → Buf (Elt Ideal) ℓ)

/-- Row `k` of the run's point `s`, in the run that ends where a block is written back. -/
theorem at_run (t : Fin cfg0.N) (hf : t.val % 16 = 15) (s : Fin 16) (k : Fin 512) (hl : s.val * 512 + k.val < 8192) :
    at_ ⟨16 * (t.val / 16) + s.val, Pipeline.run_point_lt_of_flush t hf s⟩ k = ⟨s * 512 + k, hl⟩ := by
  apply Fin.ext; show (16 * (t.val / 16) + s.val) * 512 + k.val = s.val * 512 + k.val; have := lt16 t; omega

/-- The loss, a block's share at a time: half the sum of the rows' mean squared errors, the half taken in every block. -/
def G5 (c : Dev nD) : FVec Ideal S1x1 .f32 := fun _ =>
  ∑ s : Fin 16, Ideal.ofBits .f32 0x3F000000#32 * ∑ p : Fin 512, mse m c ⟨s * 512 + p, by omega⟩
/-- The gradient of the norm's argument. -/
def G6 (c : Dev nD) : FVec Ideal S8192x1024 .f32 := fun i =>
  LnRow.ker (rowR m c (i 0)) (fun k => dA m c (i 0) k * aG m c (ix2 0 k)) (i 1)
/-- The gradients of the norm's two vectors. -/
def G8 (c : Dev nD) : FVec Ideal S1x1024 .f32 := fun j => ∑ i : Fin 8192, dA m c i (j 1) * LnRow.xh (rowR m c i) (j 1)
def G9 (c : Dev nD) : FVec Ideal S1x1024 .f32 := fun j => ∑ i : Fin 8192, dA m c i (j 1)

/-- Where an element of point `t`'s block lies in the array. -/
theorem emb5 (t : Fin cfg0.N) : (((cfg0.win 5).blk t).view.emb (ix2 0 0) : S1x1.Idx) = ix2 0 0 := by
  blk_ext [idx t]
theorem emb6 (t : Fin cfg0.N) (p : Fin 512) (n : Fin 1024) :
    (((cfg0.win 6).blk t).view.emb (ix2 p n) : S8192x1024.Idx) = ix2 (at_ t p) n := by
  blk_ext [idx t, at_]
theorem emb7 (t : Fin cfg0.N) (p : Fin 512) (n : Fin 1024) :
    (((cfg0.win 7).blk t).view.emb (ix2 p n) : S8192x1024.Idx) = ix2 (at_ t p) n := by
  blk_ext [idx t, at_]
theorem emb8 (t : Fin cfg0.N) (n : Fin 1024) : (((cfg0.win 8).blk t).view.emb (ix2 0 n) : S1x1024.Idx) = ix2 0 n := by
  blk_ext [idx t]
theorem emb9 (t : Fin cfg0.N) (n : Fin 1024) : (((cfg0.win 9).blk t).view.emb (ix2 0 n) : S1x1024.Idx) = ix2 0 n := by
  blk_ext [idx t]

theorem final6 (c : Dev nD) : (dats m 0 c).arrAt 6 (cfgs 0).N = G6 m c := by
  refine (dats m 0 c).arrAt_eq_of_covers 6 _ (by decide +kernel) fun t hf y => ?_
  blk_simp
  rw [after0_6]
  idx_vars y
  refine Eq.trans ?_ (congrArg (G6 m c) (emb6 t y0 y1)).symm
  by_cases h : t.val % 16 = 0
  · rw [outsAt0_A m c t h]
    frame_out
    exact row_at m c t y0 y1
  · rw [outsAt0_B m c t h]
    frame_out
    exact row_at m c t y0 y1

/-- The rounded copy of it is the same numbers. -/
theorem final7 (c : Dev nD) : (dats m 0 c).arrAt 7 (cfgs 0).N = G6 m c := by
  refine (dats m 0 c).arrAt_eq_of_covers 7 _ (by decide +kernel) fun t hf y => ?_
  blk_simp
  rw [after0_7]
  idx_vars y
  refine Eq.trans ?_ (congrArg (G6 m c) (emb7 t y0 y1)).symm
  by_cases h : t.val % 16 = 0
  · rw [outsAt0_A m c t h]
    frame_out
    exact (pay15_at _ _ _ _ _ y0 y1).trans (row_at m c t y0 y1)
  · rw [outsAt0_B m c t h]
    frame_out
    exact (pay15_at _ _ _ _ _ y0 y1).trans (row_at m c t y0 y1)

theorem loss_run (c : Dev nD) (t : Fin cfg0.N) (hf : t.val % 16 = 15) :
    (∑ s : Fin 16, Ideal.ofBits .f32 0x3F000000#32
      * ∑ p : Fin 512, mse m c (at_ ⟨16 * (t.val / 16) + s.val, Pipeline.run_point_lt_of_flush t hf s⟩ p) : EReal)
      = G5 m c (ix2 0 0) := by
  refine Finset.sum_congr rfl fun s _ => congrArg _ (Finset.sum_congr rfl fun k _ => ?_)
  rw [at_run t hf s k (by omega)]

theorem final5 (c : Dev nD) : (dats m 0 c).arrAt 5 (cfgs 0).N = G5 m c := by
  refine (dats m 0 c).arrAt_eq_of_covers 5 _ (by decide +kernel) fun t hf y => ?_
  blk_simp
  rw [after0_5]
  idx_vars y
  obtain rfl : y0 = 0 := Subsingleton.elim _ _
  obtain rfl : y1 = 0 := Subsingleton.elim _ _
  refine Eq.trans ?_ (congrArg (G5 m c) (emb5 t)).symm
  rw [Pipeline.eq_sum_fin_of_reset_step_apply_of_flush (fun n h => (outsAt0 m c n h).1) 16 (fun _ => 0)
    (fun t y => Ideal.ofBits .f32 0x3F000000#32 * ∑ p : Fin 512, mse m c (at_ t p))
    (fun t h j => ?_) (fun t h j => ?_) t ((flush0_5 t).mp hf) _, zero_add]
  · exact loss_run m c t ((flush0_5 t).mp hf)
  · idx_vars j
    obtain rfl : j0 = 0 := Subsingleton.elim _ _
    obtain rfl : j1 = 0 := Subsingleton.elim _ _
    rw [outsAt0_A m c t h]
    frame_out
    refine Eq.trans (loss_at m c t _) ?_
    rw [pay3_at]
  · idx_vars j
    obtain rfl : j0 = 0 := Subsingleton.elim _ _
    obtain rfl : j1 = 0 := Subsingleton.elim _ _
    rw [outsAt0_B m c t h]
    frame_out
    exact loss_at m c t _

theorem final8 (c : Dev nD) : (dats m 0 c).arrAt 8 (cfgs 0).N = G8 m c := by
  refine (dats m 0 c).arrAt_eq_of_covers 8 _ (by decide +kernel) fun t hf y => ?_
  blk_simp
  rw [after0_8]
  idx_vars y
  obtain rfl : y0 = 0 := Subsingleton.elim _ _
  refine Eq.trans ?_ (congrArg (G8 m c) (emb8 t y1)).symm
  rw [Pipeline.eq_sum_fin_of_reset_step_apply_of_flush (fun n h => (outsAt0 m c n h).2.2.2.1) 16 (fun _ => 0)
    (fun t y => ∑ p : Fin 512, dA m c (at_ t p) (y 1) * LnRow.xh (rowR m c (at_ t p)) (y 1))
    (fun t h j => ?_) (fun t h j => ?_) t ((flush0_8 t).mp hf) _, zero_add]
  · refine Fin.sum_mul_add_congr fun s k hl => ?_
    rw [at_run t ((flush0_8 t).mp hf) s k hl]
  · idx_vars j
    obtain rfl : j0 = 0 := Subsingleton.elim _ _
    rw [outsAt0_A m c t h]
    frame_out
    refine Eq.trans (gain_at m c t _ j1) ?_
    rw [pay4_at]
  · idx_vars j
    obtain rfl : j0 = 0 := Subsingleton.elim _ _
    rw [outsAt0_B m c t h]
    frame_out
    exact gain_at m c t _ j1

theorem final9 (c : Dev nD) : (dats m 0 c).arrAt 9 (cfgs 0).N = G9 m c := by
  refine (dats m 0 c).arrAt_eq_of_covers 9 _ (by decide +kernel) fun t hf y => ?_
  blk_simp
  rw [after0_9]
  idx_vars y
  obtain rfl : y0 = 0 := Subsingleton.elim _ _
  refine Eq.trans ?_ (congrArg (G9 m c) (emb9 t y1)).symm
  rw [Pipeline.eq_sum_fin_of_reset_step_apply_of_flush (fun n h => (outsAt0 m c n h).2.2.2.2) 16 (fun _ => 0)
    (fun t y => ∑ p : Fin 512, dA m c (at_ t p) (y 1))
    (fun t h j => ?_) (fun t h j => ?_) t ((flush0_9 t).mp hf) _, zero_add]
  · refine Fin.sum_mul_add_congr fun s k hl => ?_
    rw [at_run t ((flush0_9 t).mp hf) s k hl]
  · idx_vars j
    obtain rfl : j0 = 0 := Subsingleton.elim _ _
    rw [outsAt0_A m c t h]
    frame_out
    refine Eq.trans (bias_at m c t _ j1) ?_
    rw [pay5_at]
  · idx_vars j
    obtain rfl : j0 = 0 := Subsingleton.elim _ _
    rw [outsAt0_B m c t h]
    frame_out
    exact bias_at m c t _ j1

end Cert.LossGradIdeal.Value
end
-- ==== Proof.LossRef.lean ====
module

public import proofs.«01_k».proof.Proof.LnRow
public import proofs.«01_k».proof.Proof.Gen.LossGradRefIdeal.Run
public import proofs.«01_k».proof.Proof.Gen.Pre_loss_finite
public import Idealize.ShloMosaic.Lib.Pointwise
public import Idealize.ShloMosaic.Lib.Claim

/-! The loss and its derivative, element by element, as reference.py's lines compute them. -/

@[expose] public section

set_option maxRecDepth 16384

noncomputable section

namespace Cert.LossGradRefIdeal.Value

open Cert.LossGradRefIdeal Idealize.ShloMosaic Idealize.ShloMosaic.TcCoe Idealize.SL.Sem

variable (m : (ℓ : Loc nD τ sig) → Buf (Elt Ideal) ℓ)

abbrev aR (c : Dev nD) : FVec Ideal S8192x1024 .f32 := m ((c.tc : Thread nD τ).loc main_arg0)
abbrev aG (c : Dev nD) : FVec Ideal S1x1024 .f32 := m ((c.tc : Thread nD τ).loc main_arg1)
abbrev aB (c : Dev nD) : FVec Ideal S1x1024 .f32 := m ((c.tc : Thread nD τ).loc main_arg2)
abbrev aT (c : Dev nD) : FVec Ideal S8192x1024 .f32 := m ((c.tc : Thread nD τ).loc main_arg3)

/-- The error at row `i`, column `n`. -/
def err (c : Dev nD) (i : Fin 8192) (n : Fin 1024) : EReal :=
  LnRow.xh (fun k => aR m c (ix2 i k)) n * aG m c (ix2 0 n) + aB m c (ix2 0 n) - aT m c (ix2 i n)

/-- The slope of the loss there. -/
def slope (c : Dev nD) (i : Fin 8192) (n : Fin 1024) : EReal :=
  Ideal.div (Ideal.ofBits .f32 0x3F000000#32 * Ideal.ofBits .f32 0x3F800000#32) (Ideal.ofBits .f32 0x44800000#32)
    * (Ideal.ofBits .f32 0x40000000#32 * err m c i n)

theorem out1_at (c : Dev nD) (i : Fin 8192) (j : Fin 1024) :
    (res_out1 m c : FVec Ideal S8192x1024 .f32) (ix2 i j)
      = LnRow.ref (fun k => aR m c (ix2 i k)) (fun k => slope m c i k * aG m c (ix2 0 k)) j := by
  unfold res_out1 res_main_v72
  pointwise [LnRow.ref, LnRow.viaVar, LnRow.rs, LnRow.va, LnRow.mu, LnRow.xh, slope, err]

theorem out2_at (c : Dev nD) (i : Fin 8192) (j : Fin 1024) :
    (res_out2 m c : FVec Ideal S8192x1024 .bf16) (ix2 i j) = (res_out1 m c : FVec Ideal S8192x1024 .f32) (ix2 i j) := rfl

end Cert.LossGradRefIdeal.Value
end
-- ==== Proof.LossPre.lean ====
module

public import proofs.«01_k».proof.Proof.LnPre
public import proofs.«01_k».proof.Proof.Gen.Pre_loss_finite

/-! What the loss's precondition says of each element: it is a real number. -/

@[expose] public section

set_option maxRecDepth 16384

noncomputable section

namespace Cert.LossPre

open Idealize.ShloMosaic Cert.Reals Cert.Pre_loss_finite

variable (a0 : FVec Ideal S8192x1024 .f32) (a1 a2 : FVec Ideal S1x1024 .f32) (a3 : FVec Ideal S8192x1024 .f32)

/-- Every element of the arguments is a real number. -/
structure Finite : Prop where
  r : ∀ (i : Fin 8192) (k : Fin 1024), ∃ x : ℝ, a0 (ix2 i k) = x
  g : ∀ k : Fin 1024, ∃ x : ℝ, a1 (ix2 0 k) = x
  b : ∀ k : Fin 1024, ∃ x : ℝ, a2 (ix2 0 k) = x
  t : ∀ (i : Fin 8192) (k : Fin 1024), ∃ x : ℝ, a3 (ix2 i k) = x

theorem finite (h0 : (fn (F := Ideal) a0 a1 a2 a3).1 = fun _ => 1#1) (h1 : (fn (F := Ideal) a0 a1 a2 a3).2.1 = fun _ => 1#1)
    (h2 : (fn (F := Ideal) a0 a1 a2 a3).2.2.1 = fun _ => 1#1) (h3 : (fn (F := Ideal) a0 a1 a2 a3).2.2.2 = fun _ => 1#1) :
    Finite a0 a1 a2 a3 := by
  refine ⟨fun i k => LnPre.real_of_word (Eq.trans ?_ (congrFun h0 (ix2 i k))), fun k => LnPre.real_of_word (Eq.trans ?_ (congrFun h1 (ix2 0 k))),
    fun k => LnPre.real_of_word (Eq.trans ?_ (congrFun h2 (ix2 0 k))), fun i k => LnPre.real_of_word (Eq.trans ?_ (congrFun h3 (ix2 i k)))⟩
    <;> (unfold fn; pointwise)

end Cert.LossPre
end
-- ==== Proof.LossClaim.lean ====
module

public import proofs.«01_k».proof.Defs
public import proofs.«01_k».proof.Proof.LossFinal
public import proofs.«01_k».proof.Proof.LossRef
public import proofs.«01_k».proof.Proof.LossPre

/-! The loss and the gradient of the last norm: the call and the derivative of reference.py's lines leave the same arrays. -/

@[expose] public section

set_option maxRecDepth 16384

noncomputable section

namespace Cert.LossGrad.Value

open Idealize.ShloMosaic Idealize.ShloMosaic.TcCoe Idealize.SL.Sem Cert.Reals
open Cert.LossGradIdeal.Value (aR aG aB aT rowR err dA mse G5 G6 G8 G9)

theorem cHalf : Ideal.ofBits .f32 0x3F000000#32 = ((1 / 2 : ℝ) : EReal) := by
  simp [Ideal.ofBits, Ideal.ieee, -EReal.coe_mul]; norm_num
theorem cOne : Ideal.ofBits .f32 0x3F800000#32 = ((1 : ℝ) : EReal) := by
  simp [Ideal.ofBits, Ideal.ieee, -EReal.coe_mul]; norm_num

/-- The derivative of the half mean of squares, at an error that is a real number. -/
theorem slope (e : ℝ) :
    Ideal.div (Ideal.ofBits .f32 0x3F000000#32 * Ideal.ofBits .f32 0x3F800000#32) (Ideal.ofBits .f32 0x44800000#32)
        * (Ideal.ofBits .f32 0x40000000#32 * (e : EReal))
      = (e : EReal) * Ideal.ofBits .f32 0x3A800000#32 := by
  rw [cHalf, cOne, c1024, cTwo, cInv1024, ← EReal.coe_mul, div_real _ _ (by norm_num)]
  simp only [← EReal.coe_mul]
  congr 1
  ring

/-- A real factor goes through a sum of real numbers. -/
theorem mul_sum_real {ι : Type} [Fintype ι] (a : ℝ) (f : ι → EReal) (hf : ∀ i, ∃ x : ℝ, f i = x) :
    ∑ i, (a : EReal) * f i = (a : EReal) * ∑ i, f i := by
  choose g hg using hf
  simp only [hg, ← EReal.coe_mul, coe_sum, Finset.mul_sum]

variable {m : (ℓ : Loc Cert.LossGradIdeal.nD Cert.LossGradIdeal.τ Cert.LossGradIdeal.sig) → Buf (Elt Ideal) ℓ}
  {m' : (ℓ : Loc Cert.LossGradRefIdeal.nD Cert.LossGradRefIdeal.τ Cert.LossGradRefIdeal.sig) → Buf (Elt Ideal) ℓ}

/-- A normalised row of real numbers is real. -/
theorem xh_real (x : Fin 1024 → EReal) (hx : ∀ k, ∃ r : ℝ, x k = r) (j : Fin 1024) : ∃ r : ℝ, LnRow.xh x j = r := by
  choose X hX using hx
  obtain rfl : x = fun k => ((X k : ℝ) : EReal) := funext hX
  have hmu : LnRow.mu (fun k => ((X k : ℝ) : EReal)) = (((∑ k, X k) / 1024 : ℝ) : EReal) := by
    rw [LnRow.mu, c1024, coe_sum, div_real _ _ (by norm_num)]
  have hva : LnRow.va (fun k => ((X k : ℝ) : EReal))
      = (((∑ k, (X k - (∑ k, X k) / 1024) * (X k - (∑ k, X k) / 1024)) / 1024 + 10995116 / 2 ^ 40 : ℝ) : EReal) := by
    simp only [LnRow.va, hmu, c1024, cEps, ← EReal.coe_sub, ← EReal.coe_mul, coe_sum]
    rw [div_real _ _ (by norm_num), ← EReal.coe_add]
  have hpos : 0 < (∑ k, (X k - (∑ k, X k) / 1024) * (X k - (∑ k, X k) / 1024)) / 1024 + 10995116 / 2 ^ 40 := by
    have : 0 ≤ ∑ k, (X k - (∑ k, X k) / 1024) * (X k - (∑ k, X k) / 1024) := Finset.sum_nonneg fun k _ => mul_self_nonneg _
    positivity
  simp only [LnRow.xh, LnRow.rs, hmu, hva, rsqrt_pos _ hpos, ← EReal.coe_sub, ← EReal.coe_mul]
  exact ⟨_, rfl⟩

variable (c : Dev Cert.LossGradIdeal.nD) (F : Cert.LossPre.Finite (aR m c) (aG m c) (aB m c) (aT m c))
include F

theorem err_real (i : Fin 8192) (n : Fin 1024) : ∃ x : ℝ, err m c i n = x := by
  obtain ⟨h, hh⟩ := xh_real (rowR m c i) (F.r i) n
  obtain ⟨g, hg⟩ := F.g n
  obtain ⟨b, hb⟩ := F.b n
  obtain ⟨t, ht⟩ := F.t i n
  exact ⟨h * g + b - t, by rw [err, hh, hg, hb, ht, EReal.coe_sub, EReal.coe_add, EReal.coe_mul]⟩

theorem mse_real (i : Fin 8192) : ∃ x : ℝ, mse m c i = x := by
  choose e he using err_real c F i
  refine ⟨(∑ k, e k * e k) / 1024, ?_⟩
  simp only [mse, he, ← EReal.coe_mul, coe_sum, c1024]
  exact div_real _ _ (by norm_num)

/-- The slope of the loss at row `i`, column `n`, as the derivative of reference.py's lines has it. -/
theorem slope_at (i : Fin 8192) (n : Fin 1024) :
    Ideal.div (Ideal.ofBits .f32 0x3F000000#32 * Ideal.ofBits .f32 0x3F800000#32) (Ideal.ofBits .f32 0x44800000#32)
        * (Ideal.ofBits .f32 0x40000000#32 * err m c i n) = dA m c i n := by
  obtain ⟨e, he⟩ := err_real c F i n
  rw [dA, he, slope]

theorem dA_real (i : Fin 8192) (n : Fin 1024) : ∃ x : ℝ, dA m c i n = x := by
  obtain ⟨e, he⟩ := err_real c F i n
  exact ⟨e * (1 / 1024), by rw [dA, he, cInv1024, EReal.coe_mul]⟩

/-- The loss: the half may be taken block by block. -/
theorem loss_eq : G5 m c (ix2 0 0) = Ideal.ofBits .f32 0x3F000000#32 * ∑ i : Fin 8192, mse m c i := by
  rw [Fin.sum_univ_tiles 16 512 rfl (fun i : Fin 8192 => mse m c i), cHalf, ← mul_sum_real]
  · simp only [G5, cHalf]
  · intro s
    choose e he using fun p : Fin 512 => mse_real c F ⟨s * 512 + p, by omega⟩
    exact ⟨∑ p, e p, (Finset.sum_congr rfl fun p _ => he p).trans (coe_sum _ _)⟩

/-- The reference's error and slope are the call's. -/
theorem err_ref (h0 : Cert.LossGradRefIdeal.Value.aR m' c = aR m c) (h1 : Cert.LossGradRefIdeal.Value.aG m' c = aG m c)
    (h2 : Cert.LossGradRefIdeal.Value.aB m' c = aB m c) (h3 : Cert.LossGradRefIdeal.Value.aT m' c = aT m c)
    (i : Fin 8192) (n : Fin 1024) :
    Cert.LossGradRefIdeal.Value.err m' c i n = err m c i n ∧ Cert.LossGradRefIdeal.Value.slope m' c i n = dA m c i n := by
  have e : Cert.LossGradRefIdeal.Value.err m' c i n = err m c i n := by
    rw [Cert.LossGradRefIdeal.Value.err, h0, h1, h2, h3]; rfl
  exact ⟨e, by rw [Cert.LossGradRefIdeal.Value.slope, e, slope_at c F]⟩

theorem out1 (h0 : Cert.LossGradRefIdeal.Value.aR m' c = aR m c) (h1 : Cert.LossGradRefIdeal.Value.aG m' c = aG m c)
    (h2 : Cert.LossGradRefIdeal.Value.aB m' c = aB m c) (h3 : Cert.LossGradRefIdeal.Value.aT m' c = aT m c)
    (i : Fin 8192) (j : Fin 1024) : Cert.LossGradRefIdeal.Value.res_out1 m' c (ix2 i j) = G6 m c (ix2 i j) := by
  rw [Cert.LossGradRefIdeal.Value.out1_at]
  simp only [(err_ref c F h0 h1 h2 h3 i _).2]
  rw [h0, h1]
  refine (LnRow.ker_eq_ref (rowR m c i) (fun k => dA m c i k * aG m c (ix2 0 k)) (fun k => F.r i k) (fun k => ?_) j).symm
  obtain ⟨x, hx⟩ := dA_real c F i k
  obtain ⟨y, hy⟩ := F.g k
  exact ⟨x * y, by rw [hx, hy, EReal.coe_mul]⟩

omit F in
/-- The reference leaves its arguments as they are, and has no semaphore. -/
theorem refFrame : Cert.quiescent_LossGradRefIdeal := fun m ρ _ =>
  (θ_run _ _ _).mono (fun r h => ⟨fun c => (h c).2.2.2.2.2, sem_eq_zero_of_no_sems rfl r.2⟩) (Cert.LossGradRefIdeal.Value.run m ρ)

omit c F in
theorem algebraic : Cert.algebraic_LossGradIdeal_LossGradRefIdeal_pre_loss_finite := by
  intro m g m' g' hpre hag
  have hF c := Cert.LossPre.finite _ _ _ _ (hpre c).1 (hpre c).2.1 (hpre c).2.2.1 (hpre c).2.2.2
  refine ⟨fun c => G5 m c, fun c => G6 m c, fun c => G6 m c, fun c => G8 m c, fun c => G9 m c, ?_, ?_⟩
  · refine (θ_run _ _ _).mono (fun r h c => ?_) (Cert.LossGradIdeal.Value.run_blocks m g)
    obtain ⟨e0, e1, e2, e3, e4, k⟩ := h c
    exact ⟨e0.trans (Cert.LossGradIdeal.Value.final5 m c), e1.trans (Cert.LossGradIdeal.Value.final6 m c),
      e2.trans (Cert.LossGradIdeal.Value.final7 m c), e3.trans (Cert.LossGradIdeal.Value.final8 m c),
      e4.trans (Cert.LossGradIdeal.Value.final9 m c), k⟩
  · refine (θ_run _ _ _).mono (fun r h c => ?_) (Cert.LossGradRefIdeal.Value.run m' g')
    obtain ⟨e0, e1, e2, e3, e4, k⟩ := h c
    obtain ⟨h0, h1, h2, h3⟩ := hag c
    have o := out1 c (hF c) h0 h1 h2 h3
    have er i n := err_ref c (hF c) h0 h1 h2 h3 i n
    refine ⟨e0.trans (funext fun y => ?_), e1.trans (funext fun y => ?_), e2.trans (funext fun y => ?_),
      e3.trans (funext fun y => ?_), e4.trans (funext fun y => ?_), k⟩
    · idx_vars y
      obtain rfl : y0 = 0 := Subsingleton.elim _ _
      obtain rfl : y1 = 0 := Subsingleton.elim _ _
      refine Eq.trans (b := Ideal.ofBits .f32 0x3F000000#32 * ∑ i : Fin 8192, Ideal.div
          (∑ n : Fin 1024, Cert.LossGradRefIdeal.Value.err m' c i n * Cert.LossGradRefIdeal.Value.err m' c i n)
          (Ideal.ofBits .f32 0x44800000#32))
        (by pointwise [LnRow.xh, LnRow.rs, LnRow.va, LnRow.mu, Cert.LossGradRefIdeal.Value.err]) ?_
      simp only [(er _ _).1]
      exact (loss_eq c (hF c)).symm
    · idx_vars y; exact o y0 y1
    · idx_vars y; exact o y0 y1
    · idx_vars y
      obtain rfl : y0 = 0 := Subsingleton.elim _ _
      refine Eq.trans (b := ∑ i : Fin 8192, LnRow.xh (fun k => Cert.LossGradRefIdeal.Value.aR m' c (ix2 i k)) y1
        * Cert.LossGradRefIdeal.Value.slope m' c i y1)
        (by pointwise [LnRow.xh, LnRow.rs, LnRow.va, LnRow.mu, Cert.LossGradRefIdeal.Value.err,
          Cert.LossGradRefIdeal.Value.slope]) ?_
      simp only [(er _ _).2]
      rw [show Cert.LossGradRefIdeal.Value.aR m' c = _ from h0]
      exact Finset.sum_congr rfl fun i _ => mul_comm _ _
    · idx_vars y
      obtain rfl : y0 = 0 := Subsingleton.elim _ _
      refine Eq.trans (b := ∑ i : Fin 8192, Cert.LossGradRefIdeal.Value.slope m' c i y1)
        (by pointwise [LnRow.xh, LnRow.rs, LnRow.va, LnRow.mu, Cert.LossGradRefIdeal.Value.err,
          Cert.LossGradRefIdeal.Value.slope]) ?_
      simp only [(er _ _).2]
      rfl

end Cert.LossGrad.Value
end
-- ==== Proof.NormUpdate.lean ====
module

public import proofs.«01_k».proof.Defs
public import proofs.«01_k».proof.Proof.Adam
public import proofs.«01_k».proof.Proof.Gen.NormUpdateIdeal.Value
public import proofs.«01_k».proof.Proof.Gen.NormUpdateRefIdeal.Run

@[expose] public section

set_option maxRecDepth 16384

/-! The optimiser's step for the layer norms' weights. -/

noncomputable section

namespace Cert.NormUpdate

open Idealize.ShloMosaic Idealize.ShloMosaic.TcCoe Idealize.SL.Sem

theorem refFrame : Cert.quiescent_NormUpdateRefIdeal := fun m ρ _ =>
  (θ_run _ _ _).mono (fun r h => ⟨fun c => (h c).2.2.2, sem_eq_zero_of_no_sems rfl r.2⟩) (Cert.NormUpdateRefIdeal.Value.run m ρ)

open Cert.NormUpdateIdeal in
theorem algebraic : Cert.algebraic_NormUpdateIdeal_NormUpdateRefIdeal := by
  intro m g m' g' _ hag
  refine ⟨fun c => Adam.change (m ((c.tc : Thread nD τ).loc main_arg0)) (m ((c.tc : Thread nD τ).loc main_arg1)) (m ((c.tc : Thread nD τ).loc main_arg2)) (m ((c.tc : Thread nD τ).loc main_arg3)), fun c => Adam.first (m ((c.tc : Thread nD τ).loc main_arg1)) (m ((c.tc : Thread nD τ).loc main_arg2)),
    fun c => Adam.second (m ((c.tc : Thread nD τ).loc main_arg1)) (m ((c.tc : Thread nD τ).loc main_arg3)), Cert.NormUpdateIdeal.Value.run m g, ?_⟩
  refine (θ_run _ _ _).mono (fun r h c => ?_) (Cert.NormUpdateRefIdeal.Value.run m' g')
  obtain ⟨h0, h1, h2, h3⟩ := hag c
  refine ⟨(h c).1.trans ?_, (h c).2.1.trans ?_, (h c).2.2.1.trans ?_, (h c).2.2.2⟩
  · rw [h0, h1, h2, h3]; rfl
  · rw [h1, h2]; rfl
  · rw [h1, h3]; rfl

end Cert.NormUpdate
end
-- ==== Proof.OutGrad.lean ====
module

public import proofs.«01_k».proof.Defs
public import proofs.«01_k».proof.Proof.Gen.OutGradIdeal.Value
public import proofs.«01_k».proof.Proof.Gen.OutGradRefIdeal.Run
public import Idealize.ShloMosaic.Lib.Pointwise
public import Idealize.ShloMosaic.Lib.Pipeline.ValueKit
public import Idealize.ShloMosaic.Lib.Claim

/-! The gradient of the output projection's argument: the incoming gradient times the transposed slot of the gathered weights. -/

@[expose] public section

set_option maxRecDepth 16384

noncomputable section

namespace Cert.OutGradIdeal.Value

open Cert.OutGradIdeal Cert.OutGradIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0, 1, 0, 0]
    ∧ win0_2.index t = ![t.val, 0] ∧ t.val < 16 :=
  (by decide +kernel : ∀ t : Fin grid0.N, _)

theorem lt16 (t : Fin cfg0.N) : t.val < 16 := (idx t).2.2.2

abbrev aD (c : Dev nD) : FVec Ideal S8192x1024 .bf16 := m ((c.tc : Thread nD τ).loc main_arg0)
abbrev aW (c : Dev nD) : FVec Ideal S3x2048x1024 .f32 := m ((c.tc : Thread nD τ).loc main_arg1)

/-- Row `p` of point `t`'s block of rows. -/
def row (t : Fin cfg0.N) (p : Fin 512) : Fin 8192 := ⟨t.val * 512 + p, by have := lt16 t; omega⟩

theorem blk0 (c : Dev nD) (t : Fin cfg0.N) (p : Fin 512) (k : Fin 1024) :
    (iblk m c 0 t : FVec Ideal S512x1024 .bf16) (ix2 p k) = aD m c (ix2 (row t p) k) := by
  blk_ext [iblk, V, idx t, row]

/-- The gathered weights, laid out by chips, halves, slots. -/
theorem gathered (c : Dev nD) (q : Fin 4) (h : Fin 2) (s : Fin 3) (r : Fin 256) (k : Fin 1024) :
    (V m c main_v2 : FVec Ideal S4x2x3x256x1024 .bf16) (ix5 q h s r k)
      = aW m c (ix3 s ⟨(q * 2 + h) * 256 + r, by omega⟩ k) := by
  entry_read
  pointwise
  exact congrArg (fun n => aW m c (ix3 s n k)) (Fin.ext (show q.val * 512 + h.val * 256 + r.val = (q.val * 2 + h.val) * 256 + r.val by omega))

theorem blk1 (c : Dev nD) (t : Fin cfg0.N) (q : Fin 4) (h : Fin 2) (r : Fin 256) (k : Fin 1024) :
    (iblk m c 1 t : FVec Ideal S4x2x1x256x1024 .bf16) (ix5 q h 0 r k) = aW m c (ix3 1 ⟨(q * 2 + h) * 256 + r, by omega⟩ k) := by
  refine Eq.trans ?_ (gathered m c q h 1 r k)
  blk_ext [iblk, idx t]

theorem pay_at (d : FVec Ideal S512x1024 .bf16) (w : FVec Ideal S4x2x1x256x1024 .bf16) (p : Fin 512) (n : Fin 2048) :
    k0_pay1 (F := Ideal) d w (ix2 p n)
      = ∑ k : Fin 1024, d (ix2 p k) * w (ix5 ⟨n / 512, by omega⟩ ⟨n / 256 % 2, by omega⟩ 0 ⟨n % 256, by omega⟩ k) := by
  pointwise [k0_pay1]

/-- The product, over the arguments. -/
def prod (d : FVec Ideal S8192x1024 .bf16) (w : FVec Ideal S3x2048x1024 .f32) : FVec Ideal S8192x2048 .bf16 :=
  fun i => ∑ k : Fin 1024, d (ix2 (i 0) k) * w (ix3 1 (i 1) k)

theorem emb (t : Fin cfg0.N) (p : Fin 512) (n : Fin 2048) :
    (((cfg0.win 2).blk t).view.emb (ix2 p n) : S8192x2048.Idx) = ix2 (row t p) n := by
  blk_ext [idx t, row]

theorem final (c : Dev nD) : (dats m 0 c).arrAt 2 (cfgs 0).N = prod (aD m c) (aW m c) := by
  refine (dats m 0 c).arrAt_eq_of_covers 2 _ (by decide +kernel) fun t hf y => ?_
  blk_simp
  rw [after0_2]
  idx_vars y
  refine Eq.trans ?_ (congrArg (prod (aD m c) (aW m c)) (emb t y0 y1)).symm
  frame_out
  rw [pay_at]
  refine Fin.sum_fin_congr fun k => ?_
  rw [blk0, blk1]
  have hk : (⟨((⟨y1 / 512, by omega⟩ : Fin 4) * 2 + (⟨y1 / 256 % 2, by omega⟩ : Fin 2)) * 256 + (⟨y1 % 256, by omega⟩ : Fin 256), by
      have := y1.isLt; show (y1.val / 512 * 2 + y1.val / 256 % 2) * 256 + y1.val % 256 < 2048; omega⟩ : Fin 2048) = y1 := by
    apply Fin.ext; show (y1.val / 512 * 2 + y1.val / 256 % 2) * 256 + y1.val % 256 = y1.val; omega
  rw [hk]
  rfl

end Cert.OutGradIdeal.Value

namespace Cert.OutGrad.Value

open Idealize.ShloMosaic Idealize.ShloMosaic.TcCoe Idealize.SL.Sem

theorem refFrame : Cert.quiescent_OutGradRefIdeal := fun m ρ _ =>
  (θ_run _ _ _).mono (fun r h => ⟨fun c => (h c).2, sem_eq_zero_of_no_sems rfl r.2⟩) (Cert.OutGradRefIdeal.Value.run m ρ)

theorem algebraic : Cert.algebraic_OutGradIdeal_OutGradRefIdeal := by
  intro m g m' g' _ hag
  refine ⟨fun c => Cert.OutGradIdeal.Value.prod (Cert.OutGradIdeal.Value.aD m c) (Cert.OutGradIdeal.Value.aW m c), ?_, ?_⟩
  · exact (θ_run _ _ _).mono (fun r h c => ⟨(h c).1.trans (Cert.OutGradIdeal.Value.final m c), (h c).2⟩)
      (Cert.OutGradIdeal.Value.run_blocks m g)
  · refine (θ_run _ _ _).mono (fun r h c => ⟨(h c).1.trans (funext fun y => ?_), (h c).2⟩) (Cert.OutGradRefIdeal.Value.run m' g')
    obtain ⟨h0, h1⟩ := hag c
    rw [h0, h1]
    idx_vars y
    pointwise [Cert.OutGradIdeal.Value.prod]

end Cert.OutGrad.Value
end
-- ==== Proof.OutNorm.lean ====
module

public import proofs.«01_k».proof.Defs
public import proofs.«01_k».proof.Proof.Gen.OutNormIdeal.Value
public import proofs.«01_k».proof.Proof.Gen.OutNormRefIdeal.Run
public import proofs.«01_k».proof.Proof.LnRow
public import Idealize.ShloMosaic.Lib.Pointwise
public import Idealize.ShloMosaic.Lib.Pipeline.ValueKit
public import Idealize.ShloMosaic.Lib.Claim

/-! The output projection's forward product, added to the residual and normalised row by row: the norm's result, the normalised
rows and the reciprocal standard deviations. -/

@[expose] public section

set_option maxRecDepth 16384

noncomputable section

namespace Cert.OutNormIdeal.Value

open Cert.OutNormIdeal Cert.OutNormIdeal.Gen Idealize.ShloMosaic Idealize.ShloMosaic.TcCoe Idealize.SL.Sem
open Idealize.ShloMosaic.Pipeline (Dat)

section Payloads

variable (y : FVec Ideal S512x2048 .bf16) (w : FVec Ideal S4x2x1x256x1024 .bf16) (x : FVec Ideal S512x1024 .f32)
  (xg xb g b : FVec Ideal S1x1024 .f32)

/-- Row `p` that the body normalises. -/
def pre (p : Fin 512) (k : Fin 1024) : EReal :=
  Ideal.ofBits .f32 0x3FD744FD#32 * (x (ix2 p k) * xg (ix2 0 k) + xb (ix2 0 k))
    + ∑ j : Fin 2048, y (ix2 p j) * w (ix5 ⟨j / 512, by omega⟩ ⟨j / 256 % 2, by omega⟩ 0 ⟨j % 256, by omega⟩ k)

/-- The kernel multiplies a row's sum by the reciprocal of its length. -/
theorem mean (e : EReal) : e * Ideal.ofBits .f32 0x3A800000#32 = Ideal.div e (Ideal.ofBits .f32 0x44800000#32) := by
  rw [Cert.Reals.c1024, Cert.Reals.cInv1024, Ideal.div_coe (by norm_num)]

theorem pay4_at (p : Fin 512) (n : Fin 1024) :
    k0_pay4 (F := Ideal) y w x xg xb (ix2 p n) = pre y w x xg xb p n - LnRow.mu (pre y w x xg xb p) := by
  rw [LnRow.mu, ← mean, ← Cert.Reals.lanes (pre y w x xg xb p)]
  pointwise [k0_pay4, pre]

theorem pay1_at (p : Fin 512) :
    k0_pay1 (F := Ideal) (k0_pay5 y w x xg xb) (k0_pay6 y w x xg xb) (ix2 p 0) = LnRow.rs (pre y w x xg xb p) := by
  have h k : k0_pay5 (F := Ideal) y w x xg xb (ix2 p k)
      = (pre y w x xg xb p k - LnRow.mu (pre y w x xg xb p)) * (pre y w x xg xb p k - LnRow.mu (pre y w x xg xb p)) := by
    rw [← pay4_at]; pointwise [k0_pay5]
  rw [LnRow.rs, LnRow.va, ← mean]
  simp only [← h]
  rw [← Cert.Reals.lanes fun k => k0_pay5 (F := Ideal) y w x xg xb (ix2 p k)]
  pointwise [k0_pay1, k0_pay6]

theorem pay2_at (p : Fin 512) (n : Fin 1024) :
    k0_pay2 (F := Ideal) (k0_pay4 y w x xg xb) (k0_pay5 y w x xg xb) (k0_pay6 y w x xg xb) (ix2 p n)
      = LnRow.xh (pre y w x xg xb p) n := by
  rw [LnRow.xh, ← pay4_at, ← pay1_at]
  pointwise [k0_pay2]

theorem pay3_at (p : Fin 512) (n : Fin 1024) :
    k0_pay3 (F := Ideal) (k0_pay4 y w x xg xb) (k0_pay5 y w x xg xb) (k0_pay6 y w x xg xb) g b (ix2 p n)
      = LnRow.xh (pre y w x xg xb p) n * g (ix2 0 n) + b (ix2 0 n) := by
  rw [← pay2_at]
  pointwise [k0_pay3]

/-- What the body computes first, from whole blocks. -/
theorem first : k0_pay7 (F := Ideal) y w x xg xb g b = k0_pay4 y w x xg xb ∧ k0_pay8 (F := Ideal) y w x xg xb g b = k0_pay5 y w x xg xb
    ∧ k0_pay9 (F := Ideal) y w x xg xb g b = k0_pay6 y w x xg xb := by
  unfold k0_pay7 k0_pay8 k0_pay9
  refine ⟨?_, ?_, ?_⟩ <;> simp (disch := decide) only [View.ld_unit_lit']

end Payloads

variable (m : (ℓ : Loc nD τ sig) → Buf (Elt Ideal) ℓ)

theorem idx : ∀ t : Fin cfg0.N, win0_0.index t = ![t.val, 0] ∧ win0_1.index t = ![0, 0, 1, 0, 0]
    ∧ win0_2.index t = ![t.val, 0] ∧ win0_3.index t = ![0, 0] ∧ win0_4.index t = ![0, 0] ∧ win0_5.index t = ![0, 0]
    ∧ win0_6.index t = ![0, 0] ∧ win0_7.index t = ![t.val, 0] ∧ win0_8.index t = ![t.val, 0] ∧ win0_9.index t = ![t.val, 0]
    ∧ t.val < 16 :=
  (by decide +kernel : ∀ t : Fin grid0.N, _)

theorem lt16 (t : Fin cfg0.N) : t.val < 16 := (idx t).2.2.2.2.2.2.2.2.2.2

abbrev aY (c : Dev nD) : FVec Ideal S8192x2048 .bf16 := m ((c.tc : Thread nD τ).loc main_arg0)
abbrev aW (c : Dev nD) : FVec Ideal S3x2048x1024 .f32 := m ((c.tc : Thread nD τ).loc main_arg1)
abbrev aX (c : Dev nD) : FVec Ideal S8192x1024 .f32 := m ((c.tc : Thread nD τ).loc main_arg2)
abbrev aXg (c : Dev nD) : FVec Ideal S1x1024 .f32 := m ((c.tc : Thread nD τ).loc main_arg3)
abbrev aXb (c : Dev nD) : FVec Ideal S1x1024 .f32 := m ((c.tc : Thread nD τ).loc main_arg4)
abbrev aG (c : Dev nD) : FVec Ideal S1x1024 .f32 := m ((c.tc : Thread nD τ).loc main_arg5)
abbrev aB (c : Dev nD) : FVec Ideal S1x1024 .f32 := m ((c.tc : Thread nD τ).loc main_arg6)

/-- Row `p` of point `t`'s block of rows. -/
def row (t : Fin cfg0.N) (p : Fin 512) : Fin 8192 := ⟨t.val * 512 + p, by have := lt16 t; omega⟩

theorem blk0 (c : Dev nD) (t : Fin cfg0.N) (p : Fin 512) (k : Fin 2048) :
    (iblk m c 0 t : FVec Ideal S512x2048 .bf16) (ix2 p k) = aY m c (ix2 (row t p) k) := by
  blk_ext [iblk, V, idx t, row]

/-- The gathered weights, laid out by chips, halves, slots. -/
theorem gathered (c : Dev nD) (q : Fin 4) (h : Fin 2) (s : Fin 3) (r : Fin 256) (k : Fin 1024) :
    (V m c main_v2 : FVec Ideal S4x2x3x256x1024 .bf16) (ix5 q h s r k)
      = aW m c (ix3 s ⟨(q * 2 + h) * 256 + r, by omega⟩ k) := by
  entry_read
  pointwise
  exact congrArg (fun n => aW m c (ix3 s n k)) (Fin.ext (show q.val * 512 + h.val * 256 + r.val = (q.val * 2 + h.val) * 256 + r.val by omega))

theorem blk1 (c : Dev nD) (t : Fin cfg0.N) (q : Fin 4) (h : Fin 2) (r : Fin 256) (k : Fin 1024) :
    (iblk m c 1 t : FVec Ideal S4x2x1x256x1024 .bf16) (ix5 q h 0 r k) = aW m c (ix3 1 ⟨(q * 2 + h) * 256 + r, by omega⟩ k) := by
  refine Eq.trans ?_ (gathered m c q h 1 r k)
  blk_ext [iblk, idx t]

theorem blk2 (c : Dev nD) (t : Fin cfg0.N) (p : Fin 512) (k : Fin 1024) :
    (iblk m c 2 t : FVec Ideal S512x1024 .f32) (ix2 p k) = aX m c (ix2 (row t p) k) := by
  blk_ext [iblk, V, idx t, row]

theorem blk3 (c : Dev nD) (t : Fin cfg0.N) (k : Fin 1024) :
    (iblk m c 3 t : FVec Ideal S1x1024 .f32) (ix2 0 k) = aXg m c (ix2 0 k) := by
  blk_ext [iblk, V, idx t]

theorem blk4 (c : Dev nD) (t : Fin cfg0.N) (k : Fin 1024) :
    (iblk m c 4 t : FVec Ideal S1x1024 .f32) (ix2 0 k) = aXb m c (ix2 0 k) := by
  blk_ext [iblk, V, idx t]

theorem blk5 (c : Dev nD) (t : Fin cfg0.N) (k : Fin 1024) :
    (iblk m c 5 t : FVec Ideal S1x1024 .f32) (ix2 0 k) = aG m c (ix2 0 k) := by
  blk_ext [iblk, V, idx t]

theorem blk6 (c : Dev nD) (t : Fin cfg0.N) (k : Fin 1024) :
    (iblk m c 6 t : FVec Ideal S1x1024 .f32) (ix2 0 k) = aB m c (ix2 0 k) := by
  blk_ext [iblk, V, idx t]

/-- Row `i` that the norm is applied to, over the arguments: the weighted residual plus the product. -/
def sum (y : FVec Ideal S8192x2048 .bf16) (w : FVec Ideal S3x2048x1024 .f32) (x : FVec Ideal S8192x1024 .f32)
    (xg xb : FVec Ideal S1x1024 .f32) (i : Fin 8192) (k : Fin 1024) : EReal :=
  Ideal.ofBits .f32 0x3FD744FD#32 * (x (ix2 i k) * xg (ix2 0 k) + xb (ix2 0 k)) + ∑ j : Fin 2048, y (ix2 i j) * w (ix3 1 j k)

abbrev sumA (c : Dev nD) (i : Fin 8192) : Fin 1024 → EReal := sum (aY m c) (aW m c) (aX m c) (aXg m c) (aXb m c) i

theorem pre_eq (c : Dev nD) (t : Fin cfg0.N) (p : Fin 512) :
    pre (iblk m c 0 t) (iblk m c 1 t) (iblk m c 2 t) (iblk m c 3 t) (iblk m c 4 t) p = sumA m c (row t p) := by
  funext k
  rw [pre, sumA, sum, blk2 m c t p k, blk3 m c t k, blk4 m c t k]
  refine congrArg _ (Fin.sum_fin_congr fun j => ?_)
  rw [blk0, blk1]
  have hj : (⟨((⟨j / 512, by omega⟩ : Fin 4) * 2 + (⟨j / 256 % 2, by omega⟩ : Fin 2)) * 256 + (⟨j % 256, by omega⟩ : Fin 256), by
      have := j.isLt; show (j.val / 512 * 2 + j.val / 256 % 2) * 256 + j.val % 256 < 2048; omega⟩ : Fin 2048) = j := by
    apply Fin.ext; show (j.val / 512 * 2 + j.val / 256 % 2) * 256 + j.val % 256 = j.val; omega
  rw [hj]

/-- The three arrays the call leaves. -/
def out7 (c : Dev nD) : FVec Ideal S8192x1024 .bf16 :=
  fun i => LnRow.xh (sumA m c (i 0)) (i 1) * aG m c (ix2 0 (i 1)) + aB m c (ix2 0 (i 1))
def out8 (c : Dev nD) : FVec Ideal S8192x1024 .f32 := fun i => LnRow.xh (sumA m c (i 0)) (i 1)
def out9 (c : Dev nD) : FVec Ideal S8192x1 .f32 := fun i => LnRow.rs (sumA m c (i 0))

theorem emb7 (t : Fin cfg0.N) (p : Fin 512) (n : Fin 1024) :
    (((cfg0.win 7).blk t).view.emb (ix2 p n) : S8192x1024.Idx) = ix2 (row t p) n := by
  blk_ext [idx t, row]
theorem emb8 (t : Fin cfg0.N) (p : Fin 512) (n : Fin 1024) :
    (((cfg0.win 8).blk t).view.emb (ix2 p n) : S8192x1024.Idx) = ix2 (row t p) n := by
  blk_ext [idx t, row]
theorem emb9 (t : Fin cfg0.N) (p : Fin 512) :
    (((cfg0.win 9).blk t).view.emb (ix2 p 0) : S8192x1.Idx) = ix2 (row t p) 0 := by
  blk_ext [idx t, row]

theorem final7 (c : Dev nD) : (dats m 0 c).arrAt 7 (cfgs 0).N = out7 m c := by
  refine (dats m 0 c).arrAt_eq_of_covers 7 _ (by decide +kernel) fun t hf y => ?_
  blk_simp
  rw [after0_7]
  idx_vars y
  refine Eq.trans ?_ (congrArg (out7 m c) (emb7 t y0 y1)).symm
  frame_out
  obtain ⟨e7, e8, e9⟩ := first (iblk m c 0 t) (iblk m c 1 t) (iblk m c 2 t) (iblk m c 3 t) (iblk m c 4 t)
    (iblk m c 5 t) (iblk m c 6 t)
  rw [e7, e8, e9]
  refine (pay3_at (iblk m c 0 t) (iblk m c 1 t) (iblk m c 2 t) (iblk m c 3 t) (iblk m c 4 t)
    (iblk m c 5 t) (iblk m c 6 t) y0 y1).trans ?_
  rw [pre_eq, blk5 m c t y1, blk6 m c t y1]
  rfl

theorem final8 (c : Dev nD) : (dats m 0 c).arrAt 8 (cfgs 0).N = out8 m c := by
  refine (dats m 0 c).arrAt_eq_of_covers 8 _ (by decide +kernel) fun t hf y => ?_
  blk_simp
  rw [after0_8]
  idx_vars y
  refine Eq.trans ?_ (congrArg (out8 m c) (emb8 t y0 y1)).symm
  frame_out
  obtain ⟨e7, e8, e9⟩ := first (iblk m c 0 t) (iblk m c 1 t) (iblk m c 2 t) (iblk m c 3 t) (iblk m c 4 t)
    (iblk m c 5 t) (iblk m c 6 t)
  rw [e7, e8, e9]
  refine (pay2_at (iblk m c 0 t) (iblk m c 1 t) (iblk m c 2 t) (iblk m c 3 t) (iblk m c 4 t) y0 y1).trans ?_
  rw [pre_eq]
  rfl

theorem final9 (c : Dev nD) : (dats m 0 c).arrAt 9 (cfgs 0).N = out9 m c := by
  refine (dats m 0 c).arrAt_eq_of_covers 9 _ (by decide +kernel) fun t hf y => ?_
  blk_simp
  rw [after0_9]
  idx_vars y
  obtain rfl : y1 = 0 := Subsingleton.elim _ _
  refine Eq.trans ?_ (congrArg (out9 m c) (emb9 t y0)).symm
  frame_out
  obtain ⟨e7, e8, e9⟩ := first (iblk m c 0 t) (iblk m c 1 t) (iblk m c 2 t) (iblk m c 3 t) (iblk m c 4 t)
    (iblk m c 5 t) (iblk m c 6 t)
  rw [e8, e9]
  refine (pay1_at (iblk m c 0 t) (iblk m c 1 t) (iblk m c 2 t) (iblk m c 3 t) (iblk m c 4 t) y0).trans ?_
  rw [pre_eq]
  rfl

end Cert.OutNormIdeal.Value

namespace Cert.OutNorm.Value

open Idealize.ShloMosaic Idealize.ShloMosaic.TcCoe Idealize.SL.Sem
open Cert.OutNormIdeal.Value

theorem refFrame : Cert.quiescent_OutNormRefIdeal := fun m ρ _ =>
  (θ_run _ _ _).mono (fun r h => ⟨fun c => (h c).2.2.2, sem_eq_zero_of_no_sems rfl r.2⟩) (Cert.OutNormRefIdeal.Value.run m ρ)

theorem algebraic : Cert.algebraic_OutNormIdeal_OutNormRefIdeal := by
  intro m g m' g' _ hag
  refine ⟨fun c => out7 m c, fun c => out8 m c, fun c => out9 m c, ?_, ?_⟩
  · refine (θ_run _ _ _).mono (fun r h c => ?_) (Cert.OutNormIdeal.Value.run_blocks m g)
    obtain ⟨e0, e1, e2, k⟩ := h c
    exact ⟨e0.trans (final7 m c), e1.trans (final8 m c), e2.trans (final9 m c), k⟩
  · refine (θ_run _ _ _).mono (fun r h c => ?_) (Cert.OutNormRefIdeal.Value.run m' g')
    obtain ⟨e0, e1, e2, k⟩ := h c
    obtain ⟨h0, h1, h2, h3, h4, h5, h6⟩ := hag c
    refine ⟨e0.trans (funext fun y => ?_), e1.trans (funext fun y => ?_), e2.trans (funext fun y => ?_), k⟩
    · unfold Cert.OutNormRefIdeal.Value.res_main_v47
      rw [h0, h1, h2, h3, h4, h5, h6]
      idx_vars y
      pointwise [out7, sum, LnRow.xh, LnRow.rs, LnRow.va, LnRow.mu]
    · unfold Cert.OutNormRefIdeal.Value.res_main_v51
      rw [h0, h1, h2, h3, h4]
      idx_vars y
      pointwise [out8, sum, LnRow.xh, LnRow.rs, LnRow.va, LnRow.mu]
    · rw [h0, h1, h2, h3, h4]
      idx_vars y
      obtain rfl : y1 = 0 := Subsingleton.elim _ _
      pointwise [out9, sum, LnRow.rs, LnRow.va, LnRow.mu]

end Cert.OutNorm.Value
end
-- ==== Proof.OutUpdate.lean ====
module

public import proofs.«01_k».proof.Defs
public import proofs.«01_k».proof.Proof.Adam
public import proofs.«01_k».proof.Proof.Gen.OutUpdateIdeal.Frame
public import proofs.«01_k».proof.Proof.Gen.OutUpdateRefIdeal.Run
public import Idealize.ShloMosaic.Lib.Pointwise
public import Idealize.ShloMosaic.Lib.Pipeline.ValueKit
public import Idealize.ShloMosaic.Lib.Claim

@[expose] public section

set_option maxRecDepth 16384

/-! The optimiser's step for the output projections' weights.

The first call writes the second layer's half of each array, the second call the first layer's half over what the first call
left. -/

noncomputable section

namespace Cert.OutUpdateIdeal.Value

open Cert.OutUpdateIdeal Cert.OutUpdateIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Every run ends with the buffers at the last boundary's contents. -/
theorem run_mem : θ_run defs (onTc (τ := τ) (main (F := Ideal))) ⟨m, fun _ => 0, ρ⟩ fun r =>
    ∀ c : Dev nD, ∀ b ∈ Pipeline.ucRefs τ sig, r.2.mem (((c : Thread nD τ)).1, b) = W3 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

abbrev aW (c : Dev nD) : FVec Ideal S2x512x1024 .f32 := m ((c.tc : Thread nD τ).loc main_arg0)
abbrev aM (c : Dev nD) : FVec Ideal S2x512x1024 .f32 := m ((c.tc : Thread nD τ).loc main_arg1)
abbrev aV (c : Dev nD) : FVec Ideal S2x512x1024 .f32 := m ((c.tc : Thread nD τ).loc main_arg2)
abbrev aG0 (c : Dev nD) : FVec Ideal S2x256x1024 .f32 := m ((c.tc : Thread nD τ).loc main_arg3)
abbrev aG1 (c : Dev nD) : FVec Ideal S2x256x1024 .f32 := m ((c.tc : Thread nD τ).loc main_arg4)

/-- The two layers' gradients as one array, each with its halves of the rows joined. -/
def stack (g0 g1 : FVec Ideal S2x256x1024 .f32) : FVec Ideal S2x512x1024 .f32 := fun i =>
  (if (i 0 : ℕ) = 0 then g0 else g1)
    (ix3 ⟨(i 1 : ℕ) / 256, by have : (i 1 : ℕ) < 512 := (i 1).isLt; omega⟩ ⟨(i 1 : ℕ) % 256, by omega⟩ (i 2))

abbrev aG (c : Dev nD) : FVec Ideal S2x512x1024 .f32 := stack (aG0 m c) (aG1 m c)

theorem idx0 : ∀ t : Fin cfg0.N, win0_0.index t = ![1, t.val, 0] ∧ win0_1.index t = ![1, t.val, 0]
    ∧ win0_2.index t = ![1, t.val, 0] ∧ win0_3.index t = ![t.val / 1, t.val % 1, 0] ∧ win0_4.index t = ![1, t.val, 0]
    ∧ win0_5.index t = ![1, t.val, 0]
    ∧ win0_6.index t = ![1, t.val, 0] ∧ win0_7.index t = ![1, t.val, 0] ∧ t.val < 2 :=
  (by decide +kernel : ∀ t : Fin grid0.N, _)

theorem idx1 : ∀ t : Fin cfg1.N, win1_0.index t = ![0, t.val, 0] ∧ win1_1.index t = ![0, t.val, 0]
    ∧ win1_2.index t = ![0, t.val, 0] ∧ win1_3.index t = ![t.val / 1, t.val % 1, 0] ∧ win1_4.index t = ![0, t.val, 0]
    ∧ win1_5.index t = ![0, t.val, 0]
    ∧ win1_6.index t = ![0, t.val, 0] ∧ win1_7.index t = ![0, t.val, 0] ∧ t.val < 2 :=
  (by decide +kernel : ∀ t : Fin grid1.N, _)

/-- Row `p` of the `t`th block of rows. -/
def row (t : ℕ) (ht : t < 2) (p : Fin 256) : Fin 512 := ⟨t * 256 + p, by omega⟩

theorem lt0 (t : Fin cfg0.N) : t.val < 2 := (idx0 t).2.2.2.2.2.2.2.2
theorem lt1 (t : Fin cfg1.N) : t.val < 2 := (idx1 t).2.2.2.2.2.2.2.2

/-! ## The blocks -/

theorem blk0_W (c : Dev nD) (t : Fin cfg0.N) (p : Fin 256) (n : Fin 1024) :
    (iblk0 (V0 m ρ) c 0 t : FVec Ideal S1x256x1024 .f32) (ix3 0 p n) = aW m c (ix3 1 (row t (lt0 t) p) n) := by
  blk_ext [iblk0, idx0 t, row]

theorem blk0_M (c : Dev nD) (t : Fin cfg0.N) (p : Fin 256) (n : Fin 1024) :
    (iblk0 (V0 m ρ) c 1 t : FVec Ideal S1x256x1024 .f32) (ix3 0 p n) = aM m c (ix3 1 (row t (lt0 t) p) n) := by
  blk_ext [iblk0, idx0 t, row]

theorem blk0_V (c : Dev nD) (t : Fin cfg0.N) (p : Fin 256) (n : Fin 1024) :
    (iblk0 (V0 m ρ) c 2 t : FVec Ideal S1x256x1024 .f32) (ix3 0 p n) = aV m c (ix3 1 (row t (lt0 t) p) n) := by
  blk_ext [iblk0, idx0 t, row]

theorem blk0_G (c : Dev nD) (t : Fin cfg0.N) (p : Fin 256) (n : Fin 1024) :
    (iblk0 (V0 m ρ) c 3 t : FVec Ideal S1x256x1024 .f32) (ix3 0 p n) = aG m c (ix3 1 (row t (lt0 t) p) n) := by
  have ht := lt0 t
  refine Eq.trans (b := aG1 m c (ix3 ⟨t.val / 1, by omega⟩ ⟨t.val % 1 * 256 + p, by omega⟩ n)) ?_ ?_
  · blk_ext [iblk0, idx0 t]
  · have h1 : (⟨t.val / 1, by omega⟩ : Fin 2) = ⟨(row t ht p : ℕ) / 256, by have := (row t ht p).isLt; omega⟩ :=
      Fin.ext (show t.val / 1 = (t.val * 256 + p) / 256 by omega)
    have h2 : (⟨t.val % 1 * 256 + p, by omega⟩ : Fin 256) = ⟨(row t ht p : ℕ) % 256, by omega⟩ :=
      Fin.ext (show t.val % 1 * 256 + p = (t.val * 256 + p) % 256 by omega)
    rw [h1, h2]; rfl

theorem emb0_4 (t : Fin cfg0.N) (p : Fin 256) (n : Fin 1024) :
    (((cfg0.win 4).blk t).view.emb (ix3 0 p n) : S2x512x1024.Idx) = ix3 1 (row t (lt0 t) p) n := by
  blk_ext [idx0 t, row]

theorem emb0_5 (t : Fin cfg0.N) (p : Fin 256) (n : Fin 1024) :
    (((cfg0.win 5).blk t).view.emb (ix3 0 p n) : S2x512x1024.Idx) = ix3 1 (row t (lt0 t) p) n := by
  blk_ext [idx0 t, row]

theorem emb0_6 (t : Fin cfg0.N) (p : Fin 256) (n : Fin 1024) :
    (((cfg0.win 6).blk t).view.emb (ix3 0 p n) : S2x512x1024.Idx) = ix3 1 (row t (lt0 t) p) n := by
  blk_ext [idx0 t, row]

theorem emb0_7 (t : Fin cfg0.N) (p : Fin 256) (n : Fin 1024) :
    (((cfg0.win 7).blk t).view.emb (ix3 0 p n) : S2x512x1024.Idx) = ix3 1 (row t (lt0 t) p) n := by
  blk_ext [idx0 t, row]

theorem blk1_W (c : Dev nD) (t : Fin cfg1.N) (p : Fin 256) (n : Fin 1024) :
    (iblk1 (V2 m ρ) c 0 t : FVec Ideal S1x256x1024 .f32) (ix3 0 p n) = aW m c (ix3 0 (row t (lt1 t) p) n) := by
  refine Eq.trans ?_ (congrFun (W2_args m ρ c main_arg0 (by decide)) (ix3 0 (row t (lt1 t) p) n))
  blk_ext [iblk1, idx1 t, row]

theorem blk1_M (c : Dev nD) (t : Fin cfg1.N) (p : Fin 256) (n : Fin 1024) :
    (iblk1 (V2 m ρ) c 1 t : FVec Ideal S1x256x1024 .f32) (ix3 0 p n) = aM m c (ix3 0 (row t (lt1 t) p) n) := by
  refine Eq.trans ?_ (congrFun (W2_args m ρ c main_arg1 (by decide)) (ix3 0 (row t (lt1 t) p) n))
  blk_ext [iblk1, idx1 t, row]

theorem blk1_V (c : Dev nD) (t : Fin cfg1.N) (p : Fin 256) (n : Fin 1024) :
    (iblk1 (V2 m ρ) c 2 t : FVec Ideal S1x256x1024 .f32) (ix3 0 p n) = aV m c (ix3 0 (row t (lt1 t) p) n) := by
  refine Eq.trans ?_ (congrFun (W2_args m ρ c main_arg2 (by decide)) (ix3 0 (row t (lt1 t) p) n))
  blk_ext [iblk1, idx1 t, row]

theorem blk1_G (c : Dev nD) (t : Fin cfg1.N) (p : Fin 256) (n : Fin 1024) :
    (iblk1 (V2 m ρ) c 3 t : FVec Ideal S1x256x1024 .f32) (ix3 0 p n) = aG m c (ix3 0 (row t (lt1 t) p) n) := by
  have ht := lt1 t
  refine Eq.trans (b := aG0 m c (ix3 ⟨t.val / 1, by omega⟩ ⟨t.val % 1 * 256 + p, by omega⟩ n)) ?_ ?_
  · refine Eq.trans ?_ (congrFun (W2_args m ρ c main_arg3 (by decide)) _)
    blk_ext [iblk1, idx1 t]
  · have h1 : (⟨t.val / 1, by omega⟩ : Fin 2) = ⟨(row t ht p : ℕ) / 256, by have := (row t ht p).isLt; omega⟩ :=
      Fin.ext (show t.val / 1 = (t.val * 256 + p) / 256 by omega)
    have h2 : (⟨t.val % 1 * 256 + p, by omega⟩ : Fin 256) = ⟨(row t ht p : ℕ) % 256, by omega⟩ :=
      Fin.ext (show t.val % 1 * 256 + p = (t.val * 256 + p) % 256 by omega)
    rw [h1, h2]; rfl

theorem emb1_4 (t : Fin cfg1.N) (p : Fin 256) (n : Fin 1024) :
    (((cfg1.win 4).blk t).view.emb (ix3 0 p n) : S2x512x1024.Idx) = ix3 0 (row t (lt1 t) p) n := by
  blk_ext [idx1 t, row]

theorem emb1_5 (t : Fin cfg1.N) (p : Fin 256) (n : Fin 1024) :
    (((cfg1.win 5).blk t).view.emb (ix3 0 p n) : S2x512x1024.Idx) = ix3 0 (row t (lt1 t) p) n := by
  blk_ext [idx1 t, row]

theorem emb1_6 (t : Fin cfg1.N) (p : Fin 256) (n : Fin 1024) :
    (((cfg1.win 6).blk t).view.emb (ix3 0 p n) : S2x512x1024.Idx) = ix3 0 (row t (lt1 t) p) n := by
  blk_ext [idx1 t, row]

theorem emb1_7 (t : Fin cfg1.N) (p : Fin 256) (n : Fin 1024) :
    (((cfg1.win 7).blk t).view.emb (ix3 0 p n) : S2x512x1024.Idx) = ix3 0 (row t (lt1 t) p) n := by
  blk_ext [idx1 t, row]

/-! ## What the body computes of its blocks -/

theorem pay0_4 (g : FVec Ideal S1x256x1024 .f32) (p : Fin 256) (n : Fin 1024) : k0_pay5 g (ix3 0 p n) = g (ix3 0 p n) := by
  pointwise [k0_pay5, k0_pay4]

theorem pay0_5 (w g v u : FVec Ideal S1x256x1024 .f32) (p : Fin 256) (n : Fin 1024) :
    k0_pay1 (k0_pay8 g w v u) (Scalar.ofBits (F := Ideal) .f32 0xBA83126F#32) (ix3 0 p n) = Adam.change w g v u (ix3 0 p n) := by
  pointwise [k0_pay1, k0_pay8, k0_pay6, k0_pay7, k0_pay4, Adam.change, Adam.first, Adam.second]

theorem pay0_6 (g v : FVec Ideal S1x256x1024 .f32) (p : Fin 256) (n : Fin 1024) :
    k0_pay2 (k0_pay6 g v) (ix3 0 p n) = Adam.first g v (ix3 0 p n) := by
  pointwise [k0_pay2, k0_pay6, k0_pay4, Adam.first]

theorem pay0_7 (g u : FVec Ideal S1x256x1024 .f32) (p : Fin 256) (n : Fin 1024) :
    k0_pay3 (k0_pay7 g u) (ix3 0 p n) = Adam.second g u (ix3 0 p n) := by
  pointwise [k0_pay3, k0_pay7, k0_pay4, Adam.second]

theorem pay1_4 (g : FVec Ideal S1x256x1024 .f32) (p : Fin 256) (n : Fin 1024) : k1_pay5 g (ix3 0 p n) = g (ix3 0 p n) := by
  pointwise [k1_pay5, k1_pay4]

theorem pay1_5 (w g v u : FVec Ideal S1x256x1024 .f32) (p : Fin 256) (n : Fin 1024) :
    k1_pay1 (k1_pay8 g w v u) (Scalar.ofBits (F := Ideal) .f32 0xBA83126F#32) (ix3 0 p n) = Adam.change w g v u (ix3 0 p n) := by
  pointwise [k1_pay1, k1_pay8, k1_pay6, k1_pay7, k1_pay4, Adam.change, Adam.first, Adam.second]

theorem pay1_6 (g v : FVec Ideal S1x256x1024 .f32) (p : Fin 256) (n : Fin 1024) :
    k1_pay2 (k1_pay6 g v) (ix3 0 p n) = Adam.first g v (ix3 0 p n) := by
  pointwise [k1_pay2, k1_pay6, k1_pay4, Adam.first]

theorem pay1_7 (g u : FVec Ideal S1x256x1024 .f32) (p : Fin 256) (n : Fin 1024) :
    k1_pay3 (k1_pay7 g u) (ix3 0 p n) = Adam.second g u (ix3 0 p n) := by
  pointwise [k1_pay3, k1_pay7, k1_pay4, Adam.second]

theorem hz3 : (![0, 0, 0] : Fin 3 → ℕ) = 0 := by funext a; fin_cases a <;> rfl

theorem outs_4 (V : (c : Dev nD) → (b : Ref sig .tc) → Buf (Elt Ideal) ((c : Thread nD τ).loc b)) (c : Dev nD) (t : Fin cfg1.N) :
    (outsAt1 V c t).1 = k1_pay5 (iblk1 V c 3 t) := by
  unfold outsAt1
  dsimp only
  unfold out1_A_4
  rw [View.read_writes_eq_canon _ _ _ (cover1_A_4 _ _ _ _ _ _ _ _ _ _ _ _ _ _ _ _ _ _ _ _ _ _)]
  unfold kernelRun1_A
  dsimp only
  try sl_unfold_words
  rw [View.canon_unit_zero hz3]
  simp only [View.readAt_eq_ld, (hs1_0 t).read_unread, (hs1_1 t).read_unread, (hs1_2 t).read_unread, (hs1_3 t).read_unread,
    View.ld_unit_zero (S := S1x256x1024) hz3, shapeCast_self]

theorem outs_5 (V : (c : Dev nD) → (b : Ref sig .tc) → Buf (Elt Ideal) ((c : Thread nD τ).loc b)) (c : Dev nD) (t : Fin cfg1.N) :
    (outsAt1 V c t).2.1 = k1_pay1 (k1_pay8 (iblk1 V c 3 t) (iblk1 V c 0 t) (iblk1 V c 1 t) (iblk1 V c 2 t)) (Scalar.ofBits (F := Ideal) .f32 0xBA83126F#32) := by
  unfold outsAt1
  dsimp only
  unfold out1_A_5
  rw [View.read_writes_eq_canon _ _ _ (cover1_A_5 _ _ _ _ _ _ _ _ _ _ _ _ _ _ _ _ _ _ _ _ _ _)]
  unfold kernelRun1_A
  dsimp only
  try sl_unfold_words
  rw [View.canon_unit_zero hz3]
  simp only [View.readAt_eq_ld, (hs1_0 t).read_unread, (hs1_1 t).read_unread, (hs1_2 t).read_unread, (hs1_3 t).read_unread,
    View.ld_unit_zero (S := S1x256x1024) hz3, shapeCast_self]

theorem outs_6 (V : (c : Dev nD) → (b : Ref sig .tc) → Buf (Elt Ideal) ((c : Thread nD τ).loc b)) (c : Dev nD) (t : Fin cfg1.N) :
    (outsAt1 V c t).2.2.1 = k1_pay2 (k1_pay6 (iblk1 V c 3 t) (iblk1 V c 1 t)) := by
  unfold outsAt1
  dsimp only
  unfold out1_A_6
  rw [View.read_writes_eq_canon _ _ _ (cover1_A_6 _ _ _ _ _ _ _ _ _ _ _ _ _ _ _ _ _ _ _ _ _ _)]
  unfold kernelRun1_A
  dsimp only
  try sl_unfold_words
  rw [View.canon_unit_zero hz3]
  simp only [View.readAt_eq_ld, (hs1_0 t).read_unread, (hs1_1 t).read_unread, (hs1_2 t).read_unread, (hs1_3 t).read_unread,
    View.ld_unit_zero (S := S1x256x1024) hz3, shapeCast_self]

theorem outs_7 (V : (c : Dev nD) → (b : Ref sig .tc) → Buf (Elt Ideal) ((c : Thread nD τ).loc b)) (c : Dev nD) (t : Fin cfg1.N) :
    (outsAt1 V c t).2.2.2 = k1_pay3 (k1_pay7 (iblk1 V c 3 t) (iblk1 V c 2 t)) := by
  unfold outsAt1
  dsimp only
  unfold out1_A_7
  rw [View.read_writes_eq_canon _ _ _ (cover1_A_7 _ _ _ _ _ _ _ _ _ _ _ _ _ _ _ _ _ _ _ _ _ _)]
  unfold kernelRun1_A
  dsimp only
  try sl_unfold_words
  rw [View.canon_unit_zero hz3]
  simp only [View.readAt_eq_ld, (hs1_0 t).read_unread, (hs1_1 t).read_unread, (hs1_2 t).read_unread, (hs1_3 t).read_unread,
    View.ld_unit_zero (S := S1x256x1024) hz3, shapeCast_self]

/-! ## The arrays -/

theorem first_4 (c : Dev nD) : (dat0 (V0 m ρ) c).arrAt 4 cfg0.N = fun i : S2x512x1024.Idx =>
    if 1 ≤ (i 0 : ℕ) then aG m c i else (dat0 (V0 m ρ) c).A 4 i := by
  refine (dat0 (V0 m ρ) c).arrAt_eq_of_coversWhere 4 (aG m c) (fun β => 1 ≤ β (0 : Fin 3)) (by decide +kernel)
    (fun t hf y => ?_) (fun j => ?_)
  · blk_simp
    rw [after0_4]
    idx_vars y
    obtain rfl : y0 = 0 := Subsingleton.elim _ _
    refine Eq.trans ?_ (congrArg (aG m c) (emb0_4 t y1 y2)).symm
    frame_out
    rw [pay0_4]
    exact blk0_G m ρ c t y1 y2
  · exact show 1 ≤ (j 0 : ℕ) ↔ 1 ≤ (j 0 : ℕ) / 1 by rw [Nat.div_one]

theorem carried_4 (c : Dev nD) : (dat1 (V2 m ρ) c).A 4 = (dat0 (V0 m ρ) c).arrAt 4 cfg0.N := by
  rw [A_eq1]
  refine Eq.trans ?_ (W1_arr m ρ c 4)
  show StableHlo.after hostOps1 (W1 m ρ c) (Proc.devRef .tc main_v1_0) = W1 m ρ c (Proc.devRef .tc main_v0_0)
  entry_read; rfl

theorem final_4 (c : Dev nD) : W3 m ρ c (Proc.devRef .tc main_v1_0) = aG m c := by
  refine (W3_arr m ρ c 4).trans ?_
  refine (dat1 (V2 m ρ) c).arrAt_eq_of_coversWhere_of_agree 4 _ (fun β => β (0 : Fin 3) < 1) (by decide +kernel)
    (fun t hf y => ?_) (fun j hj => ?_)
  · blk_simp
    rw [after1_4, outs_4]
    idx_vars y
    obtain rfl : y0 = 0 := Subsingleton.elim _ _
    refine Eq.trans ?_ (congrArg (aG m c) (emb1_4 t y1 y2)).symm
    refine (pay1_4 _ y1 y2).trans ?_
    exact blk1_G m ρ c t y1 y2
  · rw [carried_4, first_4]
    have h1 : 1 ≤ (j 0 : ℕ) := by
      have : ¬ (j 0 : ℕ) / 1 < 1 := hj
      omega
    exact if_pos h1

theorem first_5 (c : Dev nD) : (dat0 (V0 m ρ) c).arrAt 5 cfg0.N = fun i : S2x512x1024.Idx =>
    if 1 ≤ (i 0 : ℕ) then Adam.change (aW m c) (aG m c) (aM m c) (aV m c) i else (dat0 (V0 m ρ) c).A 5 i := by
  refine (dat0 (V0 m ρ) c).arrAt_eq_of_coversWhere 5 (Adam.change (aW m c) (aG m c) (aM m c) (aV m c)) (fun β => 1 ≤ β (0 : Fin 3)) (by decide +kernel)
    (fun t hf y => ?_) (fun j => ?_)
  · blk_simp
    rw [after0_5]
    idx_vars y
    obtain rfl : y0 = 0 := Subsingleton.elim _ _
    refine Eq.trans ?_ (congrArg (Adam.change (aW m c) (aG m c) (aM m c) (aV m c)) (emb0_5 t y1 y2)).symm
    frame_out
    rw [pay0_5]
    exact Adam.change_congr (blk0_W m ρ c t y1 y2) (blk0_G m ρ c t y1 y2) (blk0_M m ρ c t y1 y2) (blk0_V m ρ c t y1 y2)
  · exact show 1 ≤ (j 0 : ℕ) ↔ 1 ≤ (j 0 : ℕ) / 1 by rw [Nat.div_one]

theorem carried_5 (c : Dev nD) : (dat1 (V2 m ρ) c).A 5 = (dat0 (V0 m ρ) c).arrAt 5 cfg0.N := by
  rw [A_eq1]
  refine Eq.trans ?_ (W1_arr m ρ c 5)
  show StableHlo.after hostOps1 (W1 m ρ c) (Proc.devRef .tc main_v1_1) = W1 m ρ c (Proc.devRef .tc main_v0_1)
  entry_read; rfl

theorem final_5 (c : Dev nD) : W3 m ρ c (Proc.devRef .tc main_v1_1) = Adam.change (aW m c) (aG m c) (aM m c) (aV m c) := by
  refine (W3_arr m ρ c 5).trans ?_
  refine (dat1 (V2 m ρ) c).arrAt_eq_of_coversWhere_of_agree 5 _ (fun β => β (0 : Fin 3) < 1) (by decide +kernel)
    (fun t hf y => ?_) (fun j hj => ?_)
  · blk_simp
    rw [after1_5, outs_5]
    idx_vars y
    obtain rfl : y0 = 0 := Subsingleton.elim _ _
    refine Eq.trans ?_ (congrArg (Adam.change (aW m c) (aG m c) (aM m c) (aV m c)) (emb1_5 t y1 y2)).symm
    refine (pay1_5 _ _ _ _ y1 y2).trans ?_
    exact Adam.change_congr (blk1_W m ρ c t y1 y2) (blk1_G m ρ c t y1 y2) (blk1_M m ρ c t y1 y2) (blk1_V m ρ c t y1 y2)
  · rw [carried_5, first_5]
    have h1 : 1 ≤ (j 0 : ℕ) := by
      have : ¬ (j 0 : ℕ) / 1 < 1 := hj
      omega
    exact if_pos h1

theorem first_6 (c : Dev nD) : (dat0 (V0 m ρ) c).arrAt 6 cfg0.N = fun i : S2x512x1024.Idx =>
    if 1 ≤ (i 0 : ℕ) then Adam.first (aG m c) (aM m c) i else (dat0 (V0 m ρ) c).A 6 i := by
  refine (dat0 (V0 m ρ) c).arrAt_eq_of_coversWhere 6 (Adam.first (aG m c) (aM m c)) (fun β => 1 ≤ β (0 : Fin 3)) (by decide +kernel)
    (fun t hf y => ?_) (fun j => ?_)
  · blk_simp
    rw [after0_6]
    idx_vars y
    obtain rfl : y0 = 0 := Subsingleton.elim _ _
    refine Eq.trans ?_ (congrArg (Adam.first (aG m c) (aM m c)) (emb0_6 t y1 y2)).symm
    frame_out
    rw [pay0_6]
    exact Adam.first_congr (blk0_G m ρ c t y1 y2) (blk0_M m ρ c t y1 y2)
  · exact show 1 ≤ (j 0 : ℕ) ↔ 1 ≤ (j 0 : ℕ) / 1 by rw [Nat.div_one]

theorem carried_6 (c : Dev nD) : (dat1 (V2 m ρ) c).A 6 = (dat0 (V0 m ρ) c).arrAt 6 cfg0.N := by
  rw [A_eq1]
  refine Eq.trans ?_ (W1_arr m ρ c 6)
  show StableHlo.after hostOps1 (W1 m ρ c) (Proc.devRef .tc main_v1_2) = W1 m ρ c (Proc.devRef .tc main_v0_2)
  entry_read; rfl

theorem final_6 (c : Dev nD) : W3 m ρ c (Proc.devRef .tc main_v1_2) = Adam.first (aG m c) (aM m c) := by
  refine (W3_arr m ρ c 6).trans ?_
  refine (dat1 (V2 m ρ) c).arrAt_eq_of_coversWhere_of_agree 6 _ (fun β => β (0 : Fin 3) < 1) (by decide +kernel)
    (fun t hf y => ?_) (fun j hj => ?_)
  · blk_simp
    rw [after1_6, outs_6]
    idx_vars y
    obtain rfl : y0 = 0 := Subsingleton.elim _ _
    refine Eq.trans ?_ (congrArg (Adam.first (aG m c) (aM m c)) (emb1_6 t y1 y2)).symm
    refine (pay1_6 _ _ y1 y2).trans ?_
    exact Adam.first_congr (blk1_G m ρ c t y1 y2) (blk1_M m ρ c t y1 y2)
  · rw [carried_6, first_6]
    have h1 : 1 ≤ (j 0 : ℕ) := by
      have : ¬ (j 0 : ℕ) / 1 < 1 := hj
      omega
    exact if_pos h1

theorem first_7 (c : Dev nD) : (dat0 (V0 m ρ) c).arrAt 7 cfg0.N = fun i : S2x512x1024.Idx =>
    if 1 ≤ (i 0 : ℕ) then Adam.second (aG m c) (aV m c) i else (dat0 (V0 m ρ) c).A 7 i := by
  refine (dat0 (V0 m ρ) c).arrAt_eq_of_coversWhere 7 (Adam.second (aG m c) (aV m c)) (fun β => 1 ≤ β (0 : Fin 3)) (by decide +kernel)
    (fun t hf y => ?_) (fun j => ?_)
  · blk_simp
    rw [after0_7]
    idx_vars y
    obtain rfl : y0 = 0 := Subsingleton.elim _ _
    refine Eq.trans ?_ (congrArg (Adam.second (aG m c) (aV m c)) (emb0_7 t y1 y2)).symm
    frame_out
    rw [pay0_7]
    exact Adam.second_congr (blk0_G m ρ c t y1 y2) (blk0_V m ρ c t y1 y2)
  · exact show 1 ≤ (j 0 : ℕ) ↔ 1 ≤ (j 0 : ℕ) / 1 by rw [Nat.div_one]

theorem carried_7 (c : Dev nD) : (dat1 (V2 m ρ) c).A 7 = (dat0 (V0 m ρ) c).arrAt 7 cfg0.N := by
  rw [A_eq1]
  refine Eq.trans ?_ (W1_arr m ρ c 7)
  show StableHlo.after hostOps1 (W1 m ρ c) (Proc.devRef .tc main_v1_3) = W1 m ρ c (Proc.devRef .tc main_v0_3)
  entry_read; rfl

theorem final_7 (c : Dev nD) : W3 m ρ c (Proc.devRef .tc main_v1_3) = Adam.second (aG m c) (aV m c) := by
  refine (W3_arr m ρ c 7).trans ?_
  refine (dat1 (V2 m ρ) c).arrAt_eq_of_coversWhere_of_agree 7 _ (fun β => β (0 : Fin 3) < 1) (by decide +kernel)
    (fun t hf y => ?_) (fun j hj => ?_)
  · blk_simp
    rw [after1_7, outs_7]
    idx_vars y
    obtain rfl : y0 = 0 := Subsingleton.elim _ _
    refine Eq.trans ?_ (congrArg (Adam.second (aG m c) (aV m c)) (emb1_7 t y1 y2)).symm
    refine (pay1_7 _ _ y1 y2).trans ?_
    exact Adam.second_congr (blk1_G m ρ c t y1 y2) (blk1_V m ρ c t y1 y2)
  · rw [carried_7, first_7]
    have h1 : 1 ≤ (j 0 : ℕ) := by
      have : ¬ (j 0 : ℕ) / 1 < 1 := hj
      omega
    exact if_pos h1

end Cert.OutUpdateIdeal.Value

namespace Cert.OutUpdate

open Idealize.ShloMosaic Idealize.ShloMosaic.TcCoe Idealize.SL.Sem
open Cert.OutUpdateIdeal Cert.OutUpdateIdeal.Value Cert.OutUpdateIdeal.Gen

theorem refFrame : Cert.quiescent_OutUpdateRefIdeal := fun m ρ _ =>
  (θ_run _ _ _).mono (fun r h => ⟨fun c => (h c).2.2.2.2, sem_eq_zero_of_no_sems rfl r.2⟩) (Cert.OutUpdateRefIdeal.Value.run m ρ)

/-- The reference's stack of the two gradients. -/
theorem stacked (g0 g1 : FVec Ideal Cert.OutUpdateRefIdeal.S2x256x1024 .f32) :
    concatenate Cert.OutUpdateRefIdeal.S2x512x1024 0
      [⟨Cert.OutUpdateRefIdeal.S1x512x1024, broadcastInDim Cert.OutUpdateRefIdeal.S1x512x1024 ![1, 2] Cert.OutUpdateRefIdeal.Gen.bcast_S512x1024_S1x512x1024_1_2
        (shapeCast Cert.OutUpdateRefIdeal.S512x1024 g0 Cert.OutUpdateRefIdeal.Gen.shapeCasts_S2x256x1024_S512x1024)⟩,
       ⟨Cert.OutUpdateRefIdeal.S1x512x1024, broadcastInDim Cert.OutUpdateRefIdeal.S1x512x1024 ![1, 2] Cert.OutUpdateRefIdeal.Gen.bcast_S512x1024_S1x512x1024_1_2
        (shapeCast Cert.OutUpdateRefIdeal.S512x1024 g1 Cert.OutUpdateRefIdeal.Gen.shapeCasts_S2x256x1024_S512x1024)⟩]
      Cert.OutUpdateRefIdeal.Gen.concatenates_S1x512x1024_S1x512x1024_S2x512x1024_d0 = stack g0 g1 := by
  funext y
  idx_vars y
  fin_cases y0 <;> pointwise [stack]

theorem algebraic : Cert.algebraic_OutUpdateIdeal_OutUpdateRefIdeal := by
  intro m g m' g' _ hag
  refine ⟨fun c => aG m c, fun c => Adam.change (aW m c) (aG m c) (aM m c) (aV m c), fun c => Adam.first (aG m c) (aM m c),
    fun c => Adam.second (aG m c) (aV m c), ?_, ?_⟩
  · exact (θ_run _ _ _).mono (fun r h c => ⟨(h c _ (mem_uc main_v1_0 (by decide))).trans (final_4 m g c), (h c _ (mem_uc main_v1_1 (by decide))).trans (final_5 m g c),
      (h c _ (mem_uc main_v1_2 (by decide))).trans (final_6 m g c), (h c _ (mem_uc main_v1_3 (by decide))).trans (final_7 m g c),
      (h c _ (mem_uc main_arg0 (by decide))).trans (W3_main_arg0 m g c),
      (h c _ (mem_uc main_arg1 (by decide))).trans (W3_main_arg1 m g c),
      (h c _ (mem_uc main_arg2 (by decide))).trans (W3_main_arg2 m g c),
      (h c _ (mem_uc main_arg3 (by decide))).trans (W3_main_arg3 m g c),
      (h c _ (mem_uc main_arg4 (by decide))).trans (W3_main_arg4 m g c)⟩) (run_mem m g)
  · refine (θ_run _ _ _).mono (fun r h c => ?_) (Cert.OutUpdateRefIdeal.Value.run m' g')
    obtain ⟨h0, h1, h2, h3, h4⟩ := hag c
    have hs := stacked (aG0 m c) (aG1 m c)
    refine ⟨(h c).1.trans ?_, (h c).2.1.trans ?_, (h c).2.2.1.trans ?_, (h c).2.2.2.1.trans ?_, (h c).2.2.2.2⟩
    · rw [h3, h4, hs]
    · rw [h0, h1, h2, h3, h4, hs]; rfl
    · rw [h1, h3, h4, hs]; rfl
    · rw [h2, h3, h4, hs]; rfl

end Cert.OutUpdate
end
-- ==== Proof.OutWeightGrad.lean ====
module

public import proofs.«01_k».proof.Defs
public import proofs.«01_k».proof.Proof.Gen.OutWeightGradIdeal.Value
public import proofs.«01_k».proof.Proof.Gen.OutWeightGradRefIdeal.Run
public import Idealize.ShloMosaic.Lib.Pointwise
public import Idealize.ShloMosaic.Lib.Pipeline.ValueKit
public import Idealize.ShloMosaic.Lib.Claim

/-! The gradient of the output projection's weights: the transposed rows times the incoming gradient, summed over blocks of
1024 rows. -/

@[expose] public section

set_option maxRecDepth 16384

noncomputable section

namespace Cert.OutWeightGradIdeal.Value

open Cert.OutWeightGradIdeal Cert.OutWeightGradIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0]
    ∧ win0_2.index t = ![0, 0] ∧ t.val < 8 :=
  (by decide +kernel : ∀ t : Fin grid0.N, _)

theorem lt8 (t : Fin cfg0.N) : t.val < 8 := (idx t).2.2.2

abbrev aY (c : Dev nD) : FVec Ideal S8192x2048 .bf16 := m ((c.tc : Thread nD τ).loc main_arg0)
abbrev aD (c : Dev nD) : FVec Ideal S8192x1024 .bf16 := m ((c.tc : Thread nD τ).loc main_arg1)

/-- Row `k` of point `t`'s block of rows. -/
def row (t : Fin cfg0.N) (k : Fin 1024) : Fin 8192 := ⟨t.val * 1024 + k, by have := lt8 t; omega⟩

theorem blk0 (c : Dev nD) (t : Fin cfg0.N) (k : Fin 1024) (i : Fin 2048) :
    (iblk m c 0 t : FVec Ideal S1024x2048 .bf16) (ix2 k i) = aY m c (ix2 (row t k) i) := by
  blk_ext [iblk, V, idx t, row]

theorem blk1 (c : Dev nD) (t : Fin cfg0.N) (k n : Fin 1024) :
    (iblk m c 1 t : FVec Ideal S1024x1024 .bf16) (ix2 k n) = aD m c (ix2 (row t k) n) := by
  blk_ext [iblk, V, idx t, row]

theorem pay1_at (i : Fin 2048) (n : Fin 1024) : k0_pay1 (F := Ideal) (ix2 i n) = 0 := by pointwise [k0_pay1]

theorem pay2_at (acc : FVec Ideal S2048x1024 .f32) (y : FVec Ideal S1024x2048 .bf16) (d : FVec Ideal S1024x1024 .bf16)
    (i : Fin 2048) (n : Fin 1024) :
    k0_pay2 (F := Ideal) acc y d (ix2 i n) = acc (ix2 i n) + ∑ k : Fin 1024, y (ix2 k i) * d (ix2 k n) := by
  pointwise [k0_pay2]

/-- The product, over the arguments. -/
def prod (y : FVec Ideal S8192x2048 .bf16) (d : FVec Ideal S8192x1024 .bf16) : FVec Ideal S2048x1024 .f32 :=
  fun i => ∑ k : Fin 8192, y (ix2 k (i 0)) * d (ix2 k (i 1))

theorem emb (t : Fin cfg0.N) (i : Fin 2048) (n : Fin 1024) :
    (((cfg0.win 2).blk t).view.emb (ix2 i n) : S2048x1024.Idx) = ix2 i n := by
  blk_ext [idx t]

theorem final (c : Dev nD) : (dats m 0 c).arrAt 2 (cfgs 0).N = prod (aY m c) (aD m c) := by
  refine (dats m 0 c).arrAt_eq_of_covers 2 _ (by decide +kernel) fun t hf y => ?_
  blk_simp
  rw [after0_2]
  idx_vars y
  refine Eq.trans ?_ (congrArg (prod (aY m c) (aD m c)) (emb t y0 y1)).symm
  rw [Pipeline.eq_sum_fin_of_reset_step_apply_of_flush (fun n h => outsAt0 m c n h) 8 (fun _ => 0)
    (fun t y => ∑ k : Fin 1024, aY m c (ix2 (row t k) (y 0)) * aD m c (ix2 (row t k) (y 1)))
    (fun t h j => ?_) (fun t h j => ?_) t ((flush0_2 t).mp hf) _, zero_add]
  · refine Fin.sum_mul_add_congr fun s k hl => ?_
    have e : row ⟨8 * (t.val / 8) + s.val, Pipeline.run_point_lt_of_flush t ((flush0_2 t).mp hf) s⟩ k = ⟨s * 1024 + k, hl⟩ := by
      apply Fin.ext; show (8 * (t.val / 8) + s.val) * 1024 + k.val = s.val * 1024 + k.val; have := lt8 t; omega
    rw [e]
  · idx_vars j
    rw [outsAt0_A m c t h]
    frame_out
    rw [pay2_at, pay1_at]
    refine congrArg (0 + ·) (Fin.sum_fin_congr fun k => ?_)
    rw [blk0, blk1]
  · idx_vars j
    rw [outsAt0_B m c t h]
    frame_out
    rw [pay2_at]
    refine congrArg (_ + ·) (Fin.sum_fin_congr fun k => ?_)
    rw [blk0, blk1]

end Cert.OutWeightGradIdeal.Value

namespace Cert.OutWeightGrad.Value

open Idealize.ShloMosaic Idealize.ShloMosaic.TcCoe Idealize.SL.Sem

theorem refFrame : Cert.quiescent_OutWeightGradRefIdeal := fun m ρ _ =>
  (θ_run _ _ _).mono (fun r h => ⟨fun c => (h c).2, sem_eq_zero_of_no_sems rfl r.2⟩) (Cert.OutWeightGradRefIdeal.Value.run m ρ)

theorem algebraic : Cert.algebraic_OutWeightGradIdeal_OutWeightGradRefIdeal := by
  intro m g m' g' _ hag
  refine ⟨fun c => Cert.OutWeightGradIdeal.Value.prod (Cert.OutWeightGradIdeal.Value.aY m c) (Cert.OutWeightGradIdeal.Value.aD m c), ?_, ?_⟩
  · exact (θ_run _ _ _).mono (fun r h c => ⟨(h c).1.trans (Cert.OutWeightGradIdeal.Value.final m c), (h c).2⟩)
      (Cert.OutWeightGradIdeal.Value.run_blocks m g)
  · refine (θ_run _ _ _).mono (fun r h c => ⟨(h c).1.trans (funext fun y => ?_), (h c).2⟩) (Cert.OutWeightGradRefIdeal.Value.run m' g')
    obtain ⟨h0, h1⟩ := hag c
    rw [h0, h1]
    idx_vars y
    refine Eq.trans (b := ∑ k : Fin 8192, Cert.OutWeightGradIdeal.Value.aD m c (ix2 k y1) * Cert.OutWeightGradIdeal.Value.aY m c (ix2 k y0))
      (by pointwise) (Fin.sum_fin_congr fun k => mul_comm _ _)

end Cert.OutWeightGrad.Value
end
-- ==== Proof.PoolWeightUpdate.lean ====
module

public import proofs.«01_k».proof.Defs
public import proofs.«01_k».proof.Proof.Adam
public import proofs.«01_k».proof.Proof.Gen.PoolWeightUpdateIdeal.Value
public import proofs.«01_k».proof.Proof.Gen.PoolWeightUpdateRefIdeal.Run

@[expose] public section

set_option maxRecDepth 16384

/-! The optimiser's step for the pools' weights. -/

noncomputable section

namespace Cert.PoolWeightUpdateIdeal.Value

open Cert.PoolWeightUpdateIdeal Cert.PoolWeightUpdateIdeal.Gen Idealize.ShloMosaic Idealize.ShloMosaic.TcCoe Idealize.SL.Sem
open Idealize.ShloMosaic.Pipeline (Dat)

variable (m : (ℓ : Loc nD τ sig) → Buf (Elt Ideal) ℓ)

/-- An argument, its rows in one axis. -/
abbrev flat (a : FVec Ideal S2x4x64x256 .f32) : FVec Ideal S512x256 .f32 := shapeCast _ a shapeCasts_S2x4x64x256_S512x256

abbrev aW (c : Dev nD) := flat (m ((c.tc : Thread nD τ).loc main_arg0))
abbrev aG (c : Dev nD) := flat (m ((c.tc : Thread nD τ).loc main_arg1))
abbrev aM (c : Dev nD) := flat (m ((c.tc : Thread nD τ).loc main_arg2))
abbrev aV (c : Dev nD) := flat (m ((c.tc : Thread nD τ).loc main_arg3))

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ t.val < 2 :=
  (by decide +kernel : ∀ t : Fin grid0.N, _)

/-- Row `p` of point `t`'s block of rows. -/
def row (t : Fin cfg0.N) (p : Fin 256) : Fin 512 := ⟨t.val * 256 + p, by have := (idx t).2.2.2.2.2.2.2; omega⟩

theorem blkW (c : Dev nD) (t : Fin cfg0.N) (p : Fin 256) (k : Fin 256) :
    (iblk m c 0 t : FVec Ideal S256x256 .f32) (ix2 p k) = aW m c (ix2 (row t p) k) := by
  refine Eq.trans ?_ (congrFun (show V m c main_v0 = aW m c by entry_read; rfl) (ix2 (row t p) k))
  blk_ext [iblk, idx t, row]

theorem blkG (c : Dev nD) (t : Fin cfg0.N) (p : Fin 256) (k : Fin 256) :
    (iblk m c 1 t : FVec Ideal S256x256 .f32) (ix2 p k) = aG m c (ix2 (row t p) k) := by
  refine Eq.trans ?_ (congrFun (show V m c main_v1 = aG m c by entry_read; rfl) (ix2 (row t p) k))
  blk_ext [iblk, idx t, row]

theorem blkM (c : Dev nD) (t : Fin cfg0.N) (p : Fin 256) (k : Fin 256) :
    (iblk m c 2 t : FVec Ideal S256x256 .f32) (ix2 p k) = aM m c (ix2 (row t p) k) := by
  refine Eq.trans ?_ (congrFun (show V m c main_v2 = aM m c by entry_read; rfl) (ix2 (row t p) k))
  blk_ext [iblk, idx t, row]

theorem blkV (c : Dev nD) (t : Fin cfg0.N) (p : Fin 256) (k : Fin 256) :
    (iblk m c 3 t : FVec Ideal S256x256 .f32) (ix2 p k) = aV m c (ix2 (row t p) k) := by
  refine Eq.trans ?_ (congrFun (show V m c main_v3 = aV m c by entry_read; rfl) (ix2 (row t p) k))
  blk_ext [iblk, idx t, row]

theorem emb4 (t : Fin cfg0.N) (p : Fin 256) (k : Fin 256) :
    (((cfg0.win 4).blk t).view.emb (ix2 p k) : S512x256.Idx) = ix2 (row t p) k := by
  blk_ext [idx t, row]

theorem emb5 (t : Fin cfg0.N) (p : Fin 256) (k : Fin 256) :
    (((cfg0.win 5).blk t).view.emb (ix2 p k) : S512x256.Idx) = ix2 (row t p) k := by
  blk_ext [idx t, row]

theorem emb6 (t : Fin cfg0.N) (p : Fin 256) (k : Fin 256) :
    (((cfg0.win 6).blk t).view.emb (ix2 p k) : S512x256.Idx) = ix2 (row t p) k := by
  blk_ext [idx t, row]

theorem pay2_eq (g v : FVec Ideal S256x256 .f32) : k0_pay2 g v = Adam.first g v := by
  pointwise [k0_pay1, k0_pay2]
  rfl

theorem pay3_eq (g v : FVec Ideal S256x256 .f32) : k0_pay3 g v = Adam.second g v := by
  pointwise [k0_pay1, k0_pay3]
  rfl

theorem pay4_eq (w g v u : FVec Ideal S256x256 .f32) : k0_pay4 w g v u = Adam.change w g v u := by
  funext y
  rw [k0_pay4, pay2_eq, pay3_eq]
  idx_vars y
  pointwise [Adam.change]

theorem final4 (c : Dev nD) : (dats m 0 c).arrAt 4 (cfgs 0).N = Adam.change (aW m c) (aG m c) (aM m c) (aV m c) := by
  refine (dats m 0 c).arrAt_eq_of_covers 4 _ (by decide +kernel) fun t hf y => ?_
  blk_simp
  rw [after0_4]
  idx_vars y
  refine Eq.trans ?_ (congrArg (Adam.change (aW m c) (aG m c) (aM m c) (aV m c)) (emb4 t y0 y1)).symm
  frame_out
  rw [pay4_eq]
  exact Adam.change_congr (blkW m c t y0 y1) (blkG m c t y0 y1) (blkM m c t y0 y1) (blkV m c t y0 y1)

theorem final5 (c : Dev nD) : (dats m 0 c).arrAt 5 (cfgs 0).N = Adam.first (aG m c) (aM m c) := by
  refine (dats m 0 c).arrAt_eq_of_covers 5 _ (by decide +kernel) fun t hf y => ?_
  blk_simp
  rw [after0_5]
  idx_vars y
  refine Eq.trans ?_ (congrArg (Adam.first (aG m c) (aM m c)) (emb5 t y0 y1)).symm
  frame_out
  rw [pay2_eq]
  exact Adam.first_congr (blkG m c t y0 y1) (blkM m c t y0 y1)

theorem final6 (c : Dev nD) : (dats m 0 c).arrAt 6 (cfgs 0).N = Adam.second (aG m c) (aV m c) := by
  refine (dats m 0 c).arrAt_eq_of_covers 6 _ (by decide +kernel) fun t hf y => ?_
  blk_simp
  rw [after0_6]
  idx_vars y
  refine Eq.trans ?_ (congrArg (Adam.second (aG m c) (aV m c)) (emb6 t y0 y1)).symm
  frame_out
  rw [pay3_eq]
  exact Adam.second_congr (blkG m c t y0 y1) (blkV m c t y0 y1)

end Cert.PoolWeightUpdateIdeal.Value

namespace Cert.PoolWeightUpdate

open Idealize.ShloMosaic Idealize.ShloMosaic.TcCoe Idealize.SL.Sem

theorem refFrame : Cert.quiescent_PoolWeightUpdateRefIdeal := fun m ρ _ =>
  (θ_run _ _ _).mono (fun r h => ⟨fun c => (h c).2.2.2, sem_eq_zero_of_no_sems rfl r.2⟩) (Cert.PoolWeightUpdateRefIdeal.Value.run m ρ)

open Cert.PoolWeightUpdateIdeal.Value in
theorem algebraic : Cert.algebraic_PoolWeightUpdateIdeal_PoolWeightUpdateRefIdeal := by
  intro m g m' g' _ hag
  refine ⟨fun c => Adam.change (aW m c) (aG m c) (aM m c) (aV m c), fun c => Adam.first (aG m c) (aM m c),
    fun c => Adam.second (aG m c) (aV m c), ?_, ?_⟩
  · exact (θ_run _ _ _).mono (fun r h c => ⟨(h c).1.trans (final4 m c), (h c).2.1.trans (final5 m c),
      (h c).2.2.1.trans (final6 m c), (h c).2.2.2⟩) (Cert.PoolWeightUpdateIdeal.Value.run_blocks m g)
  · refine (θ_run _ _ _).mono (fun r h c => ?_) (Cert.PoolWeightUpdateRefIdeal.Value.run m' g')
    obtain ⟨h0, h1, h2, h3⟩ := hag c
    refine ⟨(h c).1.trans ?_, (h c).2.1.trans ?_, (h c).2.2.1.trans ?_, (h c).2.2.2⟩
    · rw [h0, h1, h2, h3]; rfl
    · rw [h1, h2]; rfl
    · rw [h1, h3]; rfl

end Cert.PoolWeightUpdate
end
-- ==== Proof.ScaleUpdate.lean ====
module

public import proofs.«01_k».proof.Defs
public import proofs.«01_k».proof.Proof.Adam
public import proofs.«01_k».proof.Proof.Gen.ScaleUpdateIdeal.Value
public import proofs.«01_k».proof.Proof.Gen.ScaleUpdateRefIdeal.Run

@[expose] public section

set_option maxRecDepth 16384

/-! The optimiser's step for the pools' scales and the short convolution's biases. -/

noncomputable section

namespace Cert.ScaleUpdate

open Idealize.ShloMosaic Idealize.ShloMosaic.TcCoe Idealize.SL.Sem

theorem refFrame : Cert.quiescent_ScaleUpdateRefIdeal := fun m ρ _ =>
  (θ_run _ _ _).mono (fun r h => ⟨fun c => (h c).2.2.2, sem_eq_zero_of_no_sems rfl r.2⟩) (Cert.ScaleUpdateRefIdeal.Value.run m ρ)

open Cert.ScaleUpdateIdeal in
theorem algebraic : Cert.algebraic_ScaleUpdateIdeal_ScaleUpdateRefIdeal := by
  intro m g m' g' _ hag
  refine ⟨fun c => Adam.change (m ((c.tc : Thread nD τ).loc main_arg0)) (m ((c.tc : Thread nD τ).loc main_arg1)) (m ((c.tc : Thread nD τ).loc main_arg2)) (m ((c.tc : Thread nD τ).loc main_arg3)), fun c => Adam.first (m ((c.tc : Thread nD τ).loc main_arg1)) (m ((c.tc : Thread nD τ).loc main_arg2)),
    fun c => Adam.second (m ((c.tc : Thread nD τ).loc main_arg1)) (m ((c.tc : Thread nD τ).loc main_arg3)), Cert.ScaleUpdateIdeal.Value.run m g, ?_⟩
  refine (θ_run _ _ _).mono (fun r h c => ?_) (Cert.ScaleUpdateRefIdeal.Value.run m' g')
  obtain ⟨h0, h1, h2, h3⟩ := hag c
  refine ⟨(h c).1.trans ?_, (h c).2.1.trans ?_, (h c).2.2.1.trans ?_, (h c).2.2.2⟩
  · rw [h0, h1, h2, h3]; rfl
  · rw [h1, h2]; rfl
  · rw [h1, h3]; rfl

end Cert.ScaleUpdate
end
-- ==== Proof.ShortConvUpdate.lean ====
module

public import proofs.«01_k».proof.Defs
public import proofs.«01_k».proof.Proof.Adam
public import proofs.«01_k».proof.Proof.Gen.ShortConvUpdateIdeal.Value
public import proofs.«01_k».proof.Proof.Gen.ShortConvUpdateRefIdeal.Run

@[expose] public section

set_option maxRecDepth 16384

/-! The optimiser's step for the short convolution's taps. -/

noncomputable section

namespace Cert.ShortConvUpdateIdeal.Value

open Cert.ShortConvUpdateIdeal Cert.ShortConvUpdateIdeal.Gen Idealize.ShloMosaic Idealize.ShloMosaic.TcCoe Idealize.SL.Sem
open Idealize.ShloMosaic.Pipeline (Dat)

variable (m : (ℓ : Loc nD τ sig) → Buf (Elt Ideal) ℓ)

/-- An argument, its rows in one axis. -/
abbrev flat (a : FVec Ideal S2x3x256 .f32) : FVec Ideal S6x256 .f32 := shapeCast _ a shapeCasts_S2x3x256_S6x256

abbrev aW (c : Dev nD) := flat (m ((c.tc : Thread nD τ).loc main_arg0))
abbrev aG (c : Dev nD) := flat (m ((c.tc : Thread nD τ).loc main_arg1))
abbrev aM (c : Dev nD) := flat (m ((c.tc : Thread nD τ).loc main_arg2))
abbrev aV (c : Dev nD) := flat (m ((c.tc : Thread nD τ).loc main_arg3))

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ t.val < 1 :=
  (by decide +kernel : ∀ t : Fin grid0.N, _)

/-- Row `p` of point `t`'s block of rows. -/
def row (t : Fin cfg0.N) (p : Fin 6) : Fin 6 := ⟨t.val * 6 + p, by have := (idx t).2.2.2.2.2.2.2; omega⟩

theorem blkW (c : Dev nD) (t : Fin cfg0.N) (p : Fin 6) (k : Fin 256) :
    (iblk m c 0 t : FVec Ideal S6x256 .f32) (ix2 p k) = aW m c (ix2 (row t p) k) := by
  refine Eq.trans ?_ (congrFun (show V m c main_v0 = aW m c by entry_read; rfl) (ix2 (row t p) k))
  blk_ext [iblk, idx t, row]

theorem blkG (c : Dev nD) (t : Fin cfg0.N) (p : Fin 6) (k : Fin 256) :
    (iblk m c 1 t : FVec Ideal S6x256 .f32) (ix2 p k) = aG m c (ix2 (row t p) k) := by
  refine Eq.trans ?_ (congrFun (show V m c main_v1 = aG m c by entry_read; rfl) (ix2 (row t p) k))
  blk_ext [iblk, idx t, row]

theorem blkM (c : Dev nD) (t : Fin cfg0.N) (p : Fin 6) (k : Fin 256) :
    (iblk m c 2 t : FVec Ideal S6x256 .f32) (ix2 p k) = aM m c (ix2 (row t p) k) := by
  refine Eq.trans ?_ (congrFun (show V m c main_v2 = aM m c by entry_read; rfl) (ix2 (row t p) k))
  blk_ext [iblk, idx t, row]

theorem blkV (c : Dev nD) (t : Fin cfg0.N) (p : Fin 6) (k : Fin 256) :
    (iblk m c 3 t : FVec Ideal S6x256 .f32) (ix2 p k) = aV m c (ix2 (row t p) k) := by
  refine Eq.trans ?_ (congrFun (show V m c main_v3 = aV m c by entry_read; rfl) (ix2 (row t p) k))
  blk_ext [iblk, idx t, row]

theorem emb4 (t : Fin cfg0.N) (p : Fin 6) (k : Fin 256) :
    (((cfg0.win 4).blk t).view.emb (ix2 p k) : S6x256.Idx) = ix2 (row t p) k := by
  blk_ext [idx t, row]

theorem emb5 (t : Fin cfg0.N) (p : Fin 6) (k : Fin 256) :
    (((cfg0.win 5).blk t).view.emb (ix2 p k) : S6x256.Idx) = ix2 (row t p) k := by
  blk_ext [idx t, row]

theorem emb6 (t : Fin cfg0.N) (p : Fin 6) (k : Fin 256) :
    (((cfg0.win 6).blk t).view.emb (ix2 p k) : S6x256.Idx) = ix2 (row t p) k := by
  blk_ext [idx t, row]

theorem pay2_eq (g v : FVec Ideal S6x256 .f32) : k0_pay2 g v = Adam.first g v := by
  pointwise [k0_pay1, k0_pay2]
  rfl

theorem pay3_eq (g v : FVec Ideal S6x256 .f32) : k0_pay3 g v = Adam.second g v := by
  pointwise [k0_pay1, k0_pay3]
  rfl

theorem pay4_eq (w g v u : FVec Ideal S6x256 .f32) : k0_pay4 w g v u = Adam.change w g v u := by
  funext y
  rw [k0_pay4, pay2_eq, pay3_eq]
  idx_vars y
  pointwise [Adam.change]

theorem final4 (c : Dev nD) : (dats m 0 c).arrAt 4 (cfgs 0).N = Adam.change (aW m c) (aG m c) (aM m c) (aV m c) := by
  refine (dats m 0 c).arrAt_eq_of_covers 4 _ (by decide +kernel) fun t hf y => ?_
  blk_simp
  rw [after0_4]
  idx_vars y
  refine Eq.trans ?_ (congrArg (Adam.change (aW m c) (aG m c) (aM m c) (aV m c)) (emb4 t y0 y1)).symm
  frame_out
  rw [pay4_eq]
  exact Adam.change_congr (blkW m c t y0 y1) (blkG m c t y0 y1) (blkM m c t y0 y1) (blkV m c t y0 y1)

theorem final5 (c : Dev nD) : (dats m 0 c).arrAt 5 (cfgs 0).N = Adam.first (aG m c) (aM m c) := by
  refine (dats m 0 c).arrAt_eq_of_covers 5 _ (by decide +kernel) fun t hf y => ?_
  blk_simp
  rw [after0_5]
  idx_vars y
  refine Eq.trans ?_ (congrArg (Adam.first (aG m c) (aM m c)) (emb5 t y0 y1)).symm
  frame_out
  rw [pay2_eq]
  exact Adam.first_congr (blkG m c t y0 y1) (blkM m c t y0 y1)

theorem final6 (c : Dev nD) : (dats m 0 c).arrAt 6 (cfgs 0).N = Adam.second (aG m c) (aV m c) := by
  refine (dats m 0 c).arrAt_eq_of_covers 6 _ (by decide +kernel) fun t hf y => ?_
  blk_simp
  rw [after0_6]
  idx_vars y
  refine Eq.trans ?_ (congrArg (Adam.second (aG m c) (aV m c)) (emb6 t y0 y1)).symm
  frame_out
  rw [pay3_eq]
  exact Adam.second_congr (blkG m c t y0 y1) (blkV m c t y0 y1)

end Cert.ShortConvUpdateIdeal.Value

namespace Cert.ShortConvUpdate

open Idealize.ShloMosaic Idealize.ShloMosaic.TcCoe Idealize.SL.Sem

theorem refFrame : Cert.quiescent_ShortConvUpdateRefIdeal := fun m ρ _ =>
  (θ_run _ _ _).mono (fun r h => ⟨fun c => (h c).2.2.2, sem_eq_zero_of_no_sems rfl r.2⟩) (Cert.ShortConvUpdateRefIdeal.Value.run m ρ)

open Cert.ShortConvUpdateIdeal.Value in
theorem algebraic : Cert.algebraic_ShortConvUpdateIdeal_ShortConvUpdateRefIdeal := by
  intro m g m' g' _ hag
  refine ⟨fun c => Adam.change (aW m c) (aG m c) (aM m c) (aV m c), fun c => Adam.first (aG m c) (aM m c),
    fun c => Adam.second (aG m c) (aV m c), ?_, ?_⟩
  · exact (θ_run _ _ _).mono (fun r h c => ⟨(h c).1.trans (final4 m c), (h c).2.1.trans (final5 m c),
      (h c).2.2.1.trans (final6 m c), (h c).2.2.2⟩) (Cert.ShortConvUpdateIdeal.Value.run_blocks m g)
  · refine (θ_run _ _ _).mono (fun r h c => ?_) (Cert.ShortConvUpdateRefIdeal.Value.run m' g')
    obtain ⟨h0, h1, h2, h3⟩ := hag c
    refine ⟨(h c).1.trans ?_, (h c).2.1.trans ?_, (h c).2.2.1.trans ?_, (h c).2.2.2⟩
    · rw [h0, h1, h2, h3]; rfl
    · rw [h1, h2]; rfl
    · rw [h1, h3]; rfl

end Cert.ShortConvUpdate
end
-- ==== Proof.TotalLoss.lean ====
/- Hand-written, untrusted. The loss summed over the devices: `TotalLoss` is one operation on the host (a device's
   share, an array of one element, reshaped to a scalar) and one all-reduce over all eight devices. The run is
   proved once, at any float values, in `Cert.TotalLossIdeal.Run`; both frames are instances of it, and the value
   claim reads the result off it: the all-reduce folds the eight shares from the left in the devices' order, and the
   reference sums the same eight elements. -/
module

public import proofs.«01_k».proof.Defs
public import proofs.«01_k».proof.Proof.Gen.TotalLoss
public import proofs.«01_k».proof.Proof.Gen.TotalLossIdeal.Launch
public import proofs.«01_k».proof.Proof.Gen.TotalLossRefIdeal.Run
public import Idealize.ShloMosaic.Lib.Pointwise.Reduce
public import Idealize.ShloMosaic.Lib.Pointwise.Index
public import Idealize.ShloMosaic.PureOps.Ideal.Laws

@[expose] public section

set_option maxRecDepth 16384

noncomputable section

namespace Cert.TotalLossIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.TotalLossIdeal Cert.TotalLossIdeal.Gen

variable {F : FTy → Type} [FloatOps F]

/-! ## The set-up -/

/-- The pipelines' rounds, of which the program has none, beside the all-reduce's. -/
abbrev UU : Type := Rounds.URounds (GSem nD τ sig) Unit × Sites.UC

local notation "𝕄" => MT nD τ sig ℕ (Elt F) ℕ UU ℕ

abbrev EP : Emb (Rounds.URounds (GSem nD τ sig) Unit) (MT nD τ sig ℕ (Elt F) ℕ UU ℕ) := embL
abbrev EC : Emb Sites.UC (MT nD τ sig ℕ (Elt F) ℕ UU ℕ) := embR

abbrev adm : (p : Fin 0) → (pcfgs (F := F) p).Adm := fun p => p.elim0
abbrev noDats : (p : Fin 0) → (c : Dev nD) → Pipeline.Dat τ (Elt F) ℕ ℕ UU ℕ (Pipeline.pin (pcfgs (F := F)) adm p) c :=
  fun p => p.elim0
theorem noCells : Function.Injective (Pipeline.cellOf (nD := nD) (τ := τ) (Pipeline.pin (pcfgs (F := F)) adm)) :=
  fun p _ _ => p.1.elim0

variable (m : (ℓ : Loc nD τ sig) → Buf (Elt F) ℓ)

/-! ## What the buffers hold -/

/-- At launch, after the reshape, after the all-reduce. -/
abbrev atLaunch (c : Dev nD) : Valuation τ sig (Elt F) := fun b => m ((c : Dev nD), b)
abbrev atSite (c : Dev nD) : Valuation τ sig (Elt F) := StableHlo.after hostOps0 (atLaunch m c)
abbrev atEnd (c : Dev nD) : Valuation τ sig (Elt F) := (ar0 (F := F)).after₀ (atSite m) c

/-! ## The two segments -/

/-- The all-reduce's cells are under their invariants: kept from the launch to the end, where the counters are read. -/
abbrev invs : sProp 𝕄 := iprop(∃ κ, (AllReduce.Dat.once (ar0 (F := F)) (atSite m)).cellInvs (Sites.E0 EC) κ)

/-- What goes past the reshape: what the device owes and what rides to the all-reduce. -/
abbrev past (c : Dev nD) : sProp 𝕄 := iprop(Sites.Es EC (atSite m) 0 c)

abbrev host : Pipeline.HostSeg (Ix := ℕ) (Name := ℕ) (U := UU) (Lvl := ℕ) (pcfgs (F := F)) defs₀ Variants.none Sites.L Sites.lv :=
  Pipeline.HostSeg.ofOps _ _ _ _ _ (Pipeline.ucRefs τ sig) hostOps0
    (fun op h => Pipeline.sub_ucRefs op (List.forall_iff_forall_mem.mp hostOps0_sub op h))
    (fun op h => by rw [List.mem_singleton.mp h]; rfl) (atLaunch m) (past m)

abbrev site : Pipeline.HostSeg (Ix := ℕ) (Name := ℕ) (U := UU) (Lvl := ℕ) (pcfgs (F := F)) defs₀ Variants.none Sites.L Sites.lv :=
  Sites.seg0 EC Variants.none (atSite m) (Sites.Rest0 (atSite m) fun _ => invs m)

abbrev segs : List (Pipeline.Seg (pcfgs (F := F)) adm noDats 0 defs₀ Variants.none Sites.L Sites.lv) :=
  [.host (host m), .host (site m)]

theorem main_run (c : Dev nD) : main c = Pipeline.Seg.run (segs m) :=
  main_segs adm noDats 0 Variants.none Sites.L Sites.lv (host m) (site m) rfl rfl c

abbrev first (c : Dev nD) : sProp 𝕄 :=
  iprop(StableHlo.held (c : Thread nD τ) (Pipeline.ucRefs τ sig) (atLaunch m c) ∗ past m c)

/-- At the end: the buffers, and the all-reduce's cells past its one execution. -/
abbrev last (c : Dev nD) : sProp 𝕄 :=
  iprop(StableHlo.held (c : Thread nD τ) (Pipeline.ucRefs τ sig) (atEnd m c) ∗ (invs m ∗ Sites.Ghost0 EC c))

theorem to_site (c : Dev nD) : (host m).post c ⊢ (site m).pre c := by
  refine .trans ?_ (Sites.pre0 EC Variants.none (atSite m) (fun _ => invs m) c)
  show iprop(StableHlo.held (c : Thread nD τ) (Pipeline.ucRefs τ sig) (atSite m c) ∗ Sites.Es EC (atSite m) 0 c) ⊢ _
  rw [Sites.Es_0]
  iintro ⟨Hh, HO, Hp, Hr⟩
  ihave #Hi := (show Sites.rides0 EC (atSite m) c ⊢ invs m from by
    unfold Sites.rides0 AllReduce.Dat.rides; iintro ⟨Hi, -⟩; iexact Hi) $$ Hr
  isplitl [Hh]; · iexact Hh
  isplitl [HO Hp Hr]
  · isplitl [HO]; · iexact HO
    isplitl [Hp] <;> iassumption
  iexact Hi

theorem to_end (c : Dev nD) :
    (site m).post c ⊢ iprop(last m c ∗ ∃ W, owes (c.tc : Thread nD τ) (0 : CellTallies nD τ sig ℕ) W) := by
  refine (Sites.post0 EC Variants.none (atSite m) (fun _ => invs m) c).trans ?_
  iintro ⟨Hh, HE, Hg, Hi⟩
  isplitl [Hh Hg Hi]
  · isplitl [Hh]; · iexact Hh
    isplitl [Hi] <;> iassumption
  iapply (Sites.hE_last EC (atSite m) c); iexact HE

/-! ## The launch -/

theorem launch (g : Dev nD → PrngReg) :
    iprop((bigSep Finset.univ fun c : Dev nD => iprop(unscopedBufs c (fun b => m ((c.tc : Thread nD τ).loc b)) ∗ unscopedSems0 c
          ∗ owes (c.tc : Thread nD τ) (Sites.O0 (F := F) c) ∅ ∗ Pipeline.launchCred (Sites.O0 (F := F)) c ∗ prngReg c (g c)
          ∗ Sites.G EC (atSite m) c)) ∗ levAts Sites.L Sites.lv)
      ⊢ (|={Set.univ}=> bigSep Finset.univ (first m) : sProp 𝕄) := by
  rw [bigSep_sep']
  iintro ⟨⟨Hb, Hrest⟩, HL⟩
  imod (Sites.hE0 EC (atSite m) g) $$ [Hrest HL] with HE
  · isplitl [Hrest]; · iexact Hrest
    iexact HL
  imodintro
  rw [show bigSep Finset.univ (first m) = _ from bigSep_sep' ..]
  isplitl [Hb]
  · iapply (show bigSep Finset.univ (fun c : Dev nD => unscopedBufs c (fun b => m ((c.tc : Thread nD τ).loc b)))
        ⊢ (bigSep Finset.univ fun c : Dev nD => StableHlo.held (c : Thread nD τ) (Pipeline.ucRefs τ sig) (atLaunch m c) : sProp 𝕄)
      from bigSep_mono fun c _ => BIBase.Entails.of_eq (Pipeline.unscopedBufs_held c (atLaunch m c)))
    iexact Hb
  iexact HE

/-! ## The run -/

-- the kit's implicit arguments are found by unifying its conclusion with the statement
set_option backward.isDefEq.respectTransparency.types false in
/-- Every weakly fair execution terminates without a fault, every buffer outside the scopes at `atEnd` and every
    counter at zero. -/
theorem run_main (g : Dev nD → PrngReg) : θ_run defs (onTc (τ := τ) (main (F := F))) ⟨m, fun _ => 0, g⟩
    (fun r => (∀ c : Dev nD, ∀ b ∈ Pipeline.ucRefs τ sig, r.2.mem ((c : Dev nD), b) = atEnd m c b) ∧ r.2.sem = fun _ => 0) :=
  Pipeline.θ_run_regions_kit_sems (pcfgs (F := F)) adm noDats 0 noCells EP defs₀ Variants.none Sites.L Sites.lv m g main (segs m)
    (fun c Q => by rw [main_run m c])
    (by simp only [segs, Pipeline.Seg.pipes_host, Pipeline.Seg.pipes_nil]; decide)
    (O₀ := Sites.O0 (F := F)) (hL := Sites.hL) (G := Sites.G EC (atSite m))
    (u₀ := (Rounds.initOf (Pipeline.cells (Pipeline.pin (pcfgs (F := F)) adm) noCells)
        (Pipeline.launchToks (Pipeline.pin (pcfgs (F := F)) adm) noCells), Sites.uC (U := UU) (atSite m)))
    (hu₀ := by
      iintro Hu
      ihave H := (ownU_pair _ _) $$ Hu
      icases H with ⟨HP, HX⟩
      imodintro
      isplitl [HP]; · iexact HP
      rw [Sites.bigSep_G]; iexact HX)
    (T₀ := first m) (Tₙ := last m)
    (hch := ⟨fun _ => .rfl, to_site m, to_end m⟩)
    (hinit := launch m g)
    (QY := fun c s => (∀ b ∈ Pipeline.ucRefs τ sig, s.mem ((c : Dev nD), b) = atEnd m c b)
      ∧ s.sem ((ar0 (F := F)).barrierCell c) = 0 ∧ s.sem ((ar0 (F := F)).recvCell c) = 0 ∧ s.sem ((ar0 (F := F)).sendCell c) = 0)
    (hfin := fun c s' => by
      dsimp only [last]
      unfold StableHlo.held
      iintro ⟨⟨Hh, Hg⟩, HSI⟩
      imod ((AllReduce.Dat.once (ar0 (F := F)) (atSite m)).ghostAfter_read (Sites.E0 EC) c (k := 0) le_rfl s') $$ [Hg HSI] with ⟨%hz, HSI⟩
      · isplitl [Hg] <;> iassumption
      ihave Hp := (pointsTo_read_all (Pipeline.ucRefs τ sig) (fun b => ((c : Dev nD), b)) (atEnd m c) s') $$ [Hh HSI]
      · isplitl [Hh] <;> iassumption
      icases Hp with ⟨%hb, HSI⟩
      imodintro
      isplitr; · ipureintro; exact ⟨hb, hz⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by
        decide
      rcases hl sm hsm with rfl | rfl | rfl
      exacts [(h c).2.1, (h c).2.2.1, (h c).2.2.2]⟩)

theorem mem_uc (b : Ref sig .tc) (h : ¬ (Proc.devRef .tc b : DevRef τ sig).isScoped) :
    (Proc.devRef .tc b : DevRef τ sig) ∈ Pipeline.ucRefs τ sig :=
  Finset.mem_filter.mpr ⟨StableHlo.devRef_mem_tcRefs b, h⟩

theorem arg_off_site : (Proc.devRef .tc main_arg0 : DevRef τ sig) ∉ (ar0 (F := F)).siteRefs :=
  (by decide : (Proc.devRef .tc main_arg0 : DevRef τ sig) ∉ (ar0 (F := Bits)).siteRefs)

/-- Neither the reshape nor the all-reduce writes the argument. -/
theorem atEnd_arg (c : Dev nD) : atEnd m c (Proc.devRef .tc main_arg0) = m ((c : Thread nD τ).loc main_arg0) :=
  ((ar0 (F := F)).after₀_off_siteRefs (atSite m) c arg_off_site).trans
    (StableHlo.after_of_writes_sub hostOps0 (atLaunch m c) (W := [main_v1]) (StableHlo.forall_writes_sub_of_map rfl) (by decide))

theorem frame (g : Dev nD → PrngReg) : θ_run defs (onTc (τ := τ) (main (F := F))) ⟨m, fun _ => 0, g⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (h.1 c _ (mem_uc main_arg0 (by decide))).trans (atEnd_arg m c), h.2⟩) (run_main m g)

end Cert.TotalLossIdeal.Run

namespace Cert.TotalLoss.Run

open Idealize.ShloMosaic Idealize.ShloMosaic.TcCoe Idealize.SL.Sem
open Cert.TotalLoss Cert.TotalLoss.Gen

/-- The program before the idealisation is the same text, so the run above is its run. -/
theorem frame (m : (ℓ : Loc nD τ sig) → Buf (Elt Bits) ℓ) (g : Dev nD → PrngReg) :
    θ_run defs (onTc (τ := τ) (main (F := Bits))) ⟨m, fun _ => 0, g⟩ (fun r => (∀ c : Dev nD,
      r.2.mem ((c.tc : Thread nD τ).loc main_arg0) = m ((c.tc : Thread nD τ).loc main_arg0)) ∧ r.2.sem = fun _ => 0) :=
  Cert.TotalLossIdeal.Run.frame (F := Bits) m g

end Cert.TotalLoss.Run

/-! ## The value -/

namespace Cert.TotalLossIdeal.Value

open Idealize.ShloMosaic Idealize.ShloMosaic.TcCoe Idealize.SL.Sem
open Cert.TotalLossIdeal Cert.TotalLossIdeal.Gen Cert.TotalLossIdeal.Run

variable (m : (ℓ : Loc nD τ sig) → Buf (Elt Ideal) ℓ)

/-- A device's share: the one element of its argument. -/
def share (c : Dev nD) : EReal := (m ((c.tc : Thread nD τ).loc main_arg0) : S1x1.Idx → EReal) (ix2 (0 : Fin 1) (0 : Fin 1))

theorem site_share (c : Dev nD) (j : S_.Idx) : (atSite m c (Proc.devRef .tc main_v1) : S_.Idx → EReal) j = share m c := by
  have h : ∃ i : S1x1.Idx, (atSite m c (Proc.devRef .tc main_v1) : S_.Idx → EReal) j
      = (m ((c.tc : Thread nD τ).loc main_arg0) : S1x1.Idx → EReal) i := ⟨_, rfl⟩
  obtain ⟨i, hi⟩ := h
  rw [hi]
  exact congrArg _ (funext fun a => by fin_cases a <;> exact Subsingleton.elim (α := Fin 1) _ _)

/-- The all-reduce's result: the members' operands folded from the left. -/
theorem fold (c : Dev nD) (j : S_.Idx) : (atEnd m c (Proc.devRef .tc main_v2) : S_.Idx → EReal) j
    = ((List.finRange 8).drop 1).foldl
        (fun (a : EReal) (d : Fin 8) => a + (atSite m ((ar0 (F := Ideal)).peer c d) (Proc.devRef .tc main_v1) : S_.Idx → EReal) j)
        ((atSite m ((ar0 (F := Ideal)).peer c 0) (Proc.devRef .tc main_v1) : S_.Idx → EReal) j) := by
  have h := (ar0 (F := Ideal)).after₀_result (atSite m) c
  exact congrFun h j

theorem peer_eq (c : Dev nD) (d : Fin 8) : (ar0 (F := Ideal)).peer c d = d :=
  (by decide : ∀ c d : Fin 8, ar0_mem ((ar0_pos c).1, d) = d) c d

/-- So every device ends with the sum of the shares. -/
theorem result (c : Dev nD) (j : S_.Idx) : (atEnd m c (Proc.devRef .tc main_v2) : S_.Idx → EReal) j = ∑ d : Fin 8, share m d := by
  rw [fold, show (List.finRange 8).drop 1 = [1, 2, 3, 4, 5, 6, 7] from by decide, Fin.sum_univ_eight]
  simp only [List.foldl_cons, List.foldl_nil, peer_eq]
  simp only [show ∀ d : Dev nD, (atSite m d (Proc.devRef .tc main_v1) : S_.Idx → EReal) j = share m d from fun d => site_share m d j]

end Cert.TotalLossIdeal.Value

namespace Cert.TotalLoss.Value

open Idealize.ShloMosaic Idealize.ShloMosaic.TcCoe Idealize.SL.Sem

/-- Device `d`'s block of the shares is their `d`-th element. -/
theorem block_at (x : (⟨2, ![8, 1]⟩ : Shape).Idx → EReal) (d : Fin 8) :
    (Layout.block ⟨2, ![1, 1]⟩ ⟨2, ![8, 1]⟩ 0 8 d x : (⟨2, ![1, 1]⟩ : Shape).Idx → EReal) (ix2 (0 : Fin 1) (0 : Fin 1)) = x (ix2 d (0 : Fin 1)) := by
  rw [Layout.block_apply]
  refine congrArg x (funext fun a => Fin.ext ?_)
  rw [Layout.Tiles.idx_val]
  fin_cases a
  · show d.val * 1 + 0 = d.val; omega
  · rfl

/-- The reference's sum over all its elements is the sum of the eight. -/
theorem ref_sum (x : (⟨2, ![8, 1]⟩ : Shape).Idx → EReal) (j : Cert.TotalLossRefIdeal.S_.Idx) :
    (Host.reduceAdd (F := Ideal) (φ := .f32) x (constant Cert.TotalLossRefIdeal.S_ .f32 0x00000000#32)
      Cert.TotalLossRefIdeal.Gen.reducesTo_S8x1_S_d0_1 Cert.TotalLossRefIdeal.Gen.h_S_ : Cert.TotalLossRefIdeal.S_.Idx → EReal) j
      = ∑ d : Fin 8, x (ix2 d (0 : Fin 1)) := by
  rw [Host.reduceAdd_apply]
  refine (Ideal.hostReduceAdd_total _ (fun b => b.elim0) x _ j).trans ?_
  rw [sum_idx2]
  simp only [Fin.sum_univ_one]
  exact (congrArg (· + _) Ideal.ofBits_zero_f32).trans (zero_add _)

theorem sums {f g : Fin 8 → EReal} (h : ∀ d, f d = g d) : ∑ d, f d = ∑ d, g d := Finset.sum_congr rfl fun d _ => h d

theorem refFrame : Cert.quiescent_TotalLossRefIdeal := fun m ρ _ =>
  (θ_run _ _ _).mono (fun r h => ⟨fun c => (h c).2, sem_eq_zero_of_no_sems rfl r.2⟩) (Cert.TotalLossRefIdeal.Value.run m ρ)

theorem algebraic : Cert.algebraic_TotalLossIdeal_TotalLossRefIdeal := by
  intro m g m' g' _ hm
  refine ⟨_, (θ_run _ _ _).mono (fun _ h c => ⟨?_, ?_⟩) (Cert.TotalLossIdeal.Run.run_main m g),
    (θ_run _ _ _).mono (fun _ h => h 0) (Cert.TotalLossRefIdeal.Value.run m' g')⟩
  · refine (h.1 c _ (Cert.TotalLossIdeal.Run.mem_uc Cert.TotalLossIdeal.main_v2 (by decide))).trans (funext fun j => ?_)
    refine (Cert.TotalLossIdeal.Value.result m c j).trans (Eq.trans ?_ (ref_sum _ j).symm)
    exact sums fun d => (congrFun (hm d) _).trans (block_at _ d)
  · exact (h.1 c _ (Cert.TotalLossIdeal.Run.mem_uc Cert.TotalLossIdeal.main_arg0 (by decide))).trans (Cert.TotalLossIdeal.Run.atEnd_arg m c)

end Cert.TotalLoss.Value

end
-- ==== Proof.VectorUpdate.lean ====
module

public import proofs.«01_k».proof.Defs
public import proofs.«01_k».proof.Proof.Adam
public import proofs.«01_k».proof.Proof.Gen.VectorUpdateIdeal.Value
public import proofs.«01_k».proof.Proof.Gen.VectorUpdateRefIdeal.Run

@[expose] public section

set_option maxRecDepth 16384

/-! The optimiser's step for a quarter of each vector over the features. -/

noncomputable section

namespace Cert.VectorUpdate

open Idealize.ShloMosaic Idealize.ShloMosaic.TcCoe Idealize.SL.Sem

theorem refFrame : Cert.quiescent_VectorUpdateRefIdeal := fun m ρ _ =>
  (θ_run _ _ _).mono (fun r h => ⟨fun c => (h c).2.2.2, sem_eq_zero_of_no_sems rfl r.2⟩) (Cert.VectorUpdateRefIdeal.Value.run m ρ)

open Cert.VectorUpdateIdeal in
theorem algebraic : Cert.algebraic_VectorUpdateIdeal_VectorUpdateRefIdeal := by
  intro m g m' g' _ hag
  refine ⟨fun c => Adam.change (m ((c.tc : Thread nD τ).loc main_arg0)) (m ((c.tc : Thread nD τ).loc main_arg1)) (m ((c.tc : Thread nD τ).loc main_arg2)) (m ((c.tc : Thread nD τ).loc main_arg3)), fun c => Adam.first (m ((c.tc : Thread nD τ).loc main_arg1)) (m ((c.tc : Thread nD τ).loc main_arg2)),
    fun c => Adam.second (m ((c.tc : Thread nD τ).loc main_arg1)) (m ((c.tc : Thread nD τ).loc main_arg3)), Cert.VectorUpdateIdeal.Value.run m g, ?_⟩
  refine (θ_run _ _ _).mono (fun r h c => ?_) (Cert.VectorUpdateRefIdeal.Value.run m' g')
  obtain ⟨h0, h1, h2, h3⟩ := hag c
  refine ⟨(h c).1.trans ?_, (h c).2.1.trans ?_, (h c).2.2.1.trans ?_, (h c).2.2.2⟩
  · rw [h0, h1, h2, h3]; rfl
  · rw [h1, h2]; rfl
  · rw [h1, h3]; rfl

end Cert.VectorUpdate
end
-- ==== Proof.lean ====
module

public import proofs.«01_k».proof.Defs
public import proofs.«01_k».proof.Proof.Gen.OutNorm
public import proofs.«01_k».proof.Proof.Gen.OutNorm.Frame
public import proofs.«01_k».proof.Proof.Gen.OutNormIdeal
public import proofs.«01_k».proof.Proof.Gen.OutNormIdeal.Frame
public import proofs.«01_k».proof.Proof.Gen.OutNormIdeal.Value
public import proofs.«01_k».proof.Proof.Gen.OutNormRefIdeal
public import proofs.«01_k».proof.Proof.Gen.OutNormRefIdeal.Run
public import proofs.«01_k».proof.Proof.Gen.TotalLoss
public import proofs.«01_k».proof.Proof.Gen.TotalLoss.Launch
public import proofs.«01_k».proof.Proof.Gen.TotalLossIdeal
public import proofs.«01_k».proof.Proof.Gen.TotalLossIdeal.Launch
public import proofs.«01_k».proof.Proof.Gen.TotalLossRefIdeal
public import proofs.«01_k».proof.Proof.Gen.TotalLossRefIdeal.Run
public import proofs.«01_k».proof.Proof.Gen.LossGrad
public import proofs.«01_k».proof.Proof.Gen.LossGrad.Frame
public import proofs.«01_k».proof.Proof.Gen.LossGradIdeal
public import proofs.«01_k».proof.Proof.Gen.LossGradIdeal.Frame
public import proofs.«01_k».proof.Proof.Gen.LossGradIdeal.Value
public import proofs.«01_k».proof.Proof.Gen.LossGradRefIdeal
public import proofs.«01_k».proof.Proof.Gen.LossGradRefIdeal.Run
public import proofs.«01_k».proof.Proof.Gen.Pre_loss_finite
public import proofs.«01_k».proof.Proof.Gen.InUpdate
public import proofs.«01_k».proof.Proof.Gen.InUpdate.Skeleton
public import proofs.«01_k».proof.Proof.Gen.InUpdate.Launch
public import proofs.«01_k».proof.Proof.Gen.InUpdate.Points
public import proofs.«01_k».proof.Proof.Gen.InUpdate.Frame
public import proofs.«01_k».proof.Proof.Gen.InUpdateIdeal
public import proofs.«01_k».proof.Proof.Gen.InUpdateIdeal.Skeleton
public import proofs.«01_k».proof.Proof.Gen.InUpdateIdeal.Launch
public import proofs.«01_k».proof.Proof.Gen.InUpdateIdeal.Points
public import proofs.«01_k».proof.Proof.Gen.InUpdateIdeal.Frame
public import proofs.«01_k».proof.Proof.Gen.InUpdateRefIdeal
public import proofs.«01_k».proof.Proof.Gen.InUpdateRefIdeal.Run
public import proofs.«01_k».proof.Proof.Gen.OutUpdate
public import proofs.«01_k».proof.Proof.Gen.OutUpdate.Skeleton
public import proofs.«01_k».proof.Proof.Gen.OutUpdate.Launch
public import proofs.«01_k».proof.Proof.Gen.OutUpdate.Points
public import proofs.«01_k».proof.Proof.Gen.OutUpdate.Frame
public import proofs.«01_k».proof.Proof.Gen.OutUpdateIdeal
public import proofs.«01_k».proof.Proof.Gen.OutUpdateIdeal.Skeleton
public import proofs.«01_k».proof.Proof.Gen.OutUpdateIdeal.Launch
public import proofs.«01_k».proof.Proof.Gen.OutUpdateIdeal.Points
public import proofs.«01_k».proof.Proof.Gen.OutUpdateIdeal.Frame
public import proofs.«01_k».proof.Proof.Gen.OutUpdateRefIdeal
public import proofs.«01_k».proof.Proof.Gen.OutUpdateRefIdeal.Run
public import proofs.«01_k».proof.Proof.Gen.LnGrad
public import proofs.«01_k».proof.Proof.Gen.LnGrad.Skeleton
public import proofs.«01_k».proof.Proof.Gen.LnGrad.Launch
public import proofs.«01_k».proof.Proof.Gen.LnGrad.Points
public import proofs.«01_k».proof.Proof.Gen.LnGrad.Frame
public import proofs.«01_k».proof.Proof.Gen.LnGradIdeal
public import proofs.«01_k».proof.Proof.Gen.LnGradIdeal.Skeleton
public import proofs.«01_k».proof.Proof.Gen.LnGradIdeal.Launch
public import proofs.«01_k».proof.Proof.Gen.LnGradIdeal.Points
public import proofs.«01_k».proof.Proof.Gen.LnGradIdeal.Frame
public import proofs.«01_k».proof.Proof.Gen.LnGradIdeal.Value
public import proofs.«01_k».proof.Proof.Gen.LnGradRefIdeal
public import proofs.«01_k».proof.Proof.Gen.LnGradRefIdeal.Run
public import proofs.«01_k».proof.Proof.Gen.Pre_ln_finite
public import proofs.«01_k».proof.Proof.Gen.EvenGrad
public import proofs.«01_k».proof.Proof.Gen.EvenGrad.Skeleton
public import proofs.«01_k».proof.Proof.Gen.EvenGrad.Launch
public import proofs.«01_k».proof.Proof.Gen.EvenGrad.Points
public import proofs.«01_k».proof.Proof.Gen.EvenGrad.Frame
public import proofs.«01_k».proof.Proof.Gen.EvenGradIdeal
public import proofs.«01_k».proof.Proof.Gen.EvenGradIdeal.Skeleton
public import proofs.«01_k».proof.Proof.Gen.EvenGradIdeal.Launch
public import proofs.«01_k».proof.Proof.Gen.EvenGradIdeal.Points
public import proofs.«01_k».proof.Proof.Gen.EvenGradIdeal.Frame
public import proofs.«01_k».proof.Proof.Gen.EvenGradIdeal.Value
public import proofs.«01_k».proof.Proof.Gen.EvenGradRefIdeal
public import proofs.«01_k».proof.Proof.Gen.EvenGradRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InWeightGrad
public import proofs.«01_k».proof.Proof.Gen.InWeightGrad.Skeleton
public import proofs.«01_k».proof.Proof.Gen.InWeightGrad.Launch
public import proofs.«01_k».proof.Proof.Gen.InWeightGrad.Points
public import proofs.«01_k».proof.Proof.Gen.InWeightGrad.Frame
public import proofs.«01_k».proof.Proof.Gen.InWeightGradIdeal
public import proofs.«01_k».proof.Proof.Gen.InWeightGradIdeal.Skeleton
public import proofs.«01_k».proof.Proof.Gen.InWeightGradIdeal.Launch
public import proofs.«01_k».proof.Proof.Gen.InWeightGradIdeal.Points
public import proofs.«01_k».proof.Proof.Gen.InWeightGradIdeal.Frame
public import proofs.«01_k».proof.Proof.Gen.InWeightGradIdeal.Value
public import proofs.«01_k».proof.Proof.Gen.InWeightGradRefIdeal
public import proofs.«01_k».proof.Proof.Gen.InWeightGradRefIdeal.Run
public import proofs.«01_k».proof.Proof.Gen.InGrad
public import proofs.«01_k».proof.Proof.Gen.InGrad.Skeleton
public import proofs.«01_k».proof.Proof.Gen.InGrad.Launch
public import proofs.«01_k».proof.Proof.Gen.InGrad.Points
public import proofs.«01_k».proof.Proof.Gen.InGrad.Frame
public import proofs.«01_k».proof.Proof.Gen.InGradIdeal
public import proofs.«01_k».proof.Proof.Gen.InGradIdeal.Skeleton
public import proofs.«01_k».proof.Proof.Gen.InGradIdeal.Launch
public import proofs.«01_k».proof.Proof.Gen.InGradIdeal.Points
public import proofs.«01_k».proof.Proof.Gen.InGradIdeal.Frame
public import proofs.«01_k».proof.Proof.Gen.InGradIdeal.Value
public import proofs.«01_k».proof.Proof.Gen.InGradRefIdeal
public import proofs.«01_k».proof.Proof.Gen.InGradRefIdeal.Run
public import proofs.«01_k».proof.Proof.Gen.OutWeightGrad
public import proofs.«01_k».proof.Proof.Gen.OutWeightGrad.Skeleton
public import proofs.«01_k».proof.Proof.Gen.OutWeightGrad.Launch
public import proofs.«01_k».proof.Proof.Gen.OutWeightGrad.Points
public import proofs.«01_k».proof.Proof.Gen.OutWeightGrad.Frame
public import proofs.«01_k».proof.Proof.Gen.OutWeightGradIdeal
public import proofs.«01_k».proof.Proof.Gen.OutWeightGradIdeal.Skeleton
public import proofs.«01_k».proof.Proof.Gen.OutWeightGradIdeal.Launch
public import proofs.«01_k».proof.Proof.Gen.OutWeightGradIdeal.Points
public import proofs.«01_k».proof.Proof.Gen.OutWeightGradIdeal.Frame
public import proofs.«01_k».proof.Proof.Gen.OutWeightGradIdeal.Value
public import proofs.«01_k».proof.Proof.Gen.OutWeightGradRefIdeal
public import proofs.«01_k».proof.Proof.Gen.OutWeightGradRefIdeal.Run
public import proofs.«01_k».proof.Proof.Gen.OutGrad
public import proofs.«01_k».proof.Proof.Gen.OutGrad.Skeleton
public import proofs.«01_k».proof.Proof.Gen.OutGrad.Launch
public import proofs.«01_k».proof.Proof.Gen.OutGrad.Points
public import proofs.«01_k».proof.Proof.Gen.OutGrad.Frame
public import proofs.«01_k».proof.Proof.Gen.OutGradIdeal
public import proofs.«01_k».proof.Proof.Gen.OutGradIdeal.Skeleton
public import proofs.«01_k».proof.Proof.Gen.OutGradIdeal.Launch
public import proofs.«01_k».proof.Proof.Gen.OutGradIdeal.Points
public import proofs.«01_k».proof.Proof.Gen.OutGradIdeal.Frame
public import proofs.«01_k».proof.Proof.Gen.OutGradIdeal.Value
public import proofs.«01_k».proof.Proof.Gen.OutGradRefIdeal
public import proofs.«01_k».proof.Proof.Gen.OutGradRefIdeal.Run
public import proofs.«01_k».proof.Proof.Gen.NormUpdate
public import proofs.«01_k».proof.Proof.Gen.NormUpdate.Skeleton
public import proofs.«01_k».proof.Proof.Gen.NormUpdate.Launch
public import proofs.«01_k».proof.Proof.Gen.NormUpdate.Points
public import proofs.«01_k».proof.Proof.Gen.NormUpdate.Frame
public import proofs.«01_k».proof.Proof.Gen.NormUpdateIdeal
public import proofs.«01_k».proof.Proof.Gen.NormUpdateIdeal.Skeleton
public import proofs.«01_k».proof.Proof.Gen.NormUpdateIdeal.Launch
public import proofs.«01_k».proof.Proof.Gen.NormUpdateIdeal.Points
public import proofs.«01_k».proof.Proof.Gen.NormUpdateIdeal.Frame
public import proofs.«01_k».proof.Proof.Gen.NormUpdateIdeal.Value
public import proofs.«01_k».proof.Proof.Gen.NormUpdateRefIdeal
public import proofs.«01_k».proof.Proof.Gen.NormUpdateRefIdeal.Run
public import proofs.«01_k».proof.Proof.Gen.PoolWeightUpdate
public import proofs.«01_k».proof.Proof.Gen.PoolWeightUpdate.Skeleton
public import proofs.«01_k».proof.Proof.Gen.PoolWeightUpdate.Launch
public import proofs.«01_k».proof.Proof.Gen.PoolWeightUpdate.Points
public import proofs.«01_k».proof.Proof.Gen.PoolWeightUpdate.Frame
public import proofs.«01_k».proof.Proof.Gen.PoolWeightUpdateIdeal
public import proofs.«01_k».proof.Proof.Gen.PoolWeightUpdateIdeal.Skeleton
public import proofs.«01_k».proof.Proof.Gen.PoolWeightUpdateIdeal.Launch
public import proofs.«01_k».proof.Proof.Gen.PoolWeightUpdateIdeal.Points
public import proofs.«01_k».proof.Proof.Gen.PoolWeightUpdateIdeal.Frame
public import proofs.«01_k».proof.Proof.Gen.PoolWeightUpdateIdeal.Value
public import proofs.«01_k».proof.Proof.Gen.PoolWeightUpdateRefIdeal
public import proofs.«01_k».proof.Proof.Gen.PoolWeightUpdateRefIdeal.Run
public import proofs.«01_k».proof.Proof.Gen.ScaleUpdate
public import proofs.«01_k».proof.Proof.Gen.ScaleUpdate.Skeleton
public import proofs.«01_k».proof.Proof.Gen.ScaleUpdate.Launch
public import proofs.«01_k».proof.Proof.Gen.ScaleUpdate.Points
public import proofs.«01_k».proof.Proof.Gen.ScaleUpdate.Frame
public import proofs.«01_k».proof.Proof.Gen.ScaleUpdateIdeal
public import proofs.«01_k».proof.Proof.Gen.ScaleUpdateIdeal.Skeleton
public import proofs.«01_k».proof.Proof.Gen.ScaleUpdateIdeal.Launch
public import proofs.«01_k».proof.Proof.Gen.ScaleUpdateIdeal.Points
public import proofs.«01_k».proof.Proof.Gen.ScaleUpdateIdeal.Frame
public import proofs.«01_k».proof.Proof.Gen.ScaleUpdateIdeal.Value
public import proofs.«01_k».proof.Proof.Gen.ScaleUpdateRefIdeal
public import proofs.«01_k».proof.Proof.Gen.ScaleUpdateRefIdeal.Run
public import proofs.«01_k».proof.Proof.Gen.ShortConvUpdate
public import proofs.«01_k».proof.Proof.Gen.ShortConvUpdate.Skeleton
public import proofs.«01_k».proof.Proof.Gen.ShortConvUpdate.Launch
public import proofs.«01_k».proof.Proof.Gen.ShortConvUpdate.Points
public import proofs.«01_k».proof.Proof.Gen.ShortConvUpdate.Frame
public import proofs.«01_k».proof.Proof.Gen.ShortConvUpdateIdeal
public import proofs.«01_k».proof.Proof.Gen.ShortConvUpdateIdeal.Skeleton
public import proofs.«01_k».proof.Proof.Gen.ShortConvUpdateIdeal.Launch
public import proofs.«01_k».proof.Proof.Gen.ShortConvUpdateIdeal.Points
public import proofs.«01_k».proof.Proof.Gen.ShortConvUpdateIdeal.Frame
public import proofs.«01_k».proof.Proof.Gen.ShortConvUpdateIdeal.Value
public import proofs.«01_k».proof.Proof.Gen.ShortConvUpdateRefIdeal
public import proofs.«01_k».proof.Proof.Gen.ShortConvUpdateRefIdeal.Run
public import proofs.«01_k».proof.Proof.Gen.VectorUpdate
public import proofs.«01_k».proof.Proof.Gen.VectorUpdate.Skeleton
public import proofs.«01_k».proof.Proof.Gen.VectorUpdate.Launch
public import proofs.«01_k».proof.Proof.Gen.VectorUpdate.Points
public import proofs.«01_k».proof.Proof.Gen.VectorUpdate.Frame
public import proofs.«01_k».proof.Proof.Gen.VectorUpdateIdeal
public import proofs.«01_k».proof.Proof.Gen.VectorUpdateIdeal.Skeleton
public import proofs.«01_k».proof.Proof.Gen.VectorUpdateIdeal.Launch
public import proofs.«01_k».proof.Proof.Gen.VectorUpdateIdeal.Points
public import proofs.«01_k».proof.Proof.Gen.VectorUpdateIdeal.Frame
public import proofs.«01_k».proof.Proof.Gen.VectorUpdateIdeal.Value
public import proofs.«01_k».proof.Proof.Gen.VectorUpdateRefIdeal
public import proofs.«01_k».proof.Proof.Gen.VectorUpdateRefIdeal.Run
public import proofs.«01_k».proof.Proof.Gen.GateUpdate
public import proofs.«01_k».proof.Proof.Gen.GateUpdate.Skeleton
public import proofs.«01_k».proof.Proof.Gen.GateUpdate.Launch
public import proofs.«01_k».proof.Proof.Gen.GateUpdate.Points
public import proofs.«01_k».proof.Proof.Gen.GateUpdate.Frame
public import proofs.«01_k».proof.Proof.Gen.GateUpdateIdeal
public import proofs.«01_k».proof.Proof.Gen.GateUpdateIdeal.Skeleton
public import proofs.«01_k».proof.Proof.Gen.GateUpdateIdeal.Launch
public import proofs.«01_k».proof.Proof.Gen.GateUpdateIdeal.Points
public import proofs.«01_k».proof.Proof.Gen.GateUpdateIdeal.Frame
public import proofs.«01_k».proof.Proof.Gen.GateUpdateIdeal.Value
public import proofs.«01_k».proof.Proof.Gen.GateUpdateRefIdeal
public import proofs.«01_k».proof.Proof.Gen.GateUpdateRefIdeal.Run
public import proofs.«01_k».proof.Proof.Gen.GateBiasUpdate
public import proofs.«01_k».proof.Proof.Gen.GateBiasUpdate.Skeleton
public import proofs.«01_k».proof.Proof.Gen.GateBiasUpdate.Launch
public import proofs.«01_k».proof.Proof.Gen.GateBiasUpdate.Points
public import proofs.«01_k».proof.Proof.Gen.GateBiasUpdate.Frame
public import proofs.«01_k».proof.Proof.Gen.GateBiasUpdateIdeal
public import proofs.«01_k».proof.Proof.Gen.GateBiasUpdateIdeal.Skeleton
public import proofs.«01_k».proof.Proof.Gen.GateBiasUpdateIdeal.Launch
public import proofs.«01_k».proof.Proof.Gen.GateBiasUpdateIdeal.Points
public import proofs.«01_k».proof.Proof.Gen.GateBiasUpdateIdeal.Frame
public import proofs.«01_k».proof.Proof.Gen.GateBiasUpdateIdeal.Value
public import proofs.«01_k».proof.Proof.Gen.GateBiasUpdateRefIdeal
public import proofs.«01_k».proof.Proof.Gen.GateBiasUpdateRefIdeal.Run
public import proofs.«01_k».proof.Proof.Gen.LongConvUpdate
public import proofs.«01_k».proof.Proof.Gen.LongConvUpdate.Skeleton
public import proofs.«01_k».proof.Proof.Gen.LongConvUpdate.Launch
public import proofs.«01_k».proof.Proof.Gen.LongConvUpdate.Points
public import proofs.«01_k».proof.Proof.Gen.LongConvUpdate.Frame
public import proofs.«01_k».proof.Proof.Gen.LongConvUpdateIdeal
public import proofs.«01_k».proof.Proof.Gen.LongConvUpdateIdeal.Skeleton
public import proofs.«01_k».proof.Proof.Gen.LongConvUpdateIdeal.Launch
public import proofs.«01_k».proof.Proof.Gen.LongConvUpdateIdeal.Points
public import proofs.«01_k».proof.Proof.Gen.LongConvUpdateIdeal.Frame
public import proofs.«01_k».proof.Proof.Gen.LongConvUpdateIdeal.Value
public import proofs.«01_k».proof.Proof.Gen.LongConvUpdateRefIdeal
public import proofs.«01_k».proof.Proof.Gen.LongConvUpdateRefIdeal.Run
public import Idealize.ShloMosaic.Adequacy
public import Idealize.ShloMosaic.Init
public import proofs.«01_k».proof.Proof.EvenRef
public import proofs.«01_k».proof.Proof.GateBiasUpdate
public import proofs.«01_k».proof.Proof.GateUpdate
public import proofs.«01_k».proof.Proof.InGrad
public import proofs.«01_k».proof.Proof.InProj
public import proofs.«01_k».proof.Proof.InUpdate
public import proofs.«01_k».proof.Proof.InWeightGrad
public import proofs.«01_k».proof.Proof.LnClaim
public import proofs.«01_k».proof.Proof.LongConvUpdate
public import proofs.«01_k».proof.Proof.LossClaim
public import proofs.«01_k».proof.Proof.NormUpdate
public import proofs.«01_k».proof.Proof.OutGrad
public import proofs.«01_k».proof.Proof.OutNorm
public import proofs.«01_k».proof.Proof.OutUpdate
public import proofs.«01_k».proof.Proof.OutWeightGrad
public import proofs.«01_k».proof.Proof.PoolWeightUpdate
public import proofs.«01_k».proof.Proof.ScaleUpdate
public import proofs.«01_k».proof.Proof.ShortConvUpdate
public import proofs.«01_k».proof.Proof.TotalLoss
public import proofs.«01_k».proof.Proof.VectorUpdate

@[expose] public section

/-! The claims, assembled: each program's facts, the frames, and the value claims. -/

noncomputable section

namespace Cert.Proof

open Idealize.ShloMosaic Idealize.SL.Sem

theorem claim : Cert.Claim := ⟨Cert.LnGrad.Gen.facts,
  Cert.LnGradIdeal.Gen.facts,
  Cert.LnGradRefIdeal.Gen.facts,
  Cert.LossGrad.Gen.facts,
  Cert.LossGradIdeal.Gen.facts,
  Cert.LossGradRefIdeal.Gen.facts,
  Cert.TotalLoss.Gen.facts,
  Cert.TotalLossIdeal.Gen.facts,
  Cert.TotalLossRefIdeal.Gen.facts,
  Cert.EvenGrad.Gen.facts,
  Cert.EvenGradIdeal.Gen.facts,
  Cert.EvenGradRefIdeal.Gen.facts,
  Cert.InProj.Gen.facts,
  Cert.InProjIdeal.Gen.facts,
  Cert.InProjRefIdeal.Gen.facts,
  Cert.InWeightGrad.Gen.facts,
  Cert.InWeightGradIdeal.Gen.facts,
  Cert.InWeightGradRefIdeal.Gen.facts,
  Cert.InGrad.Gen.facts,
  Cert.InGradIdeal.Gen.facts,
  Cert.InGradRefIdeal.Gen.facts,
  Cert.OutWeightGrad.Gen.facts,
  Cert.OutWeightGradIdeal.Gen.facts,
  Cert.OutWeightGradRefIdeal.Gen.facts,
  Cert.OutGrad.Gen.facts,
  Cert.OutGradIdeal.Gen.facts,
  Cert.OutGradRefIdeal.Gen.facts,
  Cert.OutNorm.Gen.facts,
  Cert.OutNormIdeal.Gen.facts,
  Cert.OutNormRefIdeal.Gen.facts,
  Cert.InUpdate.Gen.facts,
  Cert.InUpdateIdeal.Gen.facts,
  Cert.InUpdateRefIdeal.Gen.facts,
  Cert.OutUpdate.Gen.facts,
  Cert.OutUpdateIdeal.Gen.facts,
  Cert.OutUpdateRefIdeal.Gen.facts,
  Cert.NormUpdate.Gen.facts,
  Cert.NormUpdateIdeal.Gen.facts,
  Cert.NormUpdateRefIdeal.Gen.facts,
  Cert.PoolWeightUpdate.Gen.facts,
  Cert.PoolWeightUpdateIdeal.Gen.facts,
  Cert.PoolWeightUpdateRefIdeal.Gen.facts,
  Cert.ScaleUpdate.Gen.facts,
  Cert.ScaleUpdateIdeal.Gen.facts,
  Cert.ScaleUpdateRefIdeal.Gen.facts,
  Cert.ShortConvUpdate.Gen.facts,
  Cert.ShortConvUpdateIdeal.Gen.facts,
  Cert.ShortConvUpdateRefIdeal.Gen.facts,
  Cert.VectorUpdate.Gen.facts,
  Cert.VectorUpdateIdeal.Gen.facts,
  Cert.VectorUpdateRefIdeal.Gen.facts,
  Cert.GateUpdate.Gen.facts,
  Cert.GateUpdateIdeal.Gen.facts,
  Cert.GateUpdateRefIdeal.Gen.facts,
  Cert.GateBiasUpdate.Gen.facts,
  Cert.GateBiasUpdateIdeal.Gen.facts,
  Cert.GateBiasUpdateRefIdeal.Gen.facts,
  Cert.LongConvUpdate.Gen.facts,
  Cert.LongConvUpdateIdeal.Gen.facts,
  Cert.LongConvUpdateRefIdeal.Gen.facts,
  Cert.Pre_ln_finite.Gen.facts,
  Cert.Pre_loss_finite.Gen.facts,
  fun m ρ _ => Cert.LnGrad.Gen.frame m ρ,
  fun m ρ _ => Cert.LnGradIdeal.Gen.frame m ρ,
  fun m ρ _ => Cert.LnGradIdeal.Gen.frame m ρ,
  Cert.LnClaim.refFrame,
  fun m ρ _ => Cert.LnClaim.refFrame m ρ trivial,
  fun m ρ _ => Cert.LossGrad.Gen.frame m ρ,
  fun m ρ _ => Cert.LossGradIdeal.Gen.frame m ρ,
  fun m ρ _ => Cert.LossGradIdeal.Gen.frame m ρ,
  Cert.LossGrad.Value.refFrame,
  fun m ρ _ => Cert.LossGrad.Value.refFrame m ρ trivial,
  fun m ρ _ => Cert.TotalLoss.Run.frame m ρ,
  fun m ρ _ => Cert.TotalLossIdeal.Run.frame m ρ,
  Cert.TotalLoss.Value.refFrame,
  fun m ρ _ => Cert.EvenGrad.Gen.frame m ρ,
  fun m ρ _ => Cert.EvenGradIdeal.Gen.frame m ρ,
  Cert.EvenGrad.Value.refFrame,
  fun m ρ _ => Cert.InProj.Gen.frame m ρ,
  fun m ρ _ => Cert.InProjIdeal.Gen.frame m ρ,
  Cert.InProj.Value.refFrame,
  fun m ρ _ => Cert.InWeightGrad.Gen.frame m ρ,
  fun m ρ _ => Cert.InWeightGradIdeal.Gen.frame m ρ,
  Cert.InWeightGrad.Value.refFrame,
  fun m ρ _ => Cert.InGrad.Gen.frame m ρ,
  fun m ρ _ => Cert.InGradIdeal.Gen.frame m ρ,
  Cert.InGrad.Value.refFrame,
  fun m ρ _ => Cert.OutWeightGrad.Gen.frame m ρ,
  fun m ρ _ => Cert.OutWeightGradIdeal.Gen.frame m ρ,
  Cert.OutWeightGrad.Value.refFrame,
  fun m ρ _ => Cert.OutGrad.Gen.frame m ρ,
  fun m ρ _ => Cert.OutGradIdeal.Gen.frame m ρ,
  Cert.OutGrad.Value.refFrame,
  fun m ρ _ => Cert.OutNorm.Gen.frame m ρ,
  fun m ρ _ => Cert.OutNormIdeal.Gen.frame m ρ,
  Cert.OutNorm.Value.refFrame,
  fun m ρ _ => Cert.InUpdate.Gen.frame m ρ,
  fun m ρ _ => Cert.InUpdateIdeal.Gen.frame m ρ,
  Cert.InUpdate.refFrame,
  fun m ρ _ => Cert.OutUpdate.Gen.frame m ρ,
  fun m ρ _ => Cert.OutUpdateIdeal.Gen.frame m ρ,
  Cert.OutUpdate.refFrame,
  fun m ρ _ => Cert.NormUpdate.Gen.frame m ρ,
  fun m ρ _ => Cert.NormUpdateIdeal.Gen.frame m ρ,
  Cert.NormUpdate.refFrame,
  fun m ρ _ => Cert.PoolWeightUpdate.Gen.frame m ρ,
  fun m ρ _ => Cert.PoolWeightUpdateIdeal.Gen.frame m ρ,
  Cert.PoolWeightUpdate.refFrame,
  fun m ρ _ => Cert.ScaleUpdate.Gen.frame m ρ,
  fun m ρ _ => Cert.ScaleUpdateIdeal.Gen.frame m ρ,
  Cert.ScaleUpdate.refFrame,
  fun m ρ _ => Cert.ShortConvUpdate.Gen.frame m ρ,
  fun m ρ _ => Cert.ShortConvUpdateIdeal.Gen.frame m ρ,
  Cert.ShortConvUpdate.refFrame,
  fun m ρ _ => Cert.VectorUpdate.Gen.frame m ρ,
  fun m ρ _ => Cert.VectorUpdateIdeal.Gen.frame m ρ,
  Cert.VectorUpdate.refFrame,
  fun m ρ _ => Cert.GateUpdate.Gen.frame m ρ,
  fun m ρ _ => Cert.GateUpdateIdeal.Gen.frame m ρ,
  Cert.GateUpdate.refFrame,
  fun m ρ _ => Cert.GateBiasUpdate.Gen.frame m ρ,
  fun m ρ _ => Cert.GateBiasUpdateIdeal.Gen.frame m ρ,
  Cert.GateBiasUpdate.refFrame,
  fun m ρ _ => Cert.LongConvUpdate.Gen.frame m ρ,
  fun m ρ _ => Cert.LongConvUpdateIdeal.Gen.frame m ρ,
  Cert.LongConvUpdate.refFrame,
  trivial,
  Cert.LnClaim.algebraic,
  trivial,
  Cert.LossGrad.Value.algebraic,
  trivial,
  Cert.TotalLoss.Value.algebraic,
  trivial,
  trivial,
  Cert.InProj.Value.algebraic,
  trivial,
  Cert.InWeightGrad.Value.algebraic,
  trivial,
  Cert.InGrad.Value.algebraic,
  trivial,
  Cert.OutWeightGrad.Value.algebraic,
  trivial,
  Cert.OutGrad.Value.algebraic,
  trivial,
  Cert.OutNorm.Value.algebraic,
  trivial,
  Cert.InUpdate.algebraic,
  trivial,
  Cert.OutUpdate.algebraic,
  trivial,
  Cert.NormUpdate.algebraic,
  trivial,
  Cert.PoolWeightUpdate.algebraic,
  trivial,
  Cert.ScaleUpdate.algebraic,
  trivial,
  Cert.ShortConvUpdate.algebraic,
  trivial,
  Cert.VectorUpdate.algebraic,
  trivial,
  Cert.GateUpdate.algebraic,
  trivial,
  Cert.GateBiasUpdate.algebraic,
  trivial,
  Cert.LongConvUpdate.algebraic⟩

end Cert.Proof

end
